-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)) (v5 : (c : Dev Cert.KernelIdeal.nD) → Buf (Elt Ideal) ((c.tc : Thread Cert.KernelIdeal.nD Cert.KernelIdeal.τ).loc Cert.KernelIdeal.main_v19_5)) (v6 : (c : Dev Cert.KernelIdeal.nD) → Buf (Elt Ideal) ((c.tc : Thread Cert.KernelIdeal.nD Cert.KernelIdeal.τ).loc Cert.KernelIdeal.main_v21)) (v7 : (c : Dev Cert.KernelIdeal.nD) → Buf (Elt Ideal) ((c.tc : Thread Cert.KernelIdeal.nD Cert.KernelIdeal.τ).loc Cert.KernelIdeal.main_v23)) (v8 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_v19_5) = v5 c
          ∧ r.2.mem ((c.tc : Thread Cert.KernelIdeal.nD Cert.KernelIdeal.τ).loc Cert.KernelIdeal.main_v21) = v6 c
          ∧ r.2.mem ((c.tc : Thread Cert.KernelIdeal.nD Cert.KernelIdeal.τ).loc Cert.KernelIdeal.main_v23) = v7 c
          ∧ r.2.mem ((c.tc : Thread Cert.KernelIdeal.nD Cert.KernelIdeal.τ).loc Cert.KernelIdeal.main_v25) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_v121) = v4 c
          ∧ r.2.mem ((c.tc : Thread Cert.ReferenceIdeal.nD Cert.ReferenceIdeal.τ).loc Cert.ReferenceIdeal.main_v123) = v5 c
          ∧ r.2.mem ((c.tc : Thread Cert.ReferenceIdeal.nD Cert.ReferenceIdeal.τ).loc Cert.ReferenceIdeal.main_v56) = v6 c
          ∧ r.2.mem ((c.tc : Thread Cert.ReferenceIdeal.nD Cert.ReferenceIdeal.τ).loc Cert.ReferenceIdeal.main_v112) = v7 c
          ∧ r.2.mem ((c.tc : Thread Cert.ReferenceIdeal.nD Cert.ReferenceIdeal.τ).loc Cert.ReferenceIdeal.main_v83) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v105_1)) (v1 : (c : Dev Cert.Kernel2Ideal.nD) → Buf (Elt Ideal) ((c.tc : Thread Cert.Kernel2Ideal.nD Cert.Kernel2Ideal.τ).loc Cert.Kernel2Ideal.main_v105_2)) (v2 : (c : Dev Cert.Kernel2Ideal.nD) → Buf (Elt Ideal) ((c.tc : Thread Cert.Kernel2Ideal.nD Cert.Kernel2Ideal.τ).loc Cert.Kernel2Ideal.main_v107)) (v3 : (c : Dev Cert.Kernel2Ideal.nD) → Buf (Elt Ideal) ((c.tc : Thread Cert.Kernel2Ideal.nD Cert.Kernel2Ideal.τ).loc Cert.Kernel2Ideal.main_v109)) (v4 : (c : Dev Cert.Kernel2Ideal.nD) → Buf (Elt Ideal) ((c.tc : Thread Cert.Kernel2Ideal.nD Cert.Kernel2Ideal.τ).loc Cert.Kernel2Ideal.main_v105_7)) (v5 : (c : Dev Cert.Kernel2Ideal.nD) → Buf (Elt Ideal) ((c.tc : Thread Cert.Kernel2Ideal.nD Cert.Kernel2Ideal.τ).loc Cert.Kernel2Ideal.main_v105_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v105_1) = v0 c
          ∧ r.2.mem ((c.tc : Thread Cert.Kernel2Ideal.nD Cert.Kernel2Ideal.τ).loc Cert.Kernel2Ideal.main_v105_2) = v1 c
          ∧ r.2.mem ((c.tc : Thread Cert.Kernel2Ideal.nD Cert.Kernel2Ideal.τ).loc Cert.Kernel2Ideal.main_v107) = v2 c
          ∧ r.2.mem ((c.tc : Thread Cert.Kernel2Ideal.nD Cert.Kernel2Ideal.τ).loc Cert.Kernel2Ideal.main_v109) = v3 c
          ∧ r.2.mem ((c.tc : Thread Cert.Kernel2Ideal.nD Cert.Kernel2Ideal.τ).loc Cert.Kernel2Ideal.main_v105_7) = v4 c
          ∧ r.2.mem ((c.tc : Thread Cert.Kernel2Ideal.nD Cert.Kernel2Ideal.τ).loc Cert.Kernel2Ideal.main_v105_11) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v336) = v0 c
          ∧ r.2.mem ((c.tc : Thread Cert.Reference2Ideal.nD Cert.Reference2Ideal.τ).loc Cert.Reference2Ideal.main_v339) = v1 c
          ∧ r.2.mem ((c.tc : Thread Cert.Reference2Ideal.nD Cert.Reference2Ideal.τ).loc Cert.Reference2Ideal.main_v182) = v2 c
          ∧ r.2.mem ((c.tc : Thread Cert.Reference2Ideal.nD Cert.Reference2Ideal.τ).loc Cert.Reference2Ideal.main_v194) = v3 c
          ∧ r.2.mem ((c.tc : Thread Cert.Reference2Ideal.nD Cert.Reference2Ideal.τ).loc Cert.Reference2Ideal.main_v340) = v4 c
          ∧ r.2.mem ((c.tc : Thread Cert.Reference2Ideal.nD Cert.Reference2Ideal.τ).loc Cert.Reference2Ideal.main_v343) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn_part1 {F : FTy → Type} [FloatOps F] (main_arg6 : FVec F S4x2048x1024 .f32) (main_v2 : IVec S4x2048x1024 1) (main_v5 : IVec S1x1024 1) (main_v8 : IVec S1x1024x2816 1) (main_v11 : IVec S1x1024x2816 1) (main_v14 : IVec S1x2816x1024 1) (main_v17 : IVec S1x1024 1) : IVec S4x2048x1024 1 × IVec S1x1024 1 × IVec S1x1024x2816 1 × IVec S1x1024x2816 1 × IVec S1x2816x1024 1 × IVec S1x1024 1 × IVec S4x2048x1024 1 :=
  let main_v18 : FVec F S4x2048x1024 .f32 := Host.absf main_arg6
  let main_cst_5 : FVec F S_ .f32 := constant S_ .f32 0x7F800000#32
  let main_v19 : FVec F S4x2048x1024 .f32 := broadcastInDim S4x2048x1024 ![] bcast_S_S4x2048x1024 main_cst_5
  let main_v20 : IVec S4x2048x1024 1 := cmpf .olt main_v18 main_v19
  (main_v2, main_v5, main_v8, main_v11, main_v14, main_v17, main_v20)

def fn {F : FTy → Type} [FloatOps F] (main_arg0 : FVec F S4x2048x1024 .f32) (main_arg1 : FVec F S1x1024 .f32) (main_arg2 : FVec F S1x1024x2816 .f32) (main_arg3 : FVec F S1x1024x2816 .f32) (main_arg4 : FVec F S1x2816x1024 .f32) (main_arg5 : FVec F S1x1024 .f32) (main_arg6 : FVec F S4x2048x1024 .f32) : IVec S4x2048x1024 1 × IVec S1x1024 1 × IVec S1x1024x2816 1 × IVec S1x1024x2816 1 × IVec S1x2816x1024 1 × IVec S1x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite2.lean ====
abbrev S4x2048x1024 : Shape := ⟨3, ![4, 2048, 1024]⟩
abbrev S16x1024 : Shape := ⟨2, ![16, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩

class Facts : Prop where
  bcast_S_S4x2048x1024 : S_.BroadcastsInDim S4x2048x1024 (![] : Fin 0 → Fin S4x2048x1024.rank)
  bcast_S_S16x1024 : S_.BroadcastsInDim S16x1024 (![] : Fin 0 → Fin S16x1024.rank)
  bcast_S_S1x1024 : S_.BroadcastsInDim S1x1024 (![] : Fin 0 → Fin S1x1024.rank)
  bcast_S_S1x1024x2048 : S_.BroadcastsInDim S1x1024x2048 (![] : Fin 0 → Fin S1x1024x2048.rank)
  bcast_S_S1x3x512 : S_.BroadcastsInDim S1x3x512 (![] : Fin 0 → Fin S1x3x512.rank)
  bcast_S_S1x4x128x128 : S_.BroadcastsInDim S1x4x128x128 (![] : Fin 0 → Fin S1x4x128x128.rank)
  bcast_S_S1x512 : S_.BroadcastsInDim S1x512 (![] : Fin 0 → Fin S1x512.rank)
  bcast_S_S1x1024x1024 : S_.BroadcastsInDim S1x1024x1024 (![] : Fin 0 → Fin S1x1024x1024.rank)

variable [Facts]

def fn_part1 {F : FTy → Type} [FloatOps F] (main_arg6 : FVec F S1x512 .f32) (main_arg7 : FVec F S1x1024x1024 .f32) (main_arg8 : FVec F S1x1024 .f32) (main_arg9 : FVec F S4x2048x1024 .f32) (main_v2 : IVec S4x2048x1024 1) (main_v5 : IVec S16x1024 1) (main_v8 : IVec S1x1024 1) (main_v11 : IVec S1x1024x2048 1) (main_v14 : IVec S1x3x512 1) (main_v17 : IVec S1x4x128x128 1) : IVec S4x2048x1024 1 × IVec S16x1024 1 × IVec S1x1024 1 × IVec S1x1024x2048 1 × IVec S1x3x512 1 × IVec S1x4x128x128 1 × IVec S1x512 1 × IVec S1x1024x1024 1 × IVec S1x1024 1 × IVec S4x2048x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x1024x1024 .f32 := Host.absf main_arg7
  let main_cst_6 : FVec F S_ .f32 := constant S_ .f32 0x7F800000#32
  let main_v22 : FVec F S1x1024x1024 .f32 := broadcastInDim S1x1024x1024 ![] bcast_S_S1x1024x1024 main_cst_6
  let main_v23 : IVec S1x1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S4x2048x1024 .f32 := Host.absf main_arg9
  let main_cst_8 : FVec F S_ .f32 := constant S_ .f32 0x7F800000#32
  let main_v28 : FVec F S4x2048x1024 .f32 := broadcastInDim S4x2048x1024 ![] bcast_S_S4x2048x1024 main_cst_8
  let main_v29 : IVec S4x2048x1024 1 := cmpf .olt main_v27 main_v28
  (main_v2, main_v5, main_v8, main_v11, main_v14, main_v17, main_v20, main_v23, main_v26, main_v29)

def fn {F : FTy → Type} [FloatOps F] (main_arg0 : FVec F S4x2048x1024 .f32) (main_arg1 : FVec F S16x1024 .f32) (main_arg2 : FVec F S1x1024 .f32) (main_arg3 : FVec F S1x1024x2048 .f32) (main_arg4 : FVec F S1x3x512 .f32) (main_arg5 : FVec F S1x4x128x128 .f32) (main_arg6 : FVec F S1x512 .f32) (main_arg7 : FVec F S1x1024x1024 .f32) (main_arg8 : FVec F S1x1024 .f32) (main_arg9 : FVec F S4x2048x1024 .f32) : IVec S4x2048x1024 1 × IVec S16x1024 1 × IVec S1x1024 1 × IVec S1x1024x2048 1 × IVec S1x3x512 1 × IVec S1x4x128x128 1 × IVec S1x512 1 × IVec S1x1024x1024 1 × IVec S1x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x2048 .f32 := Host.absf main_arg3
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_v12 : FVec F S1x3x512 .f32 := Host.absf main_arg4
  let main_cst_3 : FVec F S_ .f32 := constant S_ .f32 0x7F800000#32
  let main_v13 : FVec F S1x3x512 .f32 := broadcastInDim S1x3x512 ![] bcast_S_S1x3x512 main_cst_3
  let main_v14 : IVec S1x3x512 1 := cmpf .olt main_v12 main_v13
  let main_v15 : FVec F S1x4x128x128 .f32 := Host.absf main_arg5
  let main_cst_4 : FVec F S_ .f32 := constant S_ .f32 0x7F800000#32
  let main_v16 : FVec F S1x4x128x128 .f32 := broadcastInDim S1x4x128x128 ![] bcast_S_S1x4x128x128 main_cst_4
  let main_v17 : IVec S1x4x128x128 1 := cmpf .olt main_v15 main_v16
  fn_part1 (F := F) main_arg6 main_arg7 main_arg8 main_arg9 main_v2 main_v5 main_v8 main_v11 main_v14 main_v17
-- ==== Kernel.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4x704x1024 : Shape := ⟨3, ![4, 704, 1024]⟩
abbrev S1x704x1024 : Shape := ⟨3, ![1, 704, 1024]⟩
abbrev S704x1024 : Shape := ⟨2, ![704, 1024]⟩
abbrev S8192x1024 : Shape := ⟨2, ![8192, 1024]⟩
abbrev S8192x2816 : Shape := ⟨2, ![8192, 2816]⟩
abbrev S8x1024 : Shape := ⟨2, ![8, 1024]⟩
abbrev S256x1024 : Shape := ⟨2, ![256, 1024]⟩
abbrev S256x2816 : Shape := ⟨2, ![256, 2816]⟩
abbrev S12 : Shape := ⟨1, ![12]⟩
abbrev S1 : Shape := ⟨1, ![1]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩
abbrev S32x8x1024 : Shape := ⟨3, ![32, 8, 1024]⟩
abbrev S1024 : Shape := ⟨1, ![1024]⟩

abbrev nBuf : Space → Nat
  | .hbm => 45
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S4x2048x1024, .f32⟩
  | .hbm, ⟨7, _⟩ => ⟨S1024x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .f32⟩
  | .hbm, ⟨12, _⟩ => ⟨S2816x1024, .bf16⟩
  | .hbm, ⟨13, _⟩ => ⟨S4x704x1024, .bf16⟩
  | .hbm, ⟨14, _⟩ => ⟨S2816x1024, .bf16⟩
  | .hbm, ⟨15, _⟩ => ⟨S4x704x1024, .bf16⟩
  | .hbm, ⟨16, _⟩ => ⟨S2816x1024, .bf16⟩
  | .hbm, ⟨17, _⟩ => ⟨S4x704x1024, .bf16⟩
  | .hbm, ⟨18, _⟩ => ⟨S1x704x1024, .bf16⟩
  | .hbm, ⟨19, _⟩ => ⟨S704x1024, .bf16⟩
  | .hbm, ⟨20, _⟩ => ⟨S1x704x1024, .bf16⟩
  | .hbm, ⟨21, _⟩ => ⟨S704x1024, .bf16⟩
  | .hbm, ⟨22, _⟩ => ⟨S1x704x1024, .bf16⟩
  | .hbm, ⟨23, _⟩ => ⟨S704x1024, .bf16⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x1024, .bf16⟩
  | .hbm, ⟨29, _⟩ => ⟨S8192x2816, .bf16⟩
  | .hbm, ⟨30, _⟩ => ⟨S8192x2816, .bf16⟩
  | .hbm, ⟨31, _⟩ => ⟨S8192x2816, .bf16⟩
  | .hbm, ⟨32, _⟩ => ⟨S8x1024, .f32⟩
  | .hbm, ⟨33, _⟩ => ⟨S8x1024, .f32⟩
  | .hbm, ⟨34, _⟩ => ⟨S8x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S2816x1024, .bf16⟩
  | .local _ .vmem, ⟨22, _⟩ => ⟨S2816x1024, .bf16⟩
  | .local _ .vmem, ⟨23, _⟩ => ⟨S2816x1024, .bf16⟩
  | .local _ .vmem, ⟨24, _⟩ => ⟨S256x2816, .f32⟩
  | .local _ .vmem, ⟨25, _⟩ => ⟨S256x2816, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev main_v19_6 : Ref sig .tc := ⟨.hbm, 32, rfl⟩
abbrev main_v19_7 : Ref sig .tc := ⟨.hbm, 33, rfl⟩
abbrev main_v19_8 : Ref sig .tc := ⟨.hbm, 34, rfl⟩
abbrev main_cst : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4x2048x1024 : Shape := ⟨3, ![4, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S4x2048x2816 : Shape := ⟨3, ![4, 2048, 2816]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩

abbrev nBuf : Space → Nat
  | .hbm => 174
  | .vmem => 0
  | .smem => 0
  | _ => 0

abbrev hbmTy0_0 (i : Nat) : BufTy := match i % 128 with
  | 0 => ⟨S4x2048x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S4x2048x1024, .f32⟩
  | 7 => ⟨S_, .f32⟩
  | 8 => ⟨S4x2048x2816, .f32⟩
  | 9 => ⟨S_, .f32⟩
  | 10 => ⟨S4x2048x1024, .f32⟩
  | 11 => ⟨S1024, .f32⟩
  | 12 => ⟨S4x2048x1024, .f32⟩
  | 13 => ⟨S_, .f32⟩
  | 14 => ⟨S4x2048, .f32⟩
  | 15 => ⟨S4x2048x1, .f32⟩
  | 16 => ⟨S_, .f32⟩
  | 17 => ⟨S4x2048x1, .f32⟩
  | 18 => ⟨S4x2048x1, .f32⟩
  | 19 => ⟨S_, .f32⟩
  | 20 => ⟨S4x2048x1, .f32⟩
  | 21 => ⟨S4x2048x1, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x1024, .f32⟩
  | 28 => ⟨S4x2048x1024, .f32⟩
  | 29 => ⟨S1x1x1024, .f32⟩
  | 30 => ⟨S4x2048x1024, .f32⟩
  | 31 => ⟨S4x2048x1024, .f32⟩
  | 32 => ⟨S1024x2816, .f32⟩
  | 33 => ⟨S4x2048x2816, .f32⟩
  | 34 => ⟨S4x2048x2816, .f32⟩
  | 35 => ⟨S4x2048x2816, .f32⟩
  | 36 => ⟨S4x2048x2816, .f32⟩
  | 37 => ⟨S_, .f32⟩
  | 38 => ⟨S4x2048x2816, .f32⟩
  | 39 => ⟨S4x2048x2816, .f32⟩
  | 40 => ⟨S_, .f32⟩
  | 41 => ⟨S4x2048x2816, .f32⟩
  | 42 => ⟨S4x2048x2816, .f32⟩
  | 43 => ⟨S_, .f32⟩
  | 44 => ⟨S4x2048x2816, .f32⟩
  | 45 => ⟨S4x2048x2816, .f32⟩
  | 46 => ⟨S4x2048x2816, .f32⟩
  | 47 => ⟨S4x2048x2816, .f32⟩
  | 48 => ⟨S1024x2816, .f32⟩
  | 49 => ⟨S4x2048x2816, .f32⟩
  | 50 => ⟨S4x2048x2816, .f32⟩
  | 51 => ⟨S4x2048x2816, .f32⟩
  | 52 => ⟨S2816x1024, .f32⟩
  | 53 => ⟨S4x2048x1024, .f32⟩
  | 54 => ⟨S4x2048x1024, .f32⟩
  | 55 => ⟨S1024, .f32⟩
  | 56 => ⟨S4x2048x1024, .f32⟩
  | 57 => ⟨S_, .f32⟩
  | 58 => ⟨S4x2048, .f32⟩
  | 59 => ⟨S4x2048x1, .f32⟩
  | 60 => ⟨S_, .f32⟩
  | 61 => ⟨S4x2048x1, .f32⟩
  | 62 => ⟨S4x2048x1, .f32⟩
  | 63 => ⟨S_, .f32⟩
  | 64 => ⟨S4x2048x1, .f32⟩
  | 65 => ⟨S4x2048x1, .f32⟩
  | 66 => ⟨S4x2048x1, .f32⟩
  | 67 => ⟨S4x2048x1, .f32⟩
  | 68 => ⟨S_, .f32⟩
  | 69 => ⟨S4x2048x1, .f32⟩
  | 70 => ⟨S4x2048x1, .f32⟩
  | 71 => ⟨S4x2048x1024, .f32⟩
  | 72 => ⟨S4x2048x1024, .f32⟩
  | 73 => ⟨S1x1x1024, .f32⟩
  | 74 => ⟨S4x2048x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S_, .f32⟩
  | 80 => ⟨S4x2048x1024, .f32⟩
  | 81 => ⟨S4x2048x1024, .f32⟩
  | 82 => ⟨S_, .f32⟩
  | 83 => ⟨S4x2048, .f32⟩
  | 84 => ⟨S_, .f32⟩
  | 85 => ⟨S4x2048, .f32⟩
  | 86 => ⟨S4x2048, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S4x2048, .f32⟩
  | 95 => ⟨S_, .f32⟩
  | 96 => ⟨S4x2048, .f32⟩
  | 97 => ⟨S4x2048, .f32⟩
  | 98 => ⟨S4x2048x1024, .f32⟩
  | 99 => ⟨S4x2048x1024, .f32⟩
  | 100 => ⟨S4x2048x1024, .f32⟩
  | 101 => ⟨S_, .f32⟩
  | 102 => ⟨S1024, .f32⟩
  | 103 => ⟨S1x1x1024, .f32⟩
  | 104 => ⟨S4x2048x1024, .f32⟩
  | 105 => ⟨S4x2048x1024, .f32⟩
  | 106 => ⟨S_, .f32⟩
  | 107 => ⟨S1024, .f32⟩
  | 108 => ⟨S4x2048x1024, .f32⟩
  | 109 => ⟨S_, .f32⟩
  | 110 => ⟨S4x2048, .f32⟩
  | 111 => ⟨S4x2048x1, .f32⟩
  | 112 => ⟨S4x2048x1024, .f32⟩
  | 113 => ⟨S4x2048x1024, .f32⟩
  | 114 => ⟨S4x2048x1, .f32⟩
  | 115 => ⟨S_, .f32⟩
  | 116 => ⟨S4x2048x1, .f32⟩
  | 117 => ⟨S4x2048x1, .f32⟩
  | 118 => ⟨S_, .f32⟩
  | 119 => ⟨S4x2048, .f32⟩
  | 120 => ⟨S4x2048x1024, .f32⟩
  | 121 => ⟨S4x2048x1024, .f32⟩
  | 122 => ⟨S4x2048x1024, .f32⟩
  | 123 => ⟨S4x2048x1024, .f32⟩
  | 124 => ⟨S4x2048x1024, .f32⟩
  | 125 => ⟨S1x1024, .f32⟩
  | 126 => ⟨S4x2048x2816, .f32⟩
  | 127 => ⟨S4x2048x2816, .f32⟩
  | _ => ⟨S4x2048x1024, .f32⟩

abbrev hbmTy0_1 (i : Nat) : BufTy := match i % 128 with
  | 0 => ⟨S4x2048x2816, .f32⟩
  | 1 => ⟨S4x2048x1024, .f32⟩
  | 2 => ⟨S4x2048x2816, .f32⟩
  | 3 => ⟨S4x2048x2816, .f32⟩
  | 4 => ⟨S4x2048x2816, .f32⟩
  | 5 => ⟨S4x2048x2816, .f32⟩
  | 6 => ⟨S4x2048x1024, .f32⟩
  | 7 => ⟨S4x2048x1024, .f32⟩
  | 8 => ⟨S4x2048x1024, .f32⟩
  | 9 => ⟨S_, .f32⟩
  | 10 => ⟨S1024, .f32⟩
  | 11 => ⟨S1x1x1024, .f32⟩
  | 12 => ⟨S4x2048x1024, .f32⟩
  | 13 => ⟨S4x2048x1024, .f32⟩
  | 14 => ⟨S_, .f32⟩
  | 15 => ⟨S1024, .f32⟩
  | 16 => ⟨S4x2048x1024, .f32⟩
  | 17 => ⟨S_, .f32⟩
  | 18 => ⟨S4x2048, .f32⟩
  | 19 => ⟨S4x2048x1, .f32⟩
  | 20 => ⟨S4x2048x1024, .f32⟩
  | 21 => ⟨S4x2048x1024, .f32⟩
  | 22 => ⟨S4x2048x1024, .f32⟩
  | 23 => ⟨S4x2048x1, .f32⟩
  | 24 => ⟨S_, .f32⟩
  | 25 => ⟨S4x2048x1, .f32⟩
  | 26 => ⟨S4x2048x1, .f32⟩
  | 27 => ⟨S_, .f32⟩
  | 28 => ⟨S4x2048, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x2048x1024, .f32⟩
  | 34 => ⟨S1x1024, .f32⟩
  | 35 => ⟨S8192x1024, .f32⟩
  | 36 => ⟨S8192x1024, .f32⟩
  | 37 => ⟨S8192x1024, .bf16⟩
  | 38 => ⟨S8192x1024, .f32⟩
  | 39 => ⟨S8192x1024, .bf16⟩
  | 40 => ⟨S8192x2816, .f32⟩
  | 41 => ⟨S8192x2816, .bf16⟩
  | 42 => ⟨S8192x2816, .f32⟩
  | 43 => ⟨S8192x2816, .bf16⟩
  | 44 => ⟨S8192x2816, .f32⟩
  | 45 => ⟨S8192x2816, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_cst_14 : Ref sig .tc := ⟨.hbm, 91, rfl⟩
abbrev main_cst_15 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_18 : Ref sig .tc := ⟨.hbm, 106, rfl⟩
abbrev main_v68 : Ref sig .tc := ⟨.hbm, 107, rfl⟩
abbrev main_v69 : Ref sig .tc := ⟨.hbm, 108, rfl⟩
abbrev main_cst_19 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_20 : Ref sig .tc := ⟨.hbm, 115, rfl⟩
abbrev main_v75 : Ref sig .tc := ⟨.hbm, 116, rfl⟩
abbrev main_v76 : Ref sig .tc := ⟨.hbm, 117, rfl⟩
abbrev main_cst_21 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_23 : Ref sig .tc := ⟨.hbm, 142, rfl⟩
abbrev main_v96 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_25 : Ref sig .tc := ⟨.hbm, 152, rfl⟩
abbrev main_v104 : Ref sig .tc := ⟨.hbm, 153, rfl⟩
abbrev main_v105 : Ref sig .tc := ⟨.hbm, 154, rfl⟩
abbrev main_cst_26 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩

abbrev nD : Nat := 1
abbrev τ : Topo := Topo.v7x

variable {F : FTy → Type} [FloatOps F]
-- ==== Kernel2.lean ====
abbrev S4x2048x1024 : Shape := ⟨3, ![4, 2048, 1024]⟩
abbrev S16x1024 : Shape := ⟨2, ![16, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x16x1024 : Shape := ⟨3, ![1, 16, 1024]⟩
abbrev S4x16x1024 : Shape := ⟨3, ![4, 16, 1024]⟩
abbrev S4x2064x1024 : Shape := ⟨3, ![4, 2064, 1024]⟩
abbrev S1024 : Shape := ⟨1, ![1024]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S1024x2048 : Shape := ⟨2, ![1024, 2048]⟩
abbrev S4x2064x2048 : Shape := ⟨3, ![4, 2064, 2048]⟩
abbrev S4x2064x512 : Shape := ⟨3, ![4, 2064, 512]⟩
abbrev S3x512 : Shape := ⟨2, ![3, 512]⟩
abbrev S4x2x512 : Shape := ⟨3, ![4, 2, 512]⟩
abbrev S4x2066x512 : Shape := ⟨3, ![4, 2066, 512]⟩
abbrev S512 : Shape := ⟨1, ![512]⟩
abbrev S1x1x512 : Shape := ⟨3, ![1, 1, 512]⟩
abbrev S4x2064x4x128 : Shape := ⟨4, ![4, 2064, 4, 128]⟩
abbrev S4x16x4x128 : Shape := ⟨4, ![4, 16, 4, 128]⟩
abbrev S4x2080x4x128 : Shape := ⟨4, ![4, 2080, 4, 128]⟩
abbrev S4x2064x1x128 : Shape := ⟨4, ![4, 2064, 1, 128]⟩
abbrev S2064x4 : Shape := ⟨2, ![2064, 4]⟩
abbrev S1x2064x4x1 : Shape := ⟨4, ![1, 2064, 4, 1]⟩
abbrev S4x128x128 : Shape := ⟨3, ![4, 128, 128]⟩
abbrev S4x128x4x2064 : Shape := ⟨4, ![4, 128, 4, 2064]⟩
abbrev S1024x1024 : Shape := ⟨2, ![1024, 1024]⟩
abbrev S1024x4x512 : Shape := ⟨3, ![1024, 4, 512]⟩
abbrev S4x1024x512 : Shape := ⟨3, ![4, 1024, 512]⟩
abbrev S4x256x1024 : Shape := ⟨3, ![4, 256, 1024]⟩
abbrev S4x2048x1536 : Shape := ⟨3, ![4, 2048, 1536]⟩
abbrev S4x2048x512 : Shape := ⟨3, ![4, 2048, 512]⟩
abbrev S8192x512 : Shape := ⟨2, ![8192, 512]⟩
abbrev S4x2048x4x128 : Shape := ⟨4, ![4, 2048, 4, 128]⟩
abbrev S1x16x2048 : Shape := ⟨3, ![1, 16, 2048]⟩
abbrev S16x2048 : Shape := ⟨2, ![16, 2048]⟩
abbrev S1x1024x512 : Shape := ⟨3, ![1, 1024, 512]⟩
abbrev S1024x512 : Shape := ⟨2, ![1024, 512]⟩
abbrev S1x256x1024 : Shape := ⟨3, ![1, 256, 1024]⟩
abbrev S256x1024 : Shape := ⟨2, ![256, 1024]⟩
abbrev S8x128 : Shape := ⟨2, ![8, 128]⟩
abbrev S4x8192x512 : Shape := ⟨3, ![4, 8192, 512]⟩
abbrev S8192x1024 : Shape := ⟨2, ![8192, 1024]⟩
abbrev S8x1024 : Shape := ⟨2, ![8, 1024]⟩
abbrev S8x512 : Shape := ⟨2, ![8, 512]⟩
abbrev S24x512 : Shape := ⟨2, ![24, 512]⟩
abbrev S4x16x512 : Shape := ⟨3, ![4, 16, 512]⟩
abbrev S1x512x1024 : Shape := ⟨3, ![1, 512, 1024]⟩
abbrev S1x512x1536 : Shape := ⟨3, ![1, 512, 1536]⟩
abbrev S512x512 : Shape := ⟨2, ![512, 512]⟩
abbrev S4x512x512 : Shape := ⟨3, ![4, 512, 512]⟩
abbrev S512x1024 : Shape := ⟨2, ![512, 1024]⟩
abbrev S528x512 : Shape := ⟨2, ![528, 512]⟩
abbrev S32x512 : Shape := ⟨2, ![32, 512]⟩
abbrev S8 : Shape := ⟨1, ![8]⟩
abbrev S1 : Shape := ⟨1, ![1]⟩
abbrev S16x512 : Shape := ⟨2, ![16, 512]⟩
abbrev S512x1 : Shape := ⟨2, ![512, 1]⟩
abbrev S64x8x1024 : Shape := ⟨3, ![64, 8, 1024]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S64x8x128 : Shape := ⟨3, ![64, 8, 128]⟩
abbrev S1x512x512 : Shape := ⟨3, ![1, 512, 512]⟩
abbrev S64x8x512 : Shape := ⟨3, ![64, 8, 512]⟩
abbrev S528x128 : Shape := ⟨2, ![528, 128]⟩
abbrev S2x8x512 : Shape := ⟨3, ![2, 8, 512]⟩
abbrev S32x128 : Shape := ⟨2, ![32, 128]⟩
abbrev S16x128 : Shape := ⟨2, ![16, 128]⟩
abbrev S16 : Shape := ⟨1, ![16]⟩
abbrev S16x1 : Shape := ⟨2, ![16, 1]⟩
abbrev S1x16x512 : Shape := ⟨3, ![1, 16, 512]⟩
abbrev S2x8x1024 : Shape := ⟨3, ![2, 8, 1024]⟩

abbrev nBuf : Space → Nat
  | .hbm => 144
  | .vmem => 42
  | .smem => 0
  | _ => 0

abbrev hbmTy0_0 (i : Nat) : BufTy := match i % 128 with
  | 0 => ⟨S4x2048x1024, .f32⟩
  | 1 => ⟨S16x1024, .f32⟩
  | 2 => ⟨S1x1024, .f32⟩
  | 3 => ⟨S1x1024x2048, .f32⟩
  | 4 => ⟨S1x3x512, .f32⟩
  | 5 => ⟨S1x4x128x128, .f32⟩
  | 6 => ⟨S1x512, .f32⟩
  | 7 => ⟨S1x1024x1024, .f32⟩
  | 8 => ⟨S1x1024, .f32⟩
  | 9 => ⟨S4x2048x1024, .f32⟩
  | 10 => ⟨S1x16x1024, .f32⟩
  | 11 => ⟨S4x16x1024, .f32⟩
  | 12 => ⟨S4x2064x1024, .f32⟩
  | 13 => ⟨S1024, .f32⟩
  | 14 => ⟨S4x2064x1024, .f32⟩
  | 15 => ⟨S_, .f32⟩
  | 16 => ⟨S4x2064, .f32⟩
  | 17 => ⟨S4x2064x1, .f32⟩
  | 18 => ⟨S_, .f32⟩
  | 19 => ⟨S4x2064x1, .f32⟩
  | 20 => ⟨S4x2064x1, .f32⟩
  | 21 => ⟨S_, .f32⟩
  | 22 => ⟨S4x2064x1, .f32⟩
  | 23 => ⟨S4x2064x1, .f32⟩
  | 24 => ⟨S4x2064x1, .f32⟩
  | 25 => ⟨S4x2064x1024, .f32⟩
  | 26 => ⟨S4x2064x1024, .f32⟩
  | 27 => ⟨S1x1x1024, .f32⟩
  | 28 => ⟨S4x2064x1024, .f32⟩
  | 29 => ⟨S4x2064x1024, .f32⟩
  | 30 => ⟨S1024x2048, .f32⟩
  | 31 => ⟨S4x2064x2048, .f32⟩
  | 32 => ⟨S4x2064x512, .f32⟩
  | 33 => ⟨S4x2064x512, .f32⟩
  | 34 => ⟨S4x2064x512, .f32⟩
  | 35 => ⟨S3x512, .f32⟩
  | 36 => ⟨S_, .f32⟩
  | 37 => ⟨S4x2x512, .f32⟩
  | 38 => ⟨S4x2066x512, .f32⟩
  | 39 => ⟨S1x512, .f32⟩
  | 40 => ⟨S512, .f32⟩
  | 41 => ⟨S4x2064x512, .f32⟩
  | 42 => ⟨S1x1x512, .f32⟩
  | 43 => ⟨S4x2064x512, .f32⟩
  | 44 => ⟨S4x2064x512, .f32⟩
  | 45 => ⟨S1x512, .f32⟩
  | 46 => ⟨S512, .f32⟩
  | 47 => ⟨S4x2064x512, .f32⟩
  | 48 => ⟨S1x1x512, .f32⟩
  | 49 => ⟨S4x2064x512, .f32⟩
  | 50 => ⟨S4x2064x512, .f32⟩
  | 51 => ⟨S4x2064x512, .f32⟩
  | 52 => ⟨S1x512, .f32⟩
  | 53 => ⟨S512, .f32⟩
  | 54 => ⟨S4x2064x512, .f32⟩
  | 55 => ⟨S1x1x512, .f32⟩
  | 56 => ⟨S4x2064x512, .f32⟩
  | 57 => ⟨S4x2064x512, .f32⟩
  | 58 => ⟨S4x2064x512, .f32⟩
  | 59 => ⟨S4x2064x512, .f32⟩
  | 60 => ⟨S4x2064x4x128, .f32⟩
  | 61 => ⟨S_, .f32⟩
  | 62 => ⟨S_, .f32⟩
  | 63 => ⟨S4x2064x4x128, .f32⟩
  | 64 => ⟨S_, .f32⟩
  | 65 => ⟨S4x16x4x128, .f32⟩
  | 66 => ⟨S4x2080x4x128, .f32⟩
  | 67 => ⟨S4x2064x1x128, .f32⟩
  | 68 => ⟨S4x2064x1x128, .f32⟩
  | 69 => ⟨S4x2064x1x128, .f32⟩
  | 70 => ⟨S4x2064x1x128, .f32⟩
  | 71 => ⟨S4x2064x4x128, .f32⟩
  | 72 => ⟨S2064x4, .i32⟩
  | 73 => ⟨S_, .i32⟩
  | 74 => ⟨S2064x4, .i32⟩
  | 75 => ⟨S2064x4, .i32⟩
  | 76 => ⟨S2064x4, .i32⟩
  | 77 => ⟨S_, .i32⟩
  | 78 => ⟨S2064x4, .i32⟩
  | 79 => ⟨S2064x4, .i32⟩
  | 80 => ⟨S2064x4, .i32⟩
  | 81 => ⟨S4x2064x4x128, .f32⟩
  | 82 => ⟨S2064x4, .f32⟩
  | 83 => ⟨S1x2064x4x1, .f32⟩
  | 84 => ⟨S4x2064x4x128, .f32⟩
  | 85 => ⟨S4x2064x4x128, .f32⟩
  | 86 => ⟨S4x2064x4x128, .f32⟩
  | 87 => ⟨S4x128x128, .f32⟩
  | 88 => ⟨S4x128x4x2064, .f32⟩
  | 89 => ⟨S4x2064x4x128, .f32⟩
  | 90 => ⟨S4x2064x512, .f32⟩
  | 91 => ⟨S512, .f32⟩
  | 92 => ⟨S1x1x512, .f32⟩
  | 93 => ⟨S4x2064x512, .f32⟩
  | 94 => ⟨S4x2064x512, .f32⟩
  | 95 => ⟨S4x2064x512, .f32⟩
  | 96 => ⟨S4x2064x512, .f32⟩
  | 97 => ⟨S4x2064x1024, .f32⟩
  | 98 => ⟨S1024x1024, .f32⟩
  | 99 => ⟨S4x2064x1024, .f32⟩
  | 100 => ⟨S1024x2048, .f32⟩
  | 101 => ⟨S1024x4x512, .f32⟩
  | 102 => ⟨S4x1024x512, .f32⟩
  | 103 => ⟨S4x1024x512, .bf16⟩
  | 104 => ⟨S1024x1024, .f32⟩
  | 105 => ⟨S4x256x1024, .f32⟩
  | 106 => ⟨S4x256x1024, .bf16⟩
  | 107 => ⟨S4x2048x1024, .f32⟩
  | 108 => ⟨S4x2048x1536, .f32⟩
  | 109 => ⟨S4x2048x512, .f32⟩
  | 110 => ⟨S8192x512, .f32⟩
  | 111 => ⟨S4x2048x4x128, .f32⟩
  | 112 => ⟨S8192x512, .f32⟩
  | 113 => ⟨S8192x512, .bf16⟩
  | 114 => ⟨S1x16x2048, .f32⟩
  | 115 => ⟨S16x2048, .f32⟩
  | 116 => ⟨S3x512, .f32⟩
  | 117 => ⟨S4x128x128, .f32⟩
  | 118 => ⟨S4x128x128, .bf16⟩
  | 119 => ⟨S1x1024x512, .bf16⟩
  | 120 => ⟨S1024x512, .bf16⟩
  | 121 => ⟨S1x256x1024, .bf16⟩
  | 122 => ⟨S256x1024, .bf16⟩
  | 123 => ⟨S_, .f32⟩
  | 124 => ⟨S8x128, .f32⟩
  | 125 => ⟨S4x2048x1024, .f32⟩
  | 126 => ⟨S4x8192x512, .bf16⟩
  | 127 => ⟨S8192x1024, .bf16⟩
  | _ => ⟨S4x2048x1024, .f32⟩

abbrev hbmTy0_1 (i : Nat) : BufTy := match i % 128 with
  | 0 => ⟨S8x1024, .f32⟩
  | 1 => ⟨S8x1024, .f32⟩
  | 2 => ⟨S8x512, .f32⟩
  | 3 => ⟨S24x512, .f32⟩
  | 4 => ⟨S4x128x128, .f32⟩
  | 5 => ⟨S16x2048, .f32⟩
  | 6 => ⟨S16x1024, .f32⟩
  | 7 => ⟨S8x1024, .f32⟩
  | 8 => ⟨S16x1024, .bf16⟩
  | 9 => ⟨S4x16x512, .bf16⟩
  | 10 => ⟨S_, .f32⟩
  | 11 => ⟨S1024, .f32⟩
  | 12 => ⟨S1x1024, .f32⟩
  | 13 => ⟨S_, .f32⟩
  | 14 => ⟨S512, .f32⟩
  | 15 => ⟨S1x512, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1536, .f32⟩
  | .local _ .vmem, ⟨5, _⟩ => ⟨S1x512x1536, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S1x512x1024, .f32⟩
  | .local _ .vmem, ⟨11, _⟩ => ⟨S1x512x1024, .f32⟩
  | .local _ .vmem, ⟨12, _⟩ => ⟨S16x2048, .f32⟩
  | .local _ .vmem, ⟨13, _⟩ => ⟨S16x1024, .f32⟩
  | .local _ .vmem, ⟨14, _⟩ => ⟨S1x1024, .f32⟩
  | .local _ .vmem, ⟨15, _⟩ => ⟨S1x1024, .f32⟩
  | .local _ .vmem, ⟨16, _⟩ => ⟨S3x512, .f32⟩
  | .local _ .vmem, ⟨17, _⟩ => ⟨S4x128x128, .bf16⟩
  | .local _ .vmem, ⟨18, _⟩ => ⟨S1x512, .f32⟩
  | .local _ .vmem, ⟨19, _⟩ => ⟨S8x128, .f32⟩
  | .local _ .vmem, ⟨20, _⟩ => ⟨S1x512x1024, .f32⟩
  | .local _ .vmem, ⟨21, _⟩ => ⟨S1x512x1024, .f32⟩
  | .local _ .vmem, ⟨22, _⟩ => ⟨S4x512x512, .bf16⟩
  | .local _ .vmem, ⟨23, _⟩ => ⟨S4x512x512, .bf16⟩
  | .local _ .vmem, ⟨24, _⟩ => ⟨S512x1024, .bf16⟩
  | .local _ .vmem, ⟨25, _⟩ => ⟨S512x1024, .bf16⟩
  | .local _ .vmem, ⟨26, _⟩ => ⟨S8x1024, .f32⟩
  | .local _ .vmem, ⟨27, _⟩ => ⟨S8x1024, .f32⟩
  | .local _ .vmem, ⟨28, _⟩ => ⟨S8x512, .f32⟩
  | .local _ .vmem, ⟨29, _⟩ => ⟨S24x512, .f32⟩
  | .local _ .vmem, ⟨30, _⟩ => ⟨S4x128x128, .f32⟩
  | .local _ .vmem, ⟨31, _⟩ => ⟨S16x2048, .f32⟩
  | .local _ .vmem, ⟨32, _⟩ => ⟨S16x1024, .f32⟩
  | .local _ .vmem, ⟨33, _⟩ => ⟨S8x1024, .f32⟩
  | .local _ .vmem, ⟨34, _⟩ => ⟨S16x1024, .bf16⟩
  | .local _ .vmem, ⟨35, _⟩ => ⟨S4x16x512, .bf16⟩
  | .local _ .vmem, ⟨36, _⟩ => ⟨S4x1024x512, .bf16⟩
  | .local _ .vmem, ⟨37, _⟩ => ⟨S1024x1024, .bf16⟩
  | .local _ .vmem, ⟨38, _⟩ => ⟨S528x512, .f32⟩
  | .local _ .vmem, ⟨39, _⟩ => ⟨S528x512, .f32⟩
  | .local _ .vmem, ⟨40, _⟩ => ⟨S32x512, .f32⟩
  | .local _ .vmem, ⟨41, _⟩ => ⟨S32x512, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_call0_cst : Ref sig .tc := ⟨.hbm, 61, rfl⟩
abbrev main_call0_call0_v0 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_4 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_5 : Ref sig .tc := ⟨.hbm, 123, rfl⟩
abbrev main_v104 : Ref sig .tc := ⟨.hbm, 124, rfl⟩
abbrev main_v105_0 : Ref sig .tc := ⟨.hbm, 125, rfl⟩
abbrev main_v105_1 : Ref sig .tc := ⟨.hbm, 126, rfl⟩
abbrev main_v105_2 : Ref sig .tc := ⟨.hbm, 127, rfl⟩
abbrev main_v105_3 : Ref sig .tc := ⟨.hbm, 128, rfl⟩
abbrev main_v105_4 : Ref sig .tc := ⟨.hbm, 129, rfl⟩
abbrev main_v105_5 : Ref sig .tc := ⟨.hbm, 130, rfl⟩
abbrev main_v105_6 : Ref sig .tc := ⟨.hbm, 131, rfl⟩
abbrev main_v105_7 : Ref sig .tc := ⟨.hbm, 132, rfl⟩
abbrev main_v105_8 : Ref sig .tc := ⟨.hbm, 133, rfl⟩
abbrev main_v105_9 : Ref sig .tc := ⟨.hbm, 134, rfl⟩
abbrev main_v105_10 : Ref sig .tc := ⟨.hbm, 135, rfl⟩
abbrev main_v105_11 : Ref sig .tc := ⟨.hbm, 136, rfl⟩
abbrev main_v105_12 : Ref sig .tc := ⟨.hbm, 137, rfl⟩
abbrev main_cst_6 : Ref sig .tc := ⟨.hbm, 138, rfl⟩
abbrev main_v106 : Ref sig .tc := ⟨.hbm, 139, rfl⟩
abbrev main_v107 : Ref sig .tc := ⟨.hbm, 140, rfl⟩
abbrev main_cst_7 : Ref sig .tc := ⟨.hbm, 141, rfl⟩
abbrev main_v108 : Ref sig .tc := ⟨.hbm, 142, rfl⟩
abbrev main_v109 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def k0_cond4 (i : grid0.Coords) : BitVec 1 :=
  let c3_i32 : BitVec 32 := 3#32
  let arg1 : BitVec 32 := BitVec.ofNat 32 (i 1).val
  let v0 : BitVec 32 := Scalar.subi c3_i32 arg1
  let c0_i32_220 : BitVec 32 := 0#32
  let v337 : BitVec 1 := Scalar.cmpi .eq v0 c0_i32_220
  let v338 : BitVec 32 := Scalar.extui v337
  let c0_i32_221 : BitVec 32 := 0#32
  let v339 : BitVec 1 := Scalar.cmpi .ne v338 c0_i32_221
  v339

def k0_cond5 (i : grid0.Coords) : BitVec 1 :=
  let arg0 : BitVec 32 := BitVec.ofNat 32 (i 0).val
  let c3_i32_222 : BitVec 32 := 3#32
  let v340 : BitVec 1 := Scalar.cmpi .eq arg0 c3_i32_222
  let arg1 : BitVec 32 := BitVec.ofNat 32 (i 1).val
  let c3_i32_223 : BitVec 32 := 3#32
  let v341 : BitVec 1 := Scalar.cmpi .eq arg1 c3_i32_223
  let v342 : BitVec 1 := Scalar.andi v340 v341
  let v343 : BitVec 32 := Scalar.extui v342
  let c0_i32_224 : BitVec 32 := 0#32
  let v344 : BitVec 1 := Scalar.cmpi .ne v343 c0_i32_224
  v344

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_19 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![c0_i32.toNat, v3.toNat, c0_i32_1.toNat]

def cc0_transform_20 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S24x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S4x128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S16x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S16x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S16x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S4x16x512 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]
-- ==== Reference2Ideal.lean ====
abbrev S4x2048x1024 : Shape := ⟨3, ![4, 2048, 1024]⟩
abbrev S16x1024 : Shape := ⟨2, ![16, 1024]⟩
abbrev S1x1024 : Shape := ⟨2, ![1, 1024]⟩
abbrev S1x1024x2048 : Shape := ⟨3, ![1, 1024, 2048]⟩
abbrev S1x3x512 : Shape := ⟨3, ![1, 3, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S_ : Shape := ⟨0, ![]⟩
abbrev S4x2064x2048 : Shape := ⟨3, ![4, 2064, 2048]⟩
abbrev S4x2064x1024 : Shape := ⟨3, ![4, 2064, 1024]⟩
abbrev S1x16x1024 : Shape := ⟨3, ![1, 16, 1024]⟩
abbrev S4x16x1024 : Shape := ⟨3, ![4, 16, 1024]⟩
abbrev S1024 : Shape := ⟨1, ![1024]⟩
abbrev S4x2064 : Shape := ⟨2, ![4, 2064]⟩
abbrev S4x2064x1 : Shape := ⟨3, ![4, 2064, 1]⟩
abbrev S1x1x1024 : Shape := ⟨3, ![1, 1, 1024]⟩
abbrev S1024x2048 : Shape := ⟨2, ![1024, 2048]⟩
abbrev S4x2064x512 : Shape := ⟨3, ![4, 2064, 512]⟩
abbrev S3x512 : Shape := ⟨2, ![3, 512]⟩
abbrev S4x2x512 : Shape := ⟨3, ![4, 2, 512]⟩
abbrev S4x2066x512 : Shape := ⟨3, ![4, 2066, 512]⟩
abbrev S512 : Shape := ⟨1, ![512]⟩
abbrev S1x1x512 : Shape := ⟨3, ![1, 1, 512]⟩
abbrev S4x2064x4x128 : Shape := ⟨4, ![4, 2064, 4, 128]⟩
abbrev S2064 : Shape := ⟨1, ![2064]⟩
abbrev S4x2064x1x128 : Shape := ⟨4, ![4, 2064, 1, 128]⟩
abbrev S4x2064x128 : Shape := ⟨3, ![4, 2064, 128]⟩
abbrev S4x2x128 : Shape := ⟨3, ![4, 2, 128]⟩
abbrev S4x2066x128 : Shape := ⟨3, ![4, 2066, 128]⟩
abbrev S1x2064x1 : Shape := ⟨3, ![1, 2064, 1]⟩
abbrev S4x4x128 : Shape := ⟨3, ![4, 4, 128]⟩
abbrev S4x2068x128 : Shape := ⟨3, ![4, 2068, 128]⟩
abbrev S4x8x128 : Shape := ⟨3, ![4, 8, 128]⟩
abbrev S4x2072x128 : Shape := ⟨3, ![4, 2072, 128]⟩
abbrev S4x16x128 : Shape := ⟨3, ![4, 16, 128]⟩
abbrev S4x2080x128 : Shape := ⟨3, ![4, 2080, 128]⟩
abbrev S4x128x128 : Shape := ⟨3, ![4, 128, 128]⟩
abbrev S4x128x4x2064 : Shape := ⟨4, ![4, 128, 4, 2064]⟩
abbrev S1024x1024 : Shape := ⟨2, ![1024, 1024]⟩
abbrev S4x4x2064x128 : Shape := ⟨4, ![4, 4, 2064, 128]⟩
abbrev S4x2048x2048 : Shape := ⟨3, ![4, 2048, 2048]⟩
abbrev S8192x4x512 : Shape := ⟨3, ![8192, 4, 512]⟩
abbrev S4x8192x512 : Shape := ⟨3, ![4, 8192, 512]⟩
abbrev S8192x1024 : Shape := ⟨2, ![8192, 1024]⟩

abbrev nBuf : Space → Nat
  | .hbm => 437
  | .vmem => 0
  | .smem => 0
  | _ => 0

abbrev hbmTy0_0 (i : Nat) : BufTy := match i % 128 with
  | 0 => ⟨S4x2048x1024, .f32⟩
  | 1 => ⟨S16x1024, .f32⟩
  | 2 => ⟨S1x1024, .f32⟩
  | 3 => ⟨S1x1024x2048, .f32⟩
  | 4 => ⟨S1x3x512, .f32⟩
  | 5 => ⟨S1x4x128x128, .f32⟩
  | 6 => ⟨S1x512, .f32⟩
  | 7 => ⟨S1x1024x1024, .f32⟩
  | 8 => ⟨S1x1024, .f32⟩
  | 9 => ⟨S4x2048x1024, .f32⟩
  | 10 => ⟨S_, .f32⟩
  | 11 => ⟨S4x2064x2048, .f32⟩
  | 12 => ⟨S_, .f32⟩
  | 13 => ⟨S4x2064x1024, .f32⟩
  | 14 => ⟨S1x16x1024, .f32⟩
  | 15 => ⟨S4x16x1024, .f32⟩
  | 16 => ⟨S4x2064x1024, .f32⟩
  | 17 => ⟨S1024, .f32⟩
  | 18 => ⟨S4x2064x1024, .f32⟩
  | 19 => ⟨S_, .f32⟩
  | 20 => ⟨S4x2064, .f32⟩
  | 21 => ⟨S4x2064x1, .f32⟩
  | 22 => ⟨S_, .f32⟩
  | 23 => ⟨S4x2064x1, .f32⟩
  | 24 => ⟨S4x2064x1, .f32⟩
  | 25 => ⟨S_, .f32⟩
  | 26 => ⟨S4x2064x1, .f32⟩
  | 27 => ⟨S4x2064x1, .f32⟩
  | 28 => ⟨S4x2064x1, .f32⟩
  | 29 => ⟨S4x2064x1, .f32⟩
  | 30 => ⟨S_, .f32⟩
  | 31 => ⟨S4x2064x1, .f32⟩
  | 32 => ⟨S4x2064x1, .f32⟩
  | 33 => ⟨S4x2064x1024, .f32⟩
  | 34 => ⟨S4x2064x1024, .f32⟩
  | 35 => ⟨S1x1x1024, .f32⟩
  | 36 => ⟨S4x2064x1024, .f32⟩
  | 37 => ⟨S4x2064x1024, .f32⟩
  | 38 => ⟨S1024x2048, .f32⟩
  | 39 => ⟨S4x2064x2048, .f32⟩
  | 40 => ⟨S4x2064x2048, .f32⟩
  | 41 => ⟨S4x2064x512, .f32⟩
  | 42 => ⟨S4x2064x512, .f32⟩
  | 43 => ⟨S4x2064x512, .f32⟩
  | 44 => ⟨S4x2064x512, .f32⟩
  | 45 => ⟨S4x2064x512, .f32⟩
  | 46 => ⟨S3x512, .f32⟩
  | 47 => ⟨S_, .f32⟩
  | 48 => ⟨S4x2x512, .f32⟩
  | 49 => ⟨S4x2066x512, .f32⟩
  | 50 => ⟨S_, .f32⟩
  | 51 => ⟨S4x2x512, .f32⟩
  | 52 => ⟨S1x512, .f32⟩
  | 53 => ⟨S512, .f32⟩
  | 54 => ⟨S4x2064x512, .f32⟩
  | 55 => ⟨S1x1x512, .f32⟩
  | 56 => ⟨S4x2064x512, .f32⟩
  | 57 => ⟨S4x2064x512, .f32⟩
  | 58 => ⟨S1x512, .f32⟩
  | 59 => ⟨S512, .f32⟩
  | 60 => ⟨S4x2064x512, .f32⟩
  | 61 => ⟨S1x1x512, .f32⟩
  | 62 => ⟨S4x2064x512, .f32⟩
  | 63 => ⟨S4x2064x512, .f32⟩
  | 64 => ⟨S4x2064x512, .f32⟩
  | 65 => ⟨S1x512, .f32⟩
  | 66 => ⟨S512, .f32⟩
  | 67 => ⟨S4x2064x512, .f32⟩
  | 68 => ⟨S1x1x512, .f32⟩
  | 69 => ⟨S4x2064x512, .f32⟩
  | 70 => ⟨S4x2064x512, .f32⟩
  | 71 => ⟨S4x2064x512, .f32⟩
  | 72 => ⟨S4x2064x4x128, .f32⟩
  | 73 => ⟨S2064, .i32⟩
  | 74 => ⟨S4x2064x1x128, .f32⟩
  | 75 => ⟨S4x2064x128, .f32⟩
  | 76 => ⟨S_, .f32⟩
  | 77 => ⟨S_, .f32⟩
  | 78 => ⟨S4x2064x128, .f32⟩
  | 79 => ⟨S_, .f32⟩
  | 80 => ⟨S4x2x128, .f32⟩
  | 81 => ⟨S4x2066x128, .f32⟩
  | 82 => ⟨S_, .f32⟩
  | 83 => ⟨S4x2x128, .f32⟩
  | 84 => ⟨S4x2064x128, .f32⟩
  | 85 => ⟨S_, .i32⟩
  | 86 => ⟨S2064, .i32⟩
  | 87 => ⟨S2064, .i32⟩
  | 88 => ⟨S_, .i32⟩
  | 89 => ⟨S2064, .i32⟩
  | 90 => ⟨S2064, .i32⟩
  | 91 => ⟨S2064, .f32⟩
  | 92 => ⟨S1x2064x1, .f32⟩
  | 93 => ⟨S4x2064x128, .f32⟩
  | 94 => ⟨S4x2064x128, .f32⟩
  | 95 => ⟨S4x2064x128, .f32⟩
  | 96 => ⟨S4x2064x128, .f32⟩
  | 97 => ⟨S4x2064x1x128, .f32⟩
  | 98 => ⟨S4x2064x128, .f32⟩
  | 99 => ⟨S_, .f32⟩
  | 100 => ⟨S_, .f32⟩
  | 101 => ⟨S4x2064x128, .f32⟩
  | 102 => ⟨S_, .f32⟩
  | 103 => ⟨S4x4x128, .f32⟩
  | 104 => ⟨S4x2068x128, .f32⟩
  | 105 => ⟨S_, .f32⟩
  | 106 => ⟨S4x4x128, .f32⟩
  | 107 => ⟨S4x2064x128, .f32⟩
  | 108 => ⟨S_, .i32⟩
  | 109 => ⟨S2064, .i32⟩
  | 110 => ⟨S2064, .i32⟩
  | 111 => ⟨S_, .i32⟩
  | 112 => ⟨S2064, .i32⟩
  | 113 => ⟨S2064, .i32⟩
  | 114 => ⟨S2064, .f32⟩
  | 115 => ⟨S1x2064x1, .f32⟩
  | 116 => ⟨S4x2064x128, .f32⟩
  | 117 => ⟨S4x2064x128, .f32⟩
  | 118 => ⟨S4x2064x128, .f32⟩
  | 119 => ⟨S4x2064x128, .f32⟩
  | 120 => ⟨S4x2064x1x128, .f32⟩
  | 121 => ⟨S4x2064x128, .f32⟩
  | 122 => ⟨S_, .f32⟩
  | 123 => ⟨S_, .f32⟩
  | 124 => ⟨S4x2064x128, .f32⟩
  | 125 => ⟨S_, .f32⟩
  | 126 => ⟨S4x8x128, .f32⟩
  | 127 => ⟨S4x2072x128, .f32⟩
  | _ => ⟨S4x2048x1024, .f32⟩

abbrev hbmTy0_1 (i : Nat) : BufTy := match i % 128 with
  | 0 => ⟨S_, .f32⟩
  | 1 => ⟨S4x8x128, .f32⟩
  | 2 => ⟨S4x2064x128, .f32⟩
  | 3 => ⟨S_, .i32⟩
  | 4 => ⟨S2064, .i32⟩
  | 5 => ⟨S2064, .i32⟩
  | 6 => ⟨S_, .i32⟩
  | 7 => ⟨S2064, .i32⟩
  | 8 => ⟨S2064, .i32⟩
  | 9 => ⟨S2064, .f32⟩
  | 10 => ⟨S1x2064x1, .f32⟩
  | 11 => ⟨S4x2064x128, .f32⟩
  | 12 => ⟨S4x2064x128, .f32⟩
  | 13 => ⟨S4x2064x128, .f32⟩
  | 14 => ⟨S4x2064x128, .f32⟩
  | 15 => ⟨S4x2064x1x128, .f32⟩
  | 16 => ⟨S4x2064x128, .f32⟩
  | 17 => ⟨S_, .f32⟩
  | 18 => ⟨S_, .f32⟩
  | 19 => ⟨S4x2064x128, .f32⟩
  | 20 => ⟨S_, .f32⟩
  | 21 => ⟨S4x16x128, .f32⟩
  | 22 => ⟨S4x2080x128, .f32⟩
  | 23 => ⟨S_, .f32⟩
  | 24 => ⟨S4x16x128, .f32⟩
  | 25 => ⟨S4x2064x128, .f32⟩
  | 26 => ⟨S_, .i32⟩
  | 27 => ⟨S2064, .i32⟩
  | 28 => ⟨S2064, .i32⟩
  | 29 => ⟨S_, .i32⟩
  | 30 => ⟨S2064, .i32⟩
  | 31 => ⟨S2064, .i32⟩
  | 32 => ⟨S2064, .f32⟩
  | 33 => ⟨S1x2064x1, .f32⟩
  | 34 => ⟨S4x2064x128, .f32⟩
  | 35 => ⟨S4x2064x128, .f32⟩
  | 36 => ⟨S4x2064x128, .f32⟩
  | 37 => ⟨S4x2064x128, .f32⟩
  | 38 => ⟨S4x2064x1x128, .f32⟩
  | 39 => ⟨S4x2064x1x128, .f32⟩
  | 40 => ⟨S4x2064x1x128, .f32⟩
  | 41 => ⟨S4x2064x1x128, .f32⟩
  | 42 => ⟨S4x2064x4x128, .f32⟩
  | 43 => ⟨S4x128x128, .f32⟩
  | 44 => ⟨S4x128x4x2064, .f32⟩
  | 45 => ⟨S4x2064x4x128, .f32⟩
  | 46 => ⟨S4x2064x512, .f32⟩
  | 47 => ⟨S512, .f32⟩
  | 48 => ⟨S1x1x512, .f32⟩
  | 49 => ⟨S4x2064x512, .f32⟩
  | 50 => ⟨S4x2064x512, .f32⟩
  | 51 => ⟨S4x2064x512, .f32⟩
  | 52 => ⟨S4x2064x1024, .f32⟩
  | 53 => ⟨S1024x1024, .f32⟩
  | 54 => ⟨S4x2064x1024, .f32⟩
  | 55 => ⟨S4x2064x1024, .f32⟩
  | 56 => ⟨S1024, .f32⟩
  | 57 => ⟨S4x2064x1024, .f32⟩
  | 58 => ⟨S_, .f32⟩
  | 59 => ⟨S4x2064, .f32⟩
  | 60 => ⟨S4x2064x1, .f32⟩
  | 61 => ⟨S_, .f32⟩
  | 62 => ⟨S4x2064x1, .f32⟩
  | 63 => ⟨S4x2064x1, .f32⟩
  | 64 => ⟨S_, .f32⟩
  | 65 => ⟨S4x2064x1, .f32⟩
  | 66 => ⟨S4x2064x1, .f32⟩
  | 67 => ⟨S4x2064x1, .f32⟩
  | 68 => ⟨S4x2064x1, .f32⟩
  | 69 => ⟨S_, .f32⟩
  | 70 => ⟨S4x2064x1, .f32⟩
  | 71 => ⟨S4x2064x1, .f32⟩
  | 72 => ⟨S4x2064x1024, .f32⟩
  | 73 => ⟨S4x2064x1024, .f32⟩
  | 74 => ⟨S1x1x1024, .f32⟩
  | 75 => ⟨S4x2064x1024, .f32⟩
  | 76 => ⟨S4x2064x1024, .f32⟩
  | 77 => ⟨S4x2064x1024, .f32⟩
  | 78 => ⟨S4x2048x1024, .f32⟩
  | 79 => ⟨S_, .f32⟩
  | 80 => ⟨S4x2064x1024, .f32⟩
  | 81 => ⟨S4x2064x1024, .f32⟩
  | 82 => ⟨S_, .f32⟩
  | 83 => ⟨S1024, .f32⟩
  | 84 => ⟨S1x1x1024, .f32⟩
  | 85 => ⟨S4x2064x1024, .f32⟩
  | 86 => ⟨S4x2064x1024, .f32⟩
  | 87 => ⟨S_, .f32⟩
  | 88 => ⟨S1024, .f32⟩
  | 89 => ⟨S4x2064x1024, .f32⟩
  | 90 => ⟨S_, .f32⟩
  | 91 => ⟨S4x2064, .f32⟩
  | 92 => ⟨S4x2064x1, .f32⟩
  | 93 => ⟨S4x2064x1024, .f32⟩
  | 94 => ⟨S4x2064x1024, .f32⟩
  | 95 => ⟨S4x2064x1, .f32⟩
  | 96 => ⟨S_, .f32⟩
  | 97 => ⟨S4x2064x1, .f32⟩
  | 98 => ⟨S4x2064x1, .f32⟩
  | 99 => ⟨S_, .f32⟩
  | 100 => ⟨S4x2064, .f32⟩
  | 101 => ⟨S4x2064x1024, .f32⟩
  | 102 => ⟨S4x2064x1024, .f32⟩
  | 103 => ⟨S4x2064x1024, .f32⟩
  | 104 => ⟨S4x2064x1024, .f32⟩
  | 105 => ⟨S4x2064x1024, .f32⟩
  | 106 => ⟨S1x1024, .f32⟩
  | 107 => ⟨S4x2064x1024, .f32⟩
  | 108 => ⟨S4x2064x512, .f32⟩
  | 109 => ⟨S4x2064x512, .f32⟩
  | 110 => ⟨S4x2064x512, .f32⟩
  | 111 => ⟨S4x2064x512, .f32⟩
  | 112 => ⟨S4x2064x512, .f32⟩
  | 113 => ⟨S_, .f32⟩
  | 114 => ⟨S512, .f32⟩
  | 115 => ⟨S1x1x512, .f32⟩
  | 116 => ⟨S4x2064x512, .f32⟩
  | 117 => ⟨S4x2064x512, .f32⟩
  | 118 => ⟨S_, .f32⟩
  | 119 => ⟨S512, .f32⟩
  | 120 => ⟨S1x512, .f32⟩
  | 121 => ⟨S4x2064x4x128, .f32⟩
  | 122 => ⟨S4x128x4x2064, .f32⟩
  | 123 => ⟨S4x4x2064x128, .f32⟩
  | 124 => ⟨S4x2064x4x128, .f32⟩
  | 125 => ⟨S4x128x128, .f32⟩
  | 126 => ⟨S4x128x128, .f32⟩
  | 127 => ⟨S1x4x128x128, .f32⟩
  | _ => ⟨S4x2048x1024, .f32⟩

abbrev hbmTy0_2 (i : Nat) : BufTy := match i % 128 with
  | 0 => ⟨S4x2064x1x128, .f32⟩
  | 1 => ⟨S4x2064x128, .f32⟩
  | 2 => ⟨S4x2064x1x128, .f32⟩
  | 3 => ⟨S4x2064x128, .f32⟩
  | 4 => ⟨S4x2064x1x128, .f32⟩
  | 5 => ⟨S4x2064x128, .f32⟩
  | 6 => ⟨S4x2064x1x128, .f32⟩
  | 7 => ⟨S4x2064x128, .f32⟩
  | 8 => ⟨S4x2064x128, .f32⟩
  | 9 => ⟨S4x2064x128, .f32⟩
  | 10 => ⟨S4x2064x128, .f32⟩
  | 11 => ⟨S4x2064x128, .f32⟩
  | 12 => ⟨S_, .f32⟩
  | 13 => ⟨S4x2080x128, .f32⟩
  | 14 => ⟨S4x16x128, .f32⟩
  | 15 => ⟨S4x2064x128, .f32⟩
  | 16 => ⟨S4x2064x128, .f32⟩
  | 17 => ⟨S_, .f32⟩
  | 18 => ⟨S_, .f32⟩
  | 19 => ⟨S4x2064x128, .f32⟩
  | 20 => ⟨S4x2064x128, .f32⟩
  | 21 => ⟨S4x2064x1x128, .f32⟩
  | 22 => ⟨S_, .f32⟩
  | 23 => ⟨S4x2064x4x128, .f32⟩
  | 24 => ⟨S4x2064x128, .f32⟩
  | 25 => ⟨S4x2064x128, .f32⟩
  | 26 => ⟨S4x2064x128, .f32⟩
  | 27 => ⟨S4x2064x128, .f32⟩
  | 28 => ⟨S_, .f32⟩
  | 29 => ⟨S4x2072x128, .f32⟩
  | 30 => ⟨S4x8x128, .f32⟩
  | 31 => ⟨S4x2064x128, .f32⟩
  | 32 => ⟨S4x2064x128, .f32⟩
  | 33 => ⟨S_, .f32⟩
  | 34 => ⟨S_, .f32⟩
  | 35 => ⟨S4x2064x128, .f32⟩
  | 36 => ⟨S4x2064x128, .f32⟩
  | 37 => ⟨S4x2064x1x128, .f32⟩
  | 38 => ⟨S_, .f32⟩
  | 39 => ⟨S4x2064x4x128, .f32⟩
  | 40 => ⟨S4x2064x4x128, .f32⟩
  | 41 => ⟨S4x2064x128, .f32⟩
  | 42 => ⟨S4x2064x128, .f32⟩
  | 43 => ⟨S4x2064x128, .f32⟩
  | 44 => ⟨S4x2064x128, .f32⟩
  | 45 => ⟨S_, .f32⟩
  | 46 => ⟨S4x2068x128, .f32⟩
  | 47 => ⟨S4x4x128, .f32⟩
  | 48 => ⟨S4x2064x128, .f32⟩
  | 49 => ⟨S4x2064x128, .f32⟩
  | 50 => ⟨S_, .f32⟩
  | 51 => ⟨S_, .f32⟩
  | 52 => ⟨S4x2064x128, .f32⟩
  | 53 => ⟨S4x2064x128, .f32⟩
  | 54 => ⟨S4x2064x1x128, .f32⟩
  | 55 => ⟨S_, .f32⟩
  | 56 => ⟨S4x2064x4x128, .f32⟩
  | 57 => ⟨S4x2064x4x128, .f32⟩
  | 58 => ⟨S4x2064x128, .f32⟩
  | 59 => ⟨S4x2064x128, .f32⟩
  | 60 => ⟨S4x2064x128, .f32⟩
  | 61 => ⟨S4x2064x128, .f32⟩
  | 62 => ⟨S_, .f32⟩
  | 63 => ⟨S4x2066x128, .f32⟩
  | 64 => ⟨S4x2x128, .f32⟩
  | 65 => ⟨S4x2064x128, .f32⟩
  | 66 => ⟨S4x2064x128, .f32⟩
  | 67 => ⟨S_, .f32⟩
  | 68 => ⟨S_, .f32⟩
  | 69 => ⟨S4x2064x128, .f32⟩
  | 70 => ⟨S4x2064x128, .f32⟩
  | 71 => ⟨S4x2064x1x128, .f32⟩
  | 72 => ⟨S_, .f32⟩
  | 73 => ⟨S4x2064x4x128, .f32⟩
  | 74 => ⟨S4x2064x4x128, .f32⟩
  | 75 => ⟨S4x2064x512, .f32⟩
  | 76 => ⟨S4x2064x512, .f32⟩
  | 77 => ⟨S4x2064x512, .f32⟩
  | 78 => ⟨S4x2064x512, .f32⟩
  | 79 => ⟨S_, .f32⟩
  | 80 => ⟨S512, .f32⟩
  | 81 => ⟨S1x1x512, .f32⟩
  | 82 => ⟨S_, .f32⟩
  | 83 => ⟨S512, .f32⟩
  | 84 => ⟨S_, .f32⟩
  | 85 => ⟨S4x2066x512, .f32⟩
  | 86 => ⟨S1x512, .f32⟩
  | 87 => ⟨S_, .f32⟩
  | 88 => ⟨S3x512, .f32⟩
  | 89 => ⟨S4x2064x512, .f32⟩
  | 90 => ⟨S4x2064x512, .f32⟩
  | 91 => ⟨S4x2064x512, .f32⟩
  | 92 => ⟨S_, .f32⟩
  | 93 => ⟨S512, .f32⟩
  | 94 => ⟨S1x1x512, .f32⟩
  | 95 => ⟨S_, .f32⟩
  | 96 => ⟨S512, .f32⟩
  | 97 => ⟨S_, .f32⟩
  | 98 => ⟨S4x2066x512, .f32⟩
  | 99 => ⟨S4x2066x512, .f32⟩
  | 100 => ⟨S1x512, .f32⟩
  | 101 => ⟨S_, .f32⟩
  | 102 => ⟨S3x512, .f32⟩
  | 103 => ⟨S3x512, .f32⟩
  | 104 => ⟨S4x2064x512, .f32⟩
  | 105 => ⟨S4x2064x512, .f32⟩
  | 106 => ⟨S4x2064x512, .f32⟩
  | 107 => ⟨S_, .f32⟩
  | 108 => ⟨S512, .f32⟩
  | 109 => ⟨S1x1x512, .f32⟩
  | 110 => ⟨S_, .f32⟩
  | 111 => ⟨S512, .f32⟩
  | 112 => ⟨S_, .f32⟩
  | 113 => ⟨S4x2066x512, .f32⟩
  | 114 => ⟨S4x2066x512, .f32⟩
  | 115 => ⟨S1x512, .f32⟩
  | 116 => ⟨S_, .f32⟩
  | 117 => ⟨S3x512, .f32⟩
  | 118 => ⟨S3x512, .f32⟩
  | 119 => ⟨S4x2x512, .f32⟩
  | 120 => ⟨S4x2064x512, .f32⟩
  | 121 => ⟨S1x3x512, .f32⟩
  | 122 => ⟨S4x2064x512, .f32⟩
  | 123 => ⟨S4x2064x512, .f32⟩
  | 124 => ⟨S_, .f32⟩
  | 125 => ⟨S4x2064x2048, .f32⟩
  | 126 => ⟨S_, .f32⟩
  | 127 => ⟨S4x2064x2048, .f32⟩
  | _ => ⟨S4x2048x1024, .f32⟩

abbrev hbmTy0_3 (i : Nat) : BufTy := match i % 128 with
  | 0 => ⟨S4x2064x2048, .f32⟩
  | 1 => ⟨S_, .f32⟩
  | 2 => ⟨S4x2064x2048, .f32⟩
  | 3 => ⟨S4x2064x2048, .f32⟩
  | 4 => ⟨S_, .f32⟩
  | 5 => ⟨S4x2064x2048, .f32⟩
  | 6 => ⟨S4x2064x2048, .f32⟩
  | 7 => ⟨S4x2064x1024, .f32⟩
  | 8 => ⟨S4x2064x1024, .f32⟩
  | 9 => ⟨S_, .f32⟩
  | 10 => ⟨S1024, .f32⟩
  | 11 => ⟨S1x1x1024, .f32⟩
  | 12 => ⟨S4x2064x1024, .f32⟩
  | 13 => ⟨S4x2064x1024, .f32⟩
  | 14 => ⟨S_, .f32⟩
  | 15 => ⟨S1024, .f32⟩
  | 16 => ⟨S4x2064x1024, .f32⟩
  | 17 => ⟨S_, .f32⟩
  | 18 => ⟨S4x2064, .f32⟩
  | 19 => ⟨S4x2064x1, .f32⟩
  | 20 => ⟨S4x2064x1024, .f32⟩
  | 21 => ⟨S4x2064x1024, .f32⟩
  | 22 => ⟨S4x2064x1024, .f32⟩
  | 23 => ⟨S4x2064x1, .f32⟩
  | 24 => ⟨S_, .f32⟩
  | 25 => ⟨S4x2064x1, .f32⟩
  | 26 => ⟨S4x2064x1, .f32⟩
  | 27 => ⟨S_, .f32⟩
  | 28 => ⟨S4x2064, .f32⟩
  | 29 => ⟨S4x2064x1024, .f32⟩
  | 30 => ⟨S4x2064x1024, .f32⟩
  | 31 => ⟨S4x2064x1024, .f32⟩
  | 32 => ⟨S4x2064x1024, .f32⟩
  | 33 => ⟨S4x2064x1024, .f32⟩
  | 34 => ⟨S1x1024, .f32⟩
  | 35 => ⟨S4x16x1024, .f32⟩
  | 36 => ⟨S4x2048x1024, .f32⟩
  | 37 => ⟨S_, .f32⟩
  | 38 => ⟨S16x1024, .f32⟩
  | 39 => ⟨S1x16x1024, .f32⟩
  | 40 => ⟨S_, .f32⟩
  | 41 => ⟨S16x1024, .f32⟩
  | 42 => ⟨S4x2048x2048, .f32⟩
  | 43 => ⟨S8192x4x512, .f32⟩
  | 44 => ⟨S4x8192x512, .f32⟩
  | 45 => ⟨S4x8192x512, .bf16⟩
  | 46 => ⟨S4x2048x1024, .f32⟩
  | 47 => ⟨S8192x1024, .f32⟩
  | 48 => ⟨S8192x1024, .bf16⟩
  | 49 => ⟨S4x128x128, .f32⟩
  | 50 => ⟨S1x16x1024, .f32⟩
  | 51 => ⟨S16x1024, .f32⟩
  | 52 => ⟨S16x1024, .bf16⟩
  | _ => ⟨S4x2048x1024, .f32⟩

abbrev hbmTy (i : Nat) : BufTy := match i / 128 with
  | 0 => hbmTy0_0 i
  | 1 => hbmTy0_1 i
  | 2 => hbmTy0_2 i
  | 3 => hbmTy0_3 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call0_call0_cst : Ref sig .tc := ⟨.hbm, 76, rfl⟩
abbrev main_call0_call0_v0 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_c : Ref sig .tc := ⟨.hbm, 85, rfl⟩
abbrev main_v63 : Ref sig .tc := ⟨.hbm, 86, rfl⟩
abbrev main_v64 : Ref sig .tc := ⟨.hbm, 87, rfl⟩
abbrev main_c_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call1_call0_cst : Ref sig .tc := ⟨.hbm, 99, rfl⟩
abbrev main_call1_call0_v0 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_cst_11 : Ref sig .tc := ⟨.hbm, 105, rfl⟩
abbrev main_v78 : Ref sig .tc := ⟨.hbm, 106, rfl⟩
abbrev main_v79 : Ref sig .tc := ⟨.hbm, 107, rfl⟩
abbrev main_c_12 : Ref sig .tc := ⟨.hbm, 108, rfl⟩
abbrev main_v80 : Ref sig .tc := ⟨.hbm, 109, rfl⟩
abbrev main_v81 : Ref sig .tc := ⟨.hbm, 110, rfl⟩
abbrev main_c_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call2_call0_cst : Ref sig .tc := ⟨.hbm, 122, rfl⟩
abbrev main_call2_call0_v0 : Ref sig .tc := ⟨.hbm, 123, rfl⟩
abbrev main_v92 : Ref sig .tc := ⟨.hbm, 124, rfl⟩
abbrev main_cst_14 : Ref sig .tc := ⟨.hbm, 125, rfl⟩
abbrev main_v93 : Ref sig .tc := ⟨.hbm, 126, rfl⟩
abbrev main_v94 : Ref sig .tc := ⟨.hbm, 127, rfl⟩
abbrev main_cst_15 : Ref sig .tc := ⟨.hbm, 128, rfl⟩
abbrev main_v95 : Ref sig .tc := ⟨.hbm, 129, rfl⟩
abbrev main_v96 : Ref sig .tc := ⟨.hbm, 130, rfl⟩
abbrev main_c_16 : Ref sig .tc := ⟨.hbm, 131, rfl⟩
abbrev main_v97 : Ref sig .tc := ⟨.hbm, 132, rfl⟩
abbrev main_v98 : Ref sig .tc := ⟨.hbm, 133, rfl⟩
abbrev main_c_17 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call3_call0_cst : Ref sig .tc := ⟨.hbm, 145, rfl⟩
abbrev main_call3_call0_v0 : Ref sig .tc := ⟨.hbm, 146, rfl⟩
abbrev main_v109 : Ref sig .tc := ⟨.hbm, 147, rfl⟩
abbrev main_cst_18 : Ref sig .tc := ⟨.hbm, 148, rfl⟩
abbrev main_v110 : Ref sig .tc := ⟨.hbm, 149, rfl⟩
abbrev main_v111 : Ref sig .tc := ⟨.hbm, 150, rfl⟩
abbrev main_cst_19 : Ref sig .tc := ⟨.hbm, 151, rfl⟩
abbrev main_v112 : Ref sig .tc := ⟨.hbm, 152, rfl⟩
abbrev main_v113 : Ref sig .tc := ⟨.hbm, 153, rfl⟩
abbrev main_c_20 : Ref sig .tc := ⟨.hbm, 154, rfl⟩
abbrev main_v114 : Ref sig .tc := ⟨.hbm, 155, rfl⟩
abbrev main_v115 : Ref sig .tc := ⟨.hbm, 156, rfl⟩
abbrev main_c_21 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_22 : Ref sig .tc := ⟨.hbm, 186, rfl⟩
abbrev main_v144 : Ref sig .tc := ⟨.hbm, 187, rfl⟩
abbrev main_v145 : Ref sig .tc := ⟨.hbm, 188, rfl⟩
abbrev main_cst_23 : Ref sig .tc := ⟨.hbm, 189, rfl⟩
abbrev main_v146 : Ref sig .tc := ⟨.hbm, 190, rfl⟩
abbrev main_v147 : Ref sig .tc := ⟨.hbm, 191, rfl⟩
abbrev main_cst_24 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_25 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_26 : Ref sig .tc := ⟨.hbm, 207, rfl⟩
abbrev main_v161 : Ref sig .tc := ⟨.hbm, 208, rfl⟩
abbrev main_v162 : Ref sig .tc := ⟨.hbm, 209, rfl⟩
abbrev main_cst_27 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_28 : Ref sig .tc := ⟨.hbm, 215, rfl⟩
abbrev main_v167 : Ref sig .tc := ⟨.hbm, 216, rfl⟩
abbrev main_v168 : Ref sig .tc := ⟨.hbm, 217, rfl⟩
abbrev main_cst_29 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_30 : Ref sig .tc := ⟨.hbm, 224, rfl⟩
abbrev main_v174 : Ref sig .tc := ⟨.hbm, 225, rfl⟩
abbrev main_v175 : Ref sig .tc := ⟨.hbm, 226, rfl⟩
abbrev main_cst_31 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_32 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_33 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_cst_34 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_call4_call0_cst : Ref sig .tc := ⟨.hbm, 273, rfl⟩
abbrev main_call4_call0_v0 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_cst_35 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_cst_36 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_call5_call0_cst : Ref sig .tc := ⟨.hbm, 289, rfl⟩
abbrev main_call5_call0_v0 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_cst_37 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_cst_38 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_call6_call0_cst : Ref sig .tc := ⟨.hbm, 306, rfl⟩
abbrev main_call6_call0_v0 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_cst_39 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_cst_40 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_call7_call0_cst : Ref sig .tc := ⟨.hbm, 323, rfl⟩
abbrev main_call7_call0_v0 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_cst_41 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_cst_42 : Ref sig .tc := ⟨.hbm, 335, rfl⟩
abbrev main_v265 : Ref sig .tc := ⟨.hbm, 336, rfl⟩
abbrev main_v266 : Ref sig .tc := ⟨.hbm, 337, rfl⟩
abbrev main_cst_43 : Ref sig .tc := ⟨.hbm, 338, rfl⟩
abbrev main_v267 : Ref sig .tc := ⟨.hbm, 339, rfl⟩
abbrev main_cst_44 : Ref sig .tc := ⟨.hbm, 340, rfl⟩
abbrev main_v268 : Ref sig .tc := ⟨.hbm, 341, rfl⟩
abbrev main_v269 : Ref sig .tc := ⟨.hbm, 342, rfl⟩
abbrev main_cst_45 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_cst_46 : Ref sig .tc := ⟨.hbm, 348, rfl⟩
abbrev main_v274 : Ref sig .tc := ⟨.hbm, 349, rfl⟩
abbrev main_v275 : Ref sig .tc := ⟨.hbm, 350, rfl⟩
abbrev main_cst_47 : Ref sig .tc := ⟨.hbm, 351, rfl⟩
abbrev main_v276 : Ref sig .tc := ⟨.hbm, 352, rfl⟩
abbrev main_cst_48 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_cst_49 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_cst_50 : Ref sig .tc := ⟨.hbm, 363, rfl⟩
abbrev main_v285 : Ref sig .tc := ⟨.hbm, 364, rfl⟩
abbrev main_v286 : Ref sig .tc := ⟨.hbm, 365, rfl⟩
abbrev main_cst_51 : Ref sig .tc := ⟨.hbm, 366, rfl⟩
abbrev main_v287 : Ref sig .tc := ⟨.hbm, 367, rfl⟩
abbrev main_cst_52 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_cst_53 : Ref sig .tc := ⟨.hbm, 372, rfl⟩
abbrev main_v291 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_cst_54 : Ref sig .tc := ⟨.hbm, 380, rfl⟩
abbrev main_v298 : Ref sig .tc := ⟨.hbm, 381, rfl⟩
abbrev main_cst_55 : Ref sig .tc := ⟨.hbm, 382, rfl⟩
abbrev main_v299 : Ref sig .tc := ⟨.hbm, 383, rfl⟩
abbrev main_v300 : Ref sig .tc := ⟨.hbm, 384, rfl⟩
abbrev main_cst_56 : Ref sig .tc := ⟨.hbm, 385, rfl⟩
abbrev main_v301 : Ref sig .tc := ⟨.hbm, 386, rfl⟩
abbrev main_v302 : Ref sig .tc := ⟨.hbm, 387, rfl⟩
abbrev main_cst_57 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_cst_58 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_cst_59 : Ref sig .tc := ⟨.hbm, 398, rfl⟩
abbrev main_v311 : Ref sig .tc := ⟨.hbm, 399, rfl⟩
abbrev main_v312 : Ref sig .tc := ⟨.hbm, 400, rfl⟩
abbrev main_cst_60 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_cst_61 : Ref sig .tc := ⟨.hbm, 408, rfl⟩
abbrev main_v319 : Ref sig .tc := ⟨.hbm, 409, rfl⟩
abbrev main_v320 : Ref sig .tc := ⟨.hbm, 410, rfl⟩
abbrev main_cst_62 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_cst_63 : Ref sig .tc := ⟨.hbm, 421, rfl⟩
abbrev main_v330 : Ref sig .tc := ⟨.hbm, 422, rfl⟩
abbrev main_v331 : Ref sig .tc := ⟨.hbm, 423, rfl⟩
abbrev main_cst_64 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_v342 : Ref sig .tc := ⟨.hbm, 435, rfl⟩
abbrev main_v343 : Ref sig .tc := ⟨.hbm, 436, rfl⟩

abbrev nD : Nat := 1
abbrev τ : Topo := Topo.v7x

variable {F : FTy → Type} [FloatOps F]
-- ==== Proof.Ffn.Run.lean ====
/- The kernel body run once at the first grid point, which copies the three weights into scratch, and once at the others. -/
module

public import proofs.«01_k».proof.Proof.Gen.KernelIdeal.Frame.Runs

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the kernel's buffers are left holding by one grid point, as the stores made into each, the last first. -/
structure Pieces (F : FTy → Type) where
  dh1 : List (View.Piece (Elt F) S256x1024 .f32)
  f : List (View.Piece (Elt F) S256x1024 .bf16)
  dd : List (View.Piece (Elt F) S256x1024 .bf16)
  ds : List (View.Piece (Elt F) S256x2816 .bf16)
  du : List (View.Piece (Elt F) S256x2816 .bf16)
  gg : List (View.Piece (Elt F) S256x2816 .bf16)
  loss : List (View.Piece (Elt F) S8x1024 .f32)
  dg3 : List (View.Piece (Elt F) S8x1024 .f32)
  dg4 : List (View.Piece (Elt F) S8x1024 .f32)
  wg : List (View.Piece (Elt F) S2816x1024 .bf16)
  wu : List (View.Piece (Elt F) S2816x1024 .bf16)
  wd : List (View.Piece (Elt F) S2816x1024 .bf16)
  s : List (View.Piece (Elt F) S256x2816 .f32)
  u : List (View.Piece (Elt F) S256x2816 .f32)

/-- The kernel's twelve transfer cells at zero. -/
def cells (c : Dev nD) : sProp 𝕄 :=
  iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0)

/-- The six weight operands left in HBM, at contents. -/
def operands (c : Dev nD) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) : sProp 𝕄 :=
  iprop(hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5)

/-- A buffer at some contents. -/
def anyAt (c : Dev nD) {S : Shape} {e : EltTy} (M : Memref sig .tc .vmem S e) : sProp 𝕄 :=
  iprop(∃ d, owns (c : Thread nD τ) M fullShare d)

/-- A buffer with stores made into it over some contents. -/
def written (c : Dev nD) {S : Shape} {e : EltTy} (M : Memref sig .tc .vmem S e) (L : List (View.Piece (Elt F) S e)) : sProp 𝕄 :=
  iprop(∃ f, M.view.loc (c : Thread nD τ) ↦[M.view.set]{fullShare} M.view.writes (Elt F) f L)

section Point

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S256x2816 .bf16) (harg14 : arg14.IsWhole) (arg15 : Memref sig .tc .vmem S256x2816 .bf16) (harg15 : arg15.IsWhole) (arg16 : Memref sig .tc .vmem S256x2816 .bf16) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S2816x1024 .bf16) (harg20 : arg20.IsWhole) (arg21 : Memref sig .tc .vmem S2816x1024 .bf16) (harg21 : arg21.IsWhole) (arg22 : Memref sig .tc .vmem S2816x1024 .bf16) (harg22 : arg22.IsWhole) (arg23 : Memref sig .tc .vmem S256x2816 .f32) (harg23 : arg23.IsWhole) (arg24 : Memref sig .tc .vmem S256x2816 .f32) (harg24 : arg24.IsWhole)
  (x0 : Vec F S256x1024 .f32) (x1 : Vec F S256x1024 .f32) (x2 : Vec F S1x1024 .f32) (x3 : Vec F S1x1024 .f32)

/-- The four blocks the body reads. -/
def inputs : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3)

-- (the run's proof term is large)
set_option sl_exec.dmaWindow true in
set_option sl_exec.dmaWindowSet true in
set_option maxHeartbeats 4000000 in
/-- The body at the first point: every output, accumulator and scratch buffer is stored into over anything. -/
noncomputable def runA (hc0 : cond0_0 i) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    { L : Pieces F // ∀ (W : Waits sig Unit) (K : PUnit → sProp 𝕄),
      iprop(inputs c arg1 arg2 arg3 arg4 x0 x1 x2 x3 ∗ anyAt c arg11 ∗ anyAt c arg12 ∗ anyAt c arg13 ∗ anyAt c arg14 ∗ anyAt c arg15 ∗ anyAt c arg16 ∗ anyAt c arg17 ∗ anyAt c arg18 ∗ anyAt c arg19 ∗ anyAt c arg20 ∗ anyAt c arg21 ∗ anyAt c arg22 ∗ anyAt c arg23 ∗ anyAt c arg24 ∗ cells c ∗ operands c fh0 fh1 fh2 fh3 fh4 fh5 ∗ owes (c : Thread nD τ) 0 W
          ∗ (iprop(inputs c arg1 arg2 arg3 arg4 x0 x1 x2 x3 ∗ written c arg11 L.dh1 ∗ written c arg12 L.f ∗ written c arg13 L.dd ∗ written c arg14 L.ds ∗ written c arg15 L.du ∗ written c arg16 L.gg ∗ written c arg17 L.loss ∗ written c arg18 L.dg3 ∗ written c arg19 L.dg4 ∗ written c arg20 L.wg ∗ written c arg21 L.wu ∗ written c arg22 L.wd ∗ written c arg23 L.s ∗ written c arg24 L.u ∗ cells c ∗ operands c fh0 fh1 fh2 fh3 fh4 fh5 ∗ (∃ W', owes (c : Thread nD τ) 0 W')) -∗ K ⟨⟩))
        ⊢ wp frame (wpE (defs₀ (F := F)) Variants.none c none) Set.univ (cc0_ffn_fwd_bwd i arg1 harg1 arg2 harg2 arg3 harg3 arg4 harg4 (Memref.whole main_v6) (Memref.isWhole_whole _) (Memref.whole main_v8) (Memref.isWhole_whole _) (Memref.whole main_v10) (Memref.isWhole_whole _) (Memref.whole main_v12) (Memref.isWhole_whole _) (Memref.whole main_v14) (Memref.isWhole_whole _) (Memref.whole main_v16) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 cc0_scratch5) K } := by
  refine ⟨⟨?_, ?_, ?_, ?_, ?_, ?_, ?_, ?_, ?_, ?_, ?_, ?_, ?_, ?_⟩, fun W K => ?run⟩
  case run =>
    simp only [cc0_ffn_fwd_bwd_eq_skeleton]; unfold cc0_ffn_fwd_bwd_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton]
    unfold inputs anyAt written cells operands owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, HS0⟩, ⟨%d14, %f14, -, HS1⟩, ⟨%d15, %f15, -, HS2⟩, ⟨%d16, %f16, -, HS3⟩, ⟨%d17, %f17, -, HS4⟩, ⟨Hq0, Hq1, Hq2, Hq3, Hq4, Hq5, Hq6, Hq7, Hq8, Hq9, Hq10, Hq11⟩, ⟨Hh0, Hh1, Hh2, Hh3, Hh4, Hh5⟩, HW, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0 H1 H2 H3]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hh0 Hh1 Hh2 Hh3 Hh4 Hh5]
    · iframe
    iexists _; iexact HW

-- (the run's proof term is large)
set_option sl_exec.dmaWindow true in
set_option sl_exec.dmaWindowSet true in
set_option maxHeartbeats 4000000 in
/-- The body at a later point: the accumulators are added to and the copied weights are read. -/
noncomputable def runB (hc0 : ¬cond0_0 i) (xloss : Vec F S8x1024 .f32) (xdg3 : Vec F S8x1024 .f32) (xdg4 : Vec F S8x1024 .f32) (xwg : Vec F S2816x1024 .bf16) (xwu : Vec F S2816x1024 .bf16) (xwd : Vec F S2816x1024 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    { L : Pieces F // ∀ (W : Waits sig Unit) (K : PUnit → sProp 𝕄),
      iprop(inputs c arg1 arg2 arg3 arg4 x0 x1 x2 x3 ∗ anyAt c arg11 ∗ anyAt c arg12 ∗ anyAt c arg13 ∗ anyAt c arg14 ∗ anyAt c arg15 ∗ anyAt c arg16 ∗ owns (c : Thread nD τ) arg17 fullShare xloss ∗ owns (c : Thread nD τ) arg18 fullShare xdg3 ∗ owns (c : Thread nD τ) arg19 fullShare xdg4 ∗ owns (c : Thread nD τ) arg20 fullShare xwg ∗ owns (c : Thread nD τ) arg21 fullShare xwu ∗ owns (c : Thread nD τ) arg22 fullShare xwd ∗ anyAt c arg23 ∗ anyAt c arg24 ∗ cells c ∗ operands c fh0 fh1 fh2 fh3 fh4 fh5 ∗ owes (c : Thread nD τ) 0 W
          ∗ (iprop(inputs c arg1 arg2 arg3 arg4 x0 x1 x2 x3 ∗ written c arg11 L.dh1 ∗ written c arg12 L.f ∗ written c arg13 L.dd ∗ written c arg14 L.ds ∗ written c arg15 L.du ∗ written c arg16 L.gg ∗ written c arg17 L.loss ∗ written c arg18 L.dg3 ∗ written c arg19 L.dg4 ∗ owns (c : Thread nD τ) arg20 fullShare xwg ∗ owns (c : Thread nD τ) arg21 fullShare xwu ∗ owns (c : Thread nD τ) arg22 fullShare xwd ∗ written c arg23 L.s ∗ written c arg24 L.u ∗ cells c ∗ operands c fh0 fh1 fh2 fh3 fh4 fh5 ∗ (∃ W', owes (c : Thread nD τ) 0 W')) -∗ K ⟨⟩))
        ⊢ wp frame (wpE (defs₀ (F := F)) Variants.none c none) Set.univ (cc0_ffn_fwd_bwd i arg1 harg1 arg2 harg2 arg3 harg3 arg4 harg4 (Memref.whole main_v6) (Memref.isWhole_whole _) (Memref.whole main_v8) (Memref.isWhole_whole _) (Memref.whole main_v10) (Memref.isWhole_whole _) (Memref.whole main_v12) (Memref.isWhole_whole _) (Memref.whole main_v14) (Memref.isWhole_whole _) (Memref.whole main_v16) (Memref.isWhole_whole _) arg11 harg11 arg12 harg12 arg13 harg13 arg14 harg14 arg15 harg15 arg16 harg16 arg17 harg17 arg18 harg18 arg19 harg19 arg20 harg20 arg21 harg21 arg22 harg22 arg23 harg23 arg24 harg24 cc0_scratch5) K } := by
  refine ⟨⟨?_, ?_, ?_, ?_, ?_, ?_, ?_, ?_, ?_, [], [], [], ?_, ?_⟩, fun W K => ?run⟩
  case run =>
    simp only [cc0_ffn_fwd_bwd_eq_skeleton]; unfold cc0_ffn_fwd_bwd_skel
    simp only [k0_part5_eq_skeleton, k0_part6_eq_skeleton, k0_part7_eq_skeleton, k0_part8_eq_skeleton, k0_part9_eq_skeleton, k0_part10_eq_skeleton, k0_part11_eq_skeleton]
    unfold inputs anyAt written cells operands owns
    iintro ⟨⟨⟨%f0, %hf0, H0⟩, ⟨%f1, %hf1, H1⟩, ⟨%f2, %hf2, H2⟩, ⟨%f3, %hf3, H3⟩⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%f13, %hf13, HS0⟩, ⟨%f14, %hf14, HS1⟩, ⟨%f15, %hf15, HS2⟩, ⟨%d16, %f16, -, HS3⟩, ⟨%d17, %f17, -, HS4⟩, ⟨Hq0, Hq1, Hq2, Hq3, Hq4, Hq5, Hq6, Hq7, Hq8, Hq9, Hq10, Hq11⟩, ⟨Hh0, Hh1, Hh2, Hh3, Hh4, Hh5⟩, HW, Hk⟩
    obtain rfl := harg1.eq_unread hf0; obtain rfl := harg2.eq_unread hf1; obtain rfl := harg3.eq_unread hf2; obtain rfl := harg4.eq_unread hf3; obtain rfl := harg17.eq_unread hf10; obtain rfl := harg18.eq_unread hf11; obtain rfl := harg19.eq_unread hf12; obtain rfl := harg20.eq_unread hf13; obtain rfl := harg21.eq_unread hf14; obtain rfl := harg22.eq_unread hf15
    sl_exec (disch := first | sl_exact hc0)
    sl_step
    iapply Hk
    isplitl [H0 H1 H2 H3]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg20.read_unread _
      iexact HS0
    isplitl [HS1]
    · iexists _; isplitr; · ipureintro; exact harg21.read_unread _
      iexact HS1
    isplitl [HS2]
    · iexists _; isplitr; · ipureintro; exact harg22.read_unread _
      iexact HS2
    isplitl [HS3]; · iexists _; iexact HS3
    isplitl [HS4]; · iexists _; iexact HS4
    isplitl [Hq0 Hq1 Hq2 Hq3 Hq4 Hq5 Hq6 Hq7 Hq8 Hq9 Hq10 Hq11]
    · iframe
    isplitl [Hh0 Hh1 Hh2 Hh3 Hh4 Hh5]
    · iframe
    iexists _; iexact HW

end Point

end Cert.KernelIdeal.Ffn

end
-- ==== Proof.Ffn.Frame.lean ====
/- The frame of the kernel: what every grid point leaves in each buffer, the invariant between points, the launch. -/
module

public import proofs.«01_k».proof.Proof.Ffn.Run
public import Idealize.ShloMosaic.Lib.Claim

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What one grid point leaves in the kernel's outputs and in the copied weights. -/
structure Outs (F : FTy → Type) where
  dh1 : Vec F S256x1024 .f32
  f : Vec F S256x1024 .bf16
  dd : Vec F S256x1024 .bf16
  ds : Vec F S256x2816 .bf16
  du : Vec F S256x2816 .bf16
  gg : Vec F S256x2816 .bf16
  loss : Vec F S8x1024 .f32
  dg3 : Vec F S8x1024 .f32
  dg4 : Vec F S8x1024 .f32
  wg : Vec F S2816x1024 .bf16
  wu : Vec F S2816x1024 .bf16
  wd : Vec F S2816x1024 .bf16

/-- The first point, at its buffers and blocks. -/
def atA (c : Dev nD) (t : Fin cfg0.N) (h : cond0_0 (grid0.coords t)) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) h (V m c main_v6) (V m c main_v8) (V m c main_v10) (V m c main_v12) (V m c main_v14) (V m c main_v16)

/-- A later point, over what the point before left. -/
def atB (c : Dev nD) (t : Fin cfg0.N) (h : ¬cond0_0 (grid0.coords t)) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) (iblk m c 3 t) h p.loss p.dg3 p.dg4 p.wg p.wu p.wd (V m c main_v6) (V m c main_v8) (V m c main_v10) (V m c main_v12) (V m c main_v14) (V m c main_v16)

section Cover

variable (c : Dev nD) (t : Fin cfg0.N)

theorem coverA_dh1 (h : cond0_0 (grid0.coords t)) : ∀ y, ∃ pc ∈ (atA m c t h).1.dh1, y ∈ pc.1.set :=
  View.cover_of_tiledL _ S256x1024.size (by sl_kernel_rfl)
theorem coverA_f (h : cond0_0 (grid0.coords t)) : ∀ y, ∃ pc ∈ (atA m c t h).1.f, y ∈ pc.1.set :=
  View.cover_of_tiledL _ S256x1024.size (by sl_kernel_rfl)
theorem coverA_dd (h : cond0_0 (grid0.coords t)) : ∀ y, ∃ pc ∈ (atA m c t h).1.dd, y ∈ pc.1.set :=
  View.cover_of_tiledL _ S256x1024.size (by sl_kernel_rfl)
theorem coverA_ds (h : cond0_0 (grid0.coords t)) : ∀ y, ∃ pc ∈ (atA m c t h).1.ds, y ∈ pc.1.set :=
  View.cover_of_tiledBy _ ![256, 256] (by sl_kernel_rfl)
theorem coverA_du (h : cond0_0 (grid0.coords t)) : ∀ y, ∃ pc ∈ (atA m c t h).1.du, y ∈ pc.1.set :=
  View.cover_of_tiledBy _ ![256, 256] (by sl_kernel_rfl)
theorem coverA_gg (h : cond0_0 (grid0.coords t)) : ∀ y, ∃ pc ∈ (atA m c t h).1.gg, y ∈ pc.1.set :=
  View.cover_of_tiledBy _ ![256, 256] (by sl_kernel_rfl)
theorem coverA_loss (h : cond0_0 (grid0.coords t)) : ∀ y, ∃ pc ∈ (atA m c t h).1.loss, y ∈ pc.1.set :=
  View.cover_of_tiledL _ S8x1024.size (by sl_kernel_rfl)
theorem coverA_dg3 (h : cond0_0 (grid0.coords t)) : ∀ y, ∃ pc ∈ (atA m c t h).1.dg3, y ∈ pc.1.set :=
  View.cover_of_tiledL _ S8x1024.size (by sl_kernel_rfl)
theorem coverA_dg4 (h : cond0_0 (grid0.coords t)) : ∀ y, ∃ pc ∈ (atA m c t h).1.dg4, y ∈ pc.1.set :=
  View.cover_of_tiledL _ S8x1024.size (by sl_kernel_rfl)
theorem coverA_wg (h : cond0_0 (grid0.coords t)) : ∀ y, ∃ pc ∈ (atA m c t h).1.wg, y ∈ pc.1.set :=
  View.cover_of_tiledL _ S704x1024.size (by sl_kernel_rfl)
theorem coverA_wu (h : cond0_0 (grid0.coords t)) : ∀ y, ∃ pc ∈ (atA m c t h).1.wu, y ∈ pc.1.set :=
  View.cover_of_tiledL _ S704x1024.size (by sl_kernel_rfl)
theorem coverA_wd (h : cond0_0 (grid0.coords t)) : ∀ y, ∃ pc ∈ (atA m c t h).1.wd, y ∈ pc.1.set :=
  View.cover_of_tiledL _ S704x1024.size (by sl_kernel_rfl)
theorem coverB_dh1 (h : ¬cond0_0 (grid0.coords t)) (p : Outs F) : ∀ y, ∃ pc ∈ (atB m c t h p).1.dh1, y ∈ pc.1.set :=
  View.cover_of_tiledL _ S256x1024.size (by sl_kernel_rfl)
theorem coverB_f (h : ¬cond0_0 (grid0.coords t)) (p : Outs F) : ∀ y, ∃ pc ∈ (atB m c t h p).1.f, y ∈ pc.1.set :=
  View.cover_of_tiledL _ S256x1024.size (by sl_kernel_rfl)
theorem coverB_dd (h : ¬cond0_0 (grid0.coords t)) (p : Outs F) : ∀ y, ∃ pc ∈ (atB m c t h p).1.dd, y ∈ pc.1.set :=
  View.cover_of_tiledL _ S256x1024.size (by sl_kernel_rfl)
theorem coverB_ds (h : ¬cond0_0 (grid0.coords t)) (p : Outs F) : ∀ y, ∃ pc ∈ (atB m c t h p).1.ds, y ∈ pc.1.set :=
  View.cover_of_tiledBy _ ![256, 256] (by sl_kernel_rfl)
theorem coverB_du (h : ¬cond0_0 (grid0.coords t)) (p : Outs F) : ∀ y, ∃ pc ∈ (atB m c t h p).1.du, y ∈ pc.1.set :=
  View.cover_of_tiledBy _ ![256, 256] (by sl_kernel_rfl)
theorem coverB_gg (h : ¬cond0_0 (grid0.coords t)) (p : Outs F) : ∀ y, ∃ pc ∈ (atB m c t h p).1.gg, y ∈ pc.1.set :=
  View.cover_of_tiledBy _ ![256, 256] (by sl_kernel_rfl)
theorem coverB_loss (h : ¬cond0_0 (grid0.coords t)) (p : Outs F) : ∀ y, ∃ pc ∈ (atB m c t h p).1.loss, y ∈ pc.1.set :=
  View.cover_of_tiledL _ S8x1024.size (by sl_kernel_rfl)
theorem coverB_dg3 (h : ¬cond0_0 (grid0.coords t)) (p : Outs F) : ∀ y, ∃ pc ∈ (atB m c t h p).1.dg3, y ∈ pc.1.set :=
  View.cover_of_tiledL _ S8x1024.size (by sl_kernel_rfl)
theorem coverB_dg4 (h : ¬cond0_0 (grid0.coords t)) (p : Outs F) : ∀ y, ∃ pc ∈ (atB m c t h p).1.dg4, y ∈ pc.1.set :=
  View.cover_of_tiledL _ S8x1024.size (by sl_kernel_rfl)

end Cover

/-- What the first point leaves. -/
def outsA (c : Dev nD) (t : Fin cfg0.N) (h : cond0_0 (grid0.coords t)) : Outs F where
  dh1 := View.canon (atA m c t h).1.dh1
  f := View.canon (atA m c t h).1.f
  dd := View.canon (atA m c t h).1.dd
  ds := View.canon (atA m c t h).1.ds
  du := View.canon (atA m c t h).1.du
  gg := View.canon (atA m c t h).1.gg
  loss := View.canon (atA m c t h).1.loss
  dg3 := View.canon (atA m c t h).1.dg3
  dg4 := View.canon (atA m c t h).1.dg4
  wg := View.canon (atA m c t h).1.wg
  wu := View.canon (atA m c t h).1.wu
  wd := View.canon (atA m c t h).1.wd

/-- What a later point leaves over what the point before left. -/
def outsB (c : Dev nD) (t : Fin cfg0.N) (h : ¬cond0_0 (grid0.coords t)) (p : Outs F) : Outs F where
  dh1 := View.canon (atB m c t h p).1.dh1
  f := View.canon (atB m c t h p).1.f
  dd := View.canon (atB m c t h p).1.dd
  ds := View.canon (atB m c t h p).1.ds
  du := View.canon (atB m c t h p).1.du
  gg := View.canon (atB m c t h p).1.gg
  loss := View.canon (atB m c t h p).1.loss
  dg3 := View.canon (atB m c t h p).1.dg3
  dg4 := View.canon (atB m c t h p).1.dg4
  wg := p.wg
  wu := p.wu
  wd := p.wd

theorem condA (t : Fin cfg0.N) (h : t.val = 0) : cond0_0 (grid0.coords t) := (hcond0_0 t).mpr (by rw [h])

theorem condB (t : Fin cfg0.N) (h : t.val ≠ 0) : ¬cond0_0 (grid0.coords t) := fun hc => by
  have h0 := (hcond0_0 t).mp hc
  have hN : t.val < 32 := lt_of_lt_of_eq t.isLt (show cfg0.N = 32 from N_0)
  omega

/-- What the points up to the one at position `n` leave. -/
def outsAt (c : Dev nD) : (n : ℕ) → n < cfg0.N → Outs F
  | 0, hn => outsA m c ⟨0, hn⟩ (condA _ rfl)
  | n + 1, hn => outsB m c ⟨n + 1, hn⟩ (condB _ (Nat.succ_ne_zero n)) (outsAt c n (Nat.lt_of_succ_lt hn))

theorem outsAt_A (c : Dev nD) (t : Fin cfg0.N) (h : t.val = 0) :
    outsAt m c t.val t.isLt = outsA m c t (condA t h) := by
  obtain ⟨n, hn⟩ := t
  cases h
  rfl

theorem outsAt_B (c : Dev nD) (t : Fin cfg0.N) (h : t.val ≠ 0) :
    outsAt m c t.val t.isLt = outsB m c t (condB t h) (outsAt m c (t.val - 1) (Nat.lt_of_le_of_lt (Nat.sub_le _ _) t.isLt)) := by
  obtain ⟨n, hn⟩ := t
  cases n with
  | zero => exact absurd rfl h
  | succ n => rfl

/-! ## The invariant between points and the pipeline's proof data -/

/-- Between two points: the copied weights at contents, the other scratch at anything, the generator register, the cells
    at zero and the operands as the launch found them. -/
def between (c : Dev nD) (o : Outs F) : sProp 𝕄 :=
  iprop(iprop(owns (c : Thread nD τ) scM0_0 fullShare o.wg ∗ owns (c : Thread nD τ) scM0_1 fullShare o.wu ∗ owns (c : Thread nD τ) scM0_2 fullShare o.wd ∗ anyAt c scM0_3 ∗ anyAt c scM0_4)
    ∗ (∃ r, prngReg c r) ∗ cells c ∗ operands c (V m c main_v6) (V m c main_v8) (V m c main_v10) (V m c main_v12) (V m c main_v14) (V m c main_v16))

def Inv (c : Dev nD) : (n : ℕ) → n ≤ cfg0.N → sProp 𝕄
  | 0, _ => Pipeline.ΦD osem0 spec0 H0 (V m) c
  | n + 1, hn => between m c (outsAt m c n hn)

theorem Inv_zero (c : Dev nD) (n : ℕ) (h : n ≤ cfg0.N) (hz : n = 0) : Inv m c n h = Pipeline.ΦD osem0 spec0 H0 (V m) c := by
  subst hz; rfl

theorem Inv_pos (c : Dev nD) (n : ℕ) (h : n ≤ cfg0.N) (hz : n ≠ 0) :
    Inv m c n h = between m c (outsAt m c (n - 1) (by omega)) := by
  cases n with
  | zero => exact absurd rfl hz
  | succ n => rfl

/-- The launch's invariant, its parts bundled. -/
theorem launch_eq (c : Dev nD) : (Pipeline.ΦD osem0 spec0 H0 (V m) c : sProp 𝕄)
    = iprop(iprop(anyAt c scM0_0 ∗ anyAt c scM0_1 ∗ anyAt c scM0_2 ∗ anyAt c scM0_3 ∗ anyAt c scM0_4)
      ∗ (∃ r, prngReg c r) ∗ cells c ∗ operands c (V m c main_v6) (V m c main_v8) (V m c main_v10) (V m c main_v12) (V m c main_v14) (V m c main_v16)) := PhiD0_eq m c

/-- The proof data of the one pipeline: the arrays as the region finds them, every input's buffer left at its block and
    every output's at what the points leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).dh1
    | ⟨5, _⟩ => (outsAt m c t.val t.isLt).f
    | ⟨6, _⟩ => (outsAt m c t.val t.isLt).dd
    | ⟨7, _⟩ => (outsAt m c t.val t.isLt).ds
    | ⟨8, _⟩ => (outsAt m c t.val t.isLt).du
    | ⟨9, _⟩ => (outsAt m c t.val t.isLt).gg
    | ⟨10, _⟩ => (outsAt m c t.val t.isLt).loss
    | ⟨11, _⟩ => (outsAt m c t.val t.isLt).dg3
    | ⟨12, _⟩ => (outsAt m c t.val t.isLt).dg4
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

section After

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = (outsAt m c t.val t.isLt).dh1 := by dsimp only [dats]
theorem after_5 : (dats m 0 c).after 5 t = (outsAt m c t.val t.isLt).f := by dsimp only [dats]
theorem after_6 : (dats m 0 c).after 6 t = (outsAt m c t.val t.isLt).dd := by dsimp only [dats]
theorem after_7 : (dats m 0 c).after 7 t = (outsAt m c t.val t.isLt).ds := by dsimp only [dats]
theorem after_8 : (dats m 0 c).after 8 t = (outsAt m c t.val t.isLt).du := by dsimp only [dats]
theorem after_9 : (dats m 0 c).after 9 t = (outsAt m c t.val t.isLt).gg := by dsimp only [dats]
theorem after_10 : (dats m 0 c).after 10 t = (outsAt m c t.val t.isLt).loss := by dsimp only [dats]
theorem after_11 : (dats m 0 c).after 11 t = (outsAt m c t.val t.isLt).dg3 := by dsimp only [dats]
theorem after_12 : (dats m 0 c).after 12 t = (outsAt m c t.val t.isLt).dg4 := by dsimp only [dats]

theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d

/-- An accumulator's buffer is not written back before the last point, so a later point finds what the one before left. -/
theorem before_10 (h0 : t.val ≠ 0) (d) :
    (dats m 0 c).before 10 t d = (outsAt m c (t.val - 1) (Nat.lt_of_le_of_lt (Nat.sub_le _ _) t.isLt)).loss := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
/-- An accumulator's buffer is not written back before the last point, so a later point finds what the one before left. -/
theorem before_11 (h0 : t.val ≠ 0) (d) :
    (dats m 0 c).before 11 t d = (outsAt m c (t.val - 1) (Nat.lt_of_le_of_lt (Nat.sub_le _ _) t.isLt)).dg3 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- An accumulator's buffer is not written back before the last point, so a later point finds what the one before left. -/
theorem before_12 (h0 : t.val ≠ 0) (d) :
    (dats m 0 c).before 12 t d = (outsAt m c (t.val - 1) (Nat.lt_of_le_of_lt (Nat.sub_le _ _) t.isLt)).dg4 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]

/-- What the body is called with at a point, -/
def bodyPre : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t))

end After

/-- A buffer stored into all over is held at what its stores leave. -/
theorem written_owns (c : Dev nD) {S : Shape} {e : EltTy} (M : Memref sig .tc .vmem S e) (L : List (View.Piece (Elt F) S e))
    (h : ∀ y, ∃ pc ∈ L, y ∈ pc.1.set) : (written c M L : sProp 𝕄) ⊢ owns (c : Thread nD τ) M fullShare (View.canon L) := by
  unfold written owns
  iintro ⟨%f, H⟩
  iexists _
  isplitr
  swap
  · iexact H
  ipureintro
  exact View.read_writes_eq_canon _ _ _ h

/-- A buffer stored into is held at something. -/
theorem written_any (c : Dev nD) {S : Shape} {e : EltTy} (M : Memref sig .tc .vmem S e) (L : List (View.Piece (Elt F) S e)) :
    (written c M L : sProp 𝕄) ⊢ anyAt c M := by
  unfold written anyAt owns
  iintro ⟨%f, H⟩
  iexists _, _
  isplitr
  swap
  · iexact H
  ipureintro
  rfl

set_option maxHeartbeats 4000000 in
/-- The body's triple at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = between m c (outsAt m c t.val t.isLt) from rfl, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl,
    Inv_castSucc m c t, Inv_zero m c _ _ h, launch_eq, outsAt_A m c t h]
  unfold between outsA; dsimp only
  iintro ⟨⟨⟨HS0, HS1, HS2, HS3, HS4⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atA m c t (condA t h)).2 W _)
  unfold inputs
  isplitl [H0 H1 H2 H3]; · iframe
  isplitl [H4]; · unfold anyAt; iexists _; iexact H4
  isplitl [H5]; · unfold anyAt; iexists _; iexact H5
  isplitl [H6]; · unfold anyAt; iexists _; iexact H6
  isplitl [H7]; · unfold anyAt; iexists _; iexact H7
  isplitl [H8]; · unfold anyAt; iexists _; iexact H8
  isplitl [H9]; · unfold anyAt; iexists _; iexact H9
  isplitl [H10]; · unfold anyAt; iexists _; iexact H10
  isplitl [H11]; · unfold anyAt; iexists _; iexact H11
  isplitl [H12]; · unfold anyAt; iexists _; iexact H12
  isplitl [HS0]; · iexact HS0
  isplitl [HS1]; · iexact HS1
  isplitl [HS2]; · iexact HS2
  isplitl [HS3]; · iexact HS3
  isplitl [HS4]; · iexact HS4
  isplitl [Hq]; · iexact Hq
  isplitl [Hh]; · iexact Hh
  isplitl [HW]; · iexact HW
  iintro ⟨⟨H0, H1, H2, H3⟩, H4, H5, H6, H7, H8, H9, H10, H11, H12, HS0, HS1, HS2, HS3, HS4, Hq, Hh, ⟨%W', HW'⟩⟩
  ihave H4 := (written_owns c _ _ (coverA_dh1 m c t (condA t h))) $$ H4
  ihave H5 := (written_owns c _ _ (coverA_f m c t (condA t h))) $$ H5
  ihave H6 := (written_owns c _ _ (coverA_dd m c t (condA t h))) $$ H6
  ihave H7 := (written_owns c _ _ (coverA_ds m c t (condA t h))) $$ H7
  ihave H8 := (written_owns c _ _ (coverA_du m c t (condA t h))) $$ H8
  ihave H9 := (written_owns c _ _ (coverA_gg m c t (condA t h))) $$ H9
  ihave H10 := (written_owns c _ _ (coverA_loss m c t (condA t h))) $$ H10
  ihave H11 := (written_owns c _ _ (coverA_dg3 m c t (condA t h))) $$ H11
  ihave H12 := (written_owns c _ _ (coverA_dg4 m c t (condA t h))) $$ H12
  ihave HS0 := (written_owns c _ _ (coverA_wg m c t (condA t h))) $$ HS0
  ihave HS1 := (written_owns c _ _ (coverA_wu m c t (condA t h))) $$ HS1
  ihave HS2 := (written_owns c _ _ (coverA_wd m c t (condA t h))) $$ HS2
  ihave HS3 := (written_any c _ _) $$ HS3
  ihave HS4 := (written_any c _ _) $$ HS4
  isplitl [HS0 HS1 HS2 HS3 HS4 Hg Hq Hh]
  · isplitl [HS0 HS1 HS2 HS3 HS4]; · iframe
    iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 4000000 in
/-- The body's triple at a later point. -/
theorem sound_B (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before_0, before_1, before_2, before_3, before_10 m c t h, before_11 m c t h, before_12 m c t h]
  rw [show (dats m 0 c).Φ t.succ = between m c (outsAt m c t.val t.isLt) from rfl, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl,
    Inv_castSucc m c t, Inv_pos m c _ _ h, outsAt_B m c t h]
  unfold between outsB; dsimp only
  iintro ⟨⟨⟨HS0, HS1, HS2, HS3, HS4⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((atB m c t (condB t h) _).2 W _)
  unfold inputs
  isplitl [H0 H1 H2 H3]; · iframe
  isplitl [H4]; · unfold anyAt; iexists _; iexact H4
  isplitl [H5]; · unfold anyAt; iexists _; iexact H5
  isplitl [H6]; · unfold anyAt; iexists _; iexact H6
  isplitl [H7]; · unfold anyAt; iexists _; iexact H7
  isplitl [H8]; · unfold anyAt; iexists _; iexact H8
  isplitl [H9]; · unfold anyAt; iexists _; iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [Hq]; · iexact Hq
  isplitl [Hh]; · iexact Hh
  isplitl [HW]; · iexact HW
  iintro ⟨⟨H0, H1, H2, H3⟩, H4, H5, H6, H7, H8, H9, H10, H11, H12, HS0, HS1, HS2, HS3, HS4, Hq, Hh, ⟨%W', HW'⟩⟩
  ihave H4 := (written_owns c _ _ (coverB_dh1 m c t (condB t h) _)) $$ H4
  ihave H5 := (written_owns c _ _ (coverB_f m c t (condB t h) _)) $$ H5
  ihave H6 := (written_owns c _ _ (coverB_dd m c t (condB t h) _)) $$ H6
  ihave H7 := (written_owns c _ _ (coverB_ds m c t (condB t h) _)) $$ H7
  ihave H8 := (written_owns c _ _ (coverB_du m c t (condB t h) _)) $$ H8
  ihave H9 := (written_owns c _ _ (coverB_gg m c t (condB t h) _)) $$ H9
  ihave H10 := (written_owns c _ _ (coverB_loss m c t (condB t h) _)) $$ H10
  ihave H11 := (written_owns c _ _ (coverB_dg3 m c t (condB t h) _)) $$ H11
  ihave H12 := (written_owns c _ _ (coverB_dg4 m c t (condB t h) _)) $$ H12
  ihave HS3 := (written_any c _ _) $$ HS3
  ihave HS4 := (written_any c _ _) $$ HS4
  isplitl [HS0 HS1 HS2 HS3 HS4 Hg Hq Hh]
  · isplitl [HS0 HS1 HS2 HS3 HS4]; · iframe
    iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_A m c t h
  · exact sound_B m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦD osem0 spec0 H0 (V m) c := by
  have ht : (Fin.last cfg0.N).val ≠ 0 := by rw [Fin.val_last]; have : cfg0.N = 32 := N_0; omega
  rw [show (dats m 0 c).Φ (Fin.last cfg0.N) = Inv m c (Fin.last cfg0.N).val (Nat.le_of_lt_succ (Fin.last cfg0.N).isLt) from rfl,
    Inv_pos m c _ _ ht, launch_eq]
  unfold between
  iintro ⟨⟨HS0, HS1, HS2, HS3, HS4⟩, Hg, Hq, Hh⟩
  isplitl [HS0 HS1 HS2 HS3 HS4]
  · isplitl [HS0]; · unfold anyAt; iexists _; iexact HS0
    isplitl [HS1]; · unfold anyAt; iexists _; iexact HS1
    isplitl [HS2]; · unfold anyAt; iexists _; iexact HS2
    isplitl [HS3]; · iexact HS3
    iexact HS4
  iframe

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Ffn

end
-- ==== Proof.Ffn.Claims.lean ====
/- The frames of the two programs that the kernel's one run gives, and the reference's. -/
module

public import proofs.«01_k».proof.Defs
public import proofs.«01_k».proof.Proof.Gen.Kernel
public import proofs.«01_k».proof.Proof.Ffn.Frame
public import proofs.«01_k».proof.Proof.Gen.ReferenceIdeal.Run
public import Idealize.ShloMosaic.Lib.Quiescent
@[expose] public section
noncomputable section
namespace Cert.Frames
open Idealize.ShloMosaic Idealize.SL.Sem

/-- The kernel over machine floats has the same text as over the extended reals, so the one run at any values gives its
    frame too. -/
theorem frame_kernel : Cert.quiescent_Kernel := by
  have e : Cert.quiescent_Kernel = ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) := by sl_kernel_rfl
  exact e ▸ fun m ρ _ => Cert.KernelIdeal.Ffn.frame (F := Bits) m ρ

/-- The reference is host operations alone: it has no semaphores. -/
theorem frame_reference : Cert.quiescent_ReferenceIdeal := fun m ρ _ =>
  (θ_run Cert.ReferenceIdeal.defs _ _).mono
    (fun r h => ⟨fun c => (h c).2.2.2.2.2.2.2.2.2, sem_eq_zero_of_no_sems rfl r.2⟩)
    (Cert.ReferenceIdeal.Value.run (F := Ideal) m ρ)

end Cert.Frames

end
-- ==== Proof.Ffn.Point.lean ====
/- What one grid point computes from what it reads, and what it leaves in every buffer. -/
module

public import proofs.«01_k».proof.Proof.Ffn.Frame
public import Idealize.ShloMosaic.Lib.Pipeline.Value

@[expose] public section

set_option maxRecDepth 16384

noncomputable section

namespace Cert.KernelIdeal.Ffn

open Cert.KernelIdeal.Gen
open Idealize.ShloMosaic Idealize.ShloMosaic.TcCoe Idealize.SL.Sem

variable {F : FTy → Type} [FloatOps F]

/-- What one grid point reads: its rows, its targets, the two gains, the three weights, and the three accumulators. -/
structure Reads (F : FTy → Type) where
  x0 : Vec F S256x1024 .f32
  x1 : Vec F S256x1024 .f32
  x2 : Vec F S1x1024 .f32
  x3 : Vec F S1x1024 .f32
  wg : Vec F S2816x1024 .bf16
  wu : Vec F S2816x1024 .bf16
  wd : Vec F S2816x1024 .bf16
  l : Vec F S8x1024 .f32
  l3 : Vec F S8x1024 .f32
  l4 : Vec F S8x1024 .f32

/-- The three row blocks in which the body reads a weight. -/
abbrev w0 (w : Vec F S2816x1024 .bf16) : Vec F S1024x1024 .bf16 :=
  View.ld w (Rect.unit ![0, 0] S1024x1024.size inb_S2816x1024_S1024x1024_0_0)
abbrev w1 (w : Vec F S2816x1024 .bf16) : Vec F S1024x1024 .bf16 :=
  View.ld w (Rect.unit ![1024, 0] S1024x1024.size inb_S2816x1024_S1024x1024_1024_0)
abbrev w2 (w : Vec F S2816x1024 .bf16) : Vec F S768x1024 .bf16 :=
  View.ld w (Rect.unit ![2048, 0] S768x1024.size inb_S2816x1024_S768x1024_2048_0)

/-- The three column blocks in which it reads a hidden array back. -/
abbrev h0 (w : Vec F S256x2816 .f32) : Vec F S256x1024 .f32 :=
  View.ld w (Rect.unit ![0, 0] S256x1024.size inb_S256x2816_S256x1024_0_0)
abbrev h1 (w : Vec F S256x2816 .f32) : Vec F S256x1024 .f32 :=
  View.ld w (Rect.unit ![0, 1024] S256x1024.size inb_S256x2816_S256x1024_0_1024)
abbrev h2 (w : Vec F S256x2816 .f32) : Vec F S256x768 .f32 :=
  View.ld w (Rect.unit ![0, 2048] S256x768.size inb_S256x2816_S256x768_0_2048)

/-- A hidden array stored in three column blocks. -/
abbrev blocks {e : EltTy} (p0 p1 : Vec F S256x1024 e) (p2 : Vec F S256x768 e) : List (View.Piece (Elt F) S256x2816 e) :=
  [⟨Rect.unit ![0, 2048] S256x768.size inb_S256x2816_S256x768_0_2048, p2⟩,
    ⟨Rect.unit ![0, 1024] S256x1024.size inb_S256x2816_S256x1024_0_1024, p1⟩,
    ⟨Rect.unit ![0, 0] S256x1024.size inb_S256x2816_S256x1024_0_0, p0⟩]

namespace Reads

variable (R : Reads F)

abbrev f : Vec F S256x1024 .bf16 := k0_pay8 R.x0 R.x2
abbrev s : Vec F S256x2816 .f32 := View.canon (blocks (k0_pay12 R.x0 R.x2 (w0 R.wg)) (k0_pay18 R.f (w1 R.wg)) (k0_pay23 R.f (w2 R.wg)))
abbrev u : Vec F S256x2816 .f32 := View.canon (blocks (k0_pay13 R.x0 R.x2 (w0 R.wu)) (k0_pay19 R.f (w1 R.wu)) (k0_pay24 R.f (w2 R.wu)))
abbrev gg : Vec F S256x2816 .bf16 := View.canon (blocks (k0_pay14 (k0_pay10 R.x0 R.x2 (w0 R.wg)) (k0_pay11 R.x0 R.x2 (w0 R.wu)))
  (k0_pay20 R.f (w1 R.wg) (w1 R.wu)) (k0_pay25 R.f (w2 R.wg) (w2 R.wu)))
abbrev d01 : FVec F S256x1024 .f32 := k0_pay15 k0_pay9 (k0_pay10 R.x0 R.x2 (w0 R.wg)) (k0_pay11 R.x0 R.x2 (w0 R.wu)) (w0 R.wd)
abbrev d : FVec F S256x1024 .f32 := k0_pay26 R.f R.d01 (k0_pay20 R.f (w1 R.wg) (w1 R.wu)) (w1 R.wd) (w2 R.wg) (w2 R.wu) (w2 R.wd)
abbrev q : FVec F S256x1 .f32 := k0_pay27 R.f R.d01 (k0_pay20 R.f (w1 R.wg) (w1 R.wu)) (w1 R.wd) (w2 R.wg) (w2 R.wu) (w2 R.wd)
abbrev loss : Vec F S8x1024 .f32 := k0_pay32 (k0_pay5 R.x0) R.x3 R.d R.q k0_pay28 R.x1 R.l
abbrev dg4 : Vec F S8x1024 .f32 := k0_pay34 (k0_pay5 R.x0) R.x3 R.d R.q k0_pay28 R.x1 R.l4
abbrev dy : FVec F S256x1024 .f32 := k0_pay33 (k0_pay5 R.x0) R.x3 R.d R.q k0_pay28 R.x1
abbrev dd : Vec F S256x1024 .bf16 := k0_pay35 (k0_pay5 R.x0) R.x3 R.d R.q k0_pay28 R.x1
abbrev ds : Vec F S256x2816 .bf16 := View.canon (blocks (k0_pay38 R.dd (w0 R.wd) (h0 R.s) (h0 R.u))
  (k0_pay43 R.dd (w1 R.wd) (h1 R.s) (h1 R.u)) (k0_pay48 (k0_pay46 R.dd (w2 R.wd)) (h2 R.s) (h2 R.u)))
abbrev du : Vec F S256x2816 .bf16 := View.canon (blocks (k0_pay39 R.dd (w0 R.wd) (h0 R.s))
  (k0_pay44 R.dd (w1 R.wd) (h1 R.s)) (k0_pay49 (k0_pay46 R.dd (w2 R.wd)) (h2 R.s)))
abbrev df01 : FVec F S256x1024 .f32 := k0_pay45 R.dd (k0_pay40 R.dd (w0 R.wd) (h0 R.s) (h0 R.u) (w0 R.wg) (w0 R.wu))
  (w1 R.wd) (h1 R.s) (h1 R.u) (w1 R.wg) (w1 R.wu)
abbrev df : FVec F S256x1024 .f32 := k0_pay50 R.df01 (k0_pay46 R.dd (w2 R.wd)) (h2 R.s) (h2 R.u) (w2 R.wg) (w2 R.wu)
abbrev dg3 : Vec F S8x1024 .f32 := k0_pay51 (k0_pay7 R.x0) R.df01 (k0_pay46 R.dd (w2 R.wd)) (h2 R.s) (h2 R.u) (w2 R.wg) (w2 R.wu) R.l3
abbrev dh1 : Vec F S256x1024 .f32 := k0_pay1 (k0_pay6 R.x0) (k0_pay7 R.x0) R.x2 R.dy R.df

/-- What the point leaves. -/
def outs : Outs F where
  dh1 := R.dh1
  f := R.f
  dd := R.dd
  ds := R.ds
  du := R.du
  gg := R.gg
  loss := R.loss
  dg3 := R.dg3
  dg4 := R.dg4
  wg := R.wg
  wu := R.wu
  wd := R.wd

end Reads

theorem hz : (![0, 0] : Fin 2 → Nat) = fun _ => 0 := funext fun a => by fin_cases a <;> rfl

/-- A load of a box after stores reads their canonical contents there. -/
theorem readCov_ld {κ : Kind} {sp : Space} {S : Shape} {e : EltTy} (v : View sig κ sp S e) (L : List (View.Piece (Elt F) S e)) (r : Rect S) :
    v.readCov L r.toLoadRect = View.ld (View.canon L) r := View.readCov_eq_canon' _ _ _

variable (m : (ℓ : Loc nD τ sig) → Buf (Elt F) ℓ)

/-- What a point reads, the weights and the accumulators given. -/
abbrev readsAt (c : Dev nD) (t : Fin cfg0.N) (wg wu wd : Vec F S2816x1024 .bf16) (l l3 l4 : Vec F S8x1024 .f32) : Reads F :=
  ⟨iblk m c 0 t, iblk m c 1 t, iblk m c 2 t, iblk m c 3 t, wg, wu, wd, l, l3, l4⟩

theorem outsB_eq (c : Dev nD) (t : Fin cfg0.N) (h : ¬cond0_0 (grid0.coords t)) (p : Outs F) :
    outsB m c t h p = (readsAt m c t p.wg p.wu p.wd p.loss p.dg3 p.dg4).outs := by
  unfold outsB atB runB
  dsimp only
  sl_unfold_words
  simp only [readCov_ld, View.readAt_eq_ld, (hs0_0 t).read_unread, (hs0_1 t).read_unread, (hs0_2 t).read_unread, (hs0_3 t).read_unread,
    (hs0_10 t).read_unread, (hs0_11 t).read_unread, (hs0_12 t).read_unread, (Memref.isWhole_whole _).read_unread,
    View.canon_cons_unit_zero (S := S8x1024) hz, View.canon_cons_unit_zero (S := S256x1024) hz,
    View.ld_unit_zero (S := S256x1024) hz, View.ld_unit_zero (S := S1x1024) hz, View.ld_unit_zero (S := S8x1024) hz, Reads.outs]

/-- The first point reads the weights that its own copies brought, and the accumulators that it has just cleared. -/
theorem outsA_eq (c : Dev nD) (t : Fin cfg0.N) (h : cond0_0 (grid0.coords t)) :
    outsA m c t h = (readsAt m c t (outsA m c t h).wg (outsA m c t h).wu (outsA m c t h).wd k0_pay2 k0_pay3 k0_pay4).outs := by
  unfold outsA atA runA
  dsimp only
  sl_unfold_words
  simp only [readCov_ld, View.readAt_eq_ld, (hs0_0 t).read_unread, (hs0_1 t).read_unread, (hs0_2 t).read_unread, (hs0_3 t).read_unread,
    View.canon_cons_unit_zero (S := S8x1024) hz, View.canon_cons_unit_zero (S := S256x1024) hz,
    View.ld_unit_zero (S := S256x1024) hz, View.ld_unit_zero (S := S1x1024) hz, View.ld_unit_zero (S := S8x1024) hz, Reads.outs]

end Cert.KernelIdeal.Ffn

end
-- ==== Proof.Rows.lean ====
/- One row of the feed-forward block over the reals: its forward values, its loss term and the gradients of the row. -/
module

public import Idealize.ShloMosaic.Lib.Pointwise

@[expose] public section

noncomputable section

namespace Cert.Rows

/-- The value of the word that the programs add to the mean square: the float nearest to a millionth. -/
def eps : ℝ := 8796093 / 8796093022208

theorem eps_pos : 0 < eps := by unfold eps; norm_num

/-- The reciprocal root of a row's mean square. -/
def rstd (v : Fin 1024 → ℝ) : ℝ := (Real.sqrt ((∑ k, v k * v k) / 1024 + eps))⁻¹

theorem msq_pos (v : Fin 1024 → ℝ) : 0 < (∑ k, v k * v k) / 1024 + eps := by
  have : 0 ≤ ∑ k, v k * v k := Finset.sum_nonneg fun k _ => mul_self_nonneg _
  have := eps_pos
  positivity

/-- The logistic function. -/
def lgs (x : ℝ) : ℝ := (1 + Real.exp (-x))⁻¹

theorem one_add_exp_pos (x : ℝ) : 0 < 1 + Real.exp x := by positivity

/-- The gradient of the normalisation: `dy` the gradient of the scaled row, `xh` the normalised row, `r` its factor. -/
def rmsBwd (dy xh : Fin 1024 → ℝ) (r : ℝ) (g : Fin 1024 → ℝ) (k : Fin 1024) : ℝ :=
  r * (dy k * g k - xh k * ((∑ l, dy l * g l * xh l) / 1024))

/-- A sum over the 2816 hidden columns, cut where the kernel cuts it. -/
theorem sum_chunks {M : Type*} [AddCommMonoid M] (f : Fin 2816 → M) :
    ∑ j, f j = (∑ j : Fin 1024, f ⟨j, by omega⟩) + (∑ j : Fin 1024, f ⟨1024 + j, by omega⟩)
      + ∑ j : Fin 768, f ⟨2048 + j, by omega⟩ := by
  have h := Fin.sum_univ_add (a := 2048) (b := 768) f
  have h2 := Fin.sum_univ_add (a := 1024) (b := 1024) fun i : Fin (1024 + 1024) => f ⟨i, by omega⟩
  rw [show ∑ j, f j = _ from h]
  refine congrArg₂ (· + ·) (h2.trans rfl) rfl

section Row

/-- The weights of the block: the two gates by hidden column, the output weights by hidden column, the two gains. -/
structure Weights where
  wg : Fin 2816 → Fin 1024 → ℝ
  wu : Fin 2816 → Fin 1024 → ℝ
  wd : Fin 2816 → Fin 1024 → ℝ
  g3 : Fin 1024 → ℝ
  g4 : Fin 1024 → ℝ

variable (W : Weights) (h t : Fin 1024 → ℝ)

def hh (k : Fin 1024) : ℝ := h k * rstd h
def f (k : Fin 1024) : ℝ := hh h k * W.g3 k
def s (j : Fin 2816) : ℝ := ∑ k, f W h k * W.wg j k
def u (j : Fin 2816) : ℝ := ∑ k, f W h k * W.wu j k
def gg (j : Fin 2816) : ℝ := s W h j * lgs (s W h j) * u W h j
def d (k : Fin 1024) : ℝ := ∑ j, gg W h j * W.wd j k
def dh (k : Fin 1024) : ℝ := d W h k * rstd (d W h)
def err (k : Fin 1024) : ℝ := h k + dh W h k * W.g4 k - t k
def dy (k : Fin 1024) : ℝ := err W h t k / 1024
def dd (k : Fin 1024) : ℝ := rmsBwd (dy W h t) (dh W h) (rstd (d W h)) W.g4 k
def dgg (j : Fin 2816) : ℝ := ∑ k, dd W h t k * W.wd j k
def ds (j : Fin 2816) : ℝ :=
  dgg W h t j * u W h j * (lgs (s W h j) * (1 + s W h j * (1 - lgs (s W h j))))
def du (j : Fin 2816) : ℝ := dgg W h t j * (s W h j * lgs (s W h j))
def df (k : Fin 1024) : ℝ := (∑ j, ds W h t j * W.wg j k) + ∑ j, du W h t j * W.wu j k
def dh1 (k : Fin 1024) : ℝ := dy W h t k + rmsBwd (df W h t) (hh h) (rstd h) W.g3 k

end Row

end Cert.Rows

end
-- ==== Proof.Pays.lean ====
/- The values that one grid point of the feed-forward kernel computes, over the reals: each of the body's intermediate
   arrays on finite arguments is the corresponding function of the row. -/
module

public import proofs.«01_k».proof.Proof.Gen.KernelIdeal
public import proofs.«01_k».proof.Proof.Gen.KernelIdeal.Skeleton
public import proofs.«01_k».proof.Proof.Rows
public import Idealize.ShloMosaic.Lib.Pointwise
public import Idealize.ShloMosaic.Lib.IdealHost

@[expose] public section

set_option maxRecDepth 16384

noncomputable section

namespace Cert.Pays

open Idealize.ShloMosaic Cert.KernelIdeal Cert.KernelIdeal.Gen Cert.Rows

/-- An array of extended reals that holds the real matrix `x`. -/
def R2 {a b : ℕ} (X : (⟨2, ![a, b]⟩ : Shape).Idx → EReal) (x : Fin a → Fin b → ℝ) : Prop :=
  ∀ i j, X (ix2 i j) = (x i j : EReal)

theorem w_1024 : Ideal.ofBits .f32 0x44800000#32 = ((1024 : ℝ) : EReal) := by
  simp [Ideal.ofBits, Ideal.ieee, -EReal.coe_mul]; norm_num

theorem w_eps : Ideal.ofBits .f32 0x358637BD#32 = (eps : EReal) := by
  simp [Ideal.ofBits, Ideal.ieee, -EReal.coe_mul, eps]; norm_num

theorem w_inv : Ideal.ofBits .f32 0x3A800000#32 = ((1 / 1024 : ℝ) : EReal) := by
  simp [Ideal.ofBits, Ideal.ieee, -EReal.coe_mul]; norm_num

theorem w_half_inv : Ideal.ofBits .f32 0x3A000000#32 = ((1 / 2048 : ℝ) : EReal) := by
  simp [Ideal.ofBits, Ideal.ieee, -EReal.coe_mul]; norm_num

theorem coe_sum {n : ℕ} (x : Fin n → ℝ) : (∑ k, (x k : EReal)) = ((∑ k, x k : ℝ) : EReal) := by
  induction n with
  | zero => simp
  | succ n ih => rw [Fin.sum_univ_succ, Fin.sum_univ_succ, ih, EReal.coe_add]

theorem div_real {y : ℝ} (h : y ≠ 0) (x : ℝ) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The factor of a row of reals as the programs compute it. -/
theorem rstd_real (v : Fin 1024 → ℝ) :
    Ideal.rsqrt (Ideal.div ((∑ k, v k * v k : ℝ) : EReal) ((1024 : ℝ) : EReal) + (eps : EReal)) = (rstd v : EReal) := by
  rw [div_real (by norm_num), ← EReal.coe_add, rsqrt_real (msq_pos v)]; rfl

theorem sig_real (x : ℝ) : Ideal.div 1 (1 + Ideal.exp (0 - (x : EReal))) = (lgs x : EReal) := by
  rw [show (0 : EReal) - (x : EReal) = ((-x : ℝ) : EReal) by rw [zero_sub, EReal.coe_neg], Ideal.exp_coe,
    show (1 : EReal) = ((1 : ℝ) : EReal) from rfl, ← EReal.coe_add, div_real (one_add_exp_pos _).ne', lgs, one_div]

theorem gate_real (x y : ℝ) : (x : EReal) * Ideal.div 1 (1 + Ideal.exp (0 - (x : EReal))) * (y : EReal) = ((x * lgs x * y : ℝ) : EReal) := by
  rw [sig_real, ← EReal.coe_mul, ← EReal.coe_mul]

/-- A product of the rows of `x` with the rows of `w`. -/
def nt {n m : ℕ} (x : Fin n → Fin 1024 → ℝ) (w : Fin m → Fin 1024 → ℝ) (i : Fin n) (j : Fin m) : ℝ := ∑ k, x i k * w j k

/-- A product of `x` with `w`. -/
def nn {n m : ℕ} (x : Fin n → Fin m → ℝ) (w : Fin m → Fin 1024 → ℝ) (i : Fin n) (k : Fin 1024) : ℝ := ∑ j, x i j * w j k

/-- The rows of a tile added by their number modulo eight. -/
def rows8 (x : Fin 256 → Fin 1024 → ℝ) (i : Fin 8) (k : Fin 1024) : ℝ := ∑ a : Fin 32, x ⟨a * 8 + i, by omega⟩ k

/-- The gated product of a column. -/
def gate (x y : ℝ) : ℝ := x * lgs x * y
/-- The gradient of the gate's first column, `e` the gradient of the gated product. -/
def gateA (e x y : ℝ) : ℝ := e * y * (lgs x * (1 + x * (1 - lgs x)))
/-- The gradient of the gate's second column. -/
def gateB (e x : ℝ) : ℝ := e * (x * lgs x)

/-! ### The inputs of a tile and its normalised rows -/

section

variable {v3 : Vec Ideal S256x1024 .f32} {H : Fin 256 → Fin 1024 → ℝ} (h3 : R2 v3 H)
variable {v15 : Vec Ideal S1x1024 .f32} {g : Fin 1024 → ℝ} (h15 : R2 v15 fun _ => g)
include h3

theorem pay5  : R2 (k0_pay5 v3) H := by
  intro i j
  pointwise [k0_pay5, h3 _ _]

theorem pay6  : R2 (k0_pay6 v3) fun i _ => rstd (H i) := by
  intro i j
  pointwise [k0_pay6, pay5 h3 _ _]
  simp only [← EReal.coe_mul, coe_sum]
  rw [w_1024, w_eps, rstd_real]

theorem pay7  : R2 (k0_pay7 v3) fun i => hh (H i) := by
  intro i j
  pointwise [k0_pay7, pay5 h3 _ _, pay6 h3 _ _]
  simp only [sig_real, ← EReal.coe_zero, ← EReal.coe_one, ← EReal.coe_mul, ← EReal.coe_add, ← EReal.coe_sub, coe_sum]; rfl

include h15 in
theorem pay8  : R2 (k0_pay8 v3 v15) fun i k => hh (H i) k * g k := by
  intro i j
  pointwise [k0_pay8, pay7 h3 _ _, h15 _ _]
  simp only [sig_real, ← EReal.coe_zero, ← EReal.coe_one, ← EReal.coe_mul, ← EReal.coe_add, ← EReal.coe_sub, coe_sum]

end

/-! ### The hidden columns, chunk by chunk -/

section

variable {v19 : FVec Ideal S256x1024 .bf16} {x : Fin 256 → Fin 1024 → ℝ}
variable {a b : Vec Ideal S1024x1024 .bf16} {wa wb : Fin 1024 → Fin 1024 → ℝ}
variable {a' b' : Vec Ideal S768x1024 .bf16} {wa' wb' : Fin 768 → Fin 1024 → ℝ}
variable {s u s' u' : FVec Ideal S256x1024 .f32} {S U S' U' : Fin 256 → Fin 1024 → ℝ}
variable {e y z : FVec Ideal S256x768 .f32} {E Y Z : Fin 256 → Fin 768 → ℝ}
variable {o : FVec Ideal S256x1024 .f32} {O : Fin 256 → Fin 1024 → ℝ}

theorem pay9  : R2 (k0_pay9 (F := Ideal)) fun _ _ => 0 := by
  intro i j
  pointwise [k0_pay9]
  rfl

section

variable {v3 : Vec Ideal S256x1024 .f32} {H : Fin 256 → Fin 1024 → ℝ} (h3 : R2 v3 H)
variable {v15 : Vec Ideal S1x1024 .f32} {g : Fin 1024 → ℝ} (h15 : R2 v15 fun _ => g) (ha : R2 a wa)
include h3 h15 ha

theorem pay10  : R2 (k0_pay10 v3 v15 a) (nt (fun i k => hh (H i) k * g k) wa) := by
  intro i j
  pointwise [k0_pay10, dot_S256x1024_S1024x1024_S256x1024_1_1_0_0_n_n, pay8 h3 h15 _ _, ha _ _]
  simp only [sig_real, ← EReal.coe_zero, ← EReal.coe_one, ← EReal.coe_mul, ← EReal.coe_add, ← EReal.coe_sub, coe_sum]; rfl

theorem pay11  : R2 (k0_pay11 v3 v15 a) (nt (fun i k => hh (H i) k * g k) wa) := by
  intro i j
  pointwise [k0_pay11, dot_S256x1024_S1024x1024_S256x1024_1_1_0_0_n_n, pay8 h3 h15 _ _, ha _ _]
  simp only [sig_real, ← EReal.coe_zero, ← EReal.coe_one, ← EReal.coe_mul, ← EReal.coe_add, ← EReal.coe_sub, coe_sum]; rfl

theorem pay12  : R2 (k0_pay12 v3 v15 a) (nt (fun i k => hh (H i) k * g k) wa) := by
  intro i j
  pointwise [k0_pay12, pay10 h3 h15 ha _ _]

theorem pay13  : R2 (k0_pay13 v3 v15 a) (nt (fun i k => hh (H i) k * g k) wa) := by
  intro i j
  pointwise [k0_pay13, pay11 h3 h15 ha _ _]

end

theorem pay14 (hs : R2 s S) (hu : R2 u U) : R2 (k0_pay14 s u) fun i j => gate (S i j) (U i j) := by
  intro i j
  pointwise [k0_pay14, hs _ _, hu _ _]
  simp only [gate_real]; rfl

theorem pay15 (ho : R2 o O) (hs : R2 s S) (hu : R2 u U) (ha : R2 a wa) : R2 (k0_pay15 o s u a) fun i k => O i k + nn (fun i j => gate (S i j) (U i j)) wa i k := by
  intro i j
  pointwise [k0_pay15, dot_S256x1024_S1024x1024_S256x1024_1_0_0_1_n_n, ho _ _, pay14 hs hu _ _, ha _ _]
  simp only [sig_real, ← EReal.coe_zero, ← EReal.coe_one, ← EReal.coe_mul, ← EReal.coe_add, ← EReal.coe_sub, coe_sum]; rfl

theorem pay16 (hx : R2 v19 x) (ha : R2 a wa) : R2 (k0_pay16 v19 a) (nt x wa) := by
  intro i j
  pointwise [k0_pay16, dot_S256x1024_S1024x1024_S256x1024_1_1_0_0_n_n, hx _ _, ha _ _]
  simp only [sig_real, ← EReal.coe_zero, ← EReal.coe_one, ← EReal.coe_mul, ← EReal.coe_add, ← EReal.coe_sub, coe_sum]; rfl

theorem pay17 (hx : R2 v19 x) (ha : R2 a wa) : R2 (k0_pay17 v19 a) (nt x wa) := by
  intro i j
  pointwise [k0_pay17, dot_S256x1024_S1024x1024_S256x1024_1_1_0_0_n_n, hx _ _, ha _ _]
  simp only [sig_real, ← EReal.coe_zero, ← EReal.coe_one, ← EReal.coe_mul, ← EReal.coe_add, ← EReal.coe_sub, coe_sum]; rfl

theorem pay18 (hx : R2 v19 x) (ha : R2 a wa) : R2 (k0_pay18 v19 a) (nt x wa) := by
  intro i j
  pointwise [k0_pay18, pay16 hx ha _ _]

theorem pay19 (hx : R2 v19 x) (ha : R2 a wa) : R2 (k0_pay19 v19 a) (nt x wa) := by
  intro i j
  pointwise [k0_pay19, pay17 hx ha _ _]

theorem pay20 (hx : R2 v19 x) (ha : R2 a wa) (hb : R2 b wb) : R2 (k0_pay20 v19 a b) fun i j => gate (nt x wa i j) (nt x wb i j) := by
  intro i j
  pointwise [k0_pay20, pay16 hx ha _ _, pay17 hx hb _ _]
  simp only [gate_real]; rfl

theorem pay21 (hx : R2 v19 x) (ha : R2 a' wa') : R2 (k0_pay21 v19 a') (nt x wa') := by
  intro i j
  pointwise [k0_pay21, dot_S256x1024_S768x1024_S256x768_1_1_0_0_n_n, hx _ _, ha _ _]
  simp only [sig_real, ← EReal.coe_zero, ← EReal.coe_one, ← EReal.coe_mul, ← EReal.coe_add, ← EReal.coe_sub, coe_sum]; rfl

theorem pay22 (hx : R2 v19 x) (ha : R2 a' wa') : R2 (k0_pay22 v19 a') (nt x wa') := by
  intro i j
  pointwise [k0_pay22, dot_S256x1024_S768x1024_S256x768_1_1_0_0_n_n, hx _ _, ha _ _]
  simp only [sig_real, ← EReal.coe_zero, ← EReal.coe_one, ← EReal.coe_mul, ← EReal.coe_add, ← EReal.coe_sub, coe_sum]; rfl

theorem pay23 (hx : R2 v19 x) (ha : R2 a' wa') : R2 (k0_pay23 v19 a') (nt x wa') := by
  intro i j
  pointwise [k0_pay23, pay21 hx ha _ _]

theorem pay24 (hx : R2 v19 x) (ha : R2 a' wa') : R2 (k0_pay24 v19 a') (nt x wa') := by
  intro i j
  pointwise [k0_pay24, pay22 hx ha _ _]

theorem pay25 (hx : R2 v19 x) (ha : R2 a' wa') (hb : R2 b' wb') : R2 (k0_pay25 v19 a' b') fun i j => gate (nt x wa' i j) (nt x wb' i j) := by
  intro i j
  pointwise [k0_pay25, pay21 hx ha _ _, pay22 hx hb _ _]
  simp only [gate_real]; rfl

section

variable {v65 : FVec Ideal S256x1024 .bf16} {M : Fin 256 → Fin 1024 → ℝ} (hM : R2 v65 M)
variable {c' : Vec Ideal S768x1024 .bf16} {wc' : Fin 768 → Fin 1024 → ℝ}

theorem pay26 (hx : R2 v19 x) (ho : R2 o O) (hM : R2 v65 M) (ha : R2 a wa) (ha' : R2 a' wa') (hb' : R2 b' wb') (hc' : R2 c' wc') : R2 (k0_pay26 v19 o v65 a a' b' c') fun i k => O i k + nn M wa i k + nn (fun i j => gate (nt x wa' i j) (nt x wb' i j)) wc' i k := by
  intro i j
  pointwise [k0_pay26, dot_S256x1024_S1024x1024_S256x1024_1_0_0_1_n_n, dot_S256x768_S768x1024_S256x1024_1_0_0_1_n_n, ho _ _, hM _ _, ha _ _, pay25 hx ha' hb' _ _, hc' _ _]
  simp only [sig_real, ← EReal.coe_zero, ← EReal.coe_one, ← EReal.coe_mul, ← EReal.coe_add, ← EReal.coe_sub, coe_sum]; rfl

variable {X : Fin 256 → Fin 1024 → ℝ}

theorem pay27 (h : R2 (k0_pay26 v19 o v65 a a' b' c') X) : R2 (k0_pay27 v19 o v65 a a' b' c') fun i _ => ∑ k, X i k * X i k := by
  intro i j
  pointwise [k0_pay27, h _ _]
  simp only [sig_real, ← EReal.coe_zero, ← EReal.coe_one, ← EReal.coe_mul, ← EReal.coe_add, ← EReal.coe_sub, coe_sum]

end

end

/-! ### The second norm, the error and the gradients at its input -/

section

variable {v4 v93 v107 : FVec Ideal S256x1024 .f32} {v96 : FVec Ideal S256x1 .f32} {v16 : Vec Ideal S1x1024 .f32}
variable {v110 : Vec Ideal S8x1024 .f32} {H D T : Fin 256 → Fin 1024 → ℝ} {g : Fin 1024 → ℝ} {A : Fin 8 → Fin 1024 → ℝ}

/-- The normalised row. -/
def nrm (D : Fin 256 → Fin 1024 → ℝ) (i : Fin 256) (k : Fin 1024) : ℝ := D i k * rstd (D i)
/-- The error of a row. -/
def er (H D T : Fin 256 → Fin 1024 → ℝ) (g : Fin 1024 → ℝ) (i : Fin 256) (k : Fin 1024) : ℝ :=
  H i k + nrm D i k * g k - T i k

theorem pay29 (h96 : R2 v96 fun i _ => ∑ k, D i k * D i k) : R2 (k0_pay29 v96 k0_pay28) fun i _ => rstd (D i) := by
  intro i j
  pointwise [k0_pay29, k0_pay28, h96 _ _]
  rw [w_1024, w_eps, rstd_real]

theorem pay30 (hD : R2 v93 D) (h96 : R2 v96 fun i _ => ∑ k, D i k * D i k) : R2 (k0_pay30 v93 v96 k0_pay28) (nrm D) := by
  intro i j
  pointwise [k0_pay30, hD _ _, pay29 h96 _ _]
  simp only [sig_real, ← EReal.coe_zero, ← EReal.coe_one, ← EReal.coe_mul, ← EReal.coe_add, ← EReal.coe_sub, coe_sum]; rfl

theorem pay31 (hH : R2 v4 H) (h16 : R2 v16 fun _ => g) (hD : R2 v93 D) (h96 : R2 v96 fun i _ => ∑ k, D i k * D i k) (hT : R2 v107 T) : R2 (k0_pay31 v4 v16 v93 v96 k0_pay28 v107) (er H D T g) := by
  intro i j
  pointwise [k0_pay31, hH _ _, h16 _ _, hT _ _, pay30 hD h96 _ _]
  simp only [sig_real, ← EReal.coe_zero, ← EReal.coe_one, ← EReal.coe_mul, ← EReal.coe_add, ← EReal.coe_sub, coe_sum]; rfl

theorem pay32 (hH : R2 v4 H) (h16 : R2 v16 fun _ => g) (hD : R2 v93 D) (h96 : R2 v96 fun i _ => ∑ k, D i k * D i k) (hT : R2 v107 T) (hA : R2 v110 A) : R2 (k0_pay32 v4 v16 v93 v96 k0_pay28 v107 v110) fun i k => A i k + rows8 (fun i k => er H D T g i k * er H D T g i k) i k := by
  intro i j
  pointwise [k0_pay32, pay31 hH h16 hD h96 hT _ _, hA _ _]
  simp only [sig_real, ← EReal.coe_zero, ← EReal.coe_one, ← EReal.coe_mul, ← EReal.coe_add, ← EReal.coe_sub, coe_sum]; rfl

theorem pay33 (hH : R2 v4 H) (h16 : R2 v16 fun _ => g) (hD : R2 v93 D) (h96 : R2 v96 fun i _ => ∑ k, D i k * D i k) (hT : R2 v107 T) : R2 (k0_pay33 v4 v16 v93 v96 k0_pay28 v107) fun i k => er H D T g i k / 1024 := by
  intro i j
  pointwise [k0_pay33, pay31 hH h16 hD h96 hT _ _]
  rw [w_inv, ← EReal.coe_mul, mul_one_div]

theorem pay34 (hH : R2 v4 H) (h16 : R2 v16 fun _ => g) (hD : R2 v93 D) (h96 : R2 v96 fun i _ => ∑ k, D i k * D i k) (hT : R2 v107 T) (hA : R2 v110 A) : R2 (k0_pay34 v4 v16 v93 v96 k0_pay28 v107 v110) fun i k => A i k + rows8 (fun i k => er H D T g i k / 1024 * nrm D i k) i k := by
  intro i j
  pointwise [k0_pay34, pay33 hH h16 hD h96 hT _ _, pay30 hD h96 _ _, hA _ _]
  simp only [sig_real, ← EReal.coe_zero, ← EReal.coe_one, ← EReal.coe_mul, ← EReal.coe_add, ← EReal.coe_sub, coe_sum]; rfl

theorem pay35 (hH : R2 v4 H) (h16 : R2 v16 fun _ => g) (hD : R2 v93 D) (h96 : R2 v96 fun i _ => ∑ k, D i k * D i k) (hT : R2 v107 T) : R2 (k0_pay35 v4 v16 v93 v96 k0_pay28 v107) fun i k => rmsBwd (fun k => er H D T g i k / 1024) (nrm D i) (rstd (D i)) g k := by
  intro i j
  pointwise [k0_pay35, pay33 hH h16 hD h96 hT _ _, pay30 hD h96 _ _, pay29 h96 _ _, h16 _ _]
  simp only [← EReal.coe_mul, coe_sum, w_1024]
  rw [div_real (by norm_num), ← EReal.coe_mul, ← EReal.coe_sub, ← EReal.coe_mul]; rfl

end

/-! ### The gradients of the hidden columns -/

section

variable {v138 : FVec Ideal S256x1024 .bf16} {x : Fin 256 → Fin 1024 → ℝ}
variable {a b c : Vec Ideal S1024x1024 .bf16} {wa wb wc : Fin 1024 → Fin 1024 → ℝ}
variable {a' b' : Vec Ideal S768x1024 .bf16} {wa' wb' : Fin 768 → Fin 1024 → ℝ}
variable {s u : Vec Ideal S256x1024 .f32} {S U : Fin 256 → Fin 1024 → ℝ}
variable {e s' u' : Vec Ideal S256x768 .f32} {E S' U' : Fin 256 → Fin 768 → ℝ}
variable {o : FVec Ideal S256x1024 .f32} {O : Fin 256 → Fin 1024 → ℝ}

theorem pay36 (hx : R2 v138 x) (ha : R2 a wa) : R2 (k0_pay36 v138 a) (nt x wa) := by
  intro i j
  pointwise [k0_pay36, dot_S256x1024_S1024x1024_S256x1024_1_1_0_0_n_n, hx _ _, ha _ _]
  simp only [sig_real, ← EReal.coe_zero, ← EReal.coe_one, ← EReal.coe_mul, ← EReal.coe_add, ← EReal.coe_sub, coe_sum]; rfl

theorem pay37 (hs : R2 s S) : R2 (k0_pay37 s) fun i j => lgs (S i j) := by
  intro i j
  pointwise [k0_pay37, hs _ _]
  simp only [sig_real]

theorem pay38 (hx : R2 v138 x) (ha : R2 a wa) (hs : R2 s S) (hu : R2 u U) : R2 (k0_pay38 v138 a s u) fun i j => gateA (nt x wa i j) (S i j) (U i j) := by
  intro i j
  pointwise [k0_pay38, hs _ _, hu _ _, pay36 hx ha _ _, pay37 hs _ _]
  simp only [sig_real, ← EReal.coe_zero, ← EReal.coe_one, ← EReal.coe_mul, ← EReal.coe_add, ← EReal.coe_sub, coe_sum]; rfl

theorem pay39 (hx : R2 v138 x) (ha : R2 a wa) (hs : R2 s S) : R2 (k0_pay39 v138 a s) fun i j => gateB (nt x wa i j) (S i j) := by
  intro i j
  pointwise [k0_pay39, hs _ _, pay36 hx ha _ _, pay37 hs _ _]
  simp only [sig_real, ← EReal.coe_zero, ← EReal.coe_one, ← EReal.coe_mul, ← EReal.coe_add, ← EReal.coe_sub, coe_sum]; rfl

theorem pay41 (hx : R2 v138 x) (ha : R2 a wa) : R2 (k0_pay41 v138 a) (nt x wa) := by
  intro i j
  pointwise [k0_pay41, dot_S256x1024_S1024x1024_S256x1024_1_1_0_0_n_n, hx _ _, ha _ _]
  simp only [sig_real, ← EReal.coe_zero, ← EReal.coe_one, ← EReal.coe_mul, ← EReal.coe_add, ← EReal.coe_sub, coe_sum]; rfl

theorem pay42 (hs : R2 s S) : R2 (k0_pay42 s) fun i j => lgs (S i j) := by
  intro i j
  pointwise [k0_pay42, hs _ _]
  simp only [sig_real]

theorem pay43 (hx : R2 v138 x) (ha : R2 a wa) (hs : R2 s S) (hu : R2 u U) : R2 (k0_pay43 v138 a s u) fun i j => gateA (nt x wa i j) (S i j) (U i j) := by
  intro i j
  pointwise [k0_pay43, hs _ _, hu _ _, pay41 hx ha _ _, pay42 hs _ _]
  simp only [sig_real, ← EReal.coe_zero, ← EReal.coe_one, ← EReal.coe_mul, ← EReal.coe_add, ← EReal.coe_sub, coe_sum]; rfl

theorem pay44 (hx : R2 v138 x) (ha : R2 a wa) (hs : R2 s S) : R2 (k0_pay44 v138 a s) fun i j => gateB (nt x wa i j) (S i j) := by
  intro i j
  pointwise [k0_pay44, hs _ _, pay41 hx ha _ _, pay42 hs _ _]
  simp only [sig_real, ← EReal.coe_zero, ← EReal.coe_one, ← EReal.coe_mul, ← EReal.coe_add, ← EReal.coe_sub, coe_sum]; rfl

theorem pay40 (hx : R2 v138 x) (ha : R2 a wa) (hs : R2 s S) (hu : R2 u U) (hb : R2 b wb) (hc : R2 c wc) : R2 (k0_pay40 v138 a s u b c) fun i k => nn (fun i j => gateA (nt x wa i j) (S i j) (U i j)) wb i k + nn (fun i j => gateB (nt x wa i j) (S i j)) wc i k := by
  intro i j
  pointwise [k0_pay40, dot_S256x1024_S1024x1024_S256x1024_1_0_0_1_n_n, pay38 hx ha hs hu _ _, pay39 hx ha hs _ _, hb _ _, hc _ _]
  simp only [sig_real, ← EReal.coe_zero, ← EReal.coe_one, ← EReal.coe_mul, ← EReal.coe_add, ← EReal.coe_sub, coe_sum]; rfl

theorem pay45 (hx : R2 v138 x) (ho : R2 o O) (ha : R2 a wa) (hs : R2 s S) (hu : R2 u U) (hb : R2 b wb) (hc : R2 c wc) : R2 (k0_pay45 v138 o a s u b c) fun i k => O i k + nn (fun i j => gateA (nt x wa i j) (S i j) (U i j)) wb i k + nn (fun i j => gateB (nt x wa i j) (S i j)) wc i k := by
  intro i j
  pointwise [k0_pay45, dot_S256x1024_S1024x1024_S256x1024_1_0_0_1_n_n, ho _ _, pay43 hx ha hs hu _ _, pay44 hx ha hs _ _, hb _ _, hc _ _]
  simp only [sig_real, ← EReal.coe_zero, ← EReal.coe_one, ← EReal.coe_mul, ← EReal.coe_add, ← EReal.coe_sub, coe_sum]; rfl

theorem pay46 (hx : R2 v138 x) (ha : R2 a' wa') : R2 (k0_pay46 v138 a') (nt x wa') := by
  intro i j
  pointwise [k0_pay46, dot_S256x1024_S768x1024_S256x768_1_1_0_0_n_n, hx _ _, ha _ _]
  simp only [sig_real, ← EReal.coe_zero, ← EReal.coe_one, ← EReal.coe_mul, ← EReal.coe_add, ← EReal.coe_sub, coe_sum]; rfl

theorem pay47 (hs : R2 s' S') : R2 (k0_pay47 s') fun i j => lgs (S' i j) := by
  intro i j
  pointwise [k0_pay47, hs _ _]
  simp only [sig_real]

theorem pay48 (he : R2 e E) (hs : R2 s' S') (hu : R2 u' U') : R2 (k0_pay48 e s' u') fun i j => gateA (E i j) (S' i j) (U' i j) := by
  intro i j
  pointwise [k0_pay48, he _ _, hs _ _, hu _ _, pay47 hs _ _]
  simp only [sig_real, ← EReal.coe_zero, ← EReal.coe_one, ← EReal.coe_mul, ← EReal.coe_add, ← EReal.coe_sub, coe_sum]; rfl

theorem pay49 (he : R2 e E) (hs : R2 s' S') : R2 (k0_pay49 e s') fun i j => gateB (E i j) (S' i j) := by
  intro i j
  pointwise [k0_pay49, he _ _, hs _ _, pay47 hs _ _]
  simp only [sig_real, ← EReal.coe_zero, ← EReal.coe_one, ← EReal.coe_mul, ← EReal.coe_add, ← EReal.coe_sub, coe_sum]; rfl

theorem pay50 (ho : R2 o O) (he : R2 e E) (hs : R2 s' S') (hu : R2 u' U') (ha : R2 a' wa') (hb : R2 b' wb') : R2 (k0_pay50 o e s' u' a' b') fun i k => O i k + nn (fun i j => gateA (E i j) (S' i j) (U' i j)) wa' i k + nn (fun i j => gateB (E i j) (S' i j)) wb' i k := by
  intro i j
  pointwise [k0_pay50, dot_S256x768_S768x1024_S256x1024_1_0_0_1_n_n, ho _ _, pay48 he hs hu _ _, pay49 he hs _ _, ha _ _, hb _ _]
  simp only [sig_real, ← EReal.coe_zero, ← EReal.coe_one, ← EReal.coe_mul, ← EReal.coe_add, ← EReal.coe_sub, coe_sum]; rfl

variable {v14 : FVec Ideal S256x1024 .f32} {N X Q : Fin 256 → Fin 1024 → ℝ} {v234 : Vec Ideal S8x1024 .f32} {A : Fin 8 → Fin 1024 → ℝ}
variable {v12 : FVec Ideal S256x1 .f32} {r : Fin 256 → ℝ} {v15 : Vec Ideal S1x1024 .f32} {g : Fin 1024 → ℝ} {v118 v233 : FVec Ideal S256x1024 .f32}

theorem pay51 (hN : R2 v14 N) (hX : R2 (k0_pay50 o e s' u' a' b') X) (hA : R2 v234 A) : R2 (k0_pay51 v14 o e s' u' a' b' v234) fun i k => A i k + rows8 (fun i k => X i k * N i k) i k := by
  intro i j
  pointwise [k0_pay51, hN _ _, hX _ _, hA _ _]
  simp only [sig_real, ← EReal.coe_zero, ← EReal.coe_one, ← EReal.coe_mul, ← EReal.coe_add, ← EReal.coe_sub, coe_sum]; rfl

theorem pay1 (h12 : R2 v12 fun i _ => r i) (hN : R2 v14 N) (h15 : R2 v15 fun _ => g) (hQ : R2 v118 Q) (hX : R2 v233 X) : R2 (k0_pay1 v12 v14 v15 v118 v233) fun i k => Q i k + rmsBwd (X i) (N i) (r i) g k := by
  intro i j
  pointwise [k0_pay1, h12 _ _, hN _ _, h15 _ _, hQ _ _, hX _ _]
  simp only [← EReal.coe_mul, coe_sum, w_1024]
  rw [div_real (by norm_num), ← EReal.coe_mul, ← EReal.coe_sub, ← EReal.coe_mul, ← EReal.coe_add]; rfl

theorem pay2  : R2 (k0_pay2 (F := Ideal)) fun _ _ => 0 := by
  intro i j
  pointwise [k0_pay2]
  rfl

theorem pay3  : R2 (k0_pay3 (F := Ideal)) fun _ _ => 0 := by
  intro i j
  pointwise [k0_pay3]
  rfl

theorem pay4  : R2 (k0_pay4 (F := Ideal)) fun _ _ => 0 := by
  intro i j
  pointwise [k0_pay4]
  rfl

end

end Cert.Pays

end
-- ==== Proof.Ffn.Holds.lean ====
/- One grid point over the reals: if what it reads holds real rows and weights, what it leaves holds the rows' forward
   values and gradients, and the accumulators grow by the tile's sums. -/
module

public import proofs.«01_k».proof.Proof.Ffn.Point
public import proofs.«01_k».proof.Proof.Pays

@[expose] public section

set_option maxRecDepth 16384

noncomputable section

namespace Cert.KernelIdeal.Ffn

open Cert.KernelIdeal.Gen Cert.Pays
open Idealize.ShloMosaic
open Cert.Rows (Weights)

theorem R2.of_eq {a b : ℕ} {X : (⟨2, ![a, b]⟩ : Shape).Idx → EReal} {x y : Fin a → Fin b → ℝ} (h : R2 X x) (e : ∀ i j, x i j = y i j) :
    R2 X y := fun i j => (h i j).trans (congrArg _ (e i j))

theorem add_regroup (a b c d e f : ℝ) : a + b + c + d + e + f = a + c + e + (b + d + f) := by ring

/-- The three blocks of the hidden columns. -/
abbrev c0 (j : Fin 1024) : Fin 2816 := ⟨j, by omega⟩
abbrev c1 (j : Fin 1024) : Fin 2816 := ⟨1024 + j, by omega⟩
abbrev c2 (j : Fin 768) : Fin 2816 := ⟨2048 + j, by omega⟩

section

variable {w : Vec Ideal S2816x1024 .bf16} {x : Fin 2816 → Fin 1024 → ℝ} (h : R2 w x)
include h

theorem w0_R2 : R2 (w0 w) fun j => x (c0 j) := fun i j => by
  refine Eq.trans (congrArg w ?_) (h (c0 i) j)
  funext a; apply Fin.ext; fin_cases a <;> simp [LoadRect.idx, Rect.unit]
theorem w1_R2 : R2 (w1 w) fun j => x (c1 j) := fun i j => by
  refine Eq.trans (congrArg w ?_) (h (c1 i) j)
  funext a; apply Fin.ext; fin_cases a <;> simp [LoadRect.idx, Rect.unit]
theorem w2_R2 : R2 (w2 w) fun j => x (c2 j) := fun i j => by
  refine Eq.trans (congrArg w ?_) (h (c2 i) j)
  funext a; apply Fin.ext; fin_cases a <;> simp [LoadRect.idx, Rect.unit]

end

section

variable {w : Vec Ideal S256x2816 .f32} {x : Fin 256 → Fin 2816 → ℝ} (h : R2 w x)
include h

theorem h0_R2 : R2 (h0 w) fun i j => x i (c0 j) := fun i j => by
  refine Eq.trans (congrArg w ?_) (h i (c0 j))
  funext a; apply Fin.ext; fin_cases a <;> simp [LoadRect.idx, Rect.unit]
theorem h1_R2 : R2 (h1 w) fun i j => x i (c1 j) := fun i j => by
  refine Eq.trans (congrArg w ?_) (h i (c1 j))
  funext a; apply Fin.ext; fin_cases a <;> simp [LoadRect.idx, Rect.unit]
theorem h2_R2 : R2 (h2 w) fun i j => x i (c2 j) := fun i j => by
  refine Eq.trans (congrArg w ?_) (h i (c2 j))
  funext a; apply Fin.ext; fin_cases a <;> simp [LoadRect.idx, Rect.unit]

end

/-- An array stored in three column blocks is read block by block. -/
theorem blocks_apply {F : FTy → Type} [FloatOps F] {e : EltTy} {p0 p1 : Vec F S256x1024 e} {p2 : Vec F S256x768 e} (g : Fin 256 → Fin 2816 → Elt F e)
    (k0 : ∀ i j, p0 (ix2 i j) = g i (c0 j)) (k1 : ∀ i j, p1 (ix2 i j) = g i (c1 j)) (k2 : ∀ i j, p2 (ix2 i j) = g i (c2 j))
    (i : Fin 256) (j : Fin 2816) : View.canon (blocks p0 p1 p2) (ix2 i j) = g i j := by
  refine View.canon_apply_of_pieces (S := S256x2816) (fun y => g (y 0) (y 1)) _ ?_ _ ?_
  · intro p hp z
    simp only [List.mem_cons, List.not_mem_nil, or_false] at hp
    obtain rfl | rfl | rfl := hp
    · refine ((congrArg p2 (eq_ix2 z)).trans (k2 (z 0) (z 1))).trans ?_
      exact congrArg₂ g (Fin.ext (by simp [Rect.emb, Rect.unit])) (Fin.ext (by simp [Rect.emb, Rect.unit]))
    · refine ((congrArg p1 (eq_ix2 z)).trans (k1 (z 0) (z 1))).trans ?_
      exact congrArg₂ g (Fin.ext (by simp [Rect.emb, Rect.unit])) (Fin.ext (by simp [Rect.emb, Rect.unit]))
    · refine ((congrArg p0 (eq_ix2 z)).trans (k0 (z 0) (z 1))).trans ?_
      exact congrArg₂ g (Fin.ext (by simp [Rect.emb, Rect.unit])) (Fin.ext (by simp [Rect.emb, Rect.unit]))
  · exact View.cover_of_tiledBy _ ![256, 256] (by sl_kernel_rfl) _

theorem blocks_f32 {p0 p1 : Vec Ideal S256x1024 .f32} {p2 : Vec Ideal S256x768 .f32} {x : Fin 256 → Fin 2816 → ℝ}
    (k0 : R2 p0 fun i j => x i (c0 j)) (k1 : R2 p1 fun i j => x i (c1 j)) (k2 : R2 p2 fun i j => x i (c2 j)) :
    R2 (View.canon (blocks (F := Ideal) (e := .f32) p0 p1 p2)) x :=
  blocks_apply (F := Ideal) (e := .f32) (fun i j => ((x i j : ℝ) : EReal)) k0 k1 k2

theorem blocks_bf16 {p0 p1 : Vec Ideal S256x1024 .bf16} {p2 : Vec Ideal S256x768 .bf16} {x : Fin 256 → Fin 2816 → ℝ}
    (k0 : R2 p0 fun i j => x i (c0 j)) (k1 : R2 p1 fun i j => x i (c1 j)) (k2 : R2 p2 fun i j => x i (c2 j)) :
    R2 (View.canon (blocks (F := Ideal) (e := .bf16) p0 p1 p2)) x :=
  blocks_apply (F := Ideal) (e := .bf16) (fun i j => ((x i j : ℝ) : EReal)) k0 k1 k2

/-- The point's reads hold the rows `H`, the targets `T`, the weights `W` and the accumulators `A`, `A3`, `A4`. -/
structure Reads.Holds (R : Reads Ideal) (H T : Fin 256 → Fin 1024 → ℝ) (W : Weights) (A A3 A4 : Fin 8 → Fin 1024 → ℝ) : Prop where
  x0 : R2 R.x0 H
  x1 : R2 R.x1 T
  x2 : R2 R.x2 fun _ => W.g3
  x3 : R2 R.x3 fun _ => W.g4
  wg : R2 R.wg W.wg
  wu : R2 R.wu W.wu
  wd : R2 R.wd W.wd
  l : R2 R.l A
  l3 : R2 R.l3 A3
  l4 : R2 R.l4 A4

namespace Reads.Holds

variable {R : Reads Ideal} {H T : Fin 256 → Fin 1024 → ℝ} {W : Weights} {A A3 A4 : Fin 8 → Fin 1024 → ℝ} (h : R.Holds H T W A A3 A4)
include h

theorem f : R2 R.f fun i => Rows.f W (H i) := pay8 h.x0 h.x2
theorem s : R2 R.s fun i => Rows.s W (H i) :=
  blocks_f32 (pay12 h.x0 h.x2 (w0_R2 h.wg)) (pay18 h.f (w1_R2 h.wg)) (pay23 h.f (w2_R2 h.wg))
theorem u : R2 R.u fun i => Rows.u W (H i) :=
  blocks_f32 (pay13 h.x0 h.x2 (w0_R2 h.wu)) (pay19 h.f (w1_R2 h.wu)) (pay24 h.f (w2_R2 h.wu))
theorem g1 : R2 (k0_pay20 R.f (w1 R.wg) (w1 R.wu)) fun i j => Rows.gg W (H i) (c1 j) := pay20 h.f (w1_R2 h.wg) (w1_R2 h.wu)
theorem gg : R2 R.gg fun i => Rows.gg W (H i) :=
  blocks_bf16 (pay14 (pay10 h.x0 h.x2 (w0_R2 h.wg)) (pay11 h.x0 h.x2 (w0_R2 h.wu))) h.g1
    (pay25 h.f (w2_R2 h.wg) (w2_R2 h.wu))
theorem d01 : R2 R.d01 fun i k => 0 + ∑ j, Rows.gg W (H i) (c0 j) * W.wd (c0 j) k :=
  pay15 pay9 (pay10 h.x0 h.x2 (w0_R2 h.wg)) (pay11 h.x0 h.x2 (w0_R2 h.wu)) (w0_R2 h.wd)
theorem d : R2 R.d fun i => Rows.d W (H i) :=
  R2.of_eq (pay26 h.f h.d01 h.g1 (w1_R2 h.wd) (w2_R2 h.wg) (w2_R2 h.wu) (w2_R2 h.wd)) fun i k => by
    rw [Rows.d, Rows.sum_chunks, zero_add]; rfl
theorem q : R2 R.q fun i _ => ∑ k, Rows.d W (H i) k * Rows.d W (H i) k := pay27 h.d
theorem loss : R2 R.loss fun i k => A i k + rows8 (fun i k => Rows.err W (H i) (T i) k * Rows.err W (H i) (T i) k) i k :=
  pay32 (pay5 h.x0) h.x3 h.d h.q h.x1 h.l
theorem dy : R2 R.dy fun i => Rows.dy W (H i) (T i) := pay33 (pay5 h.x0) h.x3 h.d h.q h.x1
theorem dg4 : R2 R.dg4 fun i k => A4 i k + rows8 (fun i k => Rows.dy W (H i) (T i) k * Rows.dh W (H i) k) i k :=
  pay34 (pay5 h.x0) h.x3 h.d h.q h.x1 h.l4
theorem dd : R2 R.dd fun i => Rows.dd W (H i) (T i) := pay35 (pay5 h.x0) h.x3 h.d h.q h.x1
theorem dgg2 : R2 (k0_pay46 R.dd (w2 R.wd)) fun i j => Rows.dgg W (H i) (T i) (c2 j) := pay46 h.dd (w2_R2 h.wd)
theorem ds : R2 R.ds fun i => Rows.ds W (H i) (T i) :=
  blocks_bf16 (pay38 h.dd (w0_R2 h.wd) (h0_R2 h.s) (h0_R2 h.u)) (pay43 h.dd (w1_R2 h.wd) (h1_R2 h.s) (h1_R2 h.u))
    (pay48 h.dgg2 (h2_R2 h.s) (h2_R2 h.u))
theorem du : R2 R.du fun i => Rows.du W (H i) (T i) :=
  blocks_bf16 (pay39 h.dd (w0_R2 h.wd) (h0_R2 h.s)) (pay44 h.dd (w1_R2 h.wd) (h1_R2 h.s)) (pay49 h.dgg2 (h2_R2 h.s))
theorem df01 : R2 R.df01 fun i k =>
    (∑ j, Rows.ds W (H i) (T i) (c0 j) * W.wg (c0 j) k) + (∑ j, Rows.du W (H i) (T i) (c0 j) * W.wu (c0 j) k)
      + (∑ j, Rows.ds W (H i) (T i) (c1 j) * W.wg (c1 j) k) + ∑ j, Rows.du W (H i) (T i) (c1 j) * W.wu (c1 j) k :=
  pay45 h.dd (pay40 h.dd (w0_R2 h.wd) (h0_R2 h.s) (h0_R2 h.u) (w0_R2 h.wg) (w0_R2 h.wu))
    (w1_R2 h.wd) (h1_R2 h.s) (h1_R2 h.u) (w1_R2 h.wg) (w1_R2 h.wu)
theorem df : R2 R.df fun i => Rows.df W (H i) (T i) :=
  R2.of_eq (pay50 h.df01 h.dgg2 (h2_R2 h.s) (h2_R2 h.u) (w2_R2 h.wg) (w2_R2 h.wu)) fun i k => by
    rw [Rows.df, Rows.sum_chunks, Rows.sum_chunks]
    exact add_regroup _ _ _ _ _ _
theorem dg3 : R2 R.dg3 fun i k => A3 i k + rows8 (fun i k => Rows.df W (H i) (T i) k * Rows.hh (H i) k) i k :=
  pay51 (pay7 h.x0) h.df h.l3
theorem dh1 : R2 R.dh1 fun i => Rows.dh1 W (H i) (T i) := pay1 (pay6 h.x0) (pay7 h.x0) h.x2 h.dy h.df

end Reads.Holds

end Cert.KernelIdeal.Ffn

end
-- ==== Proof.Ffn.Entry.lean ====
/- What the region finds: the host's reshapes and transposes of the arguments, read at an index. -/
module

public import proofs.«01_k».proof.Proof.Ffn.Holds
public import Idealize.ShloMosaic.Lib.Pipeline.ValueKit

@[expose] public section

set_option maxRecDepth 16384

noncomputable section

namespace Cert.KernelIdeal.Ffn

open Cert.KernelIdeal.Gen Cert.Pays
open Idealize.ShloMosaic Idealize.ShloMosaic.TcCoe Idealize.SL.Sem

variable (m : (ℓ : Loc nD τ sig) → Buf (Elt Ideal) ℓ) (c : Dev nD)

theorem V_v17 (r : Fin 8192) (k : Fin 1024) :
    V m c main_v17 (ix2 r k) = m ((c : Thread nD τ).loc main_arg0) (ix3 (⟨r / 2048, by omega⟩ : Fin 4) (⟨r % 2048, by omega⟩ : Fin 2048) k) := by
  simp only [V, V0, List.flatten_cons, List.flatten_nil, List.append_nil]
  after_results_simp
  pointwise
theorem V_v18 (r : Fin 8192) (k : Fin 1024) :
    V m c main_v18 (ix2 r k) = m ((c : Thread nD τ).loc main_arg6) (ix3 (⟨r / 2048, by omega⟩ : Fin 4) (⟨r % 2048, by omega⟩ : Fin 2048) k) := by
  simp only [V, V0, List.flatten_cons, List.flatten_nil, List.append_nil]
  after_results_simp
  pointwise
theorem V_v6 (j : Fin 4) (i : Fin 704) (k : Fin 1024) :
    V m c main_v6 (ix3 j i k) = m ((c : Thread nD τ).loc main_arg2) (ix3 (0 : Fin 1) k (⟨j * 704 + i, by omega⟩ : Fin 2816)) := by
  simp only [V, V0, List.flatten_cons, List.flatten_nil, List.append_nil]
  after_results_simp
  pointwise
theorem V_v8 (j : Fin 4) (i : Fin 704) (k : Fin 1024) :
    V m c main_v8 (ix3 j i k) = m ((c : Thread nD τ).loc main_arg3) (ix3 (0 : Fin 1) k (⟨j * 704 + i, by omega⟩ : Fin 2816)) := by
  simp only [V, V0, List.flatten_cons, List.flatten_nil, List.append_nil]
  after_results_simp
  pointwise
theorem V_v10 (j : Fin 4) (i : Fin 704) (k : Fin 1024) :
    V m c main_v10 (ix3 j i k) = m ((c : Thread nD τ).loc main_arg4) (ix3 (0 : Fin 1) (⟨j * 704 + i, by omega⟩ : Fin 2816) k) := by
  simp only [V, V0, List.flatten_cons, List.flatten_nil, List.append_nil]
  after_results_simp
  pointwise
theorem V_v12 (i : Fin 704) (k : Fin 1024) :
    V m c main_v12 (ix2 i k) = m ((c : Thread nD τ).loc main_arg2) (ix3 (0 : Fin 1) k (⟨i, by omega⟩ : Fin 2816)) := by
  simp only [V, V0, List.flatten_cons, List.flatten_nil, List.append_nil]
  after_results_simp
  pointwise
theorem V_v14 (i : Fin 704) (k : Fin 1024) :
    V m c main_v14 (ix2 i k) = m ((c : Thread nD τ).loc main_arg3) (ix3 (0 : Fin 1) k (⟨i, by omega⟩ : Fin 2816)) := by
  simp only [V, V0, List.flatten_cons, List.flatten_nil, List.append_nil]
  after_results_simp
  pointwise
theorem V_v16 (i : Fin 704) (k : Fin 1024) :
    V m c main_v16 (ix2 i k) = m ((c : Thread nD τ).loc main_arg4) (ix3 (0 : Fin 1) (⟨i, by omega⟩ : Fin 2816) k) := by
  simp only [V, V0, List.flatten_cons, List.flatten_nil, List.append_nil]
  after_results_simp
  pointwise

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)

theorem iblk_0 (t : Fin cfg0.N) (ht : t.val < 32) (i : Fin 256) (k : Fin 1024) :
    iblk m c 0 t (ix2 i k) = V m c main_v17 (ix2 (⟨t.val * 256 + i, by omega⟩ : Fin 8192) k) := by
  blk_ext [iblk, index_0]
theorem iblk_1 (t : Fin cfg0.N) (ht : t.val < 32) (i : Fin 256) (k : Fin 1024) :
    iblk m c 1 t (ix2 i k) = V m c main_v18 (ix2 (⟨t.val * 256 + i, by omega⟩ : Fin 8192) k) := by
  blk_ext [iblk, index_1]
theorem iblk_2 (t : Fin cfg0.N) (i : Fin 1) (k : Fin 1024) :
    iblk m c 2 t (ix2 i k) = V m c main_arg1 (ix2 i k) := by
  blk_ext [iblk, index_2]
theorem iblk_3 (t : Fin cfg0.N) (i : Fin 1) (k : Fin 1024) :
    iblk m c 3 t (ix2 i k) = V m c main_arg5 (ix2 i k) := by
  blk_ext [iblk, index_3]

/-- A weight as the first point's copies leave it: the last three shards of the gathered array, the own shard first. -/
def shards (X : Vec Ideal S4x704x1024 .bf16) (Y : Vec Ideal S704x1024 .bf16) : Vec Ideal S2816x1024 .bf16 :=
  View.canon [⟨Rect.unit ![2112, 0] S704x1024.size inb_S2816x1024_S704x1024_2112_0, fun z => X (ix3 (3 : Fin 4) (z 0) (z 1))⟩,
    ⟨Rect.unit ![1408, 0] S704x1024.size inb_S2816x1024_S704x1024_1408_0, fun z => X (ix3 (2 : Fin 4) (z 0) (z 1))⟩,
    ⟨Rect.unit ![704, 0] S704x1024.size inb_S2816x1024_S704x1024_704_0, fun z => X (ix3 (1 : Fin 4) (z 0) (z 1))⟩,
    ⟨Rect.unit ![0, 0] S704x1024.size inb_S2816x1024_S704x1024_0_0, Y⟩]

theorem shards_R2 {X : Vec Ideal S4x704x1024 .bf16} {Y : Vec Ideal S704x1024 .bf16} {w : Fin 2816 → Fin 1024 → ℝ}
    (hX : ∀ (j : Fin 4) (i : Fin 704) (k : Fin 1024), X (ix3 j i k) = ((w ⟨j * 704 + i, by omega⟩ k : ℝ) : EReal))
    (hY : R2 Y fun i => w ⟨i, by omega⟩) : R2 (shards X Y) w := fun i k => by
  unfold shards
  refine View.canon_apply_of_pieces (Val := Elt Ideal) (e := .bf16) (S := S2816x1024) (fun y => ((w (y 0) (y 1) : ℝ) : EReal)) _ ?_ _ ?_
  · intro p hp z
    simp only [List.mem_cons, List.not_mem_nil, or_false] at hp
    obtain rfl | rfl | rfl | rfl := hp
    · refine (hX 3 (z 0) (z 1)).trans (congrArg _ (congrArg₂ w (Fin.ext ?_) (Fin.ext ?_))) <;> simp [Rect.emb, Rect.unit]
    · refine (hX 2 (z 0) (z 1)).trans (congrArg _ (congrArg₂ w (Fin.ext ?_) (Fin.ext ?_))) <;> simp [Rect.emb, Rect.unit]
    · refine (hX 1 (z 0) (z 1)).trans (congrArg _ (congrArg₂ w (Fin.ext ?_) (Fin.ext ?_))) <;> simp [Rect.emb, Rect.unit]
    · refine ((congrArg Y (eq_ix2 z)).trans (hY (z 0) (z 1))).trans (congrArg _ (congrArg₂ w (Fin.ext ?_) (Fin.ext ?_))) <;> simp [Rect.emb, Rect.unit]
  · generalize ix2 i k = y
    revert y
    exact View.cover_of_tiledL _ S704x1024.size (by sl_kernel_rfl)

/-- A shard of the gathered array read through its slice, the leading axis squeezed away. -/
theorem read_shard {κ : Kind} {sp : Space} (M : Memref sig κ sp S4x704x1024 .bf16) (j : Fin 4) (off : Fin 3 → ℕ) (h : off = ![j.val, 0, 0])
    (inb : ∀ a, off a + S1x704x1024.size a ≤ S4x704x1024.size a) (hr) (hq : S1x704x1024.Squeezes S704x1024) (f : M.view.ty.Contents (Elt Ideal)) :
    ((M.slice (Rect.unit (s := S4x704x1024) off S1x704x1024.size inb) hr).squeeze S704x1024 hq).view.read (Elt Ideal) f
      = fun z => M.view.read (Elt Ideal) f (ix3 j (z 0) (z 1)) := by
  subst h
  funext z
  have h1 : ((M.slice (Rect.unit (s := S4x704x1024) ![j.val, 0, 0] S1x704x1024.size inb) hr).squeeze S704x1024 hq).view.read (Elt Ideal) f z
      = M.view.read (Elt Ideal) f ((Rect.unit (s := S4x704x1024) ![j.val, 0, 0] S1x704x1024.size inb).emb (Shape.reshapeEquiv hq.numel_eq z)) := rfl
  rw [h1, Shape.reshapeEquiv_cons_one]
  congr 1
  funext a
  apply Fin.ext
  rw [Rect.emb_apply]
  match a with
  | ⟨0, _⟩ => simp [Rect.unit]
  | ⟨1, _⟩ => simp [Rect.unit]; rfl
  | ⟨2, _⟩ => simp [Rect.unit]; rfl

theorem shards_of {X : Vec Ideal S4x704x1024 .bf16} {Y p0 p1 p2 p3 : Vec Ideal S704x1024 .bf16}
    (h3 : p3 = fun z => X (ix3 (3 : Fin 4) (z 0) (z 1))) (h2 : p2 = fun z => X (ix3 (2 : Fin 4) (z 0) (z 1)))
    (h1 : p1 = fun z => X (ix3 (1 : Fin 4) (z 0) (z 1))) (h0 : p0 = Y) :
    View.canon (Val := Elt Ideal) (s := S2816x1024) (e := .bf16) [⟨Rect.unit ![2112, 0] S704x1024.size inb_S2816x1024_S704x1024_2112_0, p3⟩,
      ⟨Rect.unit ![1408, 0] S704x1024.size inb_S2816x1024_S704x1024_1408_0, p2⟩,
      ⟨Rect.unit ![704, 0] S704x1024.size inb_S2816x1024_S704x1024_704_0, p1⟩,
      ⟨Rect.unit ![0, 0] S704x1024.size inb_S2816x1024_S704x1024_0_0, p0⟩] = shards X Y := by
  subst h3 h2 h1 h0
  rfl

theorem outsA_wg (t : Fin cfg0.N) (h : cond0_0 (grid0.coords t)) :
    (outsA m c t h).wg = shards (V m c main_v6) (V m c main_v12) := by
  unfold outsA atA runA
  dsimp only
  sl_unfold_words
  exact shards_of (read_shard (Memref.whole main_v6) 3 _ rfl _ _ _ _) (read_shard (Memref.whole main_v6) 2 _ rfl _ _ _ _)
    (read_shard (Memref.whole main_v6) 1 _ rfl _ _ _ _) rfl

theorem outsA_wu (t : Fin cfg0.N) (h : cond0_0 (grid0.coords t)) :
    (outsA m c t h).wu = shards (V m c main_v8) (V m c main_v14) := by
  unfold outsA atA runA
  dsimp only
  sl_unfold_words
  exact shards_of (read_shard (Memref.whole main_v8) 3 _ rfl _ _ _ _) (read_shard (Memref.whole main_v8) 2 _ rfl _ _ _ _)
    (read_shard (Memref.whole main_v8) 1 _ rfl _ _ _ _) rfl

theorem outsA_wd (t : Fin cfg0.N) (h : cond0_0 (grid0.coords t)) :
    (outsA m c t h).wd = shards (V m c main_v10) (V m c main_v16) := by
  unfold outsA atA runA
  dsimp only
  sl_unfold_words
  exact shards_of (read_shard (Memref.whole main_v10) 3 _ rfl _ _ _ _) (read_shard (Memref.whole main_v10) 2 _ rfl _ _ _ _)
    (read_shard (Memref.whole main_v10) 1 _ rfl _ _ _ _) rfl

end Cert.KernelIdeal.Ffn

end
-- ==== Proof.Ffn.Walk.lean ====
/- The walk over the grid's points: over real arguments, every point leaves its tile's rows, and the accumulators the sums so far. -/
module

public import proofs.«01_k».proof.Proof.Ffn.Entry

@[expose] public section

set_option maxRecDepth 16384

noncomputable section

namespace Cert.KernelIdeal.Ffn

open Cert.KernelIdeal.Gen Cert.Pays
open Idealize.ShloMosaic Idealize.ShloMosaic.TcCoe Idealize.SL.Sem
open Cert.Rows (Weights)

/-- The arguments hold the real rows `H`, the targets `T` and the weights `W`. -/
structure Args (m : (ℓ : Loc nD τ sig) → Buf (Elt Ideal) ℓ) (c : Dev nD) (H T : Fin 8192 → Fin 1024 → ℝ) (W : Weights) : Prop where
  a0 : ∀ (b : Fin 4) (s : Fin 2048) (k : Fin 1024), m ((c : Thread nD τ).loc main_arg0) (ix3 b s k) = ((H ⟨b * 2048 + s, by omega⟩ k : ℝ) : EReal)
  a1 : ∀ (i : Fin 1) (k : Fin 1024), m ((c : Thread nD τ).loc main_arg1) (ix2 i k) = ((W.g3 k : ℝ) : EReal)
  a2 : ∀ (i : Fin 1) (k : Fin 1024) (j : Fin 2816), m ((c : Thread nD τ).loc main_arg2) (ix3 i k j) = ((W.wg j k : ℝ) : EReal)
  a3 : ∀ (i : Fin 1) (k : Fin 1024) (j : Fin 2816), m ((c : Thread nD τ).loc main_arg3) (ix3 i k j) = ((W.wu j k : ℝ) : EReal)
  a4 : ∀ (i : Fin 1) (j : Fin 2816) (k : Fin 1024), m ((c : Thread nD τ).loc main_arg4) (ix3 i j k) = ((W.wd j k : ℝ) : EReal)
  a5 : ∀ (i : Fin 1) (k : Fin 1024), m ((c : Thread nD τ).loc main_arg5) (ix2 i k) = ((W.g4 k : ℝ) : EReal)
  a6 : ∀ (b : Fin 4) (s : Fin 2048) (k : Fin 1024), m ((c : Thread nD τ).loc main_arg6) (ix3 b s k) = ((T ⟨b * 2048 + s, by omega⟩ k : ℝ) : EReal)

/-- The rows of the `n`-th tile. -/
abbrev tile (x : Fin 8192 → Fin 1024 → ℝ) (n : ℕ) (h : n < 32) : Fin 256 → Fin 1024 → ℝ := fun i => x ⟨n * 256 + i, by omega⟩

/-- An accumulator after the first tiles. -/
def acc (x : Fin 8192 → Fin 1024 → ℝ) : (n : ℕ) → n < 32 → Fin 8 → Fin 1024 → ℝ
  | 0, h => fun i k => 0 + rows8 (tile x 0 h) i k
  | n + 1, h => fun i k => acc x n (by omega) i k + rows8 (tile x (n + 1) h) i k

/-- What a point leaves holds the tile's rows, and the accumulators `A`, `A3`, `A4`. -/
structure Outs.Holds (p : Outs Ideal) (H T : Fin 256 → Fin 1024 → ℝ) (W : Weights) (A A3 A4 : Fin 8 → Fin 1024 → ℝ) : Prop where
  dh1 : R2 p.dh1 fun i => Rows.dh1 W (H i) (T i)
  f : R2 p.f fun i => Rows.f W (H i)
  dd : R2 p.dd fun i => Rows.dd W (H i) (T i)
  ds : R2 p.ds fun i => Rows.ds W (H i) (T i)
  du : R2 p.du fun i => Rows.du W (H i) (T i)
  gg : R2 p.gg fun i => Rows.gg W (H i)
  loss : R2 p.loss A
  dg3 : R2 p.dg3 A3
  dg4 : R2 p.dg4 A4
  wg : R2 p.wg W.wg
  wu : R2 p.wu W.wu
  wd : R2 p.wd W.wd

theorem Reads.Holds.outs {R : Reads Ideal} {H T : Fin 256 → Fin 1024 → ℝ} {W : Weights} {A A3 A4 : Fin 8 → Fin 1024 → ℝ} (h : R.Holds H T W A A3 A4) :
    R.outs.Holds H T W (fun i k => A i k + rows8 (fun i k => Rows.err W (H i) (T i) k * Rows.err W (H i) (T i) k) i k)
      (fun i k => A3 i k + rows8 (fun i k => Rows.df W (H i) (T i) k * Rows.hh (H i) k) i k)
      (fun i k => A4 i k + rows8 (fun i k => Rows.dy W (H i) (T i) k * Rows.dh W (H i) k) i k) := by
  unfold Reads.outs
  constructor <;> dsimp only
  · exact h.dh1
  · exact h.f
  · exact h.dd
  · exact h.ds
  · exact h.du
  · exact h.gg
  · exact h.loss
  · exact h.dg3
  · exact h.dg4
  · exact h.wg
  · exact h.wu
  · exact h.wd

/-- The squared error, row by row. -/
def lossRows (H T : Fin 8192 → Fin 1024 → ℝ) (W : Weights) : Fin 8192 → Fin 1024 → ℝ :=
  fun r k => Rows.err W (H r) (T r) k * Rows.err W (H r) (T r) k
/-- A row's part of the first gain's gradient. -/
def dg3Rows (H T : Fin 8192 → Fin 1024 → ℝ) (W : Weights) : Fin 8192 → Fin 1024 → ℝ :=
  fun r k => Rows.df W (H r) (T r) k * Rows.hh (H r) k
/-- A row's part of the second gain's gradient. -/
def dg4Rows (H T : Fin 8192 → Fin 1024 → ℝ) (W : Weights) : Fin 8192 → Fin 1024 → ℝ :=
  fun r k => Rows.dy W (H r) (T r) k * Rows.dh W (H r) k

section

variable {m : (ℓ : Loc nD τ sig) → Buf (Elt Ideal) ℓ} {c : Dev nD} {H T : Fin 8192 → Fin 1024 → ℝ} {W : Weights} (h : Args m c H T W)
include h

theorem rows_R2 : R2 (V m c main_v17) H := fun r k => by
  rw [V_v17, h.a0]
  exact congrArg _ (congrArg (fun r => H r k) (Fin.ext (by show r.val / 2048 * 2048 + r.val % 2048 = r.val; omega)))
theorem targets_R2 : R2 (V m c main_v18) T := fun r k => by
  rw [V_v18, h.a6]
  exact congrArg _ (congrArg (fun r => T r k) (Fin.ext (by show r.val / 2048 * 2048 + r.val % 2048 = r.val; omega)))

theorem gain3_R2 : R2 (V m c main_arg1) fun _ => W.g3 := fun i k => by
  refine Eq.trans ?_ (h.a1 i k)
  simp only [V, V0, List.flatten_cons, List.flatten_nil, List.append_nil]
  after_results_simp
theorem gain4_R2 : R2 (V m c main_arg5) fun _ => W.g4 := fun i k => by
  refine Eq.trans ?_ (h.a5 i k)
  simp only [V, V0, List.flatten_cons, List.flatten_nil, List.append_nil]
  after_results_simp

theorem first_wg (t : Fin cfg0.N) (ht : cond0_0 (grid0.coords t)) : R2 (outsA m c t ht).wg W.wg := by
  rw [outsA_wg]
  exact shards_R2 (fun j i k => (V_v6 m c j i k).trans (h.a2 _ _ _)) fun i k => (V_v12 m c i k).trans (h.a2 _ _ _)
theorem first_wu (t : Fin cfg0.N) (ht : cond0_0 (grid0.coords t)) : R2 (outsA m c t ht).wu W.wu := by
  rw [outsA_wu]
  exact shards_R2 (fun j i k => (V_v8 m c j i k).trans (h.a3 _ _ _)) fun i k => (V_v14 m c i k).trans (h.a3 _ _ _)
theorem first_wd (t : Fin cfg0.N) (ht : cond0_0 (grid0.coords t)) : R2 (outsA m c t ht).wd W.wd := by
  rw [outsA_wd]
  exact shards_R2 (fun j i k => (V_v10 m c j i k).trans (h.a4 _ _ _)) fun i k => (V_v16 m c i k).trans (h.a4 _ _ _)

theorem reads_holds (t : Fin cfg0.N) (ht : t.val < 32) {wg wu wd : Vec Ideal S2816x1024 .bf16} {l l3 l4 : Vec Ideal S8x1024 .f32} {A A3 A4 : Fin 8 → Fin 1024 → ℝ}
    (hg : R2 wg W.wg) (hu : R2 wu W.wu) (hd : R2 wd W.wd) (hl : R2 l A) (h3 : R2 l3 A3) (h4 : R2 l4 A4) :
    (readsAt m c t wg wu wd l l3 l4).Holds (tile H t ht) (tile T t ht) W A A3 A4 where
  x0 := fun i k => (iblk_0 m c t ht i k).trans (rows_R2 h _ k)
  x1 := fun i k => (iblk_1 m c t ht i k).trans (targets_R2 h _ k)
  x2 := fun i k => (iblk_2 m c t i k).trans (gain3_R2 h i k)
  x3 := fun i k => (iblk_3 m c t i k).trans (gain4_R2 h i k)
  wg := hg
  wu := hu
  wd := hd
  l := hl
  l3 := h3
  l4 := h4

/-- Every point leaves its tile's rows and the sums over the tiles so far. -/
theorem outsAt_holds (n : ℕ) (hn : n < cfg0.N) (h32 : n < 32) :
    (outsAt m c n hn).Holds (tile H n h32) (tile T n h32) W (acc (lossRows H T W) n h32) (acc (dg3Rows H T W) n h32) (acc (dg4Rows H T W) n h32) := by
  induction n with
  | zero =>
    have e := (reads_holds h ⟨0, hn⟩ h32 (first_wg h ⟨0, hn⟩ (condA ⟨0, hn⟩ rfl)) (first_wu h ⟨0, hn⟩ (condA ⟨0, hn⟩ rfl))
      (first_wd h ⟨0, hn⟩ (condA ⟨0, hn⟩ rfl)) pay2 pay3 pay4).outs
    rw [← outsA_eq] at e
    exact e
  | succ n ih =>
    have p := ih (by omega) (by omega)
    have e := (reads_holds h ⟨n + 1, hn⟩ h32 p.wg p.wu p.wd p.loss p.dg3 p.dg4).outs
    rw [← outsB_eq m c ⟨n + 1, hn⟩ (condB ⟨n + 1, hn⟩ (Nat.succ_ne_zero n))] at e
    exact e

end

/-- The eight rows of an accumulator after the last tile sum to all the rows. -/
theorem sum_rows8 (x : Fin 256 → Fin 1024 → ℝ) (k : Fin 1024) : ∑ i, rows8 x i k = ∑ r, x r k := by
  unfold rows8
  rw [Finset.sum_comm, ← Fintype.sum_prod_type' (f := fun (a : Fin 32) (i : Fin 8) => x ⟨a * 8 + i, by omega⟩ k),
    ← (finProdFinEquiv (m := 32) (n := 8)).sum_comp (fun r : Fin 256 => x r k)]
  exact Finset.sum_congr rfl fun p _ => congrArg (fun r => x r k) (Fin.ext (by
    show p.1.val * 8 + p.2.val = p.2.val + 8 * p.1.val
    ring))

theorem sum_acc_range (x : Fin 8192 → Fin 1024 → ℝ) (n : ℕ) (h : n < 32) (k : Fin 1024) :
    ∑ i, acc x n h i k = ∑ a : Fin (n + 1), ∑ i : Fin 256, x ⟨a * 256 + i, by omega⟩ k := by
  induction n with
  | zero =>
    simp only [acc, zero_add, sum_rows8]
    exact (Fin.sum_univ_one (fun a : Fin 1 => ∑ i : Fin 256, x ⟨a * 256 + i, by omega⟩ k)).symm
  | succ n ih =>
    simp only [acc, Finset.sum_add_distrib, ih (by omega), sum_rows8]
    exact (Fin.sum_univ_castSucc (fun a : Fin (n + 2) => ∑ i : Fin 256, x ⟨a * 256 + i, by omega⟩ k)).symm

theorem sum_acc (x : Fin 8192 → Fin 1024 → ℝ) (h : 31 < 32) (k : Fin 1024) : ∑ i, acc x 31 h i k = ∑ r, x r k := by
  rw [sum_acc_range, ← Fintype.sum_prod_type' (f := fun (a : Fin 32) (i : Fin 256) => x ⟨a * 256 + i, by omega⟩ k),
    ← (finProdFinEquiv (m := 32) (n := 256)).sum_comp (fun r : Fin 8192 => x r k)]
  exact Finset.sum_congr rfl fun p _ => congrArg (fun r => x r k) (Fin.ext (by
    show p.1.val * 256 + p.2.val = p.2.val + 256 * p.1.val
    ring))

end Cert.KernelIdeal.Ffn

end
-- ==== Proof.Ffn.Final.lean ====
/- The kernel's results after the run: every array, and the sums that the host forms of the accumulators. -/
module

public import proofs.«01_k».proof.Proof.Ffn.Walk

@[expose] public section

set_option maxRecDepth 16384

noncomputable section

namespace Cert.KernelIdeal.Ffn

open Cert.KernelIdeal.Gen Cert.Pays
open Idealize.ShloMosaic Idealize.ShloMosaic.TcCoe Idealize.SL.Sem
open Cert.Rows (Weights)

theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)

/-- The array that holds the real rows `x`. -/
abbrev rowsOf {n w : ℕ} (x : Fin n → Fin w → ℝ) : (⟨2, ![n, w]⟩ : Shape).Idx → EReal := fun y => ((x (y 0) (y 1) : ℝ) : EReal)

theorem lt_32 (t : Fin cfg0.N) : t.val < 32 := N_0 ▸ t.isLt

/-- A row of a tile, found in the whole array. -/
theorem placed {w : ℕ} (x : Fin 8192 → Fin w → ℝ) (t : ℕ) (ht : t < 32) (e : (⟨2, ![8192, w]⟩ : Shape).Idx) (i : Fin 256) (j : Fin w)
    (h0 : (e 0).val = t * 256 + i.val) (h1 : (e 1).val = j.val) : ((x ⟨t * 256 + i, by omega⟩ j : ℝ) : EReal) = rowsOf x e :=
  congrArg _ (congrArg₂ x (Fin.ext h0.symm) (Fin.ext h1.symm))

/-- The last point. -/
abbrev last : Fin cfg0.N := ⟨31, lt_of_lt_of_eq (by omega) (N_0 : cfg0.N = 32).symm⟩

theorem arr_inj : Function.Injective (Pipeline.arrRef spec0) := by decide +kernel

variable {m : (ℓ : Loc nD τ sig) → Buf (Elt Ideal) ℓ} {c : Dev nD} {H T : Fin 8192 → Fin 1024 → ℝ} {W : Weights} (h : Args m c H T W)
include h

theorem arr_dh1 : (dats m 0 c).arrAt 4 cfg0.N = rowsOf fun r => Rows.dh1 W (H r) (T r) := by
  refine (dats m 0 c).arrAt_eq_of_covers 4 _ (by decide +kernel) fun t hf y => ?_
  blk_simp
  rw [after_4]
  refine ((congrArg _ (eq_ix2 y)).trans ((outsAt_holds h t.val t.isLt (lt_32 t)).dh1 (y 0) (y 1))).trans ?_
  refine placed (fun r => Rows.dh1 W (H r) (T r)) t.val (lt_32 t) _ (y 0) (y 1) ?_ ?_ <;> · blk_simp [index_4]; try simp

theorem arr_f : (dats m 0 c).arrAt 5 cfg0.N = rowsOf fun r => Rows.f W (H r) := by
  refine (dats m 0 c).arrAt_eq_of_covers 5 _ (by decide +kernel) fun t hf y => ?_
  blk_simp
  rw [after_5]
  refine ((congrArg _ (eq_ix2 y)).trans ((outsAt_holds h t.val t.isLt (lt_32 t)).f (y 0) (y 1))).trans ?_
  refine placed (fun r => Rows.f W (H r)) t.val (lt_32 t) _ (y 0) (y 1) ?_ ?_ <;> · blk_simp [index_5]; try simp

theorem arr_dd : (dats m 0 c).arrAt 6 cfg0.N = rowsOf fun r => Rows.dd W (H r) (T r) := by
  refine (dats m 0 c).arrAt_eq_of_covers 6 _ (by decide +kernel) fun t hf y => ?_
  blk_simp
  rw [after_6]
  refine ((congrArg _ (eq_ix2 y)).trans ((outsAt_holds h t.val t.isLt (lt_32 t)).dd (y 0) (y 1))).trans ?_
  refine placed (fun r => Rows.dd W (H r) (T r)) t.val (lt_32 t) _ (y 0) (y 1) ?_ ?_ <;> · blk_simp [index_6]; try simp

theorem arr_ds : (dats m 0 c).arrAt 7 cfg0.N = rowsOf fun r => Rows.ds W (H r) (T r) := by
  refine (dats m 0 c).arrAt_eq_of_covers 7 _ (by decide +kernel) fun t hf y => ?_
  blk_simp
  rw [after_7]
  refine ((congrArg _ (eq_ix2 y)).trans ((outsAt_holds h t.val t.isLt (lt_32 t)).ds (y 0) (y 1))).trans ?_
  refine placed (fun r => Rows.ds W (H r) (T r)) t.val (lt_32 t) _ (y 0) (y 1) ?_ ?_ <;> · blk_simp [index_7]; try simp

theorem arr_du : (dats m 0 c).arrAt 8 cfg0.N = rowsOf fun r => Rows.du W (H r) (T r) := by
  refine (dats m 0 c).arrAt_eq_of_covers 8 _ (by decide +kernel) fun t hf y => ?_
  blk_simp
  rw [after_8]
  refine ((congrArg _ (eq_ix2 y)).trans ((outsAt_holds h t.val t.isLt (lt_32 t)).du (y 0) (y 1))).trans ?_
  refine placed (fun r => Rows.du W (H r) (T r)) t.val (lt_32 t) _ (y 0) (y 1) ?_ ?_ <;> · blk_simp [index_8]; try simp

theorem arr_gg : (dats m 0 c).arrAt 9 cfg0.N = rowsOf fun r => Rows.gg W (H r) := by
  refine (dats m 0 c).arrAt_eq_of_covers 9 _ (by decide +kernel) fun t hf y => ?_
  blk_simp
  rw [after_9]
  refine ((congrArg _ (eq_ix2 y)).trans ((outsAt_holds h t.val t.isLt (lt_32 t)).gg (y 0) (y 1))).trans ?_
  refine placed (fun r => Rows.gg W (H r)) t.val (lt_32 t) _ (y 0) (y 1) ?_ ?_ <;> · blk_simp [index_9]; try simp

theorem arr_loss : (dats m 0 c).arrAt 10 cfg0.N = rowsOf (acc (lossRows H T W) 31 (by omega)) := by
  refine (dats m 0 c).arrAt_eq_of_after_last 10 last (by decide +kernel) _ fun j => ?_
  blk_simp
  rw [after_10]
  exact (congrArg _ (eq_ix2 j)).trans ((outsAt_holds h 31 last.isLt (by omega)).loss (j 0) (j 1))

theorem arr_dg3 : (dats m 0 c).arrAt 11 cfg0.N = rowsOf (acc (dg3Rows H T W) 31 (by omega)) := by
  refine (dats m 0 c).arrAt_eq_of_after_last 11 last (by decide +kernel) _ fun j => ?_
  blk_simp
  rw [after_11]
  exact (congrArg _ (eq_ix2 j)).trans ((outsAt_holds h 31 last.isLt (by omega)).dg3 (j 0) (j 1))

theorem arr_dg4 : (dats m 0 c).arrAt 12 cfg0.N = rowsOf (acc (dg4Rows H T W) 31 (by omega)) := by
  refine (dats m 0 c).arrAt_eq_of_after_last 12 last (by decide +kernel) _ fun j => ?_
  blk_simp
  rw [after_12]
  exact (congrArg _ (eq_ix2 j)).trans ((outsAt_holds h 31 last.isLt (by omega)).dg4 (j 0) (j 1))

/-- The loss: half the mean over a row's squared errors, summed over the rows. -/
theorem tail_loss (y : S_.Idx) : Pipeline.afterTail₀ cfgs (dats m) 0 (V0 m) [hostOps1] c main_v21 y
    = (((∑ k, ∑ r, lossRows H T W r k) * (1 / 2048) : ℝ) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v19_6)
    = (dats m 0 c).arrAt 10 cfg0.N from Pipeline.withArrays_arr spec0 arr_inj c _ _ 10, arr_loss h]
  pointwise
  show (∑ i : Fin 8, ∑ k : Fin 1024, ((acc (lossRows H T W) 31 (by omega) i k : ℝ) : EReal)) * _ = _
  simp only [coe_sum]
  rw [Finset.sum_comm, w_half_inv, ← EReal.coe_mul]
  simp only [sum_acc]

theorem tail_dg3 (i : Fin 1) (k : Fin 1024) : Pipeline.afterTail₀ cfgs (dats m) 0 (V0 m) [hostOps1] c main_v23 (ix2 i k)
    = ((∑ r, dg3Rows H T W r k : ℝ) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v19_7)
    = (dats m 0 c).arrAt 11 cfg0.N from Pipeline.withArrays_arr spec0 arr_inj c _ _ 11, arr_dg3 h]
  pointwise
  show (∑ i : Fin 8, ((acc (dg3Rows H T W) 31 (by omega) i k : ℝ) : EReal)) = _
  rw [coe_sum, sum_acc]

theorem tail_dg4 (i : Fin 1) (k : Fin 1024) : Pipeline.afterTail₀ cfgs (dats m) 0 (V0 m) [hostOps1] c main_v25 (ix2 i k)
    = ((∑ r, dg4Rows H T W r k : ℝ) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v19_8)
    = (dats m 0 c).arrAt 12 cfg0.N from Pipeline.withArrays_arr spec0 arr_inj c _ _ 12, arr_dg4 h]
  pointwise
  show (∑ i : Fin 8, ((acc (dg4Rows H T W) 31 (by omega) i k : ℝ) : EReal)) = _
  rw [coe_sum, sum_acc]

end Cert.KernelIdeal.Ffn

end
-- ==== Proof.Ffn.RefRows.lean ====
/- The reference's values over real arguments: every intermediate array holds the corresponding function of the row. -/
module

public import proofs.«01_k».proof.Proof.Gen.ReferenceIdeal.Run
public import proofs.«01_k».proof.Proof.Pays

@[expose] public section

set_option maxRecDepth 16384

noncomputable section

namespace Cert.ReferenceIdeal.Ffn

open Cert.ReferenceIdeal Cert.ReferenceIdeal.Gen Cert.ReferenceIdeal.Value Cert.Pays
open Idealize.ShloMosaic Idealize.ShloMosaic.TcCoe Idealize.SL.Sem
open Cert.Rows (Weights)

theorem w_half : Ideal.ofBits .f32 0x3F000000#32 = ((1 / 2 : ℝ) : EReal) := by
  simp [Ideal.ofBits, Ideal.ieee, -EReal.coe_mul]; norm_num
theorem w_neg_half : Ideal.ofBits .f32 0xBF000000#32 = ((-(1 / 2) : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num

/-- The number of the row at place `s` of sequence `b`. -/
abbrev row (b : Fin 4) (s : Fin 2048) : Fin 8192 := ⟨b * 2048 + s, by omega⟩

/-- An array of sequences that holds the real rows `x`. -/
def R3 {w : ℕ} (X : (⟨3, ![4, 2048, w]⟩ : Shape).Idx → EReal) (x : Fin 8192 → Fin w → ℝ) : Prop :=
  ∀ b s k, X (ix3 b s k) = ((x (row b s) k : ℝ) : EReal)

/-- A row's mean square with the constant added. -/
def ms (v : Fin 1024 → ℝ) : ℝ := (∑ k, v k * v k) / 1024 + Rows.eps

theorem ms_pos (v : Fin 1024 → ℝ) : 0 < ms v := Rows.msq_pos v

theorem rstd_sq (v : Fin 1024 → ℝ) : Rows.rstd v * Rows.rstd v = (ms v)⁻¹ := by
  show (Real.sqrt (ms v))⁻¹ * (Real.sqrt (ms v))⁻¹ = _
  rw [← mul_inv, Real.mul_self_sqrt (ms_pos v).le]

/-- The share of a row in the gradient of its own mean square, as the reference forms it. -/
def pull (v e : Fin 1024 → ℝ) : ℝ := (∑ k, v k * e k) * (-(1 / 2) * (Rows.rstd v / ms v)) / 1024

/-- The gradient of the normalisation as the reference forms it is the closed form of the kernel. -/
theorem rms_vjp (v dy g : Fin 1024 → ℝ) (k : Fin 1024) :
    dy k * g k * Rows.rstd v + v k * pull v (fun l => dy l * g l) + pull v (fun l => dy l * g l) * v k
      = Rows.rmsBwd dy (fun l => v l * Rows.rstd v) (Rows.rstd v) g k := by
  have e : ∑ l, dy l * g l * (v l * Rows.rstd v) = Rows.rstd v * ∑ l, v l * (dy l * g l) := by
    rw [Finset.mul_sum]; exact Finset.sum_congr rfl fun l _ => by ring
  rw [Rows.rmsBwd, e, pull, div_eq_mul_inv (Rows.rstd v), ← rstd_sq]
  ring

/-- The arguments hold the real rows `H`, the targets `T` and the weights `W`. -/
structure Args (V0 : Valuation τ sig (Elt Ideal)) (H T : Fin 8192 → Fin 1024 → ℝ) (W : Weights) : Prop where
  a0 : R3 (V0 (Proc.devRef .tc main_arg0)) H
  a1 : ∀ (i : Fin 1) (k : Fin 1024), V0 (Proc.devRef .tc main_arg1) (ix2 i k) = ((W.g3 k : ℝ) : EReal)
  a2 : ∀ (i : Fin 1) (k : Fin 1024) (j : Fin 2816), V0 (Proc.devRef .tc main_arg2) (ix3 i k j) = ((W.wg j k : ℝ) : EReal)
  a3 : ∀ (i : Fin 1) (k : Fin 1024) (j : Fin 2816), V0 (Proc.devRef .tc main_arg3) (ix3 i k j) = ((W.wu j k : ℝ) : EReal)
  a4 : ∀ (i : Fin 1) (j : Fin 2816) (k : Fin 1024), V0 (Proc.devRef .tc main_arg4) (ix3 i j k) = ((W.wd j k : ℝ) : EReal)
  a5 : ∀ (i : Fin 1) (k : Fin 1024), V0 (Proc.devRef .tc main_arg5) (ix2 i k) = ((W.g4 k : ℝ) : EReal)
  a6 : R3 (V0 (Proc.devRef .tc main_arg6)) T

theorem sum_mul {n : ℕ} (x y : Fin n → ℝ) : (∑ k, (x k : EReal) * (y k : EReal)) = ((∑ k, x k * y k : ℝ) : EReal) := by
  simp only [← EReal.coe_mul, coe_sum]

theorem lgs_real (x : ℝ) : Ideal.div 1 (1 + Ideal.exp (-(x : EReal))) = (Rows.lgs x : EReal) := by
  rw [← sig_real, zero_sub]

theorem row_div (r : Fin 8192) (h1 : r.val / 2048 < 4) (h2 : r.val % 2048 < 2048) : row ⟨r.val / 2048, h1⟩ ⟨r.val % 2048, h2⟩ = r :=
  Fin.ext (by show r.val / 2048 * 2048 + r.val % 2048 = r.val; omega)

theorem sum_rows (x : Fin 8192 → ℝ) : ∑ b, ∑ s, x (row b s) = ∑ r, x r := by
  rw [← Fintype.sum_prod_type' (f := fun b s => x (row b s)), ← (finProdFinEquiv (m := 4) (n := 2048)).sum_comp (fun r : Fin 8192 => x r)]
  exact Finset.sum_congr rfl fun p _ => congrArg x (Fin.ext (by
    show p.1.val * 2048 + p.2.val = p.2.val + 2048 * p.1.val
    ring))

theorem sum_swapped (x y : Fin 8192 → ℝ) :
    (∑ _a : Fin 1, ∑ _c : Fin 1, ∑ b, ∑ s, (x (row b s) : EReal) * (y (row b s) : EReal)) = ((∑ r, y r * x r : ℝ) : EReal) := by
  simp only [Fin.sum_univ_one, ← EReal.coe_mul, coe_sum]
  rw [← sum_rows]
  simp only [mul_comm]

/-- A sum over the two leading axes. -/
theorem reduce_leading {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a, ∑ b, v (ix3 a b k) := by
  refine congrArg (init + ·) ((Finset.sum_filter_eq_sum_of_fiber _ (fun p : Fin n0 × Fin n1 => ix3 p.1 p.2 k)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b; apply Fin.ext
      match b with
      | ⟨0, _⟩ => rfl
  · simp only [Fintype.sum_prod_type]

theorem add_four (a b c d : ℝ) : a + b + c + d = a + (b + c + d) := by ring

variable {V0 : Valuation τ sig (Elt Ideal)} {H T : Fin 8192 → Fin 1024 → ℝ} {W : Weights} (h : Args V0 H T W)
include h

theorem v9 : R3 (res_main_v9 V0) fun r (_ : Fin 1) => ms (H r) := by
  intro b s k
  pointwise [res_main_v9, h.a0 _ _ _]
  simp only [← EReal.coe_mul, coe_sum, w_1024, w_eps]
  rw [div_real (by norm_num), ← EReal.coe_add]; rfl

theorem v10 : R3 (res_main_v10 V0) fun r (_ : Fin 1) => Rows.rstd (H r) := by
  intro b s k
  pointwise [res_main_v10, v9 h _ _ _]
  rw [rsqrt_real (ms_pos _)]; rfl

theorem v15 : R3 (res_main_v15 V0) fun r => Rows.hh (H r) := by
  intro b s k
  pointwise [res_main_v15, h.a0 _ _ _, v10 h _ _ _]
  rw [← EReal.coe_mul]; rfl

theorem v16 (i j : Fin 1) (k : Fin 1024) : res_main_v16 V0 (ix3 i j k) = ((W.g3 k : ℝ) : EReal) := by
  pointwise [res_main_v16, h.a1 _ _]

theorem v18 : R3 (res_main_v18 V0) fun r => Rows.f W (H r) := by
  intro b s k
  pointwise [res_main_v18, v15 h _ _ _, v16 h _ _ _]
  rw [← EReal.coe_mul]; rfl

theorem v19 (k : Fin 1024) (j : Fin 2816) : res_main_v19 V0 (ix2 k j) = ((W.wg j k : ℝ) : EReal) := by
  pointwise [res_main_v19, h.a2 _ _ _]

theorem v21 : R3 (res_main_v21 V0) fun r => Rows.s W (H r) := by
  intro b s k
  pointwise [res_main_v21, res_main_v0, dot_S4x2048x1024_S1024x2816_S4x2048x2816_2_0_01_1_n_n, v18 h _ _ _, v19 h _ _]
  exact sum_mul _ _

theorem v22_2 : R3 (res_main_v22_2 V0) fun r j => Rows.lgs (Rows.s W (H r) j) := by
  intro b s k
  pointwise [res_main_v22_2, v21 h _ _ _]
  exact lgs_real _

theorem v22_0 : R3 (res_main_v22_0 V0) fun r j => Rows.s W (H r) j * Rows.lgs (Rows.s W (H r) j) := by
  intro b s k
  pointwise [res_main_v22_0, v21 h _ _ _, v22_2 h _ _ _]
  rw [← EReal.coe_mul]

theorem v23 (k : Fin 1024) (j : Fin 2816) : res_main_v23 V0 (ix2 k j) = ((W.wu j k : ℝ) : EReal) := by
  pointwise [res_main_v23, h.a3 _ _ _]

theorem v25 : R3 (res_main_v25 V0) fun r => Rows.u W (H r) := by
  intro b s k
  pointwise [res_main_v25, res_main_v0, dot_S4x2048x1024_S1024x2816_S4x2048x2816_2_0_01_1_n_n, v18 h _ _ _, v23 h _ _]
  exact sum_mul _ _

theorem v26 : R3 (res_main_v26 V0) fun r => Rows.gg W (H r) := by
  intro b s k
  pointwise [res_main_v26, v22_0 h _ _ _, v25 h _ _ _]
  rw [← EReal.coe_mul]; rfl

theorem v27 (j : Fin 2816) (k : Fin 1024) : res_main_v27 V0 (ix2 j k) = ((W.wd j k : ℝ) : EReal) := by
  pointwise [res_main_v27, h.a4 _ _ _]

theorem v29 : R3 (res_main_v29 V0) fun r => Rows.d W (H r) := by
  intro b s k
  pointwise [res_main_v29, dot_S4x2048x2816_S2816x1024_S4x2048x1024_2_0_01_1_n_n, v26 h _ _ _, v27 h _ _]
  exact sum_mul _ _

theorem v37 : R3 (res_main_v37 V0) fun r (_ : Fin 1) => ms (Rows.d W (H r)) := by
  intro b s k
  pointwise [res_main_v37, v29 h _ _ _]
  simp only [← EReal.coe_mul, coe_sum, w_1024, w_eps]
  rw [div_real (by norm_num), ← EReal.coe_add]; rfl

theorem v38 : R3 (res_main_v38 V0) fun r (_ : Fin 1) => Rows.rstd (Rows.d W (H r)) := by
  intro b s k
  pointwise [res_main_v38, v37 h _ _ _]
  rw [rsqrt_real (ms_pos _)]; rfl

theorem v43 : R3 (res_main_v43 V0) fun r => Rows.dh W (H r) := by
  intro b s k
  pointwise [res_main_v43, v29 h _ _ _, v38 h _ _ _]
  rw [← EReal.coe_mul]; rfl

theorem v44 (i j : Fin 1) (k : Fin 1024) : res_main_v44 V0 (ix3 i j k) = ((W.g4 k : ℝ) : EReal) := by
  pointwise [res_main_v44, h.a5 _ _]

theorem v48 : R3 (res_main_v48 V0) fun r => Rows.err W (H r) (T r) := by
  intro b s k
  pointwise [res_main_v48, h.a0 _ _ _, h.a6 _ _ _, v43 h _ _ _, v44 h _ _ _]
  rw [← EReal.coe_mul, ← EReal.coe_add, ← EReal.coe_sub]; rfl

theorem v62 : R3 (res_main_v62 V0) fun r => Rows.dy W (H r) (T r) := by
  intro b s k
  pointwise [res_main_v62, v48 h _ _ _]
  rw [w_half, w_1024, w_two, div_real (by norm_num), ← EReal.coe_mul, ← EReal.coe_mul, Rows.dy]
  exact congrArg _ (by ring)

theorem v67 : R3 (res_main_v67 V0) fun r k => Rows.dy W (H r) (T r) k * W.g4 k := by
  intro b s k
  pointwise [res_main_v67, v62 h _ _ _, v44 h _ _ _]
  rw [← EReal.coe_mul]

theorem v78 : R3 (res_main_v78 V0) fun r (_ : Fin 1024) => pull (Rows.d W (H r)) fun k => Rows.dy W (H r) (T r) k * W.g4 k := by
  intro b s k
  pointwise [res_main_v78, v29 h _ _ _, v67 h _ _ _, v37 h _ _ _, v38 h _ _ _]
  simp only [← EReal.coe_mul, coe_sum, w_1024, w_neg_half]
  rw [div_real (ms_pos _).ne', ← EReal.coe_mul, ← EReal.coe_mul, div_real (by norm_num)]; exact Fin.sum_univ_one _

theorem v82 : R3 (res_main_v82 V0) fun r => Rows.dd W (H r) (T r) := by
  intro b s k
  pointwise [res_main_v82, v29 h _ _ _, v67 h _ _ _, v78 h _ _ _, v38 h _ _ _]
  simp only [← EReal.coe_mul, ← EReal.coe_add]
  exact congrArg _ (rms_vjp _ _ _ _)

theorem v84 : R3 (res_main_v84 V0) fun r => Rows.dgg W (H r) (T r) := by
  intro b s k
  pointwise [res_main_v84, dot_S4x2048x1024_S2816x1024_S4x2048x2816_2_1_01_0_n_n, v82 h _ _ _, v27 h _ _]
  exact sum_mul _ _

theorem v85 : R3 (res_main_v85 V0) fun r => Rows.du W (H r) (T r) := by
  intro b s k
  pointwise [res_main_v85, v22_0 h _ _ _, v84 h _ _ _]
  rw [← EReal.coe_mul, mul_comm]; rfl

theorem v86 : R3 (res_main_v86 V0) fun r j => Rows.dgg W (H r) (T r) j * Rows.u W (H r) j := by
  intro b s k
  pointwise [res_main_v86, v25 h _ _ _, v84 h _ _ _]
  rw [← EReal.coe_mul]

theorem v88 : R3 (res_main_v88 V0) fun r => Rows.ds W (H r) (T r) := by
  intro b s k
  pointwise [res_main_v88, v21 h _ _ _, v86 h _ _ _, v22_2 h _ _ _]
  simp only [← EReal.coe_one, ← EReal.coe_sub, ← EReal.coe_mul, ← EReal.coe_add]
  exact congrArg _ (by rw [Rows.ds]; ring)

theorem v90 : R3 (res_main_v90 V0) fun r => Rows.df W (H r) (T r) := by
  intro b s k
  pointwise [res_main_v90, dot_S4x2048x2816_S1024x2816_S4x2048x1024_2_1_01_0_n_n, v85 h _ _ _, v88 h _ _ _, v19 h _ _, v23 h _ _]
  refine (congrArg₂ (· + ·) (sum_mul _ _) (sum_mul _ _)).trans ?_
  rw [← EReal.coe_add, add_comm]; rfl

theorem v95 : R3 (res_main_v95 V0) fun r k => Rows.df W (H r) (T r) k * W.g3 k := by
  intro b s k
  pointwise [res_main_v95, v90 h _ _ _, v16 h _ _ _]
  rw [← EReal.coe_mul]

theorem v107 : R3 (res_main_v107 V0) fun r (_ : Fin 1024) => pull (H r) fun k => Rows.df W (H r) (T r) k * W.g3 k := by
  intro b s k
  pointwise [res_main_v107, h.a0 _ _ _, v95 h _ _ _, v9 h _ _ _, v10 h _ _ _]
  simp only [← EReal.coe_mul, coe_sum, w_1024, w_neg_half]
  rw [div_real (ms_pos _).ne', ← EReal.coe_mul, ← EReal.coe_mul, div_real (by norm_num)]; exact Fin.sum_univ_one _

theorem res_dh1 (r : Fin 8192) (k : Fin 1024) : val3 V0 (Proc.devRef .tc main_v113) (ix2 r k) = ((Rows.dh1 W (H r) (T r) k : ℝ) : EReal) := by
  rw [val3_main_v113]
  pointwise [v62 h _ _ _, v95 h _ _ _, v10 h _ _ _, h.a0 _ _ _, v107 h _ _ _]
  rw [row_div]
  simp only [← EReal.coe_mul, ← EReal.coe_add]
  exact congrArg _ ((add_four _ _ _ _).trans (congrArg (Rows.dy W (H r) (T r) k + ·) (rms_vjp (H r) (Rows.df W (H r) (T r)) W.g3 k)))

theorem res_f (r : Fin 8192) (k) : val3 V0 (Proc.devRef .tc main_v115) (ix2 r k) = ((Rows.f W (H r) k : ℝ) : EReal) := by
  rw [val3_main_v115]
  pointwise [v18 h _ _ _]
  rw [row_div]

theorem res_dd (r : Fin 8192) (k) : val3 V0 (Proc.devRef .tc main_v117) (ix2 r k) = ((Rows.dd W (H r) (T r) k : ℝ) : EReal) := by
  rw [val3_main_v117]
  pointwise [v82 h _ _ _]
  rw [row_div]

theorem res_ds (r : Fin 8192) (k) : val3 V0 (Proc.devRef .tc main_v119) (ix2 r k) = ((Rows.ds W (H r) (T r) k : ℝ) : EReal) := by
  rw [val3_main_v119]
  pointwise [v88 h _ _ _]
  rw [row_div]

theorem res_du (r : Fin 8192) (k) : val3 V0 (Proc.devRef .tc main_v121) (ix2 r k) = ((Rows.du W (H r) (T r) k : ℝ) : EReal) := by
  rw [val3_main_v121]
  pointwise [v85 h _ _ _]
  rw [row_div]

theorem res_gg (r : Fin 8192) (k) : val3 V0 (Proc.devRef .tc main_v123) (ix2 r k) = ((Rows.gg W (H r) k : ℝ) : EReal) := by
  rw [val3_main_v123]
  pointwise [v26 h _ _ _]
  rw [row_div]

theorem res_loss (y : S_.Idx) : val3 V0 (Proc.devRef .tc main_v56) y
    = (((∑ k, ∑ r, Rows.err W (H r) (T r) k * Rows.err W (H r) (T r) k) * (1 / 2048) : ℝ) : EReal) := by
  rw [val3_main_v56]
  pointwise [v48 h _ _ _]
  simp only [← EReal.coe_mul, coe_sum, w_1024, w_half, div_real (show (1024 : ℝ) ≠ 0 by norm_num)]
  refine congrArg _ ?_
  rw [sum_rows fun r => (∑ k, Rows.err W (H r) (T r) k * Rows.err W (H r) (T r) k) / 1024, ← Finset.sum_div, Finset.sum_comm]
  ring

theorem res_dg3 (i : Fin 1) (k : Fin 1024) : val3 V0 (Proc.devRef .tc main_v112) (ix2 i k)
    = ((∑ r, Rows.df W (H r) (T r) k * Rows.hh (H r) k : ℝ) : EReal) := by
  rw [val3_main_v112]
  pointwise [reduce_leading, v15 h _ _ _, v90 h _ _ _]
  exact sum_swapped (fun r => Rows.hh (H r) k) (fun r => Rows.df W (H r) (T r) k)

theorem res_dg4 (i : Fin 1) (k : Fin 1024) : val3 V0 (Proc.devRef .tc main_v83) (ix2 i k)
    = ((∑ r, Rows.dy W (H r) (T r) k * Rows.dh W (H r) k : ℝ) : EReal) := by
  rw [val3_main_v83]
  pointwise [reduce_leading, v43 h _ _ _, v62 h _ _ _]
  exact sum_swapped (fun r => Rows.dh W (H r) k) (fun r => Rows.dy W (H r) (T r) k)

end Cert.ReferenceIdeal.Ffn

end
-- ==== Proof.Ffn.Values.lean ====
/- The two programs' results are equal when every argument is finite: both hold the same functions of the arguments' rows. -/
module

public import proofs.«01_k».proof.Defs
public import proofs.«01_k».proof.Proof.Gen.Pre_finite
public import proofs.«01_k».proof.Proof.Ffn.Final
public import proofs.«01_k».proof.Proof.Ffn.RefRows
public import Idealize.ShloMosaic.Lib.Claim

@[expose] public section

set_option maxRecDepth 16384

noncomputable section

namespace Cert.Equal

open Idealize.ShloMosaic Idealize.ShloMosaic.TcCoe Idealize.SL.Sem
open Idealize.ShloMosaic.StableHlo (launchContents launchContents_devRef)
open Cert.Rows (Weights)
open Cert.KernelIdeal (nD τ sig main_arg0 main_arg1 main_arg2 main_arg3 main_arg4 main_arg5 main_arg6)

/-- An entry whose magnitude compares below infinity is a real. -/
theorem real_of_finite {s : Shape} (x : FVec Ideal s .f32) (b : Shape.BroadcastsInDim ⟨0, ![]⟩ s (![] : Fin 0 → Fin s.rank))
    (h : cmpf .olt (Host.absf x) (broadcastInDim s ![] b (constant ⟨0, ![]⟩ .f32 0x7F800000#32)) = fun _ => 1#1) (j : s.Idx) :
    x j = (((x j).toReal : ℝ) : EReal) := by
  have e : Ideal.cmp .olt (max (x j) (-(x j))) (Ideal.ofBits .f32 0x7F800000#32) = 1#1 := congrFun h j
  have t : Ideal.ofBits .f32 0x7F800000#32 = ⊤ := by simp [Ideal.ofBits, Ideal.ieee]
  rw [t] at e
  have l : max (x j) (-(x j)) < ⊤ := by
    by_contra n
    simp [Ideal.cmp, n] at e
  refine (EReal.coe_toReal ?_ ?_).symm
  · rintro q
    simp [q] at l
  · rintro q
    simp [q] at l

variable (m : (ℓ : Loc nD τ sig) → Buf (Elt Ideal) ℓ) (c : Dev nD)

/-- The rows the first argument holds. -/
def rows : Fin 8192 → Fin 1024 → ℝ := fun r k =>
  (m ((c : Thread nD τ).loc main_arg0) (ix3 (⟨r / 2048, by omega⟩ : Fin 4) (⟨r % 2048, by omega⟩ : Fin 2048) k)).toReal
/-- The rows of targets. -/
def targets : Fin 8192 → Fin 1024 → ℝ := fun r k =>
  (m ((c : Thread nD τ).loc main_arg6) (ix3 (⟨r / 2048, by omega⟩ : Fin 4) (⟨r % 2048, by omega⟩ : Fin 2048) k)).toReal
/-- The weights the arguments hold. -/
def weights : Weights where
  wg := fun j k => (m ((c : Thread nD τ).loc main_arg2) (ix3 (0 : Fin 1) k j)).toReal
  wu := fun j k => (m ((c : Thread nD τ).loc main_arg3) (ix3 (0 : Fin 1) k j)).toReal
  wd := fun j k => (m ((c : Thread nD τ).loc main_arg4) (ix3 (0 : Fin 1) j k)).toReal
  g3 := fun k => (m ((c : Thread nD τ).loc main_arg1) (ix2 (0 : Fin 1) k)).toReal
  g4 := fun k => (m ((c : Thread nD τ).loc main_arg5) (ix2 (0 : Fin 1) k)).toReal

variable {m}

theorem args (h : Cert.Pre_KernelIdeal_finite m) (c : Dev nD) : Cert.KernelIdeal.Ffn.Args m c (rows m c) (targets m c) (weights m c) := by
  obtain ⟨e0, e1, e2, e3, e4, e5, e6⟩ := h c
  unfold Cert.Pre_finite.fn Cert.Pre_finite.fn_part1 at e0 e1 e2 e3 e4 e5 e6
  dsimp only at e0 e1 e2 e3 e4 e5 e6
  have place : ∀ (b : Fin 4) (s : Fin 2048) (k : Fin 1024) (h1 : (b.val * 2048 + s.val) / 2048 < 4) (h2 : (b.val * 2048 + s.val) % 2048 < 2048),
      ix3 b s k = ix3 (⟨(b.val * 2048 + s.val) / 2048, h1⟩ : Fin 4) (⟨(b.val * 2048 + s.val) % 2048, h2⟩ : Fin 2048) k := by
    intro b s k h1 h2
    congr 1 <;> · apply Fin.ext; dsimp only; omega
  have one : ∀ i : Fin 1, i = 0 := fun i => Subsingleton.elim _ _
  constructor
  · intro b s k
    exact (real_of_finite _ _ e0 _).trans (congrArg (fun y => (((m ((c : Thread nD τ).loc main_arg0) y).toReal : ℝ) : EReal)) (place b s k _ _))
  · intro i k; rw [one i]; exact real_of_finite _ _ e1 _
  · intro i k j; rw [one i]; exact real_of_finite _ _ e2 _
  · intro i k j; rw [one i]; exact real_of_finite _ _ e3 _
  · intro i j k; rw [one i]; exact real_of_finite _ _ e4 _
  · intro i k; rw [one i]; exact real_of_finite _ _ e5 _
  · intro b s k
    exact (real_of_finite _ _ e6 _).trans (congrArg (fun y => (((m ((c : Thread nD τ).loc main_arg6) y).toReal : ℝ) : EReal)) (place b s k _ _))

open Cert.KernelIdeal.Ffn (rowsOf) in
/-- Both programs leave the same functions of the arguments' rows. -/
theorem algebraic : Cert.algebraic_KernelIdeal_ReferenceIdeal_pre_finite := by
  intro m g m' g' pre hargs
  have K : ∀ c, Cert.KernelIdeal.Ffn.Args m c (rows m c) (targets m c) (weights m c) := fun c => args pre c
  have R : ∀ c : Dev nD, Cert.ReferenceIdeal.Ffn.Args (launchContents m' c) (rows m c) (targets m c) (weights m c) := fun c => by
    obtain ⟨e0, e1, e2, e3, e4, e5, e6⟩ := hargs c
    constructor
    · intro b s k; exact (congrFun e0 _).trans ((K c).a0 b s k)
    · intro i k; exact (congrFun e1 _).trans ((K c).a1 i k)
    · intro i k j; exact (congrFun e2 _).trans ((K c).a2 i k j)
    · intro i k j; exact (congrFun e3 _).trans ((K c).a3 i k j)
    · intro i j k; exact (congrFun e4 _).trans ((K c).a4 i j k)
    · intro i k; exact (congrFun e5 _).trans ((K c).a5 i k)
    · intro b s k; exact (congrFun e6 _).trans ((K c).a6 b s k)
  refine ⟨fun c => rowsOf fun r => Rows.dh1 (weights m c) (rows m c r) (targets m c r),
    fun c => rowsOf fun r => Rows.f (weights m c) (rows m c r),
    fun c => rowsOf fun r => Rows.dd (weights m c) (rows m c r) (targets m c r),
    fun c => rowsOf fun r => Rows.ds (weights m c) (rows m c r) (targets m c r),
    fun c => rowsOf fun r => Rows.du (weights m c) (rows m c r) (targets m c r),
    fun c => rowsOf fun r => Rows.gg (weights m c) (rows m c r),
    fun c _ => (((∑ k, ∑ r, Cert.KernelIdeal.Ffn.lossRows (rows m c) (targets m c) (weights m c) r k) * (1 / 2048) : ℝ) : EReal),
    fun c => rowsOf fun _ k => ∑ r, Cert.KernelIdeal.Ffn.dg3Rows (rows m c) (targets m c) (weights m c) r k,
    fun c => rowsOf fun _ k => ∑ r, Cert.KernelIdeal.Ffn.dg4Rows (rows m c) (targets m c) (weights m c) r k, ?_, ?_⟩
  · refine (θ_run _ _ _).mono (fun r h c => ?_) (θ_run_and (Cert.KernelIdeal.Ffn.run_main m g) (Cert.KernelIdeal.Ffn.unchanged m g))
    have w := (h.1 c).1
    have b := (h.1 c).2
    refine ⟨(w 4).trans (Cert.KernelIdeal.Ffn.arr_dh1 (K c)), (w 5).trans (Cert.KernelIdeal.Ffn.arr_f (K c)), (w 6).trans (Cert.KernelIdeal.Ffn.arr_dd (K c)),
      (w 7).trans (Cert.KernelIdeal.Ffn.arr_ds (K c)), (w 8).trans (Cert.KernelIdeal.Ffn.arr_du (K c)), (w 9).trans (Cert.KernelIdeal.Ffn.arr_gg (K c)),
      (b Cert.KernelIdeal.main_v21 (Pipeline.mem_restRefs_of Cert.KernelIdeal.main_v21 (by decide) (by decide))).trans (funext fun y => Cert.KernelIdeal.Ffn.tail_loss (K c) y),
      (b Cert.KernelIdeal.main_v23 (Pipeline.mem_restRefs_of Cert.KernelIdeal.main_v23 (by decide) (by decide))).trans
        (funext fun y => (congrArg _ (eq_ix2 y)).trans (Cert.KernelIdeal.Ffn.tail_dg3 (K c) (y 0) (y 1))),
      (b Cert.KernelIdeal.main_v25 (Pipeline.mem_restRefs_of Cert.KernelIdeal.main_v25 (by decide) (by decide))).trans
        (funext fun y => (congrArg _ (eq_ix2 y)).trans (Cert.KernelIdeal.Ffn.tail_dg4 (K c) (y 0) (y 1))), h.2 c⟩
  · refine (θ_run _ _ _).mono (fun r h c => ?_) (Cert.ReferenceIdeal.Value.run (F := Ideal) m' g')
    obtain ⟨h0, h1, h2, h3, h4, h5, h6, h7, h8, ha⟩ := h c
    refine ⟨(h0.trans (Cert.ReferenceIdeal.Value.val3_main_v113 (launchContents m' c)).symm).trans (funext fun y => (congrArg _ (eq_ix2 y)).trans (Cert.ReferenceIdeal.Ffn.res_dh1 (R c) (y 0) (y 1))),
      (h1.trans (Cert.ReferenceIdeal.Value.val3_main_v115 (launchContents m' c)).symm).trans (funext fun y => (congrArg _ (eq_ix2 y)).trans (Cert.ReferenceIdeal.Ffn.res_f (R c) (y 0) (y 1))),
      (h2.trans (Cert.ReferenceIdeal.Value.val3_main_v117 (launchContents m' c)).symm).trans (funext fun y => (congrArg _ (eq_ix2 y)).trans (Cert.ReferenceIdeal.Ffn.res_dd (R c) (y 0) (y 1))),
      (h3.trans (Cert.ReferenceIdeal.Value.val3_main_v119 (launchContents m' c)).symm).trans (funext fun y => (congrArg _ (eq_ix2 y)).trans (Cert.ReferenceIdeal.Ffn.res_ds (R c) (y 0) (y 1))),
      (h4.trans (Cert.ReferenceIdeal.Value.val3_main_v121 (launchContents m' c)).symm).trans (funext fun y => (congrArg _ (eq_ix2 y)).trans (Cert.ReferenceIdeal.Ffn.res_du (R c) (y 0) (y 1))),
      (h5.trans (Cert.ReferenceIdeal.Value.val3_main_v123 (launchContents m' c)).symm).trans (funext fun y => (congrArg _ (eq_ix2 y)).trans (Cert.ReferenceIdeal.Ffn.res_gg (R c) (y 0) (y 1))),
      (h6.trans (Cert.ReferenceIdeal.Value.val3_main_v56 (launchContents m' c)).symm).trans (funext fun y => Cert.ReferenceIdeal.Ffn.res_loss (R c) y),
      (h7.trans (Cert.ReferenceIdeal.Value.val3_main_v112 (launchContents m' c)).symm).trans (funext fun y => (congrArg _ (eq_ix2 y)).trans (Cert.ReferenceIdeal.Ffn.res_dg3 (R c) (y 0) (y 1))),
      (h8.trans (Cert.ReferenceIdeal.Value.val3_main_v83 (launchContents m' c)).symm).trans (funext fun y => (congrArg _ (eq_ix2 y)).trans (Cert.ReferenceIdeal.Ffn.res_dg4 (R c) (y 0) (y 1))), ha⟩

end Cert.Equal

end
-- ==== Proof.Mix.Setup.lean ====
/- What the mixer's backward kernel is launched with: the conditions of its body in closed form, its staging and scratch
   buffers, its transfer cells, the operands left in HBM, and the host lines around it. -/
module

public import proofs.«01_k».proof.Proof.Gen.Kernel2Ideal.Frame
public import proofs.«01_k».proof.Proof.Gen.Kernel2Ideal.Skeleton
public import Idealize.ShloMosaic.Lib.Claim
public import Idealize.ShloMosaic.Lib.Pipeline.TableIdle

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host lines before the region, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- A buffer which no line after the region writes and which is no array of the pipeline ends as the region found it. -/
theorem kept (dats : (p : Fin 1) → (c : Dev nD) → Dat τ (Elt F) Unit ℕ (Pipeline.UD sig nD τ) ℕ (cfgs p) c) (c : Dev nD) (b : Ref sig .tc)
    (hb : ∀ op ∈ (hostOps1 : List (HloOp τ sig (Elt F))), Proc.devRef .tc b ∉ op.writes) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (fun op h => hb op (by simpa using h)),
    Pipeline.withArrays_of_ne _ c (V0 m c) _ b hw]

/-! ## The body's branch conditions -/

/-- The condition of the body's conditional 0 (k0_h1), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 16 = 0)

/-- The condition of the body's conditional 1 (k0_h2), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's conditional 2 (k0_h3), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 4 :=
  (by decide +kernel : ∀ t : Fin grid0.N, cond0_2 (grid0.coords t) ↔ 1 ≤ t.val % 4)

/-- The condition of the body's conditional 3 (k0_h4), from the grid coordinates (the skeleton's scalar
    chain substituted). -/
abbrev cond0_3 (i : grid0.Coords) : Prop := k0_cond4 i = 1#1
/-- It holds at the points ≡ 3 (mod 4) — decided over the grid. -/
theorem hcond0_3 : ∀ t : Fin cfg0.N, cond0_3 (grid0.coords t) ↔ t.val % 4 = 3 :=
  (by decide +kernel : ∀ t : Fin grid0.N, cond0_3 (grid0.coords t) ↔ t.val % 4 = 3)

/-- The condition of the body's conditional 4 (k0_h5), from the grid coordinates (the skeleton's scalar
    chain substituted). -/
abbrev cond0_4 (i : grid0.Coords) : Prop := k0_cond5 i = 1#1
/-- It holds at the last point only — by arithmetic of the point. -/
theorem hcond0_4 : ∀ t : Fin cfg0.N, cond0_4 (grid0.coords t) ↔ t.val % 16 = 15 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_4, k0_cond5, e0, e1]
    word_cmp
   : ∀ t : Fin grid0.N, cond0_4 (grid0.coords t) ↔ t.val % 16 = 15)
/-- Each window's current staging memref at point t, spelled as the pipeline passes it (bodyAt0), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x128x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x512x512 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S512x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S8x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S24x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S4x128x128 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S16x2048 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S16x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S8x1024 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S16x1024 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S4x16x512 .bf16 := win0_26.stage (cfg0.slots t 26)
abbrev hs0_26 (t : Fin cfg0.N) : (ms0_26 t).IsWhole := hstage0_26 ((cfg0.slots t 26).cast nbuf0_26)
/-- The scratch operands: whole scoped buffers of the kernel's own, passed beside the windows. -/
abbrev scM0_0 : Memref sig .tc .vmem S4x1024x512 .bf16 := Memref.whole cc0_scratch0
abbrev scM0_1 : Memref sig .tc .vmem S1024x1024 .bf16 := Memref.whole cc0_scratch1
abbrev scM0_2 : Memref sig .tc .vmem S528x512 .f32 := Memref.whole cc0_scratch2
abbrev scM0_3 : Memref sig .tc .vmem S528x512 .f32 := Memref.whole cc0_scratch3
abbrev scM0_4 : Memref sig .tc .vmem S32x512 .f32 := Memref.whole cc0_scratch4
abbrev scM0_5 : Memref sig .tc .vmem S32x512 .f32 := Memref.whole cc0_scratch5
/-- The operands left in HBM that the body copies into scratch itself, whole. -/
abbrev hbM0_0 : Memref sig .tc .hbm S4x1024x512 .bf16 := Memref.whole main_v84
abbrev hbM0_1 : Memref sig .tc .hbm S4x256x1024 .bf16 := Memref.whole main_v87
abbrev hbM0_2 : Memref sig .tc .hbm S1024x512 .bf16 := Memref.whole main_v101
abbrev hbM0_3 : Memref sig .tc .hbm S256x1024 .bf16 := Memref.whole main_v103
/-- Memref M's buffer on core c: its contents type, and it held whole at f — behind this abbreviation, so that the
    run's rewriting of the goal leaves Memref.view intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (Pipeline.OwnSemFacts: none is a window's). -/
abbrev osem0 : Fin 8 → SemLoc sig := fun j => (![SemLoc.dma 36, SemLoc.dma 37, SemLoc.dma 38, SemLoc.dma 39, SemLoc.dma 40, SemLoc.dma 41, SemLoc.dma 42, SemLoc.dma 43] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) := by
  rw [Pipeline.ownSems0_eq_of_list c osem0 [0, 1, 2, 3, 4, 5, 6, 7] (by decide) (by decide)]; rfl
/-- The HBM operands the body moves, as references: unscoped, no window's array (Pipeline.restRefs). -/
def H0 : Finset (Ref sig .tc) := {main_v84, main_v87, main_v101, main_v103}
theorem H0_sub : H0 ⊆ Pipeline.restRefs sig spec0 := by decide
/-- The lines after the region touch none of the operands the body moves. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl | rfl | rfl | rfl | rfl | rfl | rfl | rfl | rfl | rfl | rfl | rfl | rfl
  all_goals intro b hb; simp only [H0, Finset.mem_insert, Finset.mem_singleton] at hb
  all_goals rcases hb with rfl | rfl | rfl | rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v84) ∗ hbPt0 c hbM0_1 (V m c main_v87) ∗ hbPt0 c hbM0_2 (V m c main_v101) ∗ hbPt0 c hbM0_3 (V m c main_v103)) := by
  rw [BI.bigSep_eq_bigSepL_of_eq [main_v84, main_v87, main_v101, main_v103] (by decide) (by decide)]; rfl

/-- The invariant of a body with transfers of its own, Pipeline.ΦD, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(hbPt0 c hbM0_0 (V m c main_v84) ∗ hbPt0 c hbM0_1 (V m c main_v87) ∗ hbPt0 c hbM0_2 (V m c main_v101) ∗ hbPt0 c hbM0_3 (V m c main_v103))) := by
  rw [Pipeline.ΦD_eq, scopedRest0_eq, ownSems00_eq, hbmPts0_eq]; simp only [scM0_0, scM0_1, scM0_2, scM0_3, scM0_4, scM0_5, owns_whole]; try rfl

end Cert.Kernel2Ideal.Mix

end
-- ==== Proof.Mix.Base.lean ====
/- What the runs of the mixer's backward body are stated over: the pieces each buffer is left with, and the buffers held. -/
module

public import proofs.«01_k».proof.Proof.Mix.Setup

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the kernel's buffers are left holding by one grid point, as the stores made into each, the last first. -/
structure Pieces (F : FTy → Type) where
  dx : List (View.Piece (Elt F) S1x512x1024 .f32)
  dz : List (View.Piece (Elt F) S4x512x512 .bf16)
  dm : List (View.Piece (Elt F) S512x1024 .bf16)
  dg1 : List (View.Piece (Elt F) S8x1024 .f32)
  dg2 : List (View.Piece (Elt F) S8x1024 .f32)
  dsc : List (View.Piece (Elt F) S8x512 .f32)
  dcw : List (View.Piece (Elt F) S24x512 .f32)
  dpw : List (View.Piece (Elt F) S4x128x128 .f32)
  dzm : List (View.Piece (Elt F) S16x2048 .f32)
  dmeta : List (View.Piece (Elt F) S16x1024 .f32)
  dg1m : List (View.Piece (Elt F) S8x1024 .f32)
  am : List (View.Piece (Elt F) S16x1024 .bf16)
  dzmb : List (View.Piece (Elt F) S4x16x512 .bf16)
  win : List (View.Piece (Elt F) S4x1024x512 .bf16)
  wout : List (View.Piece (Elt F) S1024x1024 .bf16)
  dcb : List (View.Piece (Elt F) S528x512 .f32)
  dqb : List (View.Piece (Elt F) S528x512 .f32)
  mcb : List (View.Piece (Elt F) S32x512 .f32)
  mqb : List (View.Piece (Elt F) S32x512 .f32)

/-- The kernel's eight transfer cells at zero. -/
def cells (c : Dev nD) : sProp 𝕄 :=
  iprop(semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0)

/-- The four weight operands left in HBM, at contents. -/
def operands (c : Dev nD) (fh0 : HbBuf0 (F := F) c hbM0_0) (fh1 : HbBuf0 (F := F) c hbM0_1) (fh2 : HbBuf0 (F := F) c hbM0_2) (fh3 : HbBuf0 (F := F) c hbM0_3) : sProp 𝕄 :=
  iprop(hbPt0 c hbM0_0 fh0 ∗ hbPt0 c hbM0_1 fh1 ∗ hbPt0 c hbM0_2 fh2 ∗ hbPt0 c hbM0_3 fh3)

/-- A buffer at some contents. -/
def anyAt (c : Dev nD) {S : Shape} {e : EltTy} (M : Memref sig .tc .vmem S e) : sProp 𝕄 :=
  iprop(∃ d, owns (c : Thread nD τ) M fullShare d)

/-- A buffer with stores made into it over some contents. -/
def written (c : Dev nD) {S : Shape} {e : EltTy} (M : Memref sig .tc .vmem S e) (L : List (View.Piece (Elt F) S e)) : sProp 𝕄 :=
  iprop(∃ f, M.view.loc (c : Thread nD τ) ↦[M.view.set]{fullShare} M.view.writes (Elt F) f L)

/-- A buffer with stores made into it over given contents. -/
def writtenOver (c : Dev nD) {S : Shape} {e : EltTy} (M : Memref sig .tc .vmem S e) (h : M.IsWhole) (d : Vec F S e) (L : List (View.Piece (Elt F) S e)) : sProp 𝕄 :=
  iprop(M.view.loc (c : Thread nD τ) ↦[M.view.set]{fullShare} M.view.writes (Elt F) (h.unread d) L)

/-- The blocks the body reads. -/
def inputs (c : Dev nD) (arg2 : Memref sig .tc .vmem S1x512x1024 .f32) (arg3 : Memref sig .tc .vmem S1x512x1024 .f32) (arg4 : Memref sig .tc .vmem S1x512x1536 .f32) (arg5 : Memref sig .tc .vmem S512x512 .f32) (arg6 : Memref sig .tc .vmem S512x512 .bf16) (arg7 : Memref sig .tc .vmem S1x512x1024 .f32) (arg8 : Memref sig .tc .vmem S16x2048 .f32) (arg9 : Memref sig .tc .vmem S16x1024 .f32) (arg10 : Memref sig .tc .vmem S1x1024 .f32) (arg11 : Memref sig .tc .vmem S1x1024 .f32) (arg12 : Memref sig .tc .vmem S3x512 .f32) (arg13 : Memref sig .tc .vmem S4x128x128 .bf16) (arg14 : Memref sig .tc .vmem S1x512 .f32) (arg15 : Memref sig .tc .vmem S8x128 .f32) (x0 : Vec F S1x512x1024 .f32) (x1 : Vec F S1x512x1024 .f32) (x2 : Vec F S1x512x1536 .f32) (x3 : Vec F S512x512 .f32) (x4 : Vec F S512x512 .bf16) (x5 : Vec F S1x512x1024 .f32) (x6 : Vec F S16x2048 .f32) (x7 : Vec F S16x1024 .f32) (x8 : Vec F S1x1024 .f32) (x9 : Vec F S1x1024 .f32) (x10 : Vec F S3x512 .f32) (x11 : Vec F S4x128x128 .bf16) (x12 : Vec F S1x512 .f32) (x13 : Vec F S8x128 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13)

end Cert.Kernel2Ideal.Mix

end
-- ==== Proof.Mix.RunA.lean ====
/- The mixer's backward body run once at the first point, which copies the weights in and clears the accumulators. -/
module

public import proofs.«01_k».proof.Proof.Mix.Base

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four blocks copied into the first weight's scratch, the last first. -/
def winPieces (w0 w1 w2 w3 : S1024x512.Idx → Elt F .bf16) : List (View.Piece (Elt F) S4x1024x512 .bf16) :=
  [⟨Rect.unit ![3, 0, 0] S1x1024x512.size inb_S4x1024x512_S1x1024x512_3_0_0, fun x => w3 ((Shape.reshapeEquiv (squeezes_S1x1024x512_S1024x512).numel_eq).symm x)⟩,
    ⟨Rect.unit ![2, 0, 0] S1x1024x512.size inb_S4x1024x512_S1x1024x512_2_0_0, fun x => w2 ((Shape.reshapeEquiv (squeezes_S1x1024x512_S1024x512).numel_eq).symm x)⟩,
    ⟨Rect.unit ![1, 0, 0] S1x1024x512.size inb_S4x1024x512_S1x1024x512_1_0_0, fun x => w1 ((Shape.reshapeEquiv (squeezes_S1x1024x512_S1024x512).numel_eq).symm x)⟩,
    ⟨Rect.unit ![0, 0, 0] S1x1024x512.size inb_S4x1024x512_S1x1024x512_0_0_0, fun x => w0 ((Shape.reshapeEquiv (squeezes_S1x1024x512_S1024x512).numel_eq).symm x)⟩]

/-- The four blocks copied into the second weight's scratch, the last first. -/
def woutPieces (w0 w1 w2 w3 : S256x1024.Idx → Elt F .bf16) : List (View.Piece (Elt F) S1024x1024 .bf16) :=
  [⟨Rect.unit ![768, 0] S256x1024.size inb_S1024x1024_S256x1024_768_0, w3⟩, ⟨Rect.unit ![512, 0] S256x1024.size inb_S1024x1024_S256x1024_512_0, w2⟩,
    ⟨Rect.unit ![256, 0] S256x1024.size inb_S1024x1024_S256x1024_256_0, w1⟩, ⟨Rect.unit ![0, 0] S256x1024.size inb_S1024x1024_S256x1024_0_0, w0⟩]

theorem cover_win (w0 w1 w2 w3 : S1024x512.Idx → Elt F .bf16) : ∀ y, ∃ pc ∈ winPieces w0 w1 w2 w3, y ∈ pc.1.set :=
  View.cover_of_tiledL _ S1x1024x512.size (by sl_kernel_rfl)

theorem cover_wout (w0 w1 w2 w3 : S256x1024.Idx → Elt F .bf16) : ∀ y, ∃ pc ∈ woutPieces w0 w1 w2 w3, y ∈ pc.1.set :=
  View.cover_of_tiledL _ S256x1024.size (by sl_kernel_rfl)

/-- A write through a squeezed block is a store into the block. -/
theorem write_squeezed {S S' : Shape} {e : EltTy} (M : Memref sig .tc .vmem S e) (r : Rect S) (hr : ∀ a, r.stride a = 1) (hs : r.shape.Squeezes S')
    (f : M.view.ty.Contents (Elt F)) (w : S'.Idx → Elt F e) :
    ((M.slice r hr).squeeze S' hs).view.write (Elt F) f w Finset.univ
      = (M.view.slice r).write (Elt F) f (fun x => w ((Shape.reshapeEquiv hs.numel_eq).symm x)) Finset.univ :=
  View.write_reshape_univ (M.view.slice r) hs.numel_eq f w

/-- The copies through the squeezed blocks leave the first weight's scratch at the blocks laid side by side. -/
theorem settled_win (c : Dev nD) (M : Memref sig .tc .vmem S4x1024x512 .bf16) (h : M.IsWhole) (f : M.view.ty.Contents (Elt F)) (w0 w1 w2 w3 : S1024x512.Idx → Elt F .bf16) :
    (M.view.loc (c : Thread nD τ) ↦[M.view.set]{fullShare}
      ((M.slice (Rect.unit (s := S4x1024x512) ![3, 0, 0] S1x1024x512.size inb_S4x1024x512_S1x1024x512_3_0_0) (fun _ => rfl)).squeeze S1024x512 squeezes_S1x1024x512_S1024x512).view.write (Elt F)
        (((M.slice (Rect.unit (s := S4x1024x512) ![2, 0, 0] S1x1024x512.size inb_S4x1024x512_S1x1024x512_2_0_0) (fun _ => rfl)).squeeze S1024x512 squeezes_S1x1024x512_S1024x512).view.write (Elt F)
          (((M.slice (Rect.unit (s := S4x1024x512) ![1, 0, 0] S1x1024x512.size inb_S4x1024x512_S1x1024x512_1_0_0) (fun _ => rfl)).squeeze S1024x512 squeezes_S1x1024x512_S1024x512).view.write (Elt F)
            (((M.slice (Rect.unit (s := S4x1024x512) ![0, 0, 0] S1x1024x512.size inb_S4x1024x512_S1x1024x512_0_0_0) (fun _ => rfl)).squeeze S1024x512 squeezes_S1x1024x512_S1024x512).view.write (Elt F) f w0 Finset.univ)
            w1 Finset.univ) w2 Finset.univ) w3 Finset.univ : sProp 𝕄)
      ⊢ M.view.loc (c : Thread nD τ) ↦[M.view.set]{fullShare} h.unread (View.canon (winPieces w0 w1 w2 w3)) := by
  have e : ((M.slice (Rect.unit (s := S4x1024x512) ![3, 0, 0] S1x1024x512.size inb_S4x1024x512_S1x1024x512_3_0_0) (fun _ => rfl)).squeeze S1024x512 squeezes_S1x1024x512_S1024x512).view.write (Elt F)
        (((M.slice (Rect.unit (s := S4x1024x512) ![2, 0, 0] S1x1024x512.size inb_S4x1024x512_S1x1024x512_2_0_0) (fun _ => rfl)).squeeze S1024x512 squeezes_S1x1024x512_S1024x512).view.write (Elt F)
          (((M.slice (Rect.unit (s := S4x1024x512) ![1, 0, 0] S1x1024x512.size inb_S4x1024x512_S1x1024x512_1_0_0) (fun _ => rfl)).squeeze S1024x512 squeezes_S1x1024x512_S1024x512).view.write (Elt F)
            (((M.slice (Rect.unit (s := S4x1024x512) ![0, 0, 0] S1x1024x512.size inb_S4x1024x512_S1x1024x512_0_0_0) (fun _ => rfl)).squeeze S1024x512 squeezes_S1x1024x512_S1024x512).view.write (Elt F) f w0 Finset.univ)
            w1 Finset.univ) w2 Finset.univ) w3 Finset.univ = M.view.writes (Elt F) f (winPieces w0 w1 w2 w3) := by
    rw [write_squeezed, write_squeezed, write_squeezed, write_squeezed]
    unfold winPieces
    simp only [View.writes_cons, View.writes_nil]
  rw [e, h.eq_unread (View.read_writes_eq_canon _ f _ (cover_win w0 w1 w2 w3))]

/-- The copies leave the second weight's scratch at the blocks laid one below the other. -/
theorem settled_wout (c : Dev nD) (M : Memref sig .tc .vmem S1024x1024 .bf16) (h : M.IsWhole) (f : M.view.ty.Contents (Elt F)) (w0 w1 w2 w3 : S256x1024.Idx → Elt F .bf16) :
    (M.view.loc (c : Thread nD τ) ↦[M.view.set]{fullShare} M.view.writes (Elt F) f
      [⟨Rect.unit ![768, 0] S256x1024.size inb_S1024x1024_S256x1024_768_0, w3⟩, ⟨Rect.unit ![512, 0] S256x1024.size inb_S1024x1024_S256x1024_512_0, w2⟩,
        ⟨Rect.unit ![256, 0] S256x1024.size inb_S1024x1024_S256x1024_256_0, w1⟩, ⟨Rect.unit ![0, 0] S256x1024.size inb_S1024x1024_S256x1024_0_0, w0⟩] : sProp 𝕄)
      ⊢ M.view.loc (c : Thread nD τ) ↦[M.view.set]{fullShare} h.unread (View.canon (woutPieces w0 w1 w2 w3)) := by
  have e := h.eq_unread (View.read_writes_eq_canon _ f _ (cover_wout w0 w1 w2 w3))
  unfold woutPieces at e ⊢
  rw [e]

/-- A buffer at what stores covering it leave counts as stored into by them. -/
theorem settled_back (c : Dev nD) {S : Shape} {e : EltTy} (M : Memref sig .tc .vmem S e) (h : M.IsWhole) (L : List (View.Piece (Elt F) S e))
    (hL : ∀ y, ∃ pc ∈ L, y ∈ pc.1.set) :
    (M.view.loc (c : Thread nD τ) ↦[M.view.set]{fullShare} h.unread (View.canon L) : sProp 𝕄) ⊢ written c M L := by
  unfold written
  iintro H
  iexists (h.unread (View.canon L))
  rw [h.eq_unread (View.read_writes_eq_canon _ (h.unread (View.canon L)) L hL)]
  iexact H

section Point

variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1536 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512x1024 .f32) (harg7 : arg7.IsWhole) (arg8 : Memref sig .tc .vmem S16x2048 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S4x128x128 .bf16) (harg13 : arg13.IsWhole) (arg14 : Memref sig .tc .vmem S1x512 .f32) (harg14 : arg14.IsWhole) (arg15 : Memref sig .tc .vmem S8x128 .f32) (harg15 : arg15.IsWhole) (arg20 : Memref sig .tc .vmem S1x512x1024 .f32) (harg20 : arg20.IsWhole) (arg21 : Memref sig .tc .vmem S4x512x512 .bf16) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S24x512 .f32) (harg26 : arg26.IsWhole) (arg27 : Memref sig .tc .vmem S4x128x128 .f32) (harg27 : arg27.IsWhole) (arg28 : Memref sig .tc .vmem S16x2048 .f32) (harg28 : arg28.IsWhole) (arg29 : Memref sig .tc .vmem S16x1024 .f32) (harg29 : arg29.IsWhole) (arg30 : Memref sig .tc .vmem S8x1024 .f32) (harg30 : arg30.IsWhole) (arg31 : Memref sig .tc .vmem S16x1024 .bf16) (harg31 : arg31.IsWhole) (arg32 : Memref sig .tc .vmem S4x16x512 .bf16) (harg32 : arg32.IsWhole) (arg33 : Memref sig .tc .vmem S4x1024x512 .bf16) (harg33 : arg33.IsWhole) (arg34 : Memref sig .tc .vmem S1024x1024 .bf16) (harg34 : arg34.IsWhole) (arg35 : Memref sig .tc .vmem S528x512 .f32) (harg35 : arg35.IsWhole) (arg36 : Memref sig .tc .vmem S528x512 .f32) (harg36 : arg36.IsWhole) (arg37 : Memref sig .tc .vmem S32x512 .f32) (harg37 : arg37.IsWhole) (arg38 : Memref sig .tc .vmem S32x512 .f32) (harg38 : arg38.IsWhole)
  (x0 : Vec F S1x512x1024 .f32) (x1 : Vec F S1x512x1024 .f32) (x2 : Vec F S1x512x1536 .f32) (x3 : Vec F S512x512 .f32) (x4 : Vec F S512x512 .bf16) (x5 : Vec F S1x512x1024 .f32) (x6 : Vec F S16x2048 .f32) (x7 : Vec F S16x1024 .f32) (x8 : Vec F S1x1024 .f32) (x9 : Vec F S1x1024 .f32) (x10 : Vec F S3x512 .f32) (x11 : Vec F S4x128x128 .bf16) (x12 : Vec F S1x512 .f32) (x13 : Vec F S8x128 .f32)

-- (the run's proof term is large)
set_option sl_exec.dmaWindow true in
set_option sl_exec.dmaWindowSet true in
set_option maxHeartbeats 8000000 in
/-- The body at the first point, which copies the weights in and clears the accumulators. -/
noncomputable def runA (hc0 : cond0_0 i) (hc1 : cond0_1 i) (hc2 : ¬cond0_2 i) (hc3 : ¬cond0_3 i) (hc4 : ¬cond0_4 i) (fh0 : HbBuf0 (F := F) c hbM0_0) (fh1 : HbBuf0 (F := F) c hbM0_1) (fh2 : HbBuf0 (F := F) c hbM0_2) (fh3 : HbBuf0 (F := F) c hbM0_3) :
    { L : Pieces F // ∀ (W : Waits sig Unit) (K : PUnit → sProp 𝕄),
      iprop(inputs c arg2 arg3 arg4 arg5 arg6 arg7 arg8 arg9 arg10 arg11 arg12 arg13 arg14 arg15 x0 x1 x2 x3 x4 x5 x6 x7 x8 x9 x10 x11 x12 x13 ∗ anyAt c arg20 ∗ anyAt c arg21 ∗ anyAt c arg22 ∗ anyAt c arg23 ∗ anyAt c arg24 ∗ anyAt c arg25 ∗ anyAt c arg26 ∗ anyAt c arg27 ∗ anyAt c arg28 ∗ anyAt c arg33 ∗ anyAt c arg34 ∗ anyAt c arg35 ∗ anyAt c arg36 ∗ cells c ∗ operands c fh0 fh1 fh2 fh3 ∗ owes (c : Thread nD τ) 0 W
          ∗ (iprop(inputs c arg2 arg3 arg4 arg5 arg6 arg7 arg8 arg9 arg10 arg11 arg12 arg13 arg14 arg15 x0 x1 x2 x3 x4 x5 x6 x7 x8 x9 x10 x11 x12 x13 ∗ written c arg20 L.dx ∗ written c arg21 L.dz ∗ written c arg22 L.dm ∗ written c arg23 L.dg1 ∗ written c arg24 L.dg2 ∗ written c arg25 L.dsc ∗ written c arg26 L.dcw ∗ written c arg27 L.dpw ∗ written c arg28 L.dzm ∗ written c arg33 L.win ∗ written c arg34 L.wout ∗ written c arg35 L.dcb ∗ written c arg36 L.dqb ∗ cells c ∗ operands c fh0 fh1 fh2 fh3 ∗ (∃ W', owes (c : Thread nD τ) 0 W')) -∗ K ⟨⟩))
        ⊢ wp frame (wpE (defs₀ (F := F)) Variants.none c none) Set.univ (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v84) (Memref.isWhole_whole _) (Memref.whole main_v87) (Memref.isWhole_whole _) (Memref.whole main_v101) (Memref.isWhole_whole _) (Memref.whole main_v103) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 cc0_scratch6) K } := by
  refine ⟨⟨?_, ?_, ?_, ?_, ?_, ?_, ?_, ?_, ?_, [], [], [], [], ?_, ?_, ?_, ?_, [], []⟩, fun W K => ?run⟩
  case run =>
    simp only [cc0_mixer_bwd_eq_skeleton]; unfold cc0_mixer_bwd_skel
    simp only [k0_part9_eq_skeleton, k0_part1_eq_skeleton, k0_part2_eq_skeleton, k0_part3_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold inputs anyAt cells operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%e20, %g20, -, B20⟩, ⟨%e21, %g21, -, B21⟩, ⟨%e22, %g22, -, B22⟩, ⟨%e23, %g23, -, B23⟩, ⟨%e24, %g24, -, B24⟩, ⟨%e25, %g25, -, B25⟩, ⟨%e26, %g26, -, B26⟩, ⟨%e27, %g27, -, B27⟩, ⟨%e28, %g28, -, B28⟩, ⟨%e33, %g33, -, B33⟩, ⟨%e34, %g34, -, B34⟩, ⟨%e35, %g35, -, B35⟩, ⟨%e36, %g36, -, B36⟩, ⟨Hq0, Hq1, Hq2, Hq3, Hq4, Hq5, Hq6, Hq7⟩, ⟨Hh0, Hh1, Hh2, Hh3⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    (set_option sl_exec.stopBefore "k0_part10" in
      sl_exec (disch := first | sl_exact hc0 | sl_exact hc1 | sl_exact hc2 | sl_exact hc3 | sl_exact hc4))
    ihave B33 := (settled_win c arg33 harg33 _ _ _ _ _) $$ B33
    ihave B34 := (settled_wout c arg34 harg34 _ _ _ _ _) $$ B34
    sl_exec (disch := first | sl_exact hc0 | sl_exact hc1 | sl_exact hc2 | sl_exact hc3 | sl_exact hc4)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [B20]; · unfold written; iexists _; iexact B20
    isplitl [B21]; · unfold written; iexists _; iexact B21
    isplitl [B22]; · unfold written; iexists _; iexact B22
    isplitl [B23]; · unfold written; iexists _; iexact B23
    isplitl [B24]; · unfold written; iexists _; iexact B24
    isplitl [B25]; · unfold written; iexists _; iexact B25
    isplitl [B26]; · unfold written; iexists _; iexact B26
    isplitl [B27]; · unfold written; iexists _; iexact B27
    isplitl [B28]; · unfold written; iexists _; iexact B28
    isplitl [B33]; · iapply (settled_back c arg33 harg33 _ (cover_win _ _ _ _)); iexact B33
    isplitl [B34]; · iapply (settled_back c arg34 harg34 _ (cover_wout _ _ _ _)); iexact B34
    isplitl [B35]; · unfold written; iexists _; iexact B35
    isplitl [B36]; · unfold written; iexists _; iexact B36
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0 Hh1 Hh2 Hh3]
    · iframe
    iexists _; iexact HW

end Point

end Cert.Kernel2Ideal.Mix

end
-- ==== Proof.Mix.RunB.lean ====
/- The mixer's backward body run once at the first tile of a later sequence. -/
module

public import proofs.«01_k».proof.Proof.Mix.Base

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Point

variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1536 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512x1024 .f32) (harg7 : arg7.IsWhole) (arg8 : Memref sig .tc .vmem S16x2048 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S4x128x128 .bf16) (harg13 : arg13.IsWhole) (arg14 : Memref sig .tc .vmem S1x512 .f32) (harg14 : arg14.IsWhole) (arg15 : Memref sig .tc .vmem S8x128 .f32) (harg15 : arg15.IsWhole) (arg20 : Memref sig .tc .vmem S1x512x1024 .f32) (harg20 : arg20.IsWhole) (arg21 : Memref sig .tc .vmem S4x512x512 .bf16) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S24x512 .f32) (harg26 : arg26.IsWhole) (arg27 : Memref sig .tc .vmem S4x128x128 .f32) (harg27 : arg27.IsWhole) (arg28 : Memref sig .tc .vmem S16x2048 .f32) (harg28 : arg28.IsWhole) (arg29 : Memref sig .tc .vmem S16x1024 .f32) (harg29 : arg29.IsWhole) (arg30 : Memref sig .tc .vmem S8x1024 .f32) (harg30 : arg30.IsWhole) (arg31 : Memref sig .tc .vmem S16x1024 .bf16) (harg31 : arg31.IsWhole) (arg32 : Memref sig .tc .vmem S4x16x512 .bf16) (harg32 : arg32.IsWhole) (arg33 : Memref sig .tc .vmem S4x1024x512 .bf16) (harg33 : arg33.IsWhole) (arg34 : Memref sig .tc .vmem S1024x1024 .bf16) (harg34 : arg34.IsWhole) (arg35 : Memref sig .tc .vmem S528x512 .f32) (harg35 : arg35.IsWhole) (arg36 : Memref sig .tc .vmem S528x512 .f32) (harg36 : arg36.IsWhole) (arg37 : Memref sig .tc .vmem S32x512 .f32) (harg37 : arg37.IsWhole) (arg38 : Memref sig .tc .vmem S32x512 .f32) (harg38 : arg38.IsWhole)
  (x0 : Vec F S1x512x1024 .f32) (x1 : Vec F S1x512x1024 .f32) (x2 : Vec F S1x512x1536 .f32) (x3 : Vec F S512x512 .f32) (x4 : Vec F S512x512 .bf16) (x5 : Vec F S1x512x1024 .f32) (x6 : Vec F S16x2048 .f32) (x7 : Vec F S16x1024 .f32) (x8 : Vec F S1x1024 .f32) (x9 : Vec F S1x1024 .f32) (x10 : Vec F S3x512 .f32) (x11 : Vec F S4x128x128 .bf16) (x12 : Vec F S1x512 .f32) (x13 : Vec F S8x128 .f32)

-- (the run's proof term is large)
set_option sl_exec.dmaWindow true in
set_option sl_exec.dmaWindowSet true in
set_option maxHeartbeats 8000000 in
/-- The body at the first tile of a later sequence. -/
noncomputable def runB (hc0 : ¬cond0_0 i) (hc1 : cond0_1 i) (hc2 : ¬cond0_2 i) (hc3 : ¬cond0_3 i) (hc4 : ¬cond0_4 i) (d23 : Vec F S8x1024 .f32) (d24 : Vec F S8x1024 .f32) (d25 : Vec F S8x512 .f32) (d26 : Vec F S24x512 .f32) (d27 : Vec F S4x128x128 .f32) (d33 : Vec F S4x1024x512 .bf16) (d34 : Vec F S1024x1024 .bf16) (fh0 : HbBuf0 (F := F) c hbM0_0) (fh1 : HbBuf0 (F := F) c hbM0_1) (fh2 : HbBuf0 (F := F) c hbM0_2) (fh3 : HbBuf0 (F := F) c hbM0_3) :
    { L : Pieces F // ∀ (W : Waits sig Unit) (K : PUnit → sProp 𝕄),
      iprop(inputs c arg2 arg3 arg4 arg5 arg6 arg7 arg8 arg9 arg10 arg11 arg12 arg13 arg14 arg15 x0 x1 x2 x3 x4 x5 x6 x7 x8 x9 x10 x11 x12 x13 ∗ anyAt c arg20 ∗ anyAt c arg21 ∗ anyAt c arg22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg33 fullShare d33 ∗ owns (c : Thread nD τ) arg34 fullShare d34 ∗ anyAt c arg35 ∗ anyAt c arg36 ∗ cells c ∗ operands c fh0 fh1 fh2 fh3 ∗ owes (c : Thread nD τ) 0 W
          ∗ (iprop(inputs c arg2 arg3 arg4 arg5 arg6 arg7 arg8 arg9 arg10 arg11 arg12 arg13 arg14 arg15 x0 x1 x2 x3 x4 x5 x6 x7 x8 x9 x10 x11 x12 x13 ∗ written c arg20 L.dx ∗ written c arg21 L.dz ∗ written c arg22 L.dm ∗ written c arg23 L.dg1 ∗ written c arg24 L.dg2 ∗ written c arg25 L.dsc ∗ written c arg26 L.dcw ∗ written c arg27 L.dpw ∗ owns (c : Thread nD τ) arg33 fullShare d33 ∗ owns (c : Thread nD τ) arg34 fullShare d34 ∗ written c arg35 L.dcb ∗ written c arg36 L.dqb ∗ cells c ∗ operands c fh0 fh1 fh2 fh3 ∗ (∃ W', owes (c : Thread nD τ) 0 W')) -∗ K ⟨⟩))
        ⊢ wp frame (wpE (defs₀ (F := F)) Variants.none c none) Set.univ (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v84) (Memref.isWhole_whole _) (Memref.whole main_v87) (Memref.isWhole_whole _) (Memref.whole main_v101) (Memref.isWhole_whole _) (Memref.whole main_v103) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 cc0_scratch6) K } := by
  refine ⟨⟨?_, ?_, ?_, ?_, ?_, ?_, ?_, ?_, [], [], [], [], [], [], [], ?_, ?_, [], []⟩, fun W K => ?run⟩
  case run =>
    simp only [cc0_mixer_bwd_eq_skeleton]; unfold cc0_mixer_bwd_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold inputs anyAt written cells operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%e20, %g20, -, B20⟩, ⟨%e21, %g21, -, B21⟩, ⟨%e22, %g22, -, B22⟩, ⟨%g23, %hg23, B23⟩, ⟨%g24, %hg24, B24⟩, ⟨%g25, %hg25, B25⟩, ⟨%g26, %hg26, B26⟩, ⟨%g27, %hg27, B27⟩, ⟨%g33, %hg33, B33⟩, ⟨%g34, %hg34, B34⟩, ⟨%e35, %g35, -, B35⟩, ⟨%e36, %g36, -, B36⟩, ⟨Hq0, Hq1, Hq2, Hq3, Hq4, Hq5, Hq6, Hq7⟩, ⟨Hh0, Hh1, Hh2, Hh3⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg23.eq_unread hg23; obtain rfl := harg24.eq_unread hg24; obtain rfl := harg25.eq_unread hg25; obtain rfl := harg26.eq_unread hg26; obtain rfl := harg27.eq_unread hg27; obtain rfl := harg33.eq_unread hg33; obtain rfl := harg34.eq_unread hg34
    sl_exec (disch := first | sl_exact hc0 | sl_exact hc1 | sl_exact hc2 | sl_exact hc3 | sl_exact hc4)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [B20]; · iexists _; iexact B20
    isplitl [B21]; · iexists _; iexact B21
    isplitl [B22]; · iexists _; iexact B22
    isplitl [B23]; · iexists _; iexact B23
    isplitl [B24]; · iexists _; iexact B24
    isplitl [B25]; · iexists _; iexact B25
    isplitl [B26]; · iexists _; iexact B26
    isplitl [B27]; · iexists _; iexact B27
    isplitl [B33]
    · iexists _; isplitr; · ipureintro; exact harg33.read_unread _
      iexact B33
    isplitl [B34]
    · iexists _; isplitr; · ipureintro; exact harg34.read_unread _
      iexact B34
    isplitl [B35]; · iexists _; iexact B35
    isplitl [B36]; · iexists _; iexact B36
    isplitl [Hq0 Hq1 Hq2 Hq3 Hq4 Hq5 Hq6 Hq7]
    · iframe
    isplitl [Hh0 Hh1 Hh2 Hh3]
    · iframe
    iexists _; iexact HW

end Point

end Cert.Kernel2Ideal.Mix

end
-- ==== Proof.Mix.RunC.lean ====
/- The mixer's backward body run once at a tile between the first and the last. -/
module

public import proofs.«01_k».proof.Proof.Mix.Base

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Point

variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1536 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512x1024 .f32) (harg7 : arg7.IsWhole) (arg8 : Memref sig .tc .vmem S16x2048 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S4x128x128 .bf16) (harg13 : arg13.IsWhole) (arg14 : Memref sig .tc .vmem S1x512 .f32) (harg14 : arg14.IsWhole) (arg15 : Memref sig .tc .vmem S8x128 .f32) (harg15 : arg15.IsWhole) (arg20 : Memref sig .tc .vmem S1x512x1024 .f32) (harg20 : arg20.IsWhole) (arg21 : Memref sig .tc .vmem S4x512x512 .bf16) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S24x512 .f32) (harg26 : arg26.IsWhole) (arg27 : Memref sig .tc .vmem S4x128x128 .f32) (harg27 : arg27.IsWhole) (arg28 : Memref sig .tc .vmem S16x2048 .f32) (harg28 : arg28.IsWhole) (arg29 : Memref sig .tc .vmem S16x1024 .f32) (harg29 : arg29.IsWhole) (arg30 : Memref sig .tc .vmem S8x1024 .f32) (harg30 : arg30.IsWhole) (arg31 : Memref sig .tc .vmem S16x1024 .bf16) (harg31 : arg31.IsWhole) (arg32 : Memref sig .tc .vmem S4x16x512 .bf16) (harg32 : arg32.IsWhole) (arg33 : Memref sig .tc .vmem S4x1024x512 .bf16) (harg33 : arg33.IsWhole) (arg34 : Memref sig .tc .vmem S1024x1024 .bf16) (harg34 : arg34.IsWhole) (arg35 : Memref sig .tc .vmem S528x512 .f32) (harg35 : arg35.IsWhole) (arg36 : Memref sig .tc .vmem S528x512 .f32) (harg36 : arg36.IsWhole) (arg37 : Memref sig .tc .vmem S32x512 .f32) (harg37 : arg37.IsWhole) (arg38 : Memref sig .tc .vmem S32x512 .f32) (harg38 : arg38.IsWhole)
  (x0 : Vec F S1x512x1024 .f32) (x1 : Vec F S1x512x1024 .f32) (x2 : Vec F S1x512x1536 .f32) (x3 : Vec F S512x512 .f32) (x4 : Vec F S512x512 .bf16) (x5 : Vec F S1x512x1024 .f32) (x6 : Vec F S16x2048 .f32) (x7 : Vec F S16x1024 .f32) (x8 : Vec F S1x1024 .f32) (x9 : Vec F S1x1024 .f32) (x10 : Vec F S3x512 .f32) (x11 : Vec F S4x128x128 .bf16) (x12 : Vec F S1x512 .f32) (x13 : Vec F S8x128 .f32)

-- (the run's proof term is large)
set_option sl_exec.dmaWindow true in
set_option sl_exec.dmaWindowSet true in
set_option maxHeartbeats 8000000 in
/-- The body at a tile between the first and the last. -/
noncomputable def runC (hc0 : ¬cond0_0 i) (hc1 : ¬cond0_1 i) (hc2 : cond0_2 i) (hc3 : ¬cond0_3 i) (hc4 : ¬cond0_4 i) (d23 : Vec F S8x1024 .f32) (d24 : Vec F S8x1024 .f32) (d25 : Vec F S8x512 .f32) (d26 : Vec F S24x512 .f32) (d27 : Vec F S4x128x128 .f32) (d33 : Vec F S4x1024x512 .bf16) (d34 : Vec F S1024x1024 .bf16) (d35 : Vec F S528x512 .f32) (d36 : Vec F S528x512 .f32) (fh0 : HbBuf0 (F := F) c hbM0_0) (fh1 : HbBuf0 (F := F) c hbM0_1) (fh2 : HbBuf0 (F := F) c hbM0_2) (fh3 : HbBuf0 (F := F) c hbM0_3) :
    { L : Pieces F // ∀ (W : Waits sig Unit) (K : PUnit → sProp 𝕄),
      iprop(inputs c arg2 arg3 arg4 arg5 arg6 arg7 arg8 arg9 arg10 arg11 arg12 arg13 arg14 arg15 x0 x1 x2 x3 x4 x5 x6 x7 x8 x9 x10 x11 x12 x13 ∗ anyAt c arg20 ∗ anyAt c arg21 ∗ anyAt c arg22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg33 fullShare d33 ∗ owns (c : Thread nD τ) arg34 fullShare d34 ∗ owns (c : Thread nD τ) arg35 fullShare d35 ∗ owns (c : Thread nD τ) arg36 fullShare d36 ∗ cells c ∗ operands c fh0 fh1 fh2 fh3 ∗ owes (c : Thread nD τ) 0 W
          ∗ (iprop(inputs c arg2 arg3 arg4 arg5 arg6 arg7 arg8 arg9 arg10 arg11 arg12 arg13 arg14 arg15 x0 x1 x2 x3 x4 x5 x6 x7 x8 x9 x10 x11 x12 x13 ∗ written c arg20 L.dx ∗ written c arg21 L.dz ∗ written c arg22 L.dm ∗ written c arg23 L.dg1 ∗ written c arg24 L.dg2 ∗ written c arg25 L.dsc ∗ written c arg26 L.dcw ∗ written c arg27 L.dpw ∗ owns (c : Thread nD τ) arg33 fullShare d33 ∗ owns (c : Thread nD τ) arg34 fullShare d34 ∗ written c arg35 L.dcb ∗ written c arg36 L.dqb ∗ cells c ∗ operands c fh0 fh1 fh2 fh3 ∗ (∃ W', owes (c : Thread nD τ) 0 W')) -∗ K ⟨⟩))
        ⊢ wp frame (wpE (defs₀ (F := F)) Variants.none c none) Set.univ (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v84) (Memref.isWhole_whole _) (Memref.whole main_v87) (Memref.isWhole_whole _) (Memref.whole main_v101) (Memref.isWhole_whole _) (Memref.whole main_v103) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 cc0_scratch6) K } := by
  refine ⟨⟨?_, ?_, ?_, ?_, ?_, ?_, ?_, ?_, [], [], [], [], [], [], [], ?_, ?_, [], []⟩, fun W K => ?run⟩
  case run =>
    simp only [cc0_mixer_bwd_eq_skeleton]; unfold cc0_mixer_bwd_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold inputs anyAt written cells operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%e20, %g20, -, B20⟩, ⟨%e21, %g21, -, B21⟩, ⟨%e22, %g22, -, B22⟩, ⟨%g23, %hg23, B23⟩, ⟨%g24, %hg24, B24⟩, ⟨%g25, %hg25, B25⟩, ⟨%g26, %hg26, B26⟩, ⟨%g27, %hg27, B27⟩, ⟨%g33, %hg33, B33⟩, ⟨%g34, %hg34, B34⟩, ⟨%g35, %hg35, B35⟩, ⟨%g36, %hg36, B36⟩, ⟨Hq0, Hq1, Hq2, Hq3, Hq4, Hq5, Hq6, Hq7⟩, ⟨Hh0, Hh1, Hh2, Hh3⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg23.eq_unread hg23; obtain rfl := harg24.eq_unread hg24; obtain rfl := harg25.eq_unread hg25; obtain rfl := harg26.eq_unread hg26; obtain rfl := harg27.eq_unread hg27; obtain rfl := harg33.eq_unread hg33; obtain rfl := harg34.eq_unread hg34; obtain rfl := harg35.eq_unread hg35; obtain rfl := harg36.eq_unread hg36
    sl_exec (disch := first | sl_exact hc0 | sl_exact hc1 | sl_exact hc2 | sl_exact hc3 | sl_exact hc4)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [B20]; · iexists _; iexact B20
    isplitl [B21]; · iexists _; iexact B21
    isplitl [B22]; · iexists _; iexact B22
    isplitl [B23]; · iexists _; iexact B23
    isplitl [B24]; · iexists _; iexact B24
    isplitl [B25]; · iexists _; iexact B25
    isplitl [B26]; · iexists _; iexact B26
    isplitl [B27]; · iexists _; iexact B27
    isplitl [B33]
    · iexists _; isplitr; · ipureintro; exact harg33.read_unread _
      iexact B33
    isplitl [B34]
    · iexists _; isplitr; · ipureintro; exact harg34.read_unread _
      iexact B34
    isplitl [B35]; · iexists _; iexact B35
    isplitl [B36]; · iexists _; iexact B36
    isplitl [Hq0 Hq1 Hq2 Hq3 Hq4 Hq5 Hq6 Hq7]
    · iframe
    isplitl [Hh0 Hh1 Hh2 Hh3]
    · iframe
    iexists _; iexact HW

end Point

end Cert.Kernel2Ideal.Mix

end
-- ==== Proof.Mix.RunD.lean ====
/- The mixer's backward body run once at the last tile of a sequence, which adds the meta rows' part. -/
module

public import proofs.«01_k».proof.Proof.Mix.Base

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Point

variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1536 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512x1024 .f32) (harg7 : arg7.IsWhole) (arg8 : Memref sig .tc .vmem S16x2048 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S4x128x128 .bf16) (harg13 : arg13.IsWhole) (arg14 : Memref sig .tc .vmem S1x512 .f32) (harg14 : arg14.IsWhole) (arg15 : Memref sig .tc .vmem S8x128 .f32) (harg15 : arg15.IsWhole) (arg20 : Memref sig .tc .vmem S1x512x1024 .f32) (harg20 : arg20.IsWhole) (arg21 : Memref sig .tc .vmem S4x512x512 .bf16) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S24x512 .f32) (harg26 : arg26.IsWhole) (arg27 : Memref sig .tc .vmem S4x128x128 .f32) (harg27 : arg27.IsWhole) (arg28 : Memref sig .tc .vmem S16x2048 .f32) (harg28 : arg28.IsWhole) (arg29 : Memref sig .tc .vmem S16x1024 .f32) (harg29 : arg29.IsWhole) (arg30 : Memref sig .tc .vmem S8x1024 .f32) (harg30 : arg30.IsWhole) (arg31 : Memref sig .tc .vmem S16x1024 .bf16) (harg31 : arg31.IsWhole) (arg32 : Memref sig .tc .vmem S4x16x512 .bf16) (harg32 : arg32.IsWhole) (arg33 : Memref sig .tc .vmem S4x1024x512 .bf16) (harg33 : arg33.IsWhole) (arg34 : Memref sig .tc .vmem S1024x1024 .bf16) (harg34 : arg34.IsWhole) (arg35 : Memref sig .tc .vmem S528x512 .f32) (harg35 : arg35.IsWhole) (arg36 : Memref sig .tc .vmem S528x512 .f32) (harg36 : arg36.IsWhole) (arg37 : Memref sig .tc .vmem S32x512 .f32) (harg37 : arg37.IsWhole) (arg38 : Memref sig .tc .vmem S32x512 .f32) (harg38 : arg38.IsWhole)
  (x0 : Vec F S1x512x1024 .f32) (x1 : Vec F S1x512x1024 .f32) (x2 : Vec F S1x512x1536 .f32) (x3 : Vec F S512x512 .f32) (x4 : Vec F S512x512 .bf16) (x5 : Vec F S1x512x1024 .f32) (x6 : Vec F S16x2048 .f32) (x7 : Vec F S16x1024 .f32) (x8 : Vec F S1x1024 .f32) (x9 : Vec F S1x1024 .f32) (x10 : Vec F S3x512 .f32) (x11 : Vec F S4x128x128 .bf16) (x12 : Vec F S1x512 .f32) (x13 : Vec F S8x128 .f32)

-- (the run's proof term is large)
set_option sl_exec.dmaWindow true in
set_option sl_exec.dmaWindowSet true in
set_option maxHeartbeats 8000000 in
/-- The body at the last tile of a sequence, which adds the meta rows' part. -/
noncomputable def runD (hc0 : ¬cond0_0 i) (hc1 : ¬cond0_1 i) (hc2 : cond0_2 i) (hc3 : cond0_3 i) (hc4 : ¬cond0_4 i) (d23 : Vec F S8x1024 .f32) (d24 : Vec F S8x1024 .f32) (d25 : Vec F S8x512 .f32) (d26 : Vec F S24x512 .f32) (d27 : Vec F S4x128x128 .f32) (d28 : Vec F S16x2048 .f32) (d33 : Vec F S4x1024x512 .bf16) (d34 : Vec F S1024x1024 .bf16) (d35 : Vec F S528x512 .f32) (d36 : Vec F S528x512 .f32) (fh0 : HbBuf0 (F := F) c hbM0_0) (fh1 : HbBuf0 (F := F) c hbM0_1) (fh2 : HbBuf0 (F := F) c hbM0_2) (fh3 : HbBuf0 (F := F) c hbM0_3) :
    { L : Pieces F // ∀ (W : Waits sig Unit) (K : PUnit → sProp 𝕄),
      iprop(inputs c arg2 arg3 arg4 arg5 arg6 arg7 arg8 arg9 arg10 arg11 arg12 arg13 arg14 arg15 x0 x1 x2 x3 x4 x5 x6 x7 x8 x9 x10 x11 x12 x13 ∗ anyAt c arg20 ∗ anyAt c arg21 ∗ anyAt c arg22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ owns (c : Thread nD τ) arg33 fullShare d33 ∗ owns (c : Thread nD τ) arg34 fullShare d34 ∗ owns (c : Thread nD τ) arg35 fullShare d35 ∗ owns (c : Thread nD τ) arg36 fullShare d36 ∗ anyAt c arg37 ∗ anyAt c arg38 ∗ cells c ∗ operands c fh0 fh1 fh2 fh3 ∗ owes (c : Thread nD τ) 0 W
          ∗ (iprop(inputs c arg2 arg3 arg4 arg5 arg6 arg7 arg8 arg9 arg10 arg11 arg12 arg13 arg14 arg15 x0 x1 x2 x3 x4 x5 x6 x7 x8 x9 x10 x11 x12 x13 ∗ written c arg20 L.dx ∗ written c arg21 L.dz ∗ written c arg22 L.dm ∗ written c arg23 L.dg1 ∗ written c arg24 L.dg2 ∗ written c arg25 L.dsc ∗ written c arg26 L.dcw ∗ written c arg27 L.dpw ∗ writtenOver c arg28 harg28 d28 L.dzm ∗ owns (c : Thread nD τ) arg33 fullShare d33 ∗ owns (c : Thread nD τ) arg34 fullShare d34 ∗ written c arg35 L.dcb ∗ written c arg36 L.dqb ∗ written c arg37 L.mcb ∗ written c arg38 L.mqb ∗ cells c ∗ operands c fh0 fh1 fh2 fh3 ∗ (∃ W', owes (c : Thread nD τ) 0 W')) -∗ K ⟨⟩))
        ⊢ wp frame (wpE (defs₀ (F := F)) Variants.none c none) Set.univ (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v84) (Memref.isWhole_whole _) (Memref.whole main_v87) (Memref.isWhole_whole _) (Memref.whole main_v101) (Memref.isWhole_whole _) (Memref.whole main_v103) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 cc0_scratch6) K } := by
  refine ⟨⟨?_, ?_, ?_, ?_, ?_, ?_, ?_, ?_, ?_, [], [], [], [], [], [], ?_, ?_, ?_, ?_⟩, fun W K => ?run⟩
  case run =>
    simp only [cc0_mixer_bwd_eq_skeleton]; unfold cc0_mixer_bwd_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part6_eq_skeleton, k0_part4_eq_skeleton, k0_part5_eq_skeleton]
    unfold inputs anyAt written writtenOver cells operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%e20, %g20, -, B20⟩, ⟨%e21, %g21, -, B21⟩, ⟨%e22, %g22, -, B22⟩, ⟨%g23, %hg23, B23⟩, ⟨%g24, %hg24, B24⟩, ⟨%g25, %hg25, B25⟩, ⟨%g26, %hg26, B26⟩, ⟨%g27, %hg27, B27⟩, ⟨%g28, %hg28, B28⟩, ⟨%g33, %hg33, B33⟩, ⟨%g34, %hg34, B34⟩, ⟨%g35, %hg35, B35⟩, ⟨%g36, %hg36, B36⟩, ⟨%e37, %g37, -, B37⟩, ⟨%e38, %g38, -, B38⟩, ⟨Hq0, Hq1, Hq2, Hq3, Hq4, Hq5, Hq6, Hq7⟩, ⟨Hh0, Hh1, Hh2, Hh3⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg23.eq_unread hg23; obtain rfl := harg24.eq_unread hg24; obtain rfl := harg25.eq_unread hg25; obtain rfl := harg26.eq_unread hg26; obtain rfl := harg27.eq_unread hg27; obtain rfl := harg28.eq_unread hg28; obtain rfl := harg33.eq_unread hg33; obtain rfl := harg34.eq_unread hg34; obtain rfl := harg35.eq_unread hg35; obtain rfl := harg36.eq_unread hg36
    sl_exec (disch := first | sl_exact hc0 | sl_exact hc1 | sl_exact hc2 | sl_exact hc3 | sl_exact hc4)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [B20]; · iexists _; iexact B20
    isplitl [B21]; · iexists _; iexact B21
    isplitl [B22]; · iexists _; iexact B22
    isplitl [B23]; · iexists _; iexact B23
    isplitl [B24]; · iexists _; iexact B24
    isplitl [B25]; · iexists _; iexact B25
    isplitl [B26]; · iexists _; iexact B26
    isplitl [B27]; · iexists _; iexact B27
    isplitl [B28]; · iexact B28
    isplitl [B33]
    · iexists _; isplitr; · ipureintro; exact harg33.read_unread _
      iexact B33
    isplitl [B34]
    · iexists _; isplitr; · ipureintro; exact harg34.read_unread _
      iexact B34
    isplitl [B35]; · iexists _; iexact B35
    isplitl [B36]; · iexists _; iexact B36
    isplitl [B37]; · iexists _; iexact B37
    isplitl [B38]; · iexists _; iexact B38
    isplitl [Hq0 Hq1 Hq2 Hq3 Hq4 Hq5 Hq6 Hq7]
    · iframe
    isplitl [Hh0 Hh1 Hh2 Hh3]
    · iframe
    iexists _; iexact HW

end Point

end Cert.Kernel2Ideal.Mix

end
-- ==== Proof.Mix.RunE.lean ====
/- The mixer's backward body run once at the last point, which also writes the meta rows' results. -/
module

public import proofs.«01_k».proof.Proof.Mix.Base

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Point

variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1536 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S1x512x1024 .f32) (harg7 : arg7.IsWhole) (arg8 : Memref sig .tc .vmem S16x2048 .f32) (harg8 : arg8.IsWhole) (arg9 : Memref sig .tc .vmem S16x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S3x512 .f32) (harg12 : arg12.IsWhole) (arg13 : Memref sig .tc .vmem S4x128x128 .bf16) (harg13 : arg13.IsWhole) (arg14 : Memref sig .tc .vmem S1x512 .f32) (harg14 : arg14.IsWhole) (arg15 : Memref sig .tc .vmem S8x128 .f32) (harg15 : arg15.IsWhole) (arg20 : Memref sig .tc .vmem S1x512x1024 .f32) (harg20 : arg20.IsWhole) (arg21 : Memref sig .tc .vmem S4x512x512 .bf16) (harg21 : arg21.IsWhole) (arg22 : Memref sig .tc .vmem S512x1024 .bf16) (harg22 : arg22.IsWhole) (arg23 : Memref sig .tc .vmem S8x1024 .f32) (harg23 : arg23.IsWhole) (arg24 : Memref sig .tc .vmem S8x1024 .f32) (harg24 : arg24.IsWhole) (arg25 : Memref sig .tc .vmem S8x512 .f32) (harg25 : arg25.IsWhole) (arg26 : Memref sig .tc .vmem S24x512 .f32) (harg26 : arg26.IsWhole) (arg27 : Memref sig .tc .vmem S4x128x128 .f32) (harg27 : arg27.IsWhole) (arg28 : Memref sig .tc .vmem S16x2048 .f32) (harg28 : arg28.IsWhole) (arg29 : Memref sig .tc .vmem S16x1024 .f32) (harg29 : arg29.IsWhole) (arg30 : Memref sig .tc .vmem S8x1024 .f32) (harg30 : arg30.IsWhole) (arg31 : Memref sig .tc .vmem S16x1024 .bf16) (harg31 : arg31.IsWhole) (arg32 : Memref sig .tc .vmem S4x16x512 .bf16) (harg32 : arg32.IsWhole) (arg33 : Memref sig .tc .vmem S4x1024x512 .bf16) (harg33 : arg33.IsWhole) (arg34 : Memref sig .tc .vmem S1024x1024 .bf16) (harg34 : arg34.IsWhole) (arg35 : Memref sig .tc .vmem S528x512 .f32) (harg35 : arg35.IsWhole) (arg36 : Memref sig .tc .vmem S528x512 .f32) (harg36 : arg36.IsWhole) (arg37 : Memref sig .tc .vmem S32x512 .f32) (harg37 : arg37.IsWhole) (arg38 : Memref sig .tc .vmem S32x512 .f32) (harg38 : arg38.IsWhole)
  (x0 : Vec F S1x512x1024 .f32) (x1 : Vec F S1x512x1024 .f32) (x2 : Vec F S1x512x1536 .f32) (x3 : Vec F S512x512 .f32) (x4 : Vec F S512x512 .bf16) (x5 : Vec F S1x512x1024 .f32) (x6 : Vec F S16x2048 .f32) (x7 : Vec F S16x1024 .f32) (x8 : Vec F S1x1024 .f32) (x9 : Vec F S1x1024 .f32) (x10 : Vec F S3x512 .f32) (x11 : Vec F S4x128x128 .bf16) (x12 : Vec F S1x512 .f32) (x13 : Vec F S8x128 .f32)

-- (the run's proof term is large)
set_option sl_exec.dmaWindow true in
set_option sl_exec.dmaWindowSet true in
set_option maxHeartbeats 8000000 in
/-- The body at the last point, which also writes the meta rows' results. -/
noncomputable def runE (hc0 : ¬cond0_0 i) (hc1 : ¬cond0_1 i) (hc2 : cond0_2 i) (hc3 : cond0_3 i) (hc4 : cond0_4 i) (d23 : Vec F S8x1024 .f32) (d24 : Vec F S8x1024 .f32) (d25 : Vec F S8x512 .f32) (d26 : Vec F S24x512 .f32) (d27 : Vec F S4x128x128 .f32) (d28 : Vec F S16x2048 .f32) (d33 : Vec F S4x1024x512 .bf16) (d34 : Vec F S1024x1024 .bf16) (d35 : Vec F S528x512 .f32) (d36 : Vec F S528x512 .f32) (fh0 : HbBuf0 (F := F) c hbM0_0) (fh1 : HbBuf0 (F := F) c hbM0_1) (fh2 : HbBuf0 (F := F) c hbM0_2) (fh3 : HbBuf0 (F := F) c hbM0_3) :
    { L : Pieces F // ∀ (W : Waits sig Unit) (K : PUnit → sProp 𝕄),
      iprop(inputs c arg2 arg3 arg4 arg5 arg6 arg7 arg8 arg9 arg10 arg11 arg12 arg13 arg14 arg15 x0 x1 x2 x3 x4 x5 x6 x7 x8 x9 x10 x11 x12 x13 ∗ anyAt c arg20 ∗ anyAt c arg21 ∗ anyAt c arg22 ∗ owns (c : Thread nD τ) arg23 fullShare d23 ∗ owns (c : Thread nD τ) arg24 fullShare d24 ∗ owns (c : Thread nD τ) arg25 fullShare d25 ∗ owns (c : Thread nD τ) arg26 fullShare d26 ∗ owns (c : Thread nD τ) arg27 fullShare d27 ∗ owns (c : Thread nD τ) arg28 fullShare d28 ∗ anyAt c arg29 ∗ anyAt c arg30 ∗ anyAt c arg31 ∗ anyAt c arg32 ∗ owns (c : Thread nD τ) arg33 fullShare d33 ∗ owns (c : Thread nD τ) arg34 fullShare d34 ∗ owns (c : Thread nD τ) arg35 fullShare d35 ∗ owns (c : Thread nD τ) arg36 fullShare d36 ∗ anyAt c arg37 ∗ anyAt c arg38 ∗ cells c ∗ operands c fh0 fh1 fh2 fh3 ∗ owes (c : Thread nD τ) 0 W
          ∗ (iprop(inputs c arg2 arg3 arg4 arg5 arg6 arg7 arg8 arg9 arg10 arg11 arg12 arg13 arg14 arg15 x0 x1 x2 x3 x4 x5 x6 x7 x8 x9 x10 x11 x12 x13 ∗ written c arg20 L.dx ∗ written c arg21 L.dz ∗ written c arg22 L.dm ∗ written c arg23 L.dg1 ∗ written c arg24 L.dg2 ∗ written c arg25 L.dsc ∗ written c arg26 L.dcw ∗ written c arg27 L.dpw ∗ writtenOver c arg28 harg28 d28 L.dzm ∗ written c arg29 L.dmeta ∗ written c arg30 L.dg1m ∗ written c arg31 L.am ∗ written c arg32 L.dzmb ∗ owns (c : Thread nD τ) arg33 fullShare d33 ∗ owns (c : Thread nD τ) arg34 fullShare d34 ∗ written c arg35 L.dcb ∗ written c arg36 L.dqb ∗ written c arg37 L.mcb ∗ written c arg38 L.mqb ∗ cells c ∗ operands c fh0 fh1 fh2 fh3 ∗ (∃ W', owes (c : Thread nD τ) 0 W')) -∗ K ⟨⟩))
        ⊢ wp frame (wpE (defs₀ (F := F)) Variants.none c none) Set.univ (cc0_mixer_bwd i arg2 harg2 arg3 harg3 arg4 harg4 arg5 harg5 arg6 harg6 arg7 harg7 arg8 harg8 arg9 harg9 arg10 harg10 arg11 harg11 arg12 harg12 arg13 harg13 arg14 harg14 arg15 harg15 (Memref.whole main_v84) (Memref.isWhole_whole _) (Memref.whole main_v87) (Memref.isWhole_whole _) (Memref.whole main_v101) (Memref.isWhole_whole _) (Memref.whole main_v103) (Memref.isWhole_whole _) arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 cc0_scratch6) K } := by
  refine ⟨⟨?_, ?_, ?_, ?_, ?_, ?_, ?_, ?_, ?_, ?_, ?_, ?_, ?_, [], [], ?_, ?_, ?_, ?_⟩, fun W K => ?run⟩
  case run =>
    simp only [cc0_mixer_bwd_eq_skeleton]; unfold cc0_mixer_bwd_skel
    simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part6_eq_skeleton, k0_part4_eq_skeleton, k0_part5_eq_skeleton, k0_part7_eq_skeleton, k0_part8_eq_skeleton]
    unfold inputs anyAt written writtenOver cells operands owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%e20, %g20, -, B20⟩, ⟨%e21, %g21, -, B21⟩, ⟨%e22, %g22, -, B22⟩, ⟨%g23, %hg23, B23⟩, ⟨%g24, %hg24, B24⟩, ⟨%g25, %hg25, B25⟩, ⟨%g26, %hg26, B26⟩, ⟨%g27, %hg27, B27⟩, ⟨%g28, %hg28, B28⟩, ⟨%e29, %g29, -, B29⟩, ⟨%e30, %g30, -, B30⟩, ⟨%e31, %g31, -, B31⟩, ⟨%e32, %g32, -, B32⟩, ⟨%g33, %hg33, B33⟩, ⟨%g34, %hg34, B34⟩, ⟨%g35, %hg35, B35⟩, ⟨%g36, %hg36, B36⟩, ⟨%e37, %g37, -, B37⟩, ⟨%e38, %g38, -, B38⟩, ⟨Hq0, Hq1, Hq2, Hq3, Hq4, Hq5, Hq6, Hq7⟩, ⟨Hh0, Hh1, Hh2, Hh3⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg23.eq_unread hg23; obtain rfl := harg24.eq_unread hg24; obtain rfl := harg25.eq_unread hg25; obtain rfl := harg26.eq_unread hg26; obtain rfl := harg27.eq_unread hg27; obtain rfl := harg28.eq_unread hg28; obtain rfl := harg33.eq_unread hg33; obtain rfl := harg34.eq_unread hg34; obtain rfl := harg35.eq_unread hg35; obtain rfl := harg36.eq_unread hg36
    sl_exec (disch := first | sl_exact hc0 | sl_exact hc1 | sl_exact hc2 | sl_exact hc3 | sl_exact hc4)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [B20]; · iexists _; iexact B20
    isplitl [B21]; · iexists _; iexact B21
    isplitl [B22]; · iexists _; iexact B22
    isplitl [B23]; · iexists _; iexact B23
    isplitl [B24]; · iexists _; iexact B24
    isplitl [B25]; · iexists _; iexact B25
    isplitl [B26]; · iexists _; iexact B26
    isplitl [B27]; · iexists _; iexact B27
    isplitl [B28]; · iexact B28
    isplitl [B29]; · iexists _; iexact B29
    isplitl [B30]; · iexists _; iexact B30
    isplitl [B31]; · iexists _; iexact B31
    isplitl [B32]; · iexists _; iexact B32
    isplitl [B33]
    · iexists _; isplitr; · ipureintro; exact harg33.read_unread _
      iexact B33
    isplitl [B34]
    · iexists _; isplitr; · ipureintro; exact harg34.read_unread _
      iexact B34
    isplitl [B35]; · iexists _; iexact B35
    isplitl [B36]; · iexists _; iexact B36
    isplitl [B37]; · iexists _; iexact B37
    isplitl [B38]; · iexists _; iexact B38
    isplitl [Hq0 Hq1 Hq2 Hq3 Hq4 Hq5 Hq6 Hq7]
    · iframe
    isplitl [Hh0 Hh1 Hh2 Hh3]
    · iframe
    iexists _; iexact HW

end Point

end Cert.Kernel2Ideal.Mix

end
-- ==== Proof.Mix.Frame.lean ====
/- The frame of the mixer's backward kernel: what every grid point leaves in each buffer, the invariant between points, the launch. -/
module

public import proofs.«01_k».proof.Proof.Mix.RunA
public import proofs.«01_k».proof.Proof.Mix.RunB
public import proofs.«01_k».proof.Proof.Mix.RunC
public import proofs.«01_k».proof.Proof.Mix.RunD
public import proofs.«01_k».proof.Proof.Mix.RunE
public import Idealize.ShloMosaic.Lib.Claim

@[expose] public section

set_option maxRecDepth 16384

noncomputable section

namespace Cert.Kernel2Ideal.Mix

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What one grid point leaves in the kernel's outputs and in the scratch kept between points. -/
structure Outs (F : FTy → Type) where
  dx : Vec F S1x512x1024 .f32
  dz : Vec F S4x512x512 .bf16
  dm : Vec F S512x1024 .bf16
  dg1 : Vec F S8x1024 .f32
  dg2 : Vec F S8x1024 .f32
  dsc : Vec F S8x512 .f32
  dcw : Vec F S24x512 .f32
  dpw : Vec F S4x128x128 .f32
  dzm : Vec F S16x2048 .f32
  dmeta : Vec F S16x1024 .f32
  dg1m : Vec F S8x1024 .f32
  am : Vec F S16x1024 .bf16
  dzmb : Vec F S4x16x512 .bf16
  win : Vec F S4x1024x512 .bf16
  wout : Vec F S1024x1024 .bf16
  dcb : Vec F S528x512 .f32
  dqb : Vec F S528x512 .f32

/-- The branch conditions at the first point. -/
abbrev CaseA (i : grid0.Coords) : Prop := cond0_0 i ∧ cond0_1 i ∧ ¬cond0_2 i ∧ ¬cond0_3 i ∧ ¬cond0_4 i

/-- The branch conditions at the first tile of a later sequence. -/
abbrev CaseB (i : grid0.Coords) : Prop := ¬cond0_0 i ∧ cond0_1 i ∧ ¬cond0_2 i ∧ ¬cond0_3 i ∧ ¬cond0_4 i

/-- The branch conditions at a tile between the first and the last. -/
abbrev CaseC (i : grid0.Coords) : Prop := ¬cond0_0 i ∧ ¬cond0_1 i ∧ cond0_2 i ∧ ¬cond0_3 i ∧ ¬cond0_4 i

/-- The branch conditions at the last tile of a sequence before the last. -/
abbrev CaseD (i : grid0.Coords) : Prop := ¬cond0_0 i ∧ ¬cond0_1 i ∧ cond0_2 i ∧ cond0_3 i ∧ ¬cond0_4 i

/-- The branch conditions at the last point. -/
abbrev CaseE (i : grid0.Coords) : Prop := ¬cond0_0 i ∧ ¬cond0_1 i ∧ cond0_2 i ∧ cond0_3 i ∧ cond0_4 i

/-- The body at the first point, at its buffers and blocks. -/
def atA (c : Dev nD) (t : Fin cfg0.N) (h : CaseA (grid0.coords t)) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2 (V m c main_v84) (V m c main_v87) (V m c main_v101) (V m c main_v103)

/-- The body at the first tile of a later sequence, at its buffers and blocks. -/
def atB (c : Dev nD) (t : Fin cfg0.N) (h : CaseB (grid0.coords t)) (p : Outs F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2 p.dg1 p.dg2 p.dsc p.dcw p.dpw p.win p.wout (V m c main_v84) (V m c main_v87) (V m c main_v101) (V m c main_v103)

/-- The body at a tile between the first and the last, at its buffers and blocks. -/
def atC (c : Dev nD) (t : Fin cfg0.N) (h : CaseC (grid0.coords t)) (p : Outs F) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2 p.dg1 p.dg2 p.dsc p.dcw p.dpw p.win p.wout p.dcb p.dqb (V m c main_v84) (V m c main_v87) (V m c main_v101) (V m c main_v103)

/-- The body at the last tile of a sequence before the last, at its buffers and blocks. -/
def atD (c : Dev nD) (t : Fin cfg0.N) (h : CaseD (grid0.coords t)) (p : Outs F) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2 p.dg1 p.dg2 p.dsc p.dcw p.dpw p.dzm p.win p.wout p.dcb p.dqb (V m c main_v84) (V m c main_v87) (V m c main_v101) (V m c main_v103)

/-- The body at the last point, at its buffers and blocks. -/
def atE (c : Dev nD) (t : Fin cfg0.N) (h : CaseE (grid0.coords t)) (p : Outs F) :=
  runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2 p.dg1 p.dg2 p.dsc p.dcw p.dpw p.dzm p.win p.wout p.dcb p.dqb (V m c main_v84) (V m c main_v87) (V m c main_v101) (V m c main_v103)

section Cover

variable (c : Dev nD) (t : Fin cfg0.N)

theorem coverA_dx (h : CaseA (grid0.coords t)) : ∀ y, ∃ pc ∈ (atA m c t h).1.dx, y ∈ pc.1.set :=
  View.cover_of_tiledL _ S1x512x1024.size (by sl_kernel_rfl)
theorem coverA_dz (h : CaseA (grid0.coords t)) : ∀ y, ∃ pc ∈ (atA m c t h).1.dz, y ∈ pc.1.set :=
  View.cover_of_tiledL _ S1x512x512.size (by sl_kernel_rfl)
theorem coverA_dm (h : CaseA (grid0.coords t)) : ∀ y, ∃ pc ∈ (atA m c t h).1.dm, y ∈ pc.1.set :=
  View.cover_of_tiledL _ S512x1024.size (by sl_kernel_rfl)
theorem coverA_dg1 (h : CaseA (grid0.coords t)) : ∀ y, ∃ pc ∈ (atA m c t h).1.dg1, y ∈ pc.1.set :=
  View.cover_of_tiledL _ S8x1024.size (by sl_kernel_rfl)
theorem coverA_dg2 (h : CaseA (grid0.coords t)) : ∀ y, ∃ pc ∈ (atA m c t h).1.dg2, y ∈ pc.1.set :=
  View.cover_of_tiledL _ S8x1024.size (by sl_kernel_rfl)
theorem coverA_dsc (h : CaseA (grid0.coords t)) : ∀ y, ∃ pc ∈ (atA m c t h).1.dsc, y ∈ pc.1.set :=
  View.cover_of_tiledL _ S8x128.size (by sl_kernel_rfl)
theorem coverA_dcw (h : CaseA (grid0.coords t)) : ∀ y, ∃ pc ∈ (atA m c t h).1.dcw, y ∈ pc.1.set :=
  View.cover_of_tiledL _ S8x512.size (by sl_kernel_rfl)
theorem coverA_dpw (h : CaseA (grid0.coords t)) : ∀ y, ∃ pc ∈ (atA m c t h).1.dpw, y ∈ pc.1.set :=
  View.cover_of_tiledL _ S1x128x128.size (by sl_kernel_rfl)
theorem coverA_dzm (h : CaseA (grid0.coords t)) : ∀ y, ∃ pc ∈ (atA m c t h).1.dzm, y ∈ pc.1.set :=
  View.cover_of_tiledL _ S16x2048.size (by sl_kernel_rfl)
theorem coverA_win (h : CaseA (grid0.coords t)) : ∀ y, ∃ pc ∈ (atA m c t h).1.win, y ∈ pc.1.set :=
  cover_win _ _ _ _
theorem coverA_wout (h : CaseA (grid0.coords t)) : ∀ y, ∃ pc ∈ (atA m c t h).1.wout, y ∈ pc.1.set :=
  cover_wout _ _ _ _
theorem coverA_dcb (h : CaseA (grid0.coords t)) : ∀ y, ∃ pc ∈ (atA m c t h).1.dcb, y ∈ pc.1.set :=
  View.cover_of_tiledBy _ ![16, 512] (by sl_kernel_rfl)
theorem coverA_dqb (h : CaseA (grid0.coords t)) : ∀ y, ∃ pc ∈ (atA m c t h).1.dqb, y ∈ pc.1.set :=
  View.cover_of_tiledBy _ ![16, 128] (by sl_kernel_rfl)
theorem coverB_dx (h : CaseB (grid0.coords t)) (p : Outs F) : ∀ y, ∃ pc ∈ (atB m c t h p).1.dx, y ∈ pc.1.set :=
  View.cover_of_tiledL _ S1x512x1024.size (by sl_kernel_rfl)
theorem coverB_dz (h : CaseB (grid0.coords t)) (p : Outs F) : ∀ y, ∃ pc ∈ (atB m c t h p).1.dz, y ∈ pc.1.set :=
  View.cover_of_tiledL _ S1x512x512.size (by sl_kernel_rfl)
theorem coverB_dm (h : CaseB (grid0.coords t)) (p : Outs F) : ∀ y, ∃ pc ∈ (atB m c t h p).1.dm, y ∈ pc.1.set :=
  View.cover_of_tiledL _ S512x1024.size (by sl_kernel_rfl)
theorem coverB_dg1 (h : CaseB (grid0.coords t)) (p : Outs F) : ∀ y, ∃ pc ∈ (atB m c t h p).1.dg1, y ∈ pc.1.set :=
  View.cover_of_tiledL _ S8x1024.size (by sl_kernel_rfl)
theorem coverB_dg2 (h : CaseB (grid0.coords t)) (p : Outs F) : ∀ y, ∃ pc ∈ (atB m c t h p).1.dg2, y ∈ pc.1.set :=
  View.cover_of_tiledL _ S8x1024.size (by sl_kernel_rfl)
theorem coverB_dsc (h : CaseB (grid0.coords t)) (p : Outs F) : ∀ y, ∃ pc ∈ (atB m c t h p).1.dsc, y ∈ pc.1.set :=
  View.cover_of_tiledL _ S8x128.size (by sl_kernel_rfl)
theorem coverB_dcw (h : CaseB (grid0.coords t)) (p : Outs F) : ∀ y, ∃ pc ∈ (atB m c t h p).1.dcw, y ∈ pc.1.set :=
  View.cover_of_tiledL _ S8x512.size (by sl_kernel_rfl)
theorem coverB_dpw (h : CaseB (grid0.coords t)) (p : Outs F) : ∀ y, ∃ pc ∈ (atB m c t h p).1.dpw, y ∈ pc.1.set :=
  View.cover_of_tiledL _ S1x128x128.size (by sl_kernel_rfl)
theorem coverB_dcb (h : CaseB (grid0.coords t)) (p : Outs F) : ∀ y, ∃ pc ∈ (atB m c t h p).1.dcb, y ∈ pc.1.set :=
  View.cover_of_tiledBy _ ![16, 512] (by sl_kernel_rfl)
theorem coverB_dqb (h : CaseB (grid0.coords t)) (p : Outs F) : ∀ y, ∃ pc ∈ (atB m c t h p).1.dqb, y ∈ pc.1.set :=
  View.cover_of_tiledBy _ ![16, 128] (by sl_kernel_rfl)
theorem coverC_dx (h : CaseC (grid0.coords t)) (p : Outs F) : ∀ y, ∃ pc ∈ (atC m c t h p).1.dx, y ∈ pc.1.set :=
  View.cover_of_tiledL _ S1x512x1024.size (by sl_kernel_rfl)
theorem coverC_dz (h : CaseC (grid0.coords t)) (p : Outs F) : ∀ y, ∃ pc ∈ (atC m c t h p).1.dz, y ∈ pc.1.set :=
  View.cover_of_tiledL _ S1x512x512.size (by sl_kernel_rfl)
theorem coverC_dm (h : CaseC (grid0.coords t)) (p : Outs F) : ∀ y, ∃ pc ∈ (atC m c t h p).1.dm, y ∈ pc.1.set :=
  View.cover_of_tiledL _ S512x1024.size (by sl_kernel_rfl)
theorem coverC_dg1 (h : CaseC (grid0.coords t)) (p : Outs F) : ∀ y, ∃ pc ∈ (atC m c t h p).1.dg1, y ∈ pc.1.set :=
  View.cover_of_tiledL _ S8x1024.size (by sl_kernel_rfl)
theorem coverC_dg2 (h : CaseC (grid0.coords t)) (p : Outs F) : ∀ y, ∃ pc ∈ (atC m c t h p).1.dg2, y ∈ pc.1.set :=
  View.cover_of_tiledL _ S8x1024.size (by sl_kernel_rfl)
theorem coverC_dsc (h : CaseC (grid0.coords t)) (p : Outs F) : ∀ y, ∃ pc ∈ (atC m c t h p).1.dsc, y ∈ pc.1.set :=
  View.cover_of_tiledL _ S8x128.size (by sl_kernel_rfl)
theorem coverC_dcw (h : CaseC (grid0.coords t)) (p : Outs F) : ∀ y, ∃ pc ∈ (atC m c t h p).1.dcw, y ∈ pc.1.set :=
  View.cover_of_tiledL _ S8x512.size (by sl_kernel_rfl)
theorem coverC_dpw (h : CaseC (grid0.coords t)) (p : Outs F) : ∀ y, ∃ pc ∈ (atC m c t h p).1.dpw, y ∈ pc.1.set :=
  View.cover_of_tiledL _ S1x128x128.size (by sl_kernel_rfl)
theorem coverC_dcb (h : CaseC (grid0.coords t)) (p : Outs F) : ∀ y, ∃ pc ∈ (atC m c t h p).1.dcb, y ∈ pc.1.set :=
  View.cover_of_tiledBy _ ![16, 512] (by sl_kernel_rfl)
theorem coverC_dqb (h : CaseC (grid0.coords t)) (p : Outs F) : ∀ y, ∃ pc ∈ (atC m c t h p).1.dqb, y ∈ pc.1.set :=
  View.cover_of_tiledBy _ ![16, 128] (by sl_kernel_rfl)
theorem coverD_dx (h : CaseD (grid0.coords t)) (p : Outs F) : ∀ y, ∃ pc ∈ (atD m c t h p).1.dx, y ∈ pc.1.set :=
  View.cover_of_tiledL _ S1x512x1024.size (by sl_kernel_rfl)
theorem coverD_dz (h : CaseD (grid0.coords t)) (p : Outs F) : ∀ y, ∃ pc ∈ (atD m c t h p).1.dz, y ∈ pc.1.set :=
  View.cover_of_tiledL _ S1x512x512.size (by sl_kernel_rfl)
theorem coverD_dm (h : CaseD (grid0.coords t)) (p : Outs F) : ∀ y, ∃ pc ∈ (atD m c t h p).1.dm, y ∈ pc.1.set :=
  View.cover_of_tiledL _ S512x1024.size (by sl_kernel_rfl)
theorem coverD_dg1 (h : CaseD (grid0.coords t)) (p : Outs F) : ∀ y, ∃ pc ∈ (atD m c t h p).1.dg1, y ∈ pc.1.set :=
  View.cover_of_tiledL _ S8x1024.size (by sl_kernel_rfl)
theorem coverD_dg2 (h : CaseD (grid0.coords t)) (p : Outs F) : ∀ y, ∃ pc ∈ (atD m c t h p).1.dg2, y ∈ pc.1.set :=
  View.cover_of_tiledL _ S8x1024.size (by sl_kernel_rfl)
theorem coverD_dsc (h : CaseD (grid0.coords t)) (p : Outs F) : ∀ y, ∃ pc ∈ (atD m c t h p).1.dsc, y ∈ pc.1.set :=
  View.cover_of_tiledL _ S8x128.size (by sl_kernel_rfl)
theorem coverD_dcw (h : CaseD (grid0.coords t)) (p : Outs F) : ∀ y, ∃ pc ∈ (atD m c t h p).1.dcw, y ∈ pc.1.set :=
  View.cover_of_tiledL _ S8x512.size (by sl_kernel_rfl)
theorem coverD_dpw (h : CaseD (grid0.coords t)) (p : Outs F) : ∀ y, ∃ pc ∈ (atD m c t h p).1.dpw, y ∈ pc.1.set :=
  View.cover_of_tiledL _ S1x128x128.size (by sl_kernel_rfl)
theorem coverD_dcb (h : CaseD (grid0.coords t)) (p : Outs F) : ∀ y, ∃ pc ∈ (atD m c t h p).1.dcb, y ∈ pc.1.set :=
  View.cover_of_tiledBy _ ![16, 512] (by sl_kernel_rfl)
theorem coverD_dqb (h : CaseD (grid0.coords t)) (p : Outs F) : ∀ y, ∃ pc ∈ (atD m c t h p).1.dqb, y ∈ pc.1.set :=
  View.cover_of_tiledBy _ ![16, 128] (by sl_kernel_rfl)
theorem coverE_dx (h : CaseE (grid0.coords t)) (p : Outs F) : ∀ y, ∃ pc ∈ (atE m c t h p).1.dx, y ∈ pc.1.set :=
  View.cover_of_tiledL _ S1x512x1024.size (by sl_kernel_rfl)
theorem coverE_dz (h : CaseE (grid0.coords t)) (p : Outs F) : ∀ y, ∃ pc ∈ (atE m c t h p).1.dz, y ∈ pc.1.set :=
  View.cover_of_tiledL _ S1x512x512.size (by sl_kernel_rfl)
theorem coverE_dm (h : CaseE (grid0.coords t)) (p : Outs F) : ∀ y, ∃ pc ∈ (atE m c t h p).1.dm, y ∈ pc.1.set :=
  View.cover_of_tiledL _ S512x1024.size (by sl_kernel_rfl)
theorem coverE_dg1 (h : CaseE (grid0.coords t)) (p : Outs F) : ∀ y, ∃ pc ∈ (atE m c t h p).1.dg1, y ∈ pc.1.set :=
  View.cover_of_tiledL _ S8x1024.size (by sl_kernel_rfl)
theorem coverE_dg2 (h : CaseE (grid0.coords t)) (p : Outs F) : ∀ y, ∃ pc ∈ (atE m c t h p).1.dg2, y ∈ pc.1.set :=
  View.cover_of_tiledL _ S8x1024.size (by sl_kernel_rfl)
theorem coverE_dsc (h : CaseE (grid0.coords t)) (p : Outs F) : ∀ y, ∃ pc ∈ (atE m c t h p).1.dsc, y ∈ pc.1.set :=
  View.cover_of_tiledL _ S8x128.size (by sl_kernel_rfl)
theorem coverE_dcw (h : CaseE (grid0.coords t)) (p : Outs F) : ∀ y, ∃ pc ∈ (atE m c t h p).1.dcw, y ∈ pc.1.set :=
  View.cover_of_tiledL _ S8x512.size (by sl_kernel_rfl)
theorem coverE_dpw (h : CaseE (grid0.coords t)) (p : Outs F) : ∀ y, ∃ pc ∈ (atE m c t h p).1.dpw, y ∈ pc.1.set :=
  View.cover_of_tiledL _ S1x128x128.size (by sl_kernel_rfl)
theorem coverE_dmeta (h : CaseE (grid0.coords t)) (p : Outs F) : ∀ y, ∃ pc ∈ (atE m c t h p).1.dmeta, y ∈ pc.1.set :=
  View.cover_of_tiledL _ S16x1024.size (by sl_kernel_rfl)
theorem coverE_dg1m (h : CaseE (grid0.coords t)) (p : Outs F) : ∀ y, ∃ pc ∈ (atE m c t h p).1.dg1m, y ∈ pc.1.set :=
  View.cover_of_tiledL _ S8x1024.size (by sl_kernel_rfl)
theorem coverE_am (h : CaseE (grid0.coords t)) (p : Outs F) : ∀ y, ∃ pc ∈ (atE m c t h p).1.am, y ∈ pc.1.set :=
  View.cover_of_tiledL _ S16x1024.size (by sl_kernel_rfl)
theorem coverE_dzmb (h : CaseE (grid0.coords t)) (p : Outs F) : ∀ y, ∃ pc ∈ (atE m c t h p).1.dzmb, y ∈ pc.1.set :=
  View.cover_of_tiledL _ S1x16x512.size (by sl_kernel_rfl)
theorem coverE_dcb (h : CaseE (grid0.coords t)) (p : Outs F) : ∀ y, ∃ pc ∈ (atE m c t h p).1.dcb, y ∈ pc.1.set :=
  View.cover_of_tiledBy _ ![16, 512] (by sl_kernel_rfl)
theorem coverE_dqb (h : CaseE (grid0.coords t)) (p : Outs F) : ∀ y, ∃ pc ∈ (atE m c t h p).1.dqb, y ∈ pc.1.set :=
  View.cover_of_tiledBy _ ![16, 128] (by sl_kernel_rfl)

end Cover

/-- What the first point leaves. -/
def outsA (c : Dev nD) (t : Fin cfg0.N) (h : CaseA (grid0.coords t)) : Outs F where
  dx := View.canon (atA m c t h).1.dx
  dz := View.canon (atA m c t h).1.dz
  dm := View.canon (atA m c t h).1.dm
  dg1 := View.canon (atA m c t h).1.dg1
  dg2 := View.canon (atA m c t h).1.dg2
  dsc := View.canon (atA m c t h).1.dsc
  dcw := View.canon (atA m c t h).1.dcw
  dpw := View.canon (atA m c t h).1.dpw
  dzm := View.canon (atA m c t h).1.dzm
  dmeta := View.canon (atA m c t h).1.dmeta
  dg1m := View.canon (atA m c t h).1.dg1m
  am := View.canon (atA m c t h).1.am
  dzmb := View.canon (atA m c t h).1.dzmb
  win := View.canon (atA m c t h).1.win
  wout := View.canon (atA m c t h).1.wout
  dcb := View.canon (atA m c t h).1.dcb
  dqb := View.canon (atA m c t h).1.dqb

/-- What the first tile of a later sequence leaves over what the point before left. -/
def outsB (c : Dev nD) (t : Fin cfg0.N) (h : CaseB (grid0.coords t)) (p : Outs F) : Outs F where
  dx := View.canon (atB m c t h p).1.dx
  dz := View.canon (atB m c t h p).1.dz
  dm := View.canon (atB m c t h p).1.dm
  dg1 := View.canon (atB m c t h p).1.dg1
  dg2 := View.canon (atB m c t h p).1.dg2
  dsc := View.canon (atB m c t h p).1.dsc
  dcw := View.canon (atB m c t h p).1.dcw
  dpw := View.canon (atB m c t h p).1.dpw
  dzm := p.dzm
  dmeta := View.canon (atB m c t h p).1.dmeta
  dg1m := View.canon (atB m c t h p).1.dg1m
  am := View.canon (atB m c t h p).1.am
  dzmb := View.canon (atB m c t h p).1.dzmb
  win := p.win
  wout := p.wout
  dcb := View.canon (atB m c t h p).1.dcb
  dqb := View.canon (atB m c t h p).1.dqb

/-- What a tile between the first and the last leaves over what the point before left. -/
def outsC (c : Dev nD) (t : Fin cfg0.N) (h : CaseC (grid0.coords t)) (p : Outs F) : Outs F where
  dx := View.canon (atC m c t h p).1.dx
  dz := View.canon (atC m c t h p).1.dz
  dm := View.canon (atC m c t h p).1.dm
  dg1 := View.canon (atC m c t h p).1.dg1
  dg2 := View.canon (atC m c t h p).1.dg2
  dsc := View.canon (atC m c t h p).1.dsc
  dcw := View.canon (atC m c t h p).1.dcw
  dpw := View.canon (atC m c t h p).1.dpw
  dzm := p.dzm
  dmeta := View.canon (atC m c t h p).1.dmeta
  dg1m := View.canon (atC m c t h p).1.dg1m
  am := View.canon (atC m c t h p).1.am
  dzmb := View.canon (atC m c t h p).1.dzmb
  win := p.win
  wout := p.wout
  dcb := View.canon (atC m c t h p).1.dcb
  dqb := View.canon (atC m c t h p).1.dqb

/-- What the last tile of a sequence before the last leaves over what the point before left. -/
def outsD (c : Dev nD) (t : Fin cfg0.N) (h : CaseD (grid0.coords t)) (p : Outs F) : Outs F where
  dx := View.canon (atD m c t h p).1.dx
  dz := View.canon (atD m c t h p).1.dz
  dm := View.canon (atD m c t h p).1.dm
  dg1 := View.canon (atD m c t h p).1.dg1
  dg2 := View.canon (atD m c t h p).1.dg2
  dsc := View.canon (atD m c t h p).1.dsc
  dcw := View.canon (atD m c t h p).1.dcw
  dpw := View.canon (atD m c t h p).1.dpw
  dzm := View.canon ((atD m c t h p).1.dzm ++ [⟨Rect.whole _, p.dzm⟩])
  dmeta := View.canon (atD m c t h p).1.dmeta
  dg1m := View.canon (atD m c t h p).1.dg1m
  am := View.canon (atD m c t h p).1.am
  dzmb := View.canon (atD m c t h p).1.dzmb
  win := p.win
  wout := p.wout
  dcb := View.canon (atD m c t h p).1.dcb
  dqb := View.canon (atD m c t h p).1.dqb

/-- What the last point leaves over what the point before left. -/
def outsE (c : Dev nD) (t : Fin cfg0.N) (h : CaseE (grid0.coords t)) (p : Outs F) : Outs F where
  dx := View.canon (atE m c t h p).1.dx
  dz := View.canon (atE m c t h p).1.dz
  dm := View.canon (atE m c t h p).1.dm
  dg1 := View.canon (atE m c t h p).1.dg1
  dg2 := View.canon (atE m c t h p).1.dg2
  dsc := View.canon (atE m c t h p).1.dsc
  dcw := View.canon (atE m c t h p).1.dcw
  dpw := View.canon (atE m c t h p).1.dpw
  dzm := View.canon ((atE m c t h p).1.dzm ++ [⟨Rect.whole _, p.dzm⟩])
  dmeta := View.canon (atE m c t h p).1.dmeta
  dg1m := View.canon (atE m c t h p).1.dg1m
  am := View.canon (atE m c t h p).1.am
  dzmb := View.canon (atE m c t h p).1.dzmb
  win := p.win
  wout := p.wout
  dcb := View.canon (atE m c t h p).1.dcb
  dqb := View.canon (atE m c t h p).1.dqb

theorem caseA (t : Fin cfg0.N) (h : t.val = 0) : CaseA (grid0.coords t) := by
  have hN : t.val < 16 := lt_of_lt_of_eq t.isLt (show cfg0.N = 16 from N_0)
  refine ⟨(hcond0_0 t).mpr ?_, (hcond0_1 t).mpr ?_, fun hc => absurd ((hcond0_2 t).mp hc) ?_, fun hc => absurd ((hcond0_3 t).mp hc) ?_, fun hc => absurd ((hcond0_4 t).mp hc) ?_⟩ <;> omega

theorem caseB (t : Fin cfg0.N) (h0 : t.val ≠ 0) (h : t.val % 4 = 0) : CaseB (grid0.coords t) := by
  have hN : t.val < 16 := lt_of_lt_of_eq t.isLt (show cfg0.N = 16 from N_0)
  refine ⟨fun hc => absurd ((hcond0_0 t).mp hc) ?_, (hcond0_1 t).mpr ?_, fun hc => absurd ((hcond0_2 t).mp hc) ?_, fun hc => absurd ((hcond0_3 t).mp hc) ?_, fun hc => absurd ((hcond0_4 t).mp hc) ?_⟩ <;> omega

theorem caseC (t : Fin cfg0.N) (h0 : t.val % 4 ≠ 0) (h : t.val % 4 ≠ 3) : CaseC (grid0.coords t) := by
  have hN : t.val < 16 := lt_of_lt_of_eq t.isLt (show cfg0.N = 16 from N_0)
  refine ⟨fun hc => absurd ((hcond0_0 t).mp hc) ?_, fun hc => absurd ((hcond0_1 t).mp hc) ?_, (hcond0_2 t).mpr ?_, fun hc => absurd ((hcond0_3 t).mp hc) ?_, fun hc => absurd ((hcond0_4 t).mp hc) ?_⟩ <;> omega

theorem caseD (t : Fin cfg0.N) (h0 : t.val ≠ 15) (h : t.val % 4 = 3) : CaseD (grid0.coords t) := by
  have hN : t.val < 16 := lt_of_lt_of_eq t.isLt (show cfg0.N = 16 from N_0)
  refine ⟨fun hc => absurd ((hcond0_0 t).mp hc) ?_, fun hc => absurd ((hcond0_1 t).mp hc) ?_, (hcond0_2 t).mpr ?_, (hcond0_3 t).mpr ?_, fun hc => absurd ((hcond0_4 t).mp hc) ?_⟩ <;> omega

theorem caseE (t : Fin cfg0.N) (h : t.val = 15) : CaseE (grid0.coords t) := by
  have hN : t.val < 16 := lt_of_lt_of_eq t.isLt (show cfg0.N = 16 from N_0)
  refine ⟨fun hc => absurd ((hcond0_0 t).mp hc) ?_, fun hc => absurd ((hcond0_1 t).mp hc) ?_, (hcond0_2 t).mpr ?_, (hcond0_3 t).mpr ?_, (hcond0_4 t).mpr ?_⟩ <;> omega

/-- What a point after the first leaves over what the point before left. -/
def next (c : Dev nD) (t : Fin cfg0.N) (h0 : t.val ≠ 0) (p : Outs F) : Outs F :=
  if h1 : t.val % 4 = 0 then outsB m c t (caseB t h0 h1) p
  else if h2 : t.val % 4 = 3 then (if h3 : t.val = 15 then outsE m c t (caseE t h3) p else outsD m c t (caseD t h3 h2) p)
  else outsC m c t (caseC t h1 h2) p

/-- What the points up to the one at position `n` leave. -/
def outsAt (c : Dev nD) : (n : ℕ) → n < cfg0.N → Outs F
  | 0, hn => outsA m c ⟨0, hn⟩ (caseA _ rfl)
  | n + 1, hn => next m c ⟨n + 1, hn⟩ (Nat.succ_ne_zero n) (outsAt c n (Nat.lt_of_succ_lt hn))

theorem outsAt_A (c : Dev nD) (t : Fin cfg0.N) (h : t.val = 0) :
    outsAt m c t.val t.isLt = outsA m c t (caseA t h) := by
  obtain ⟨n, hn⟩ := t
  cases h
  rfl

/-- What the point before a later point leaves. -/
abbrev prev (c : Dev nD) (t : Fin cfg0.N) : Outs F := outsAt m c (t.val - 1) (Nat.lt_of_le_of_lt (Nat.sub_le _ _) t.isLt)

theorem outsAt_next (c : Dev nD) (t : Fin cfg0.N) (h : t.val ≠ 0) : outsAt m c t.val t.isLt = next m c t h (prev m c t) := by
  obtain ⟨n, hn⟩ := t
  cases n with
  | zero => exact absurd rfl h
  | succ n => rfl

theorem outsAt_B (c : Dev nD) (t : Fin cfg0.N) (h0 : t.val ≠ 0) (h : t.val % 4 = 0) :
    outsAt m c t.val t.isLt = outsB m c t (caseB t h0 h) (prev m c t) := by
  rw [outsAt_next m c t h0]; unfold next; rw [dif_pos h]

theorem outsAt_C (c : Dev nD) (t : Fin cfg0.N) (h0 : t.val % 4 ≠ 0) (h : t.val % 4 ≠ 3) :
    outsAt m c t.val t.isLt = outsC m c t (caseC t h0 h) (prev m c t) := by
  rw [outsAt_next m c t (by omega)]; unfold next; rw [dif_neg h0, dif_neg h]

theorem outsAt_D (c : Dev nD) (t : Fin cfg0.N) (h0 : t.val ≠ 15) (h : t.val % 4 = 3) :
    outsAt m c t.val t.isLt = outsD m c t (caseD t h0 h) (prev m c t) := by
  rw [outsAt_next m c t (by omega)]; unfold next; rw [dif_neg (by omega), dif_pos h, dif_neg h0]

theorem outsAt_E (c : Dev nD) (t : Fin cfg0.N) (h : t.val = 15) :
    outsAt m c t.val t.isLt = outsE m c t (caseE t h) (prev m c t) := by
  rw [outsAt_next m c t (by omega)]; unfold next; rw [dif_neg (by omega), dif_pos (by omega), dif_pos h]

/-! ## The invariant between points and the pipeline's proof data -/

/-- Between two points: the copied weights and the buffers with the next tile's first rows at contents, the other scratch
    at anything, the generator register, the cells at zero and the operands as the launch found them. -/
def between (c : Dev nD) (o : Outs F) : sProp 𝕄 :=
  iprop(iprop(owns (c : Thread nD τ) scM0_0 fullShare o.win ∗ owns (c : Thread nD τ) scM0_1 fullShare o.wout ∗ owns (c : Thread nD τ) scM0_2 fullShare o.dcb ∗ owns (c : Thread nD τ) scM0_3 fullShare o.dqb ∗ anyAt c scM0_4 ∗ anyAt c scM0_5)
    ∗ (∃ r, prngReg c r) ∗ cells c ∗ operands c (V m c main_v84) (V m c main_v87) (V m c main_v101) (V m c main_v103))

def Inv (c : Dev nD) : (n : ℕ) → n ≤ cfg0.N → sProp 𝕄
  | 0, _ => Pipeline.ΦD osem0 spec0 H0 (V m) c
  | n + 1, hn => between m c (outsAt m c n hn)

theorem Inv_zero (c : Dev nD) (n : ℕ) (h : n ≤ cfg0.N) (hz : n = 0) : Inv m c n h = Pipeline.ΦD osem0 spec0 H0 (V m) c := by
  subst hz; rfl

theorem Inv_pos (c : Dev nD) (n : ℕ) (h : n ≤ cfg0.N) (hz : n ≠ 0) :
    Inv m c n h = between m c (outsAt m c (n - 1) (by omega)) := by
  cases n with
  | zero => exact absurd rfl hz
  | succ n => rfl

/-- The launch's invariant, its parts bundled. -/
theorem launch_eq (c : Dev nD) : (Pipeline.ΦD osem0 spec0 H0 (V m) c : sProp 𝕄)
    = iprop(iprop(anyAt c scM0_0 ∗ anyAt c scM0_1 ∗ anyAt c scM0_2 ∗ anyAt c scM0_3 ∗ anyAt c scM0_4 ∗ anyAt c scM0_5)
      ∗ (∃ r, prngReg c r) ∗ cells c ∗ operands c (V m c main_v84) (V m c main_v87) (V m c main_v101) (V m c main_v103)) := PhiD0_eq m c

/-- The proof data of the one pipeline: the arrays as the region finds them, every input's buffer left at its block and
    every output's at what the points leave. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt m c t.val t.isLt).dx
    | ⟨15, _⟩ => (outsAt m c t.val t.isLt).dz
    | ⟨16, _⟩ => (outsAt m c t.val t.isLt).dm
    | ⟨17, _⟩ => (outsAt m c t.val t.isLt).dg1
    | ⟨18, _⟩ => (outsAt m c t.val t.isLt).dg2
    | ⟨19, _⟩ => (outsAt m c t.val t.isLt).dsc
    | ⟨20, _⟩ => (outsAt m c t.val t.isLt).dcw
    | ⟨21, _⟩ => (outsAt m c t.val t.isLt).dpw
    | ⟨22, _⟩ => (outsAt m c t.val t.isLt).dzm
    | ⟨23, _⟩ => (outsAt m c t.val t.isLt).dmeta
    | ⟨24, _⟩ => (outsAt m c t.val t.isLt).dg1m
    | ⟨25, _⟩ => (outsAt m c t.val t.isLt).am
    | ⟨26, _⟩ => (outsAt m c t.val t.isLt).dzmb
    | ⟨_ + 27, h⟩ => absurd h (Nat.not_lt.2 (Nat.le_add_left _ _))
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

section After

variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = (outsAt m c t.val t.isLt).dx := by dsimp only [dats]
theorem after_15 : (dats m 0 c).after 15 t = (outsAt m c t.val t.isLt).dz := by dsimp only [dats]
theorem after_16 : (dats m 0 c).after 16 t = (outsAt m c t.val t.isLt).dm := by dsimp only [dats]
theorem after_17 : (dats m 0 c).after 17 t = (outsAt m c t.val t.isLt).dg1 := by dsimp only [dats]
theorem after_18 : (dats m 0 c).after 18 t = (outsAt m c t.val t.isLt).dg2 := by dsimp only [dats]
theorem after_19 : (dats m 0 c).after 19 t = (outsAt m c t.val t.isLt).dsc := by dsimp only [dats]
theorem after_20 : (dats m 0 c).after 20 t = (outsAt m c t.val t.isLt).dcw := by dsimp only [dats]
theorem after_21 : (dats m 0 c).after 21 t = (outsAt m c t.val t.isLt).dpw := by dsimp only [dats]
theorem after_22 : (dats m 0 c).after 22 t = (outsAt m c t.val t.isLt).dzm := by dsimp only [dats]
theorem after_23 : (dats m 0 c).after 23 t = (outsAt m c t.val t.isLt).dmeta := by dsimp only [dats]
theorem after_24 : (dats m 0 c).after 24 t = (outsAt m c t.val t.isLt).dg1m := by dsimp only [dats]
theorem after_25 : (dats m 0 c).after 25 t = (outsAt m c t.val t.isLt).am := by dsimp only [dats]
theorem after_26 : (dats m 0 c).after 26 t = (outsAt m c t.val t.isLt).dzmb := by dsimp only [dats]
theorem before_0 (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)
theorem before_6 (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans (by unfold Dat.fetched Dat.blockOf iblk; rw [A_eq]; try rfl)
theorem before_7 (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans (by unfold Dat.fetched Dat.blockOf iblk; rw [A_eq]; try rfl)
theorem before_8 (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans (by unfold Dat.fetched Dat.blockOf iblk; rw [A_eq]; try rfl)
theorem before_9 (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans (by unfold Dat.fetched Dat.blockOf iblk; rw [A_eq]; try rfl)
theorem before_10 (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans (by unfold Dat.fetched Dat.blockOf iblk; rw [A_eq]; try rfl)
theorem before_11 (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans (by unfold Dat.fetched Dat.blockOf iblk; rw [A_eq]; try rfl)
theorem before_12 (d) : (dats m 0 c).before 12 t d = iblk m c 12 t :=
  ((dats m 0 c).before_in_eq_fetched 12 rfl (fun _ => rfl) (fun _ _ _ => rfl)
    (fun t => by rw [after_12]; unfold Dat.blockOf iblk; rw [A_eq]; try rfl) t d).trans (by unfold Dat.fetched Dat.blockOf iblk; rw [A_eq]; try rfl)
theorem before_13 (d) : (dats m 0 c).before 13 t d = iblk m c 13 t :=
  ((dats m 0 c).before_in_eq_fetched 13 rfl (fun _ => rfl) (fun _ _ _ => rfl)
    (fun t => by rw [after_13]; unfold Dat.blockOf iblk; rw [A_eq]; try rfl) t d).trans (by unfold Dat.fetched Dat.blockOf iblk; rw [A_eq]; try rfl)
/-- An accumulator's buffer is not written back before the last point, so a later point finds what the one before left. -/
theorem before_17 (h0 : t.val ≠ 0) (d) : (dats m 0 c).before 17 t d = (prev m c t).dg1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
/-- An accumulator's buffer is not written back before the last point, so a later point finds what the one before left. -/
theorem before_18 (h0 : t.val ≠ 0) (d) : (dats m 0 c).before 18 t d = (prev m c t).dg2 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
/-- An accumulator's buffer is not written back before the last point, so a later point finds what the one before left. -/
theorem before_19 (h0 : t.val ≠ 0) (d) : (dats m 0 c).before 19 t d = (prev m c t).dsc := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
/-- An accumulator's buffer is not written back before the last point, so a later point finds what the one before left. -/
theorem before_20 (h0 : t.val ≠ 0) (d) : (dats m 0 c).before 20 t d = (prev m c t).dcw := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
/-- An accumulator's buffer is not written back before the last point, so a later point finds what the one before left. -/
theorem before_21 (h0 : t.val ≠ 0) (d) : (dats m 0 c).before 21 t d = (prev m c t).dpw := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]

theorem idle_22 (h : cond0_0 (grid0.coords t) ∨ cond0_3 (grid0.coords t)) : cfg0.idle 22 (grid0.coords t) = false := by
  show (!(k0_cond1 (grid0.coords t) == 1#1) && !(k0_cond4 (grid0.coords t) == 1#1)) = false
  rcases h with h | h
  · rw [show k0_cond1 (grid0.coords t) = 1#1 from h]; rfl
  · rw [show k0_cond4 (grid0.coords t) = 1#1 from h, Bool.and_comm]; rfl

theorem idle_22_true (h : ¬cond0_0 (grid0.coords t)) (h' : ¬cond0_3 (grid0.coords t)) : cfg0.idle 22 (grid0.coords t) = true := by
  show (!(k0_cond1 (grid0.coords t) == 1#1) && !(k0_cond4 (grid0.coords t) == 1#1)) = true
  rw [beq_eq_false_iff_ne.mpr h, beq_eq_false_iff_ne.mpr h']; rfl

theorem idle_23 (h : cond0_4 (grid0.coords t)) : cfg0.idle 23 (grid0.coords t) = false := by
  show (!(k0_cond5 (grid0.coords t) == 1#1)) = false
  rw [show k0_cond5 (grid0.coords t) = 1#1 from h]; rfl

theorem idle_23_true (h : ¬cond0_4 (grid0.coords t)) : cfg0.idle 23 (grid0.coords t) = true := by
  show (!(k0_cond5 (grid0.coords t) == 1#1)) = true
  rw [beq_eq_false_iff_ne.mpr h]; rfl

theorem idle_24 (h : cond0_4 (grid0.coords t)) : cfg0.idle 24 (grid0.coords t) = false := by
  show (!(k0_cond5 (grid0.coords t) == 1#1)) = false
  rw [show k0_cond5 (grid0.coords t) = 1#1 from h]; rfl

theorem idle_24_true (h : ¬cond0_4 (grid0.coords t)) : cfg0.idle 24 (grid0.coords t) = true := by
  show (!(k0_cond5 (grid0.coords t) == 1#1)) = true
  rw [beq_eq_false_iff_ne.mpr h]; rfl

theorem idle_25 (h : cond0_4 (grid0.coords t)) : cfg0.idle 25 (grid0.coords t) = false := by
  show (!(k0_cond5 (grid0.coords t) == 1#1)) = false
  rw [show k0_cond5 (grid0.coords t) = 1#1 from h]; rfl

theorem idle_25_true (h : ¬cond0_4 (grid0.coords t)) : cfg0.idle 25 (grid0.coords t) = true := by
  show (!(k0_cond5 (grid0.coords t) == 1#1)) = true
  rw [beq_eq_false_iff_ne.mpr h]; rfl

theorem idle_26 (h : cond0_4 (grid0.coords t)) : cfg0.idle 26 (grid0.coords t) = false := by
  show (!(k0_cond5 (grid0.coords t) == 1#1)) = false
  rw [show k0_cond5 (grid0.coords t) = 1#1 from h]; rfl

theorem idle_26_true (h : ¬cond0_4 (grid0.coords t)) : cfg0.idle 26 (grid0.coords t) = true := by
  show (!(k0_cond5 (grid0.coords t) == 1#1)) = true
  rw [beq_eq_false_iff_ne.mpr h]; rfl

/-- A window stored into at a point is left at what the point leaves. -/
theorem leaves_live (w : Fin cfg0.W) (hi : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from hi]

/-- After the first point the meta rows' accumulator has been stored into and is not written back before the last point. -/
theorem fresh_22 : ∀ n, 0 < n → n < cfg0.N → cfg0.fresh 22 n = false
  | 0, h, _ => absurd h (lt_irrefl 0)
  | n + 1, _, hn => by
    have hN : n + 1 < 16 := lt_of_lt_of_eq hn (show cfg0.N = 16 from N_0)
    rw [Cfg.fresh_succ cfg0 22 n (Nat.lt_of_succ_lt hn),
      show (cfg0.win 22).flush ⟨n, Nat.lt_of_succ_lt hn⟩ = false from
        Bool.eq_false_iff.mpr (fun h => by have := (flush0_22 ⟨n, Nat.lt_of_succ_lt hn⟩).mp h; dsimp only at this; omega), Bool.false_or]
    rcases Nat.eq_zero_or_pos n with h | h
    · subst h
      rw [show cfg0.idle 22 (cfg0.grid.coords ⟨0, Nat.lt_of_succ_lt hn⟩) = false from idle_22 _ (Or.inl ((hcond0_0 _).mpr rfl))]; rfl
    · rw [fresh_22 n h (Nat.lt_of_succ_lt hn), Bool.and_false]

/-- Where it is not stored into it keeps what it held. -/
theorem carry_22 (h0 : t.val ≠ 0) (hi : cfg0.idle 22 (grid0.coords t) = true) :
    (outsAt m c t.val t.isLt).dzm = (prev m c t).dzm := by
  have hN : t.val < 16 := lt_of_lt_of_eq t.isLt (show cfg0.N = 16 from N_0)
  by_cases h3 : t.val % 4 = 3
  · exact absurd (hi.symm.trans (idle_22 t (Or.inr ((hcond0_3 t).mpr h3)))) (by decide)
  by_cases h4 : t.val % 4 = 0
  · rw [outsAt_B m c t h0 h4]; unfold outsB; dsimp only
  · rw [outsAt_C m c t h4 h3]; unfold outsC; dsimp only

/-- So a later point finds in it what the point before left. -/
theorem before_22 (h0 : t.val ≠ 0) (d) : (dats m 0 c).before 22 t d = (prev m c t).dzm := by
  have hcarry : ∀ (t : Fin cfg0.N) (_ : t.val ≠ 0), cfg0.idle 22 (cfg0.grid.coords t) = true → cfg0.fresh 22 t.val = false →
      (dats m 0 c).after 22 t = (dats m 0 c).after 22 ⟨t.val - 1, by omega⟩ := fun t h0 hi _ => by
    rw [after_22, after_22]; exact carry_22 m c t h0 hi
  have e := Dat.before_out_traj (dats m 0 c) 22 rfl (fun _ _ => rfl) hcarry t.val t rfl d
  rw [fresh_22 t.val (Nat.pos_of_ne_zero h0) t.isLt, if_neg Bool.false_ne_true, after_22] at e
  exact e

/-- What the body is called with at a point, -/
def bodyPre : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ d, owns (c : Thread nD τ) (ms0_21 t) fullShare ((dats m 0 c).before 21 t d)) ∗ (∃ d, owns (c : Thread nD τ) (ms0_22 t) fullShare ((dats m 0 c).before 22 t d)) ∗ (∃ d, owns (c : Thread nD τ) (ms0_23 t) fullShare ((dats m 0 c).before 23 t d)) ∗ (∃ d, owns (c : Thread nD τ) (ms0_24 t) fullShare ((dats m 0 c).before 24 t d)) ∗ (∃ d, owns (c : Thread nD τ) (ms0_25 t) fullShare ((dats m 0 c).before 25 t d)) ∗ (∃ d, owns (c : Thread nD τ) (ms0_26 t) fullShare ((dats m 0 c).before 26 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ owns (c : Thread nD τ) (ms0_21 t) fullShare ((dats m 0 c).after 21 t) ∗ (dats m 0 c).leavesExact 22 t ∗ (dats m 0 c).leavesExact 23 t ∗ (dats m 0 c).leavesExact 24 t ∗ (dats m 0 c).leavesExact 25 t ∗ (dats m 0 c).leavesExact 26 t)

end After

/-- A buffer stored into all over is held at what its stores leave. -/
theorem written_owns (c : Dev nD) {S : Shape} {e : EltTy} (M : Memref sig .tc .vmem S e) (L : List (View.Piece (Elt F) S e))
    (h : ∀ y, ∃ pc ∈ L, y ∈ pc.1.set) : (written c M L : sProp 𝕄) ⊢ owns (c : Thread nD τ) M fullShare (View.canon L) := by
  unfold written owns
  iintro ⟨%f, H⟩
  iexists _
  isplitr
  swap
  · iexact H
  ipureintro
  exact View.read_writes_eq_canon _ _ _ h

/-- A buffer stored into is held at something. -/
theorem written_any (c : Dev nD) {S : Shape} {e : EltTy} (M : Memref sig .tc .vmem S e) (L : List (View.Piece (Elt F) S e)) :
    (written c M L : sProp 𝕄) ⊢ anyAt c M := by
  unfold written anyAt owns
  iintro ⟨%f, H⟩
  iexists _, _
  isplitr
  swap
  · iexact H
  ipureintro
  rfl

/-- A buffer stored into over contents is held at what the stores leave over them. -/
theorem writtenOver_owns (c : Dev nD) {S : Shape} {e : EltTy} (M : Memref sig .tc .vmem S e) (h : M.IsWhole) (d : Vec F S e)
    (L : List (View.Piece (Elt F) S e)) :
    (writtenOver c M h d L : sProp 𝕄) ⊢ owns (c : Thread nD τ) M fullShare (View.canon (L ++ [⟨Rect.whole _, d⟩])) := by
  unfold writtenOver owns
  iintro H
  iexists _
  isplitr
  swap
  · iexact H
  ipureintro
  rw [← View.read_writes_eq_canon M.view (h.unread d) (L ++ [⟨Rect.whole _, d⟩])
    (fun y => ⟨⟨Rect.whole _, d⟩, List.mem_append_right _ (List.mem_singleton_self _), by rw [Rect.set_whole]; exact Finset.mem_univ y⟩),
    View.writes_append, h.eq_unread (View.read_writes_whole M.view (h.unread d) d)]

set_option maxHeartbeats 4000000 in
/-- The body's triple at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hc := caseA t h
  unfold bodyPre bodyPost bodyAt0
  simp only [before_0, before_1, before_2, before_3, before_4, before_5, before_6, before_7, before_8, before_9, before_10, before_11, before_12, before_13]
  rw [show (dats m 0 c).Φ t.succ = between m c (outsAt m c t.val t.isLt) from rfl,
    after_0,
    after_1,
    after_2,
    after_3,
    after_4,
    after_5,
    after_6,
    after_7,
    after_8,
    after_9,
    after_10,
    after_11,
    after_12,
    after_13,
    after_14,
    after_15,
    after_16,
    after_17,
    after_18,
    after_19,
    after_20,
    after_21,
    leaves_live m c t 22 (idle_22 t (Or.inl hc.1)),
    after_22,
    (dats m 0 c).leavesExact_idle 23 t (idle_23_true t hc.2.2.2.2) (Bool.eq_false_iff.mpr fun h => by have := (flush0_23 t).mp h; omega),
    (dats m 0 c).leavesExact_idle 24 t (idle_24_true t hc.2.2.2.2) (Bool.eq_false_iff.mpr fun h => by have := (flush0_24 t).mp h; omega),
    (dats m 0 c).leavesExact_idle 25 t (idle_25_true t hc.2.2.2.2) (Bool.eq_false_iff.mpr fun h => by have := (flush0_25 t).mp h; omega),
    (dats m 0 c).leavesExact_idle 26 t (idle_26_true t hc.2.2.2.2) (Bool.eq_false_iff.mpr fun h => by have := (flush0_26 t).mp h; omega)]
  unfold Dat.owesAt Pipeline.owesWithin
  rw [show (dats m 0 c).owed t.castSucc = 0 from rfl, show (dats m 0 c).owed t.succ = 0 from rfl, Inv_castSucc m c t, Inv_zero m c _ _ h, launch_eq, outsAt_A m c t h]
  unfold between outsA; dsimp only
  iintro ⟨⟨⟨HS0, HS1, HS2, HS3, HS4, HS5⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atA m c t hc).2 W _)
  unfold inputs
  isplitl [H0 H1 H2 H3 H4 H5 H6 H7 H8 H9 H10 H11 H12 H13]; · iframe
  isplitl [H14]; · unfold anyAt; iexists _; iexact H14
  isplitl [H15]; · unfold anyAt; iexists _; iexact H15
  isplitl [H16]; · unfold anyAt; iexists _; iexact H16
  isplitl [H17]; · unfold anyAt; iexists _; iexact H17
  isplitl [H18]; · unfold anyAt; iexists _; iexact H18
  isplitl [H19]; · unfold anyAt; iexists _; iexact H19
  isplitl [H20]; · unfold anyAt; iexists _; iexact H20
  isplitl [H21]; · unfold anyAt; iexists _; iexact H21
  isplitl [H22]; · unfold anyAt; iexists _; iexact H22
  isplitl [HS0]; · iexact HS0
  isplitl [HS1]; · iexact HS1
  isplitl [HS2]; · iexact HS2
  isplitl [HS3]; · iexact HS3
  isplitl [Hq]; · iexact Hq
  isplitl [Hh]; · iexact Hh
  isplitl [HW]; · iexact HW
  iintro ⟨⟨H0, H1, H2, H3, H4, H5, H6, H7, H8, H9, H10, H11, H12, H13⟩, H14, H15, H16, H17, H18, H19, H20, H21, H22, HS0, HS1, HS2, HS3, Hq, Hh, ⟨%W', HW'⟩⟩
  ihave H14 := (written_owns c _ _ (coverA_dx m c t hc)) $$ H14
  ihave H15 := (written_owns c _ _ (coverA_dz m c t hc)) $$ H15
  ihave H16 := (written_owns c _ _ (coverA_dm m c t hc)) $$ H16
  ihave H17 := (written_owns c _ _ (coverA_dg1 m c t hc)) $$ H17
  ihave H18 := (written_owns c _ _ (coverA_dg2 m c t hc)) $$ H18
  ihave H19 := (written_owns c _ _ (coverA_dsc m c t hc)) $$ H19
  ihave H20 := (written_owns c _ _ (coverA_dcw m c t hc)) $$ H20
  ihave H21 := (written_owns c _ _ (coverA_dpw m c t hc)) $$ H21
  ihave H22 := (written_owns c _ _ (coverA_dzm m c t hc)) $$ H22
  ihave HS0 := (written_owns c _ _ (coverA_win m c t hc)) $$ HS0
  ihave HS1 := (written_owns c _ _ (coverA_wout m c t hc)) $$ HS1
  ihave HS2 := (written_owns c _ _ (coverA_dcb m c t hc)) $$ HS2
  ihave HS3 := (written_owns c _ _ (coverA_dqb m c t hc)) $$ HS3
  isplitl [HS0 HS1 HS2 HS3 HS4 HS5 Hg Hq Hh]
  · isplitl [HS0 HS1 HS2 HS3 HS4 HS5]; · iframe
    iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists d23; iexact H23
  isplitl [H24]; · iexists d24; iexact H24
  isplitl [H25]; · iexists d25; iexact H25
  iexists d26; iexact H26

set_option maxHeartbeats 4000000 in
/-- The body's triple at the first tile of a later sequence. -/
theorem sound_B (c : Dev nD) (t : Fin cfg0.N) (h0 : t.val ≠ 0) (h : t.val % 4 = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hz : t.val ≠ 0 := by omega
  have hc := caseB t h0 h
  unfold bodyPre bodyPost bodyAt0
  simp only [before_0, before_1, before_2, before_3, before_4, before_5, before_6, before_7, before_8, before_9, before_10, before_11, before_12, before_13, before_17 m c t hz, before_18 m c t hz, before_19 m c t hz, before_20 m c t hz, before_21 m c t hz]
  rw [show (dats m 0 c).Φ t.succ = between m c (outsAt m c t.val t.isLt) from rfl,
    after_0,
    after_1,
    after_2,
    after_3,
    after_4,
    after_5,
    after_6,
    after_7,
    after_8,
    after_9,
    after_10,
    after_11,
    after_12,
    after_13,
    after_14,
    after_15,
    after_16,
    after_17,
    after_18,
    after_19,
    after_20,
    after_21,
    (dats m 0 c).leavesExact_idle 22 t (idle_22_true t hc.1 hc.2.2.2.1) (Bool.eq_false_iff.mpr fun h => by have := (flush0_22 t).mp h; omega),
    (dats m 0 c).leavesExact_idle 23 t (idle_23_true t hc.2.2.2.2) (Bool.eq_false_iff.mpr fun h => by have := (flush0_23 t).mp h; omega),
    (dats m 0 c).leavesExact_idle 24 t (idle_24_true t hc.2.2.2.2) (Bool.eq_false_iff.mpr fun h => by have := (flush0_24 t).mp h; omega),
    (dats m 0 c).leavesExact_idle 25 t (idle_25_true t hc.2.2.2.2) (Bool.eq_false_iff.mpr fun h => by have := (flush0_25 t).mp h; omega),
    (dats m 0 c).leavesExact_idle 26 t (idle_26_true t hc.2.2.2.2) (Bool.eq_false_iff.mpr fun h => by have := (flush0_26 t).mp h; omega)]
  unfold Dat.owesAt Pipeline.owesWithin
  rw [show (dats m 0 c).owed t.castSucc = 0 from rfl, show (dats m 0 c).owed t.succ = 0 from rfl, Inv_castSucc m c t, Inv_pos m c _ _ hz, outsAt_B m c t h0 h]
  unfold between outsB; dsimp only
  iintro ⟨⟨⟨HS0, HS1, HS2, HS3, HS4, HS5⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atB m c t hc _).2 W _)
  unfold inputs
  isplitl [H0 H1 H2 H3 H4 H5 H6 H7 H8 H9 H10 H11 H12 H13]; · iframe
  isplitl [H14]; · unfold anyAt; iexists _; iexact H14
  isplitl [H15]; · unfold anyAt; iexists _; iexact H15
  isplitl [H16]; · unfold anyAt; iexists _; iexact H16
  isplitl [H17]; · iexact H17
  isplitl [H18]; · iexact H18
  isplitl [H19]; · iexact H19
  isplitl [H20]; · iexact H20
  isplitl [H21]; · iexact H21
  isplitl [HS0]; · iexact HS0
  isplitl [HS1]; · iexact HS1
  isplitl [HS2]; · unfold anyAt; iexists _; iexact HS2
  isplitl [HS3]; · unfold anyAt; iexists _; iexact HS3
  isplitl [Hq]; · iexact Hq
  isplitl [Hh]; · iexact Hh
  isplitl [HW]; · iexact HW
  iintro ⟨⟨H0, H1, H2, H3, H4, H5, H6, H7, H8, H9, H10, H11, H12, H13⟩, H14, H15, H16, H17, H18, H19, H20, H21, HS0, HS1, HS2, HS3, Hq, Hh, ⟨%W', HW'⟩⟩
  ihave H14 := (written_owns c _ _ (coverB_dx m c t hc _)) $$ H14
  ihave H15 := (written_owns c _ _ (coverB_dz m c t hc _)) $$ H15
  ihave H16 := (written_owns c _ _ (coverB_dm m c t hc _)) $$ H16
  ihave H17 := (written_owns c _ _ (coverB_dg1 m c t hc _)) $$ H17
  ihave H18 := (written_owns c _ _ (coverB_dg2 m c t hc _)) $$ H18
  ihave H19 := (written_owns c _ _ (coverB_dsc m c t hc _)) $$ H19
  ihave H20 := (written_owns c _ _ (coverB_dcw m c t hc _)) $$ H20
  ihave H21 := (written_owns c _ _ (coverB_dpw m c t hc _)) $$ H21
  ihave HS2 := (written_owns c _ _ (coverB_dcb m c t hc _)) $$ HS2
  ihave HS3 := (written_owns c _ _ (coverB_dqb m c t hc _)) $$ HS3
  isplitl [HS0 HS1 HS2 HS3 HS4 HS5 Hg Hq Hh]
  · isplitl [HS0 HS1 HS2 HS3 HS4 HS5]; · iframe
    iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists d22; iexact H22
  isplitl [H23]; · iexists d23; iexact H23
  isplitl [H24]; · iexists d24; iexact H24
  isplitl [H25]; · iexists d25; iexact H25
  iexists d26; iexact H26

set_option maxHeartbeats 4000000 in
/-- The body's triple at a tile between the first and the last. -/
theorem sound_C (c : Dev nD) (t : Fin cfg0.N) (h0 : t.val % 4 ≠ 0) (h : t.val % 4 ≠ 3) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hz : t.val ≠ 0 := by omega
  have hc := caseC t h0 h
  unfold bodyPre bodyPost bodyAt0
  simp only [before_0, before_1, before_2, before_3, before_4, before_5, before_6, before_7, before_8, before_9, before_10, before_11, before_12, before_13, before_17 m c t hz, before_18 m c t hz, before_19 m c t hz, before_20 m c t hz, before_21 m c t hz]
  rw [show (dats m 0 c).Φ t.succ = between m c (outsAt m c t.val t.isLt) from rfl,
    after_0,
    after_1,
    after_2,
    after_3,
    after_4,
    after_5,
    after_6,
    after_7,
    after_8,
    after_9,
    after_10,
    after_11,
    after_12,
    after_13,
    after_14,
    after_15,
    after_16,
    after_17,
    after_18,
    after_19,
    after_20,
    after_21,
    (dats m 0 c).leavesExact_idle 22 t (idle_22_true t hc.1 hc.2.2.2.1) (Bool.eq_false_iff.mpr fun h => by have := (flush0_22 t).mp h; omega),
    (dats m 0 c).leavesExact_idle 23 t (idle_23_true t hc.2.2.2.2) (Bool.eq_false_iff.mpr fun h => by have := (flush0_23 t).mp h; omega),
    (dats m 0 c).leavesExact_idle 24 t (idle_24_true t hc.2.2.2.2) (Bool.eq_false_iff.mpr fun h => by have := (flush0_24 t).mp h; omega),
    (dats m 0 c).leavesExact_idle 25 t (idle_25_true t hc.2.2.2.2) (Bool.eq_false_iff.mpr fun h => by have := (flush0_25 t).mp h; omega),
    (dats m 0 c).leavesExact_idle 26 t (idle_26_true t hc.2.2.2.2) (Bool.eq_false_iff.mpr fun h => by have := (flush0_26 t).mp h; omega)]
  unfold Dat.owesAt Pipeline.owesWithin
  rw [show (dats m 0 c).owed t.castSucc = 0 from rfl, show (dats m 0 c).owed t.succ = 0 from rfl, Inv_castSucc m c t, Inv_pos m c _ _ hz, outsAt_C m c t h0 h]
  unfold between outsC; dsimp only
  iintro ⟨⟨⟨HS0, HS1, HS2, HS3, HS4, HS5⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atC m c t hc _).2 W _)
  unfold inputs
  isplitl [H0 H1 H2 H3 H4 H5 H6 H7 H8 H9 H10 H11 H12 H13]; · iframe
  isplitl [H14]; · unfold anyAt; iexists _; iexact H14
  isplitl [H15]; · unfold anyAt; iexists _; iexact H15
  isplitl [H16]; · unfold anyAt; iexists _; iexact H16
  isplitl [H17]; · iexact H17
  isplitl [H18]; · iexact H18
  isplitl [H19]; · iexact H19
  isplitl [H20]; · iexact H20
  isplitl [H21]; · iexact H21
  isplitl [HS0]; · iexact HS0
  isplitl [HS1]; · iexact HS1
  isplitl [HS2]; · iexact HS2
  isplitl [HS3]; · iexact HS3
  isplitl [Hq]; · iexact Hq
  isplitl [Hh]; · iexact Hh
  isplitl [HW]; · iexact HW
  iintro ⟨⟨H0, H1, H2, H3, H4, H5, H6, H7, H8, H9, H10, H11, H12, H13⟩, H14, H15, H16, H17, H18, H19, H20, H21, HS0, HS1, HS2, HS3, Hq, Hh, ⟨%W', HW'⟩⟩
  ihave H14 := (written_owns c _ _ (coverC_dx m c t hc _)) $$ H14
  ihave H15 := (written_owns c _ _ (coverC_dz m c t hc _)) $$ H15
  ihave H16 := (written_owns c _ _ (coverC_dm m c t hc _)) $$ H16
  ihave H17 := (written_owns c _ _ (coverC_dg1 m c t hc _)) $$ H17
  ihave H18 := (written_owns c _ _ (coverC_dg2 m c t hc _)) $$ H18
  ihave H19 := (written_owns c _ _ (coverC_dsc m c t hc _)) $$ H19
  ihave H20 := (written_owns c _ _ (coverC_dcw m c t hc _)) $$ H20
  ihave H21 := (written_owns c _ _ (coverC_dpw m c t hc _)) $$ H21
  ihave HS2 := (written_owns c _ _ (coverC_dcb m c t hc _)) $$ HS2
  ihave HS3 := (written_owns c _ _ (coverC_dqb m c t hc _)) $$ HS3
  isplitl [HS0 HS1 HS2 HS3 HS4 HS5 Hg Hq Hh]
  · isplitl [HS0 HS1 HS2 HS3 HS4 HS5]; · iframe
    iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists d22; iexact H22
  isplitl [H23]; · iexists d23; iexact H23
  isplitl [H24]; · iexists d24; iexact H24
  isplitl [H25]; · iexists d25; iexact H25
  iexists d26; iexact H26

set_option maxHeartbeats 4000000 in
/-- The body's triple at the last tile of a sequence before the last. -/
theorem sound_D (c : Dev nD) (t : Fin cfg0.N) (h0 : t.val ≠ 15) (h : t.val % 4 = 3) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hz : t.val ≠ 0 := by omega
  have hc := caseD t h0 h
  unfold bodyPre bodyPost bodyAt0
  simp only [before_0, before_1, before_2, before_3, before_4, before_5, before_6, before_7, before_8, before_9, before_10, before_11, before_12, before_13, before_17 m c t hz, before_18 m c t hz, before_19 m c t hz, before_20 m c t hz, before_21 m c t hz, before_22 m c t hz]
  rw [show (dats m 0 c).Φ t.succ = between m c (outsAt m c t.val t.isLt) from rfl,
    after_0,
    after_1,
    after_2,
    after_3,
    after_4,
    after_5,
    after_6,
    after_7,
    after_8,
    after_9,
    after_10,
    after_11,
    after_12,
    after_13,
    after_14,
    after_15,
    after_16,
    after_17,
    after_18,
    after_19,
    after_20,
    after_21,
    leaves_live m c t 22 (idle_22 t (Or.inr hc.2.2.2.1)),
    after_22,
    (dats m 0 c).leavesExact_idle 23 t (idle_23_true t hc.2.2.2.2) (Bool.eq_false_iff.mpr fun h => by have := (flush0_23 t).mp h; omega),
    (dats m 0 c).leavesExact_idle 24 t (idle_24_true t hc.2.2.2.2) (Bool.eq_false_iff.mpr fun h => by have := (flush0_24 t).mp h; omega),
    (dats m 0 c).leavesExact_idle 25 t (idle_25_true t hc.2.2.2.2) (Bool.eq_false_iff.mpr fun h => by have := (flush0_25 t).mp h; omega),
    (dats m 0 c).leavesExact_idle 26 t (idle_26_true t hc.2.2.2.2) (Bool.eq_false_iff.mpr fun h => by have := (flush0_26 t).mp h; omega)]
  unfold Dat.owesAt Pipeline.owesWithin
  rw [show (dats m 0 c).owed t.castSucc = 0 from rfl, show (dats m 0 c).owed t.succ = 0 from rfl, Inv_castSucc m c t, Inv_pos m c _ _ hz, outsAt_D m c t h0 h]
  unfold between outsD; dsimp only
  iintro ⟨⟨⟨HS0, HS1, HS2, HS3, HS4, HS5⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atD m c t hc _).2 W _)
  unfold inputs
  isplitl [H0 H1 H2 H3 H4 H5 H6 H7 H8 H9 H10 H11 H12 H13]; · iframe
  isplitl [H14]; · unfold anyAt; iexists _; iexact H14
  isplitl [H15]; · unfold anyAt; iexists _; iexact H15
  isplitl [H16]; · unfold anyAt; iexists _; iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  isplitl [HS2]; · iexact HS2
  isplitl [HS3]; · iexact HS3
  isplitl [HS4]; · iexact HS4
  isplitl [HS5]; · iexact HS5
  isplitl [Hq]; · iexact Hq
  isplitl [Hh]; · iexact Hh
  isplitl [HW]; · iexact HW
  iintro ⟨⟨H0, H1, H2, H3, H4, H5, H6, H7, H8, H9, H10, H11, H12, H13⟩, H14, H15, H16, H17, H18, H19, H20, H21, H22, HS0, HS1, HS2, HS3, HS4, HS5, Hq, Hh, ⟨%W', HW'⟩⟩
  ihave H14 := (written_owns c _ _ (coverD_dx m c t hc _)) $$ H14
  ihave H15 := (written_owns c _ _ (coverD_dz m c t hc _)) $$ H15
  ihave H16 := (written_owns c _ _ (coverD_dm m c t hc _)) $$ H16
  ihave H17 := (written_owns c _ _ (coverD_dg1 m c t hc _)) $$ H17
  ihave H18 := (written_owns c _ _ (coverD_dg2 m c t hc _)) $$ H18
  ihave H19 := (written_owns c _ _ (coverD_dsc m c t hc _)) $$ H19
  ihave H20 := (written_owns c _ _ (coverD_dcw m c t hc _)) $$ H20
  ihave H21 := (written_owns c _ _ (coverD_dpw m c t hc _)) $$ H21
  ihave H22 := (writtenOver_owns c _ _ _ _) $$ H22
  ihave HS2 := (written_owns c _ _ (coverD_dcb m c t hc _)) $$ HS2
  ihave HS3 := (written_owns c _ _ (coverD_dqb m c t hc _)) $$ HS3
  ihave HS4 := (written_any c _ _) $$ HS4
  ihave HS5 := (written_any c _ _) $$ HS5
  isplitl [HS0 HS1 HS2 HS3 HS4 HS5 Hg Hq Hh]
  · isplitl [HS0 HS1 HS2 HS3 HS4 HS5]; · iframe
    iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists d23; iexact H23
  isplitl [H24]; · iexists d24; iexact H24
  isplitl [H25]; · iexists d25; iexact H25
  iexists d26; iexact H26

set_option maxHeartbeats 4000000 in
/-- The body's triple at the last point. -/
theorem sound_E (c : Dev nD) (t : Fin cfg0.N) (h : t.val = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hz : t.val ≠ 0 := by omega
  have hc := caseE t h
  unfold bodyPre bodyPost bodyAt0
  simp only [before_0, before_1, before_2, before_3, before_4, before_5, before_6, before_7, before_8, before_9, before_10, before_11, before_12, before_13, before_17 m c t hz, before_18 m c t hz, before_19 m c t hz, before_20 m c t hz, before_21 m c t hz, before_22 m c t hz]
  rw [show (dats m 0 c).Φ t.succ = between m c (outsAt m c t.val t.isLt) from rfl,
    after_0,
    after_1,
    after_2,
    after_3,
    after_4,
    after_5,
    after_6,
    after_7,
    after_8,
    after_9,
    after_10,
    after_11,
    after_12,
    after_13,
    after_14,
    after_15,
    after_16,
    after_17,
    after_18,
    after_19,
    after_20,
    after_21,
    leaves_live m c t 22 (idle_22 t (Or.inr hc.2.2.2.1)),
    after_22,
    leaves_live m c t 23 (idle_23 t hc.2.2.2.2),
    after_23,
    leaves_live m c t 24 (idle_24 t hc.2.2.2.2),
    after_24,
    leaves_live m c t 25 (idle_25 t hc.2.2.2.2),
    after_25,
    leaves_live m c t 26 (idle_26 t hc.2.2.2.2),
    after_26]
  unfold Dat.owesAt Pipeline.owesWithin
  rw [show (dats m 0 c).owed t.castSucc = 0 from rfl, show (dats m 0 c).owed t.succ = 0 from rfl, Inv_castSucc m c t, Inv_pos m c _ _ hz, outsAt_E m c t h]
  unfold between outsE; dsimp only
  iintro ⟨⟨⟨HS0, HS1, HS2, HS3, HS4, HS5⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((atE m c t hc _).2 W _)
  unfold inputs
  isplitl [H0 H1 H2 H3 H4 H5 H6 H7 H8 H9 H10 H11 H12 H13]; · iframe
  isplitl [H14]; · unfold anyAt; iexists _; iexact H14
  isplitl [H15]; · unfold anyAt; iexists _; iexact H15
  isplitl [H16]; · unfold anyAt; iexists _; iexact H16
  isplitl [H17]; · iexact H17
  isplitl [H18]; · iexact H18
  isplitl [H19]; · iexact H19
  isplitl [H20]; · iexact H20
  isplitl [H21]; · iexact H21
  isplitl [H22]; · iexact H22
  isplitl [H23]; · unfold anyAt; iexists _; iexact H23
  isplitl [H24]; · unfold anyAt; iexists _; iexact H24
  isplitl [H25]; · unfold anyAt; iexists _; iexact H25
  isplitl [H26]; · unfold anyAt; iexists _; iexact H26
  isplitl [HS0]; · iexact HS0
  isplitl [HS1]; · iexact HS1
  isplitl [HS2]; · iexact HS2
  isplitl [HS3]; · iexact HS3
  isplitl [HS4]; · iexact HS4
  isplitl [HS5]; · iexact HS5
  isplitl [Hq]; · iexact Hq
  isplitl [Hh]; · iexact Hh
  isplitl [HW]; · iexact HW
  iintro ⟨⟨H0, H1, H2, H3, H4, H5, H6, H7, H8, H9, H10, H11, H12, H13⟩, H14, H15, H16, H17, H18, H19, H20, H21, H22, H23, H24, H25, H26, HS0, HS1, HS2, HS3, HS4, HS5, Hq, Hh, ⟨%W', HW'⟩⟩
  ihave H14 := (written_owns c _ _ (coverE_dx m c t hc _)) $$ H14
  ihave H15 := (written_owns c _ _ (coverE_dz m c t hc _)) $$ H15
  ihave H16 := (written_owns c _ _ (coverE_dm m c t hc _)) $$ H16
  ihave H17 := (written_owns c _ _ (coverE_dg1 m c t hc _)) $$ H17
  ihave H18 := (written_owns c _ _ (coverE_dg2 m c t hc _)) $$ H18
  ihave H19 := (written_owns c _ _ (coverE_dsc m c t hc _)) $$ H19
  ihave H20 := (written_owns c _ _ (coverE_dcw m c t hc _)) $$ H20
  ihave H21 := (written_owns c _ _ (coverE_dpw m c t hc _)) $$ H21
  ihave H22 := (writtenOver_owns c _ _ _ _) $$ H22
  ihave H23 := (written_owns c _ _ (coverE_dmeta m c t hc _)) $$ H23
  ihave H24 := (written_owns c _ _ (coverE_dg1m m c t hc _)) $$ H24
  ihave H25 := (written_owns c _ _ (coverE_am m c t hc _)) $$ H25
  ihave H26 := (written_owns c _ _ (coverE_dzmb m c t hc _)) $$ H26
  ihave HS2 := (written_owns c _ _ (coverE_dcb m c t hc _)) $$ HS2
  ihave HS3 := (written_owns c _ _ (coverE_dqb m c t hc _)) $$ HS3
  ihave HS4 := (written_any c _ _) $$ HS4
  ihave HS5 := (written_any c _ _) $$ HS5
  isplitl [HS0 HS1 HS2 HS3 HS4 HS5 Hg Hq Hh]
  · isplitl [HS0 HS1 HS2 HS3 HS4 HS5]; · iframe
    iframe
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h1 : t.val % 4 = 0
  · exact sound_B m c t h0 h1
  by_cases h3 : t.val % 4 = 3
  · by_cases h4 : t.val = 15
    · exact sound_E m c t h4
    · exact sound_D m c t h4 h3
  · exact sound_C m c t h1 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦD osem0 spec0 H0 (V m) c := by
  have ht : (Fin.last cfg0.N).val ≠ 0 := by rw [Fin.val_last]; have : cfg0.N = 16 := N_0; omega
  rw [show (dats m 0 c).Φ (Fin.last cfg0.N) = Inv m c (Fin.last cfg0.N).val (Nat.le_of_lt_succ (Fin.last cfg0.N).isLt) from rfl,
    Inv_pos m c _ _ ht, launch_eq]
  unfold between
  iintro ⟨⟨HS0, HS1, HS2, HS3, HS4, HS5⟩, Hg, Hq, Hh⟩
  isplitl [HS0 HS1 HS2 HS3 HS4 HS5]
  · isplitl [HS0]; · unfold anyAt; iexists _; iexact HS0
    isplitl [HS1]; · unfold anyAt; iexists _; iexact HS1
    isplitl [HS2]; · unfold anyAt; iexists _; iexact HS2
    isplitl [HS3]; · unfold anyAt; iexists _; iexact HS3
    isplitl [HS4]; · iexact HS4
    iexact HS5
  iframe

-- `θ_run_frame_dma_around`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- Every execution of the kernel ends, with every array of the pipeline at what its points leave and every other buffer
    as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem rest_kept (c : Dev nD) (b : Ref sig .tc) (hb : ∀ op ∈ (hostOps1 : List (HloOp τ sig (Elt F))), Proc.devRef .tc b ∉ op.writes)
    (hw : ∀ w, Pipeline.arrRef spec0 w ≠ b) (hV : V m c b = m ((c : Thread nD τ).loc b)) :
    Pipeline.afterTail₀ cfgs (dats m) 0 (V0 m) [hostOps1] c b = m ((c : Thread nD τ).loc b) := (kept m (dats m) c b hb hw).trans hV

theorem end_3 (c : Dev nD) : Pipeline.afterTail₀ cfgs (dats m) 0 (V0 m) [hostOps1] c main_arg3 = m ((c : Thread nD τ).loc main_arg3) :=
  rest_kept m c main_arg3 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))) (by exact (by decide : ∀ w, Pipeline.arrRef spec0 w ≠ main_arg3)) (V_main_arg3 m c)

theorem end_4 (c : Dev nD) : Pipeline.afterTail₀ cfgs (dats m) 0 (V0 m) [hostOps1] c main_arg4 = m ((c : Thread nD τ).loc main_arg4) :=
  rest_kept m c main_arg4 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))) (by exact (by decide : ∀ w, Pipeline.arrRef spec0 w ≠ main_arg4)) (V_main_arg4 m c)

theorem end_5 (c : Dev nD) : Pipeline.afterTail₀ cfgs (dats m) 0 (V0 m) [hostOps1] c main_arg5 = m ((c : Thread nD τ).loc main_arg5) :=
  rest_kept m c main_arg5 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))) (by exact (by decide : ∀ w, Pipeline.arrRef spec0 w ≠ main_arg5)) (V_main_arg5 m c)

theorem end_7 (c : Dev nD) : Pipeline.afterTail₀ cfgs (dats m) 0 (V0 m) [hostOps1] c main_arg7 = m ((c : Thread nD τ).loc main_arg7) :=
  rest_kept m c main_arg7 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))) (by exact (by decide : ∀ w, Pipeline.arrRef spec0 w ≠ main_arg7)) (V_main_arg7 m c)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 5).trans (((dats m 0 c).arrAt_in 5 rfl _).trans ((A_eq m c 5).trans (V_main_arg0 m c))),
      ((h c).1 7).trans (((dats m 0 c).arrAt_in 7 rfl _).trans ((A_eq m c 7).trans (V_main_arg1 m c))),
      ((h c).1 8).trans (((dats m 0 c).arrAt_in 8 rfl _).trans ((A_eq m c 8).trans (V_main_arg2 m c))),
      ((h c).2 main_arg3 (Pipeline.mem_restRefs_of main_arg3 (by decide) (by decide))).trans (end_3 m c),
      ((h c).2 main_arg4 (Pipeline.mem_restRefs_of main_arg4 (by decide) (by decide))).trans (end_4 m c),
      ((h c).2 main_arg5 (Pipeline.mem_restRefs_of main_arg5 (by decide) (by decide))).trans (end_5 m c),
      ((h c).1 12).trans (((dats m 0 c).arrAt_in 12 rfl _).trans ((A_eq m c 12).trans (V_main_arg6 m c))),
      ((h c).2 main_arg7 (Pipeline.mem_restRefs_of main_arg7 (by decide) (by decide))).trans (end_7 m c),
      ((h c).1 9).trans (((dats m 0 c).arrAt_in 9 rfl _).trans ((A_eq m c 9).trans (V_main_arg8 m c))),
      ((h c).1 0).trans (((dats m 0 c).arrAt_in 0 rfl _).trans ((A_eq m c 0).trans (V_main_arg9 m c)))⟩) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Mix

end
-- ==== Proof.Mix.Claims.lean ====
/- The frames of the mixer's backward kernel's two programs that its one run gives, and its reference's. -/
module

public import proofs.«01_k».proof.Defs
public import proofs.«01_k».proof.Proof.Gen.Kernel2
public import proofs.«01_k».proof.Proof.Mix.Frame
public import proofs.«01_k».proof.Proof.Gen.Reference2Ideal.Run
public import Idealize.ShloMosaic.Lib.Quiescent
@[expose] public section
noncomputable section
namespace Cert.Frames
open Idealize.ShloMosaic Idealize.SL.Sem

/-- The kernel over machine floats has the same text as over the extended reals, so the one run at any values gives its
    frame too. -/
theorem frame_kernel2 : Cert.quiescent_Kernel2 := by
  have e : Cert.quiescent_Kernel2 = ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0) := by sl_kernel_rfl
  exact e ▸ fun m ρ _ => Cert.Kernel2Ideal.Mix.frame (F := Bits) m ρ

/-- The reference is host operations alone: it has no semaphores. -/
theorem frame_reference2 : Cert.quiescent_Reference2Ideal := fun m ρ _ =>
  (θ_run Cert.Reference2Ideal.defs _ _).mono
    (fun r h => ⟨fun c => (h c).2.2.2.2.2.2, sem_eq_zero_of_no_sems rfl r.2⟩)
    (Cert.Reference2Ideal.Value.run (F := Ideal) m ρ)

end Cert.Frames

end
-- ==== Proof.Mix.Sums.lean ====
/- Running sums along the sequence, and sums over rows. -/
module

public import proofs.«01_k».proof.Proof.Pays

@[expose] public section

set_option maxRecDepth 16384

noncomputable section

namespace Cert.Mix

open Idealize.ShloMosaic

/-- The running sum of a column as the window of 2064 forms it. -/
@[irreducible] def csum (z : EReal) (x : Fin 2064 → EReal) (s : Fin 2064) : EReal :=
  (List.finRange 2064).foldl (fun r n => r + if h : 2063 ≤ s.val + n.val then x ⟨s.val + n.val - 2063, by omega⟩ else z) z

abbrev W3 : Shape := ⟨3, ![1, 2064, 1]⟩
abbrev W4 : Shape := ⟨4, ![1, 2064, 1, 1]⟩

theorem place3 (n : Fin W3.numel) : (W3.rowMajor.symm n 1).val = n.val := by
  have e := Shape.rowMajor_val_three (d := ![1, 2064, 1]) (W3.rowMajor.symm n)
  rw [Equiv.apply_symm_apply] at e
  have h0 := (W3.rowMajor.symm n 0).isLt
  have h2 := (W3.rowMajor.symm n 2).isLt
  simp at e h0 h2
  simp at *
  omega

theorem place4 (n : Fin W4.numel) : (W4.rowMajor.symm n 1).val = n.val := by
  have e := Shape.rowMajor_val_four (d := ![1, 2064, 1, 1]) (W4.rowMajor.symm n)
  rw [Equiv.apply_symm_apply] at e
  have h0 := (W4.rowMajor.symm n 0).isLt
  have h2 := (W4.rowMajor.symm n 2).isLt
  have h3 := (W4.rowMajor.symm n 3).isLt
  simp at e h0 h2 h3
  simp at *
  omega

theorem cs3 (P : (⟨3, ![4, 2064, 128]⟩ : Shape).Idx → EReal) (z : EReal)
    (h : (⟨3, ![4, 2064, 128]⟩ : Shape).ReduceWindows ![1, 2064, 1] ![1, 1, 1] ![0, 2063, 0] ![0, 0, 0] ⟨3, ![4, 2064, 128]⟩)
    (b : Fin 4) (s : Fin 2064) (k : Fin 128) :
    Ideal.hostReduceWindowAdd ![1, 2064, 1] ![1, 1, 1] ![0, 2063, 0] ![0, 0, 0] h P z (ix3 b s k) = csum z (fun l => P (ix3 b l k)) s := by
  unfold Ideal.hostReduceWindowAdd Host.reduceWindow csum
  have e : W3.numel = 2064 := by decide
  show (List.finRange W3.numel).foldl _ z = _
  refine congrFun (congrArg (fun f => List.foldl f z) ?_) _
  funext r n
  refine congrArg (r + ·) ?_
  have pn := place3 n
  have h0 := (W3.rowMajor.symm n 0).isLt
  have h2 := (W3.rowMajor.symm n 2).isLt
  have hn : n.val < 2064 := n.isLt
  split_ifs with h1 h3 h3
  · congr 1
    funext a
    apply Fin.ext
    fin_cases a
    · show b.val * 1 + (W3.rowMajor.symm n 0).val - 0 = b.val; simp at h0; omega
    · show s.val * 1 + (W3.rowMajor.symm n 1).val - 2063 = s.val + n.val - 2063; omega
    · show k.val * 1 + (W3.rowMajor.symm n 2).val - 0 = k.val; simp at h2; omega
  · exfalso
    have := (h1 1).1
    change 2063 ≤ s.val * 1 + (W3.rowMajor.symm n 1).val at this
    omega
  · exfalso
    apply h1
    intro a
    fin_cases a
    · show 0 ≤ b.val * 1 + (W3.rowMajor.symm n 0).val ∧ b.val * 1 + (W3.rowMajor.symm n 0).val - 0 < 4
      simp at h0; omega
    · show 2063 ≤ s.val * 1 + (W3.rowMajor.symm n 1).val ∧ s.val * 1 + (W3.rowMajor.symm n 1).val - 2063 < 2064
      omega
    · show 0 ≤ k.val * 1 + (W3.rowMajor.symm n 2).val ∧ k.val * 1 + (W3.rowMajor.symm n 2).val - 0 < 128
      simp at h2; omega
  · rfl

theorem cs4 (P : (⟨4, ![4, 2064, 4, 128]⟩ : Shape).Idx → EReal) (z : EReal)
    (h : (⟨4, ![4, 2064, 4, 128]⟩ : Shape).ReduceWindows ![1, 2064, 1, 1] ![1, 1, 1, 1] ![0, 2063, 0, 0] ![0, 0, 0, 0] ⟨4, ![4, 2064, 4, 128]⟩)
    (b : Fin 4) (s : Fin 2064) (g : Fin 4) (k : Fin 128) :
    Ideal.hostReduceWindowAdd ![1, 2064, 1, 1] ![1, 1, 1, 1] ![0, 2063, 0, 0] ![0, 0, 0, 0] h P z (ix4 b s g k) = csum z (fun l => P (ix4 b l g k)) s := by
  unfold Ideal.hostReduceWindowAdd Host.reduceWindow csum
  have e : W4.numel = 2064 := by decide
  show (List.finRange W4.numel).foldl _ z = _
  refine congrFun (congrArg (fun f => List.foldl f z) ?_) _
  funext r n
  refine congrArg (r + ·) ?_
  have pn := place4 n
  have h0 := (W4.rowMajor.symm n 0).isLt
  have h2 := (W4.rowMajor.symm n 2).isLt
  have h4 := (W4.rowMajor.symm n 3).isLt
  have hn : n.val < 2064 := n.isLt
  split_ifs with h1 h3 h3
  · congr 1
    funext a
    apply Fin.ext
    fin_cases a
    · show b.val * 1 + (W4.rowMajor.symm n 0).val - 0 = b.val; simp at h0; omega
    · show s.val * 1 + (W4.rowMajor.symm n 1).val - 2063 = s.val + n.val - 2063; omega
    · show g.val * 1 + (W4.rowMajor.symm n 2).val - 0 = g.val; simp at h2; omega
    · show k.val * 1 + (W4.rowMajor.symm n 3).val - 0 = k.val; simp at h4; omega
  · exfalso
    have := (h1 1).1
    change 2063 ≤ s.val * 1 + (W4.rowMajor.symm n 1).val at this
    omega
  · exfalso
    apply h1
    intro a
    fin_cases a
    · show 0 ≤ b.val * 1 + (W4.rowMajor.symm n 0).val ∧ b.val * 1 + (W4.rowMajor.symm n 0).val - 0 < 4
      simp at h0; omega
    · show 2063 ≤ s.val * 1 + (W4.rowMajor.symm n 1).val ∧ s.val * 1 + (W4.rowMajor.symm n 1).val - 2063 < 2064
      omega
    · show 0 ≤ g.val * 1 + (W4.rowMajor.symm n 2).val ∧ g.val * 1 + (W4.rowMajor.symm n 2).val - 0 < 4
      simp at h2; omega
    · show 0 ≤ k.val * 1 + (W4.rowMajor.symm n 3).val ∧ k.val * 1 + (W4.rowMajor.symm n 3).val - 0 < 128
      simp at h4; omega
  · rfl

end Cert.Mix

end
-- ==== Proof.Mix.Fwd.lean ====
/- The forward lines: the host gives the kernel the arrays the reference forms. -/
module

public import proofs.«01_k».proof.Proof.Gen.Reference2Ideal.Run
public import proofs.«01_k».proof.Proof.Gen.Kernel2Ideal.Frame
public import proofs.«01_k».proof.Proof.Mix.Sums

@[expose] public section

set_option maxRecDepth 16384

noncomputable section

namespace Cert.Kernel2Ideal.Mix

open Cert.Kernel2Ideal Cert.Kernel2Ideal.Gen
open Cert.Reference2Ideal.Value
open Idealize.ShloMosaic Idealize.ShloMosaic.TcCoe Idealize.SL.Sem

/-- The arguments, as arrays. -/
structure Arrays where
  a0 : FVec Ideal S4x2048x1024 .f32
  a1 : FVec Ideal S16x1024 .f32
  a2 : FVec Ideal S1x1024 .f32
  a3 : FVec Ideal S1x1024x2048 .f32
  a4 : FVec Ideal S1x3x512 .f32
  a5 : FVec Ideal S1x4x128x128 .f32
  a6 : FVec Ideal S1x512 .f32
  a7 : FVec Ideal S1x1024x1024 .f32
  a8 : FVec Ideal S1x1024 .f32
  a9 : FVec Ideal S4x2048x1024 .f32

/-- The kernel's arguments are these arrays. -/
structure ArgsK (m : (ℓ : Loc nD τ sig) → Buf (Elt Ideal) ℓ) (c : Dev nD) (A : Arrays) : Prop where
  a0 : m ((c : Thread nD τ).loc main_arg0) = A.a0
  a1 : m ((c : Thread nD τ).loc main_arg1) = A.a1
  a2 : m ((c : Thread nD τ).loc main_arg2) = A.a2
  a3 : m ((c : Thread nD τ).loc main_arg3) = A.a3
  a4 : m ((c : Thread nD τ).loc main_arg4) = A.a4
  a5 : m ((c : Thread nD τ).loc main_arg5) = A.a5
  a6 : m ((c : Thread nD τ).loc main_arg6) = A.a6
  a7 : m ((c : Thread nD τ).loc main_arg7) = A.a7
  a8 : m ((c : Thread nD τ).loc main_arg8) = A.a8
  a9 : m ((c : Thread nD τ).loc main_arg9) = A.a9

/-- The reference's arguments are these arrays. -/
structure ArgsR (U : Valuation Cert.Reference2Ideal.τ Cert.Reference2Ideal.sig (Elt Ideal)) (A : Arrays) : Prop where
  a0 : U (Proc.devRef .tc Cert.Reference2Ideal.main_arg0) = A.a0
  a1 : U (Proc.devRef .tc Cert.Reference2Ideal.main_arg1) = A.a1
  a2 : U (Proc.devRef .tc Cert.Reference2Ideal.main_arg2) = A.a2
  a3 : U (Proc.devRef .tc Cert.Reference2Ideal.main_arg3) = A.a3
  a4 : U (Proc.devRef .tc Cert.Reference2Ideal.main_arg4) = A.a4
  a5 : U (Proc.devRef .tc Cert.Reference2Ideal.main_arg5) = A.a5
  a6 : U (Proc.devRef .tc Cert.Reference2Ideal.main_arg6) = A.a6
  a7 : U (Proc.devRef .tc Cert.Reference2Ideal.main_arg7) = A.a7
  a8 : U (Proc.devRef .tc Cert.Reference2Ideal.main_arg8) = A.a8
  a9 : U (Proc.devRef .tc Cert.Reference2Ideal.main_arg9) = A.a9

theorem zero_word : Ideal.ofBits .f32 0x00000000#32 = 0 := by simp [Ideal.ofBits, Ideal.ieee]

/-- The running sums of the pooled columns. -/
def sums (P : FVec Ideal S4x2064x4x128 .f32) : FVec Ideal S4x2064x4x128 .f32 :=
  Host.reduceWindowAdd ![1, 2064, 1, 1] ![1, 1, 1, 1] ![0, 2063, 0, 0] ![0, 0, 0, 0] P
    (broadcastInDim S_ ![] bcast_S_S_ (constant S_ .f32 0x00000000#32))
    reduceWindows_S4x2064x4x128_S4x2064x4x128_w1s1p0_0_w2064s1p2063_0_w1s1p0_0_w1s1p0_0 h_S_

/-- The running sums, sixteen zeros before them. -/
def late (P : FVec Ideal S4x2064x4x128 .f32) : FVec Ideal S4x2080x4x128 .f32 :=
  concatenate S4x2080x4x128 1 [⟨S4x16x4x128, broadcastInDim S4x16x4x128 ![] bcast_S_S4x16x4x128 (constant S_ .f32 0x00000000#32)⟩,
    ⟨S4x2064x4x128, sums P⟩] concatenates_S4x16x4x128_S4x2064x4x128_S4x2080x4x128_d1

/-- The lengths of the windows, fewer at the start. -/
def lengths : FVec Ideal S2064x4 .f32 :=
  sitofp .f32 (minsi (addi (iotaInDim S2064x4 32 0) (broadcastInDim S2064x4 ![] bcast_S_S2064x4 (constantI S_ 32 1#32)))
    (Host.shli (broadcastInDim S2064x4 ![] bcast_S_S2064x4 (constantI S_ 32 2#32)) (iotaInDim S2064x4 32 1)))

/-- The host's pooled sums, four groups at once. -/
def pooledOf (P : FVec Ideal S4x2064x4x128 .f32) : FVec Ideal S4x2064x4x128 .f32 :=
  subf (Host.divf (subf (sums P) (concatenate S4x2064x4x128 2
      [⟨S4x2064x1x128, extractStridedSlice S4x2064x1x128 ![0, 14, 0, 0] (late P) slices_S4x2080x4x128_S4x2064x1x128_0_14_0_0⟩,
        ⟨S4x2064x1x128, extractStridedSlice S4x2064x1x128 ![0, 12, 1, 0] (late P) slices_S4x2080x4x128_S4x2064x1x128_0_12_1_0⟩,
        ⟨S4x2064x1x128, extractStridedSlice S4x2064x1x128 ![0, 8, 2, 0] (late P) slices_S4x2080x4x128_S4x2064x1x128_0_8_2_0⟩,
        ⟨S4x2064x1x128, extractStridedSlice S4x2064x1x128 ![0, 0, 3, 0] (late P) slices_S4x2080x4x128_S4x2064x1x128_0_0_3_0⟩]
      concatenates_S4x2064x1x128_S4x2064x1x128_S4x2064x1x128_S4x2064x1x128_S4x2064x4x128_d2))
    (broadcastInDim S4x2064x4x128 ![0, 1, 2, 3] bcast_S1x2064x4x1_S4x2064x4x128_0_1_2_3
      (broadcastInDim S1x2064x4x1 ![1, 2] bcast_S2064x4_S1x2064x4x1_1_2 lengths))) P

theorem shifted (f : Fin 2064 → EReal) (w o : ℕ) (s : Fin 2064) (e : o + w = 16) :
    (if h : s.val < w then (0 : EReal) else f ⟨s.val - w, by omega⟩) = if h : o + s.val < 16 then 0 else f ⟨o + s.val - 16, by omega⟩ := by
  split_ifs
  · rfl
  · omega
  · omega
  · exact congrArg f (Fin.ext (by dsimp only; omega))

variable {m : (ℓ : Loc nD τ sig) → Buf (Elt Ideal) ℓ} {c : Dev nD}
  {U : Valuation Cert.Reference2Ideal.τ Cert.Reference2Ideal.sig (Elt Ideal)} {A : Arrays} (k : ArgsK m c A) (h : ArgsR U A)
include k h

theorem z_eq : V m c main_v18 = res_main_v24 U := by
  unfold res_main_v24 res_main_v22 res_main_v21 res_main_v19 res_main_v18 res_main_v13 res_main_v12 res_main_v4
  rw [h.a0, h.a1, h.a2, h.a3]
  simp only [V, V0, List.flatten_cons, List.flatten_nil, List.append_nil, StableHlo.after_append]
  after_results
  rw [show m (c, Proc.devRef .tc main_arg0) = A.a0 from k.a0, show m (c, Proc.devRef .tc main_arg1) = A.a1 from k.a1,
    show m (c, Proc.devRef .tc main_arg2) = A.a2 from k.a2, show m (c, Proc.devRef .tc main_arg3) = A.a3 from k.a3]
  generalize A.a0 = a0, A.a1 = a1, A.a2 = a2, A.a3 = a3
  refine Eq.trans ?_ (funext fun y => ((congrArg (_ + ·) zero_word).trans (add_zero _)).symm)
  sl_kernel_rfl

theorem conv_eq : V m c main_v44 = res_main_v53 U := by
  unfold res_main_v53 res_main_v50 res_main_v49 res_main_v43 res_main_v42 res_main_v37 res_main_v36 res_main_v32 res_main_v30 res_main_v26 res_main_v27
  rw [← z_eq k h, h.a4]
  simp only [V, V0, List.flatten_cons, List.flatten_nil, List.append_nil, StableHlo.after_append]
  after_results
  rw [show m (c, Proc.devRef .tc main_arg4) = A.a4 from k.a4]
  sl_kernel_rfl

omit k h in
theorem pooledK (W : Valuation τ sig (Elt Ideal)) :
    StableHlo.after hostOps0_2 (StableHlo.after hostOps0_1 W) (Proc.devRef .tc main_v67) = pooledOf (W (Proc.devRef .tc main_v46)) := by
  sl_kernel_rfl

omit k h in
theorem sums_at (P : FVec Ideal S4x2064x4x128 .f32) (b : Fin 4) (s : Fin 2064) (g : Fin 4) (j : Fin 128) :
    sums P (ix4 b s g j) = Cert.Mix.csum 0 (fun l => P (ix4 b l g j)) s := by
  unfold sums Host.reduceWindowAdd
  rw [Ideal.hostReduceWindowAdd_def, Cert.Mix.cs4]
  exact congrArg (fun z => Cert.Mix.csum z _ s) zero_word

omit k h in
theorem group_0 (b : Fin 4) (s : Fin 2064) (j : Fin 128) :
    res_main_v128 U (ix4 b s (0 : Fin 4) j) = pooledOf (res_main_v54 U) (ix4 b s (0 : Fin 4) j) := by
  have e : ∀ l : Fin 2064, res_main_v57 U (ix3 b l j) = res_main_v54 U (ix4 b l (0 : Fin 4) j) := fun l => by
    pointwise [res_main_v57]
  have q : ∀ l : Fin 2064, res_main_v58 U (ix3 b l j) = sums (res_main_v54 U) (ix4 b l (0 : Fin 4) j) := fun l => by
    rw [sums_at]
    unfold res_main_v58 Host.reduceWindowAdd
    rw [Ideal.hostReduceWindowAdd_def, Cert.Mix.cs3]
    exact (congrArg (fun z => Cert.Mix.csum z _ l) zero_word).trans (congrArg (fun x => Cert.Mix.csum 0 x l) (funext e))
  pointwise [pooledOf, late, res_main_v128, q _, e _, res_main_v68, res_main_v55, lengths]
  rw [show IntOp.shli ArithUnit.host 2#32 0#32 = 2#32 from by decide]
  refine congrArg₂ (· - ·) (congrArg₂ Ideal.div (congrArg₂ (· - ·) rfl ?_) rfl) rfl
  refine Eq.trans ?_ (shifted (fun l => sums (res_main_v54 U) (ix4 b l (0 : Fin 4) j)) 2 14 s (by omega))
  rfl

omit k h in
theorem group_1 (b : Fin 4) (s : Fin 2064) (j : Fin 128) :
    res_main_v128 U (ix4 b s (1 : Fin 4) j) = pooledOf (res_main_v54 U) (ix4 b s (1 : Fin 4) j) := by
  have e : ∀ l : Fin 2064, res_main_v74 U (ix3 b l j) = res_main_v54 U (ix4 b l (1 : Fin 4) j) := fun l => by
    pointwise [res_main_v74]
  have q : ∀ l : Fin 2064, res_main_v75 U (ix3 b l j) = sums (res_main_v54 U) (ix4 b l (1 : Fin 4) j) := fun l => by
    rw [sums_at]
    unfold res_main_v75 Host.reduceWindowAdd
    rw [Ideal.hostReduceWindowAdd_def, Cert.Mix.cs3]
    exact (congrArg (fun z => Cert.Mix.csum z _ l) zero_word).trans (congrArg (fun x => Cert.Mix.csum 0 x l) (funext e))
  pointwise [pooledOf, late, res_main_v128, q _, e _, res_main_v85, res_main_v55, lengths]
  rw [show IntOp.shli ArithUnit.host 2#32 1#32 = 4#32 from by decide]
  refine congrArg₂ (· - ·) (congrArg₂ Ideal.div (congrArg₂ (· - ·) rfl ?_) rfl) rfl
  refine Eq.trans ?_ (shifted (fun l => sums (res_main_v54 U) (ix4 b l (1 : Fin 4) j)) 4 12 s (by omega))
  rfl

omit k h in
theorem group_2 (b : Fin 4) (s : Fin 2064) (j : Fin 128) :
    res_main_v128 U (ix4 b s (2 : Fin 4) j) = pooledOf (res_main_v54 U) (ix4 b s (2 : Fin 4) j) := by
  have e : ∀ l : Fin 2064, res_main_v91 U (ix3 b l j) = res_main_v54 U (ix4 b l (2 : Fin 4) j) := fun l => by
    pointwise [res_main_v91]
  have q : ∀ l : Fin 2064, res_main_v92 U (ix3 b l j) = sums (res_main_v54 U) (ix4 b l (2 : Fin 4) j) := fun l => by
    rw [sums_at]
    unfold res_main_v92 Host.reduceWindowAdd
    rw [Ideal.hostReduceWindowAdd_def, Cert.Mix.cs3]
    exact (congrArg (fun z => Cert.Mix.csum z _ l) zero_word).trans (congrArg (fun x => Cert.Mix.csum 0 x l) (funext e))
  pointwise [pooledOf, late, res_main_v128, q _, e _, res_main_v102, res_main_v55, lengths]
  rw [show IntOp.shli ArithUnit.host 2#32 2#32 = 8#32 from by decide]
  refine congrArg₂ (· - ·) (congrArg₂ Ideal.div (congrArg₂ (· - ·) rfl ?_) rfl) rfl
  refine Eq.trans ?_ (shifted (fun l => sums (res_main_v54 U) (ix4 b l (2 : Fin 4) j)) 8 8 s (by omega))
  rfl

omit k h in
theorem group_3 (b : Fin 4) (s : Fin 2064) (j : Fin 128) :
    res_main_v128 U (ix4 b s (3 : Fin 4) j) = pooledOf (res_main_v54 U) (ix4 b s (3 : Fin 4) j) := by
  have e : ∀ l : Fin 2064, res_main_v108 U (ix3 b l j) = res_main_v54 U (ix4 b l (3 : Fin 4) j) := fun l => by
    pointwise [res_main_v108]
  have q : ∀ l : Fin 2064, res_main_v109 U (ix3 b l j) = sums (res_main_v54 U) (ix4 b l (3 : Fin 4) j) := fun l => by
    rw [sums_at]
    unfold res_main_v109 Host.reduceWindowAdd
    rw [Ideal.hostReduceWindowAdd_def, Cert.Mix.cs3]
    exact (congrArg (fun z => Cert.Mix.csum z _ l) zero_word).trans (congrArg (fun x => Cert.Mix.csum 0 x l) (funext e))
  pointwise [pooledOf, late, res_main_v128, q _, e _, res_main_v119, res_main_v55, lengths]
  rw [show IntOp.shli ArithUnit.host 2#32 3#32 = 16#32 from by decide]

omit k h in
theorem pooled_eq : res_main_v128 U = pooledOf (res_main_v54 U) := by
  funext y
  rw [eq_ix4 y]
  match y 2 with
  | ⟨0, _⟩ => exact group_0 _ _ _
  | ⟨1, _⟩ => exact group_1 _ _ _
  | ⟨2, _⟩ => exact group_2 _ _ _
  | ⟨3, _⟩ => exact group_3 _ _ _

theorem pool_eq : V m c main_v67 = res_main_v128 U := by
  rw [pooled_eq]
  unfold res_main_v54
  rw [← z_eq k h]
  simp only [V, V0, List.flatten_cons, List.flatten_nil, List.append_nil, StableHlo.after_append]
  rw [pooledK]
  sl_kernel_rfl

theorem m_eq : V m c main_v80 = res_main_v141 U := by
  unfold res_main_v141 res_main_v139 res_main_v134 res_main_v132 res_main_v129 res_main_v25
  rw [← pool_eq k h, ← conv_eq k h, ← z_eq k h, h.a5, h.a6, h.a7]
  refine Eq.trans ?_ (funext fun y => ((congrArg (_ + ·) zero_word).trans (add_zero _)).symm)
  rw [← k.a5, ← k.a6, ← k.a7]
  sl_kernel_rfl

end Cert.Kernel2Ideal.Mix

end
-- ==== Proof.Mix.Real.lean ====
/- Under finite arguments every forward value is a real number. -/
module

public import proofs.«01_k».proof.Proof.Mix.Fwd
public import proofs.«01_k».proof.Proof.Ffn.RefRows

@[expose] public section

set_option maxRecDepth 16384

noncomputable section

namespace Cert.Mix

/-- A real number among the extended reals. -/
def Rl (x : EReal) : Prop := ∃ r : ℝ, x = (r : EReal)

theorem Rl.coe (r : ℝ) : Rl (r : EReal) := ⟨r, rfl⟩
theorem Rl.zero : Rl 0 := ⟨0, rfl⟩
theorem Rl.add {x y : EReal} : Rl x → Rl y → Rl (x + y) := by
  rintro ⟨a, rfl⟩ ⟨b, rfl⟩; exact ⟨a + b, (EReal.coe_add a b).symm⟩
theorem Rl.sub {x y : EReal} : Rl x → Rl y → Rl (x - y) := by
  rintro ⟨a, rfl⟩ ⟨b, rfl⟩; exact ⟨a - b, (EReal.coe_sub a b).symm⟩
theorem Rl.mul {x y : EReal} : Rl x → Rl y → Rl (x * y) := by
  rintro ⟨a, rfl⟩ ⟨b, rfl⟩; exact ⟨a * b, (EReal.coe_mul a b).symm⟩
theorem Rl.sum {n : ℕ} {f : Fin n → EReal} (h : ∀ i, Rl (f i)) : Rl (∑ i, f i) := by
  choose x hx using h
  exact ⟨∑ i, x i, by simp only [hx, Cert.Pays.coe_sum]⟩
theorem Rl.div {x y : EReal} : Rl x → (∃ r : ℝ, r ≠ 0 ∧ y = (r : EReal)) → Rl (Idealize.ShloMosaic.Ideal.div x y) := by
  rintro ⟨a, rfl⟩ ⟨b, hb, rfl⟩; exact ⟨a / b, Cert.Pays.div_real hb a⟩
/-- A running sum of real numbers is real. -/
theorem Rl.running {z : EReal} (hz : Rl z) {x : Fin 2064 → EReal} (hx : ∀ l, Rl (x l)) (s : Fin 2064) : Rl (csum z x s) := by
  unfold csum
  suffices k : ∀ (L : List (Fin 2064)) (a : EReal), Rl a
      → Rl (L.foldl (fun r n => r + if h : 2063 ≤ s.val + n.val then x ⟨s.val + n.val - 2063, by omega⟩ else z) a) from k _ _ hz
  intro L
  induction L with
  | nil => exact fun a ha => ha
  | cons n L ih =>
    intro a ha
    refine ih _ (ha.add ?_)
    split_ifs
    · exact hx _
    · exact hz

end Cert.Mix

namespace Cert.Kernel2Ideal.Mix

open Cert.Kernel2Ideal Cert.Kernel2Ideal.Gen
open Cert.Reference2Ideal.Value
open Cert.Mix Cert.Pays
open Idealize.ShloMosaic Idealize.ShloMosaic.TcCoe Idealize.SL.Sem

/-- Every entry of every argument is a real number. -/
structure Arrays.Finite (A : Arrays) : Prop where
  a0 : ∀ y, Rl (A.a0 y)
  a1 : ∀ y, Rl (A.a1 y)
  a2 : ∀ y, Rl (A.a2 y)
  a3 : ∀ y, Rl (A.a3 y)
  a4 : ∀ y, Rl (A.a4 y)
  a5 : ∀ y, Rl (A.a5 y)
  a6 : ∀ y, Rl (A.a6 y)
  a7 : ∀ y, Rl (A.a7 y)
  a8 : ∀ y, Rl (A.a8 y)
  a9 : ∀ y, Rl (A.a9 y)

theorem window_ne : ∀ (s : Fin 2064) (g : Fin 4), (IntOp.minsi (IntOp.addi (BitVec.ofNat 32 s.val) 1#32)
    (IntOp.shli ArithUnit.host 2#32 (BitVec.ofNat 32 g.val))).toInt ≠ 0 := by decide +kernel

theorem lengths_ne : ∀ (s : Fin 2064) (g : Fin 4), ∃ r : ℝ, r ≠ 0 ∧ lengths (ix2 s g) = (r : EReal) := by
  intro s g
  pointwise [lengths]
  exact ⟨_, Int.cast_ne_zero.mpr (window_ne s g), rfl⟩

variable {U : Valuation Cert.Reference2Ideal.τ Cert.Reference2Ideal.sig (Elt Ideal)} {A : Arrays} (h : ArgsR U A) (r : A.Finite)
include h r

theorem r4 (b : Fin 4) (s : Fin 2064) (k : Fin 1024) : Rl (res_main_v4 U (ix3 b s k)) := by
  pointwise [res_main_v4, h.a0, h.a1]
  split_ifs
  · exact r.a1 _
  · exact r.a0 _
  · exact absurd rfl ‹_›

theorem r13 (b : Fin 4) (s : Fin 2064) (k : Fin 1) : Rl (res_main_v13 U (ix3 b s k)) := by
  choose H hH using r4 h r
  pointwise [res_main_v13, res_main_v12, hH _ _ _]
  simp only [← EReal.coe_mul, coe_sum, w_1024, w_eps]
  exact ⟨_, rstd_real _⟩

theorem r21 (b : Fin 4) (s : Fin 2064) (k : Fin 1024) : Rl (res_main_v21 U (ix3 b s k)) := by
  pointwise [res_main_v21, res_main_v18, res_main_v19, h.a2]
  exact ((r4 h r _ _ _).mul (r13 h r _ _ _)).mul (r.a2 _)

theorem r24 (b : Fin 4) (s : Fin 2064) (k : Fin 2048) : Rl (res_main_v24 U (ix3 b s k)) := by
  pointwise [res_main_v24, res_main_v22, h.a3]
  exact .sum fun _ => (r21 h r _ _ _).mul (r.a3 _)

theorem r53 (b : Fin 4) (s : Fin 2064) (k : Fin 512) : Rl (res_main_v53 U (ix3 b s k)) := by
  have e : ∀ (l : Fin 2066), Rl (res_main_v32 U (ix3 b l k)) := fun l => by
    pointwise [res_main_v32, res_main_v26, res_main_v27]
    split_ifs
    · exact .zero
    · exact (r24 h r _ _ _).mul (r24 h r _ _ _)
    · exact absurd rfl ‹_›
  pointwise [res_main_v53, res_main_v36, res_main_v42, res_main_v49, res_main_v37, res_main_v43, res_main_v50, res_main_v30, h.a4]
  exact (((r.a4 _).mul (e _)).add ((r.a4 _).mul (e _))).add ((r.a4 _).mul (e _))

theorem r54 (b : Fin 4) (s : Fin 2064) (g : Fin 4) (k : Fin 128) : Rl (res_main_v54 U (ix4 b s g k)) := by
  pointwise [res_main_v54]
  exact r24 h r _ _ _

theorem rsums (b : Fin 4) (s : Fin 2064) (g : Fin 4) (k : Fin 128) : Rl (sums (res_main_v54 U) (ix4 b s g k)) := by
  rw [sums_at]
  exact .running .zero (fun _ => r54 h r _ _ _ _) _

theorem r128 (b : Fin 4) (s : Fin 2064) (g : Fin 4) (k : Fin 128) : Rl (res_main_v128 U (ix4 b s g k)) := by
  rw [pooled_eq]
  pointwise [pooledOf, late]
  refine .sub (.div (.sub (rsums h r _ _ _ _) ?_) (lengths_ne _ _)) (r54 h r _ _ _ _)
  split_ifs <;> first | with_reducible exact .zero | with_reducible exact rsums h r _ _ _ _ | exact absurd rfl ‹_›

theorem r141 (b : Fin 4) (s : Fin 2064) (k : Fin 1024) : Rl (res_main_v141 U (ix3 b s k)) := by
  pointwise [res_main_v141, res_main_v139, res_main_v25, res_main_v132, res_main_v134, res_main_v129, h.a7, h.a6, h.a5]
  exact .add (.sum fun _ => ((r24 h r _ _ _).mul (r53 h r _ _ _)).mul (r.a7 _))
    (.sum fun _ => ((Rl.sum fun _ => (r.a5 _).mul (r128 h r _ _ _ _)).mul (r.a6 _)).mul (r.a7 _))

end Cert.Kernel2Ideal.Mix

end
-- ==== Proof.Mix.Point.lean ====
/- One grid point of the mixing half's kernel: the gradient of the norm's input, the gain's accumulator and the rows before the
   sequence as closed terms of what the point reads. -/
module

public import proofs.«01_k».proof.Proof.Mix.Frame
public import Idealize.ShloMosaic.Lib.Pipeline.Value

@[expose] public section

set_option maxRecDepth 16384

noncomputable section

namespace Cert.Kernel2Ideal.Mix

open Cert.Kernel2Ideal Cert.Kernel2Ideal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem readCov_ld {κ : Kind} {sp : Space} {S : Shape} {e : EltTy} (v : View sig κ sp S e) (L : List (View.Piece (Elt F) S e)) (r : Rect S) :
    v.readCov L r.toLoadRect = View.ld (View.canon L) r := View.readCov_eq_canon' _ _ _

variable (m : (ℓ : Loc nD τ sig) → Buf (Elt F) ℓ)

/-- The gradient of the norm's input at a point. -/
abbrev dmAt (c : Dev nD) (t : Fin cfg0.N) : Vec F S512x1024 .bf16 :=
  k0_pay50 (iblk m c 9 t) (k0_pay45 (iblk m c 0 t)) (k0_pay47 (iblk m c 1 t)) (k0_pay48 (iblk m c 1 t))

/-- The gain's accumulator after a point that finds it at `p`. -/
abbrev dg2At (c : Dev nD) (t : Fin cfg0.N) (p : Vec F S8x1024 .f32) : Vec F S8x1024 .f32 :=
  k0_pay49 (k0_pay45 (iblk m c 0 t)) (k0_pay48 (iblk m c 1 t)) p

theorem dm_A (c : Dev nD) (t : Fin cfg0.N) (h : CaseA (grid0.coords t)) : (outsA m c t h).dm = dmAt m c t := by
  unfold outsA atA runA
  dsimp only
  sl_unfold_words
  simp only [readCov_ld, View.readAt_eq_ld, (hs0_0 t).read_unread, (hs0_1 t).read_unread, (hs0_9 t).read_unread,
    View.canon_cons_unit_zero (S := S512x1024) hz2, View.ld_unit_zero (S := S1x512x1024) hz3, View.ld_unit_zero (S := S1x1024) hz2]

theorem dg2_A (c : Dev nD) (t : Fin cfg0.N) (h : CaseA (grid0.coords t)) : (outsA m c t h).dg2 = dg2At m c t k0_pay35 := by
  unfold outsA atA runA
  dsimp only
  sl_unfold_words
  simp only [readCov_ld, View.readAt_eq_ld, (hs0_0 t).read_unread, (hs0_1 t).read_unread,
    View.canon_cons_unit_zero (S := S8x1024) hz2, View.ld_unit_zero (S := S8x1024) hz2, View.ld_unit_zero (S := S1x512x1024) hz3]

theorem dm_B (c : Dev nD) (t : Fin cfg0.N) (h : CaseB (grid0.coords t)) (p : Outs F) : (outsB m c t h p).dm = dmAt m c t := by
  unfold outsB atB runB
  dsimp only
  sl_unfold_words
  simp only [readCov_ld, View.readAt_eq_ld, (hs0_0 t).read_unread, (hs0_1 t).read_unread, (hs0_9 t).read_unread,
    View.canon_cons_unit_zero (S := S512x1024) hz2, View.ld_unit_zero (S := S1x512x1024) hz3, View.ld_unit_zero (S := S1x1024) hz2]

theorem dg2_B (c : Dev nD) (t : Fin cfg0.N) (h : CaseB (grid0.coords t)) (p : Outs F) : (outsB m c t h p).dg2 = dg2At m c t p.dg2 := by
  unfold outsB atB runB
  dsimp only
  sl_unfold_words
  simp only [readCov_ld, View.readAt_eq_ld, (hs0_0 t).read_unread, (hs0_1 t).read_unread, (hs0_18 t).read_unread,
    View.canon_cons_unit_zero (S := S8x1024) hz2, View.ld_unit_zero (S := S8x1024) hz2, View.ld_unit_zero (S := S1x512x1024) hz3]

theorem dm_C (c : Dev nD) (t : Fin cfg0.N) (h : CaseC (grid0.coords t)) (p : Outs F) : (outsC m c t h p).dm = dmAt m c t := by
  unfold outsC atC runC
  dsimp only
  sl_unfold_words
  simp only [readCov_ld, View.readAt_eq_ld, (hs0_0 t).read_unread, (hs0_1 t).read_unread, (hs0_9 t).read_unread,
    View.canon_cons_unit_zero (S := S512x1024) hz2, View.ld_unit_zero (S := S1x512x1024) hz3, View.ld_unit_zero (S := S1x1024) hz2]

theorem dg2_C (c : Dev nD) (t : Fin cfg0.N) (h : CaseC (grid0.coords t)) (p : Outs F) : (outsC m c t h p).dg2 = dg2At m c t p.dg2 := by
  unfold outsC atC runC
  dsimp only
  sl_unfold_words
  simp only [readCov_ld, View.readAt_eq_ld, (hs0_0 t).read_unread, (hs0_1 t).read_unread, (hs0_18 t).read_unread,
    View.canon_cons_unit_zero (S := S8x1024) hz2, View.ld_unit_zero (S := S8x1024) hz2, View.ld_unit_zero (S := S1x512x1024) hz3]

theorem dm_D (c : Dev nD) (t : Fin cfg0.N) (h : CaseD (grid0.coords t)) (p : Outs F) : (outsD m c t h p).dm = dmAt m c t := by
  unfold outsD atD runD
  dsimp only
  sl_unfold_words
  simp only [readCov_ld, View.readAt_eq_ld, (hs0_0 t).read_unread, (hs0_1 t).read_unread, (hs0_9 t).read_unread,
    View.canon_cons_unit_zero (S := S512x1024) hz2, View.ld_unit_zero (S := S1x512x1024) hz3, View.ld_unit_zero (S := S1x1024) hz2]

theorem dg2_D (c : Dev nD) (t : Fin cfg0.N) (h : CaseD (grid0.coords t)) (p : Outs F) : (outsD m c t h p).dg2 = dg2At m c t p.dg2 := by
  unfold outsD atD runD
  dsimp only
  sl_unfold_words
  simp only [readCov_ld, View.readAt_eq_ld, (hs0_0 t).read_unread, (hs0_1 t).read_unread, (hs0_18 t).read_unread,
    View.canon_cons_unit_zero (S := S8x1024) hz2, View.ld_unit_zero (S := S8x1024) hz2, View.ld_unit_zero (S := S1x512x1024) hz3]

theorem dm_E (c : Dev nD) (t : Fin cfg0.N) (h : CaseE (grid0.coords t)) (p : Outs F) : (outsE m c t h p).dm = dmAt m c t := by
  unfold outsE atE runE
  dsimp only
  sl_unfold_words
  simp only [readCov_ld, View.readAt_eq_ld, (hs0_0 t).read_unread, (hs0_1 t).read_unread, (hs0_9 t).read_unread,
    View.canon_cons_unit_zero (S := S512x1024) hz2, View.ld_unit_zero (S := S1x512x1024) hz3, View.ld_unit_zero (S := S1x1024) hz2]

theorem dg2_E (c : Dev nD) (t : Fin cfg0.N) (h : CaseE (grid0.coords t)) (p : Outs F) : (outsE m c t h p).dg2 = dg2At m c t p.dg2 := by
  unfold outsE atE runE
  dsimp only
  sl_unfold_words
  simp only [readCov_ld, View.readAt_eq_ld, (hs0_0 t).read_unread, (hs0_1 t).read_unread, (hs0_18 t).read_unread,
    View.canon_cons_unit_zero (S := S8x1024) hz2, View.ld_unit_zero (S := S8x1024) hz2, View.ld_unit_zero (S := S1x512x1024) hz3]

theorem am_E (c : Dev nD) (t : Fin cfg0.N) (h : CaseE (grid0.coords t)) (p : Outs F) :
    (outsE m c t h p).am = k0_pay20 (iblk m c 8 t) (iblk m c 7 t) := by
  unfold outsE atE runE
  dsimp only
  sl_unfold_words
  simp only [readCov_ld, View.readAt_eq_ld, (hs0_7 t).read_unread, (hs0_8 t).read_unread,
    View.canon_cons_unit_zero (S := S16x1024) hz2, View.ld_unit_zero (S := S16x1024) hz2, View.ld_unit_zero (S := S1x1024) hz2]

/-- Every point leaves the gradient of its tile's rows. -/
theorem dm_all (c : Dev nD) (t : Fin cfg0.N) : (outsAt m c t.val t.isLt).dm = dmAt m c t := by
  by_cases h0 : t.val = 0
  · rw [outsAt_A m c t h0, dm_A]
  by_cases h1 : t.val % 4 = 0
  · rw [outsAt_B m c t h0 h1, dm_B]
  by_cases h2 : t.val % 4 = 3
  · by_cases h3 : t.val = 15
    · rw [outsAt_E m c t h3, dm_E]
    · rw [outsAt_D m c t h3 h2, dm_D]
  · rw [outsAt_C m c t h1 h2, dm_C]

theorem dg2_first (c : Dev nD) (t : Fin cfg0.N) (h0 : t.val = 0) : (outsAt m c t.val t.isLt).dg2 = dg2At m c t k0_pay35 := by
  rw [outsAt_A m c t h0, dg2_A]

theorem dg2_next (c : Dev nD) (t : Fin cfg0.N) (h0 : t.val ≠ 0) : (outsAt m c t.val t.isLt).dg2 = dg2At m c t (prev m c t).dg2 := by
  by_cases h1 : t.val % 4 = 0
  · rw [outsAt_B m c t h0 h1, dg2_B]
  by_cases h2 : t.val % 4 = 3
  · by_cases h3 : t.val = 15
    · rw [outsAt_E m c t h3, dg2_E]
    · rw [outsAt_D m c t h3 h2, dg2_D]
  · rw [outsAt_C m c t h1 h2, dg2_C]

theorem am_last (c : Dev nD) (t : Fin cfg0.N) (h : t.val = 15) :
    (outsAt m c t.val t.isLt).am = k0_pay20 (iblk m c 8 t) (iblk m c 7 t) := by
  rw [outsAt_E m c t h, am_E]

end Cert.Kernel2Ideal.Mix

end
-- ==== Proof.Mix.Walk.lean ====
/- The walk over the grid's points: over real rows, every point leaves the gradient of its tile's rows at the norm's input, and the
   gain's accumulator the sums so far. -/
module

public import proofs.«01_k».proof.Proof.Mix.Point
public import proofs.«01_k».proof.Proof.Pays
public import Idealize.ShloMosaic.Lib.Pipeline.ValueKit

@[expose] public section

set_option maxRecDepth 16384

noncomputable section

namespace Cert.Kernel2Ideal.Mix

open Cert.Kernel2Ideal Cert.Kernel2Ideal.Gen
open Cert.Pays (R2 w_1024 w_eps coe_sum rstd_real div_real)
open Cert.Rows (rstd rmsBwd)
open Idealize.ShloMosaic Idealize.ShloMosaic.TcCoe Idealize.SL.Sem

/-- The rows of a tile added by their number modulo eight. -/
def rows8 {w : ℕ} (x : Fin 512 → Fin w → ℝ) (i : Fin 8) (k : Fin w) : ℝ := ∑ a : Fin 64, x ⟨a * 8 + i, by omega⟩ k

theorem sum_rows8 {w : ℕ} (x : Fin 512 → Fin w → ℝ) (k : Fin w) : ∑ i, rows8 x i k = ∑ r, x r k := by
  unfold rows8
  rw [Finset.sum_comm, ← Fintype.sum_prod_type' (f := fun (a : Fin 64) (i : Fin 8) => x ⟨a * 8 + i, by omega⟩ k),
    ← (finProdFinEquiv (m := 64) (n := 8)).sum_comp (fun r : Fin 512 => x r k)]
  exact Finset.sum_congr rfl fun p _ => congrArg (fun r => x r k) (Fin.ext (by
    show p.1.val * 8 + p.2.val = p.2.val + 8 * p.1.val
    ring))

section Pays

variable {x0 x1 : Vec Ideal S1x512x1024 .f32} {x9 : Vec Ideal S1x1024 .f32} {E M : Fin 512 → Fin 1024 → ℝ} {G : Fin 1024 → ℝ}
  (h0 : ∀ a i k, x0 (ix3 a i k) = ((E i k : ℝ) : EReal)) (h1 : ∀ a i k, x1 (ix3 a i k) = ((M i k : ℝ) : EReal))
  (h9 : ∀ i k, x9 (ix2 i k) = ((G k : ℝ) : EReal))

include h0 in
theorem pay45 : R2 (k0_pay45 x0) E := fun i k => by
  pointwise [k0_pay45, h0 _ _ _]

include h1

theorem pay46 : R2 (k0_pay46 x1) M := fun i k => by
  pointwise [k0_pay46, h1 _ _ _]

theorem pay47 : R2 (k0_pay47 x1) fun i _ => rstd (M i) := fun i k => by
  pointwise [k0_pay47, pay46 h1 _ _]
  simp only [← EReal.coe_mul, coe_sum]
  rw [w_1024, w_eps, rstd_real]

theorem pay48 : R2 (k0_pay48 x1) fun i k => M i k * rstd (M i) := fun i k => by
  pointwise [k0_pay48, pay46 h1 _ _, pay47 h1 _ _]
  rw [← EReal.coe_mul]

include h0

theorem pay49 {p : Vec Ideal S8x1024 .f32} {P : Fin 8 → Fin 1024 → ℝ} (hp : R2 p P) :
    R2 (k0_pay49 (k0_pay45 x0) (k0_pay48 x1) p) fun i k => P i k + rows8 (fun i k => E i k * (M i k * rstd (M i))) i k := fun i k => by
  pointwise [k0_pay49, pay45 h0 _ _, pay48 h1 _ _, hp _ _]
  simp only [← EReal.coe_mul, coe_sum, ← EReal.coe_add]
  rfl

include h9

theorem pay50 : R2 (k0_pay50 x9 (k0_pay45 x0) (k0_pay47 x1) (k0_pay48 x1))
    fun i => rmsBwd (E i) (fun l => M i l * rstd (M i)) (rstd (M i)) G := fun i k => by
  pointwise [k0_pay50, pay45 h0 _ _, pay47 h1 _ _, pay48 h1 _ _, h9 _ _]
  simp only [← EReal.coe_mul, coe_sum, w_1024]
  rw [div_real (by norm_num)]
  simp only [← EReal.coe_mul, ← EReal.coe_sub]
  rfl

end Pays

/-- The number of the tile that a point works on: a sequence's tiles from the last to the first. -/
abbrev tileOf (t : ℕ) : ℕ := t / 4 * 4 + (3 - t % 4)

theorem tileOf_lt {t : ℕ} (h : t < 16) : tileOf t < 16 := by unfold tileOf; omega

/-- The rows of the tile of point `t`. -/
abbrev tile {w : ℕ} (x : Fin 8192 → Fin w → ℝ) (t : ℕ) (h : t < 16) : Fin 512 → Fin w → ℝ := fun i => x ⟨tileOf t * 512 + i, by have := tileOf_lt h; omega⟩

/-- An accumulator after the points up to `n`. -/
def acc {w : ℕ} (x : Fin 8192 → Fin w → ℝ) : (n : ℕ) → n < 16 → Fin 8 → Fin w → ℝ
  | 0, h => fun i k => 0 + rows8 (tile x 0 h) i k
  | n + 1, h => fun i k => acc x n (by omega) i k + rows8 (tile x (n + 1) h) i k

theorem sum_acc_upto {w : ℕ} (x : Fin 8192 → Fin w → ℝ) (k : Fin w) : ∀ (n : ℕ) (h : n < 16),
    ∑ i, acc x n h i k = ∑ t : Fin (n + 1), ∑ r, tile x t.val (by omega) r k
  | 0, h => by
    simp only [acc, zero_add, sum_rows8]
    exact (Fin.sum_univ_one fun t : Fin 1 => ∑ r, tile x t.val (by omega) r k).symm
  | n + 1, h => by
    simp only [acc, Finset.sum_add_distrib, sum_rows8]
    rw [sum_acc_upto x k n (by omega)]
    exact (Fin.sum_univ_castSucc fun t : Fin (n + 2) => ∑ r, tile x t.val (by omega) r k).symm

/-- The points' order of the tiles, undone by itself. -/
def turned (t : Fin 16) : Fin 16 := ⟨tileOf t.val, tileOf_lt t.isLt⟩

theorem turned_turned : Function.Involutive turned := fun t => Fin.ext (by unfold turned tileOf; dsimp only; omega)

theorem sum_acc {w : ℕ} (x : Fin 8192 → Fin w → ℝ) (k : Fin w) (h : 15 < 16) : ∑ i, acc x 15 h i k = ∑ r, x r k := by
  rw [sum_acc_upto]
  refine (Equiv.sum_comp turned_turned.toPerm fun t : Fin 16 => ∑ r : Fin 512, x ⟨t.val * 512 + r.val, by omega⟩ k).trans ?_
  rw [← Fintype.sum_prod_type' (f := fun (t : Fin 16) (r : Fin 512) => x ⟨t.val * 512 + r.val, by omega⟩ k),
    ← (finProdFinEquiv (m := 16) (n := 512)).sum_comp (fun r : Fin 8192 => x r k)]
  exact Finset.sum_congr rfl fun p _ => congrArg (fun r => x r k) (Fin.ext (by
    show p.1.val * 512 + p.2.val = p.2.val + 512 * p.1.val
    ring))

theorem N_16 : cfg0.N = 16 := by decide +kernel

theorem index_0 : ∀ t : Fin cfg0.N, win0_0.index t = ![t.val / 4, 3 - t.val % 4, 0] := (by decide +kernel : ∀ t : Fin grid0.N, _)
theorem index_1 : ∀ t : Fin cfg0.N, win0_1.index t = ![t.val / 4, 3 - t.val % 4, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)

section

variable (m : (ℓ : Loc nD τ sig) → Buf (Elt Ideal) ℓ) (c : Dev nD)

theorem iblk_0 (t : Fin cfg0.N) (ht : t.val < 16) (a : Fin 1) (i : Fin 512) (k : Fin 1024) :
    iblk m c 0 t (ix3 a i k) = V m c main_arg9 (ix3 (⟨t.val / 4, by omega⟩ : Fin 4) (⟨(3 - t.val % 4) * 512 + i, by omega⟩ : Fin 2048) k) := by
  blk_ext [iblk, index_0]
theorem iblk_1 (t : Fin cfg0.N) (ht : t.val < 16) (a : Fin 1) (i : Fin 512) (k : Fin 1024) :
    iblk m c 1 t (ix3 a i k) = V m c main_v88 (ix3 (⟨t.val / 4, by omega⟩ : Fin 4) (⟨(3 - t.val % 4) * 512 + i, by omega⟩ : Fin 2048) k) := by
  blk_ext [iblk, index_1]
theorem iblk_7 (t : Fin cfg0.N) (i : Fin 16) (k : Fin 1024) : iblk m c 7 t (ix2 i k) = V m c main_arg1 (ix2 i k) := by
  blk_ext [iblk, index_7]
theorem iblk_8 (t : Fin cfg0.N) (i : Fin 1) (k : Fin 1024) : iblk m c 8 t (ix2 i k) = V m c main_arg2 (ix2 i k) := by
  blk_ext [iblk, index_8]
theorem iblk_9 (t : Fin cfg0.N) (i : Fin 1) (k : Fin 1024) : iblk m c 9 t (ix2 i k) = V m c main_arg8 (ix2 i k) := by
  blk_ext [iblk, index_9]

/-- The number of the row at place `s` of sequence `b`. -/
abbrev row (b : Fin 4) (s : Fin 2048) : Fin 8192 := ⟨b * 2048 + s, by omega⟩

/-- What the kernel reads holds the real rows `M` of the norm's input, `E` of its result's gradient, and the gain `G`. -/
structure Held (M E : Fin 8192 → Fin 1024 → ℝ) (G : Fin 1024 → ℝ) : Prop where
  rm : ∀ b s k, V m c main_v88 (ix3 b s k) = ((M (row b s) k : ℝ) : EReal)
  re : ∀ b s k, V m c main_arg9 (ix3 b s k) = ((E (row b s) k : ℝ) : EReal)
  rg : ∀ i k, V m c main_arg8 (ix2 i k) = ((G k : ℝ) : EReal)

variable {m c} {M E : Fin 8192 → Fin 1024 → ℝ} {G : Fin 1024 → ℝ} (h : Held m c M E G)
include h

theorem in_0 (t : Fin cfg0.N) (ht : t.val < 16) (a : Fin 1) (i : Fin 512) (k : Fin 1024) :
    iblk m c 0 t (ix3 a i k) = ((tile E t.val ht i k : ℝ) : EReal) := by
  rw [iblk_0 m c t ht, h.re]
  exact congrArg _ (congrArg (fun r => E r k) (Fin.ext (by dsimp only [tileOf]; omega)))
theorem in_1 (t : Fin cfg0.N) (ht : t.val < 16) (a : Fin 1) (i : Fin 512) (k : Fin 1024) :
    iblk m c 1 t (ix3 a i k) = ((tile M t.val ht i k : ℝ) : EReal) := by
  rw [iblk_1 m c t ht, h.rm]
  exact congrArg _ (congrArg (fun r => M r k) (Fin.ext (by dsimp only [tileOf]; omega)))
theorem in_9 (t : Fin cfg0.N) (i : Fin 1) (k : Fin 1024) : iblk m c 9 t (ix2 i k) = ((G k : ℝ) : EReal) := by
  rw [iblk_9, h.rg]

/-- The gradient of a row at the norm's input. -/
def dmRows (M E : Fin 8192 → Fin 1024 → ℝ) (G : Fin 1024 → ℝ) : Fin 8192 → Fin 1024 → ℝ :=
  fun r => rmsBwd (E r) (fun l => M r l * rstd (M r)) (rstd (M r)) G
/-- A row's part of the gain's gradient. -/
def dg2Rows (M E : Fin 8192 → Fin 1024 → ℝ) : Fin 8192 → Fin 1024 → ℝ := fun r k => E r k * (M r k * rstd (M r))

theorem dm_at (t : Fin cfg0.N) (ht : t.val < 16) : R2 (outsAt m c t.val t.isLt).dm (tile (dmRows M E G) t.val ht) := by
  rw [dm_all]
  exact pay50 (in_0 h t ht) (in_1 h t ht) (in_9 h t)

omit h in
theorem pay35_zero : R2 (k0_pay35 (F := Ideal)) fun _ _ => 0 := fun i k => by
  pointwise [k0_pay35]
  simp [Ideal.ofBits, Ideal.ieee]

theorem dg2_at : ∀ (n : ℕ) (hn : n < cfg0.N) (h16 : n < 16), R2 (outsAt m c n hn).dg2 (acc (dg2Rows M E) n h16)
  | 0, hn, h16 => by
    rw [dg2_first m c ⟨0, hn⟩ rfl]
    exact pay49 (in_0 h ⟨0, hn⟩ h16) (in_1 h ⟨0, hn⟩ h16) pay35_zero
  | n + 1, hn, h16 => by
    rw [dg2_next m c ⟨n + 1, hn⟩ (Nat.succ_ne_zero n)]
    exact pay49 (in_0 h ⟨n + 1, hn⟩ h16) (in_1 h ⟨n + 1, hn⟩ h16) (dg2_at n _ (by omega))

end

end Cert.Kernel2Ideal.Mix

end
-- ==== Proof.Mix.Ref.lean ====
/- The reference's gradient at the norm's input and its gain's gradient, over real rows. -/
module

public import proofs.«01_k».proof.Proof.Mix.Real
public import proofs.«01_k».proof.Proof.Mix.Walk

@[expose] public section

set_option maxRecDepth 16384

noncomputable section

namespace Cert.Kernel2Ideal.Mix

open Cert.Kernel2Ideal Cert.Kernel2Ideal.Gen
open Cert.Reference2Ideal.Value
open Cert.Pays (w_1024 w_eps coe_sum rstd_real div_real rsqrt_real)
open Cert.Rows (rstd rmsBwd)
open Cert.ReferenceIdeal.Ffn (ms ms_pos pull rms_vjp sum_mul reduce_leading w_neg_half)
open Idealize.ShloMosaic Idealize.ShloMosaic.TcCoe Idealize.SL.Sem

/-- The row at place `s` of a sequence with the sixteen first rows, which the result does not have. -/
def padded (E : Fin 8192 → Fin 1024 → ℝ) (b : Fin 4) (s : Fin 2064) (k : Fin 1024) : ℝ :=
  if h : s.val < 16 then 0 else E (row b ⟨s.val - 16, by omega⟩) k

variable {U : Valuation Cert.Reference2Ideal.τ Cert.Reference2Ideal.sig (Elt Ideal)} {A : Arrays} (h : ArgsR U A)
  {M : Fin 4 → Fin 2064 → Fin 1024 → ℝ} (hM : ∀ b s k, res_main_v141 U (ix3 b s k) = ((M b s k : ℝ) : EReal))
  {E : Fin 8192 → Fin 1024 → ℝ} (hE : ∀ b s k, A.a9 (ix3 b s k) = ((E (row b s) k : ℝ) : EReal))
  {G : Fin 1024 → ℝ} (hG : ∀ i k, A.a8 (ix2 i k) = ((G k : ℝ) : EReal))

include hM in
theorem v149 (b : Fin 4) (s : Fin 2064) (k : Fin 1) : res_main_v149 U (ix3 b s k) = ((ms (M b s) : ℝ) : EReal) := by
  pointwise [res_main_v149, hM _ _ _]
  simp only [← EReal.coe_mul, coe_sum, w_1024, w_eps]
  rw [div_real (by norm_num), ← EReal.coe_add]; rfl

include hM in
theorem v150 (b : Fin 4) (s : Fin 2064) (k : Fin 1) : res_main_v150 U (ix3 b s k) = ((rstd (M b s) : ℝ) : EReal) := by
  pointwise [res_main_v150, v149 hM _ _ _]
  rw [rsqrt_real (ms_pos _)]; rfl

include h hG in
theorem v156 (i j : Fin 1) (k : Fin 1024) : res_main_v156 U (ix3 i j k) = ((G k : ℝ) : EReal) := by
  pointwise [res_main_v156, h.a8, hG _ _]

include h hE in
theorem v161 (b : Fin 4) (s : Fin 2064) (k : Fin 1024) : res_main_v161 U (ix3 b s k) = ((padded E b s k : ℝ) : EReal) := by
  pointwise [res_main_v161, h.a9]
  unfold padded
  by_cases hs : s.val < 16
  · rw [dif_pos hs, dif_neg]
    · rfl
    · intro q
      exact absurd (show 16 ≤ s.val from (q 1).1) (by omega)
  · rw [dif_neg hs, dif_pos]
    · exact hE b ⟨s.val - 16, by omega⟩ k
    · intro a
      match a with
      | ⟨0, _⟩ => exact ⟨Nat.zero_le _, Nat.mod_one _, show (b.val - 0) / 1 < 4 by omega⟩
      | ⟨1, _⟩ => exact ⟨show 16 ≤ s.val by omega, Nat.mod_one _, show (s.val - 16) / 1 < 2048 by omega⟩
      | ⟨2, _⟩ => exact ⟨Nat.zero_le _, Nat.mod_one _, show (k.val - 0) / 1 < 1024 by omega⟩

include h hE hG in
theorem v166 (b : Fin 4) (s : Fin 2064) (k : Fin 1024) : res_main_v166 U (ix3 b s k) = ((padded E b s k * G k : ℝ) : EReal) := by
  pointwise [res_main_v166, v161 h hE _ _ _, v156 h hG _ _ _]
  rw [← EReal.coe_mul]

include h hM hE hG

theorem v177 (b : Fin 4) (s : Fin 2064) (k : Fin 1024) :
    res_main_v177 U (ix3 b s k) = ((pull (M b s) (fun l => padded E b s l * G l) : ℝ) : EReal) := by
  pointwise [res_main_v177, hM _ _ _, v166 h hE hG _ _ _, v150 hM _ _ _, v149 hM _ _ _]
  simp only [sum_mul]
  rw [w_neg_half, w_1024, div_real (ms_pos _).ne', ← EReal.coe_mul, ← EReal.coe_mul, div_real (by norm_num)]
  exact Fin.sum_univ_one (M := EReal) (fun _ => _)

theorem v181 (b : Fin 4) (s : Fin 2064) (k : Fin 1024) :
    res_main_v181 U (ix3 b s k) = ((rmsBwd (padded E b s) (fun l => M b s l * rstd (M b s)) (rstd (M b s)) G k : ℝ) : EReal) := by
  pointwise [res_main_v181, hM _ _ _, v166 h hE hG _ _ _, v150 hM _ _ _, v177 h hM hE hG _ _ _]
  simp only [← EReal.coe_mul, ← EReal.coe_add]
  rw [rms_vjp]

/-- The rows of the result's sequences, without the sixteen first ones. -/
abbrev later (M : Fin 4 → Fin 2064 → Fin 1024 → ℝ) : Fin 8192 → Fin 1024 → ℝ :=
  fun r => M ⟨r.val / 2048, by omega⟩ ⟨16 + r.val % 2048, by omega⟩

omit h hM hE hG in
theorem padded_later (r : Fin 8192) : padded E ⟨r.val / 2048, by omega⟩ ⟨16 + r.val % 2048, by omega⟩ = E r := by
  funext k
  unfold padded
  rw [dif_neg (by dsimp only; omega)]
  exact congrArg (fun r => E r k) (Fin.ext (by dsimp only; omega))

theorem v335 (r : Fin 8192) (k : Fin 1024) :
    (truncf .bf16 (shapeCast Cert.Reference2Ideal.S8192x1024 (extractStridedSlice Cert.Reference2Ideal.S4x2048x1024 ![0, 16, 0] (res_main_v181 U)
      Cert.Reference2Ideal.Gen.slices_S4x2064x1024_S4x2048x1024_0_16_0) Cert.Reference2Ideal.Gen.shapeCasts_S4x2048x1024_S8192x1024)
      Cert.Reference2Ideal.Gen.bitsLt_bf16_f32 : FVec Ideal Cert.Reference2Ideal.S8192x1024 .bf16) (ix2 r k) = ((dmRows (later M) E G r k : ℝ) : EReal) := by
  pointwise [v181 h hM hE hG _ _ _]
  rw [padded_later]
  rfl

omit h hM hE hG in
theorem sum_padded (f : Fin 4 → Fin 2064 → ℝ) (E : Fin 8192 → Fin 1024 → ℝ) (k : Fin 1024) :
    (∑ _a : Fin 1, ∑ _c : Fin 1, ∑ b, ∑ s, (f b s : EReal) * (padded E b s k : EReal))
      = ((∑ r : Fin 8192, E r k * f ⟨r.val / 2048, by omega⟩ ⟨16 + r.val % 2048, by omega⟩ : ℝ) : EReal) := by
  simp only [Fin.sum_univ_one, ← EReal.coe_mul, coe_sum]
  rw [← Cert.ReferenceIdeal.Ffn.sum_rows]
  refine congrArg _ (Finset.sum_congr rfl fun b _ => ?_)
  rw [Fin.sum_univ_add (a := 16) (b := 2048) (fun s : Fin 2064 => f b s * padded E b s k),
    Finset.sum_eq_zero fun s _ => ?_, zero_add]
  · refine Finset.sum_congr rfl fun s _ => ?_
    rw [mul_comm]
    unfold padded
    rw [dif_neg (by simp)]
    refine congrArg₂ (· * ·) (congrArg (fun r => E r k) (Fin.ext ?_)) (congrArg₂ f (Fin.ext ?_) (Fin.ext ?_))
    · simp
    · show b.val = (b.val * 2048 + s.val) / 2048
      omega
    · show 16 + s.val = 16 + (b.val * 2048 + s.val) % 2048
      omega
  · unfold padded
    rw [dif_pos (by simp), mul_zero]

theorem v182 (i : Fin 1) (k : Fin 1024) : (broadcastInDim Cert.Reference2Ideal.S1x1024 ![1] Cert.Reference2Ideal.Gen.bcast_S1024_S1x1024_1
      (Host.reduceAdd (shapeCast _ (Host.reduceAdd (mulf (res_main_v155 U) (res_main_v161 U)) (constant Cert.Reference2Ideal.S_ .f32 0x00000000#32)
        Cert.Reference2Ideal.Gen.reducesTo_S4x2064x1024_S1024_d0_1 Cert.Reference2Ideal.Gen.h_S_) Cert.Reference2Ideal.Gen.shapeCasts_S1024_S1x1x1024)
        (constant Cert.Reference2Ideal.S_ .f32 0x00000000#32) Cert.Reference2Ideal.Gen.reducesTo_S1x1x1024_S1024_d0_1 Cert.Reference2Ideal.Gen.h_S_)
      : FVec Ideal Cert.Reference2Ideal.S1x1024 .f32) (ix2 i k) = ((∑ r, dg2Rows (later M) E r k : ℝ) : EReal) := by
  pointwise [reduce_leading, res_main_v155, hM _ _ _, v150 hM _ _ _, v161 h hE _ _ _]
  exact sum_padded (fun b s => M b s k * rstd (M b s)) E k

omit hM hE hG in
theorem v338 (i : Fin 16) (k : Fin 1024) : (truncf .bf16 (shapeCast Cert.Reference2Ideal.S16x1024 (extractStridedSlice Cert.Reference2Ideal.S1x16x1024 ![0, 0, 0] (res_main_v21 U)
      Cert.Reference2Ideal.Gen.slices_S4x2064x1024_S1x16x1024_0_0_0) Cert.Reference2Ideal.Gen.shapeCasts_S1x16x1024_S16x1024)
      Cert.Reference2Ideal.Gen.bitsLt_bf16_f32 : FVec Ideal Cert.Reference2Ideal.S16x1024 .bf16) (ix2 i k) = k0_pay20 (F := Ideal) A.a2 A.a1 (ix2 i k) := by
  pointwise [res_main_v21, res_main_v19, res_main_v18, res_main_v13, res_main_v12, res_main_v4, h.a0, h.a1, h.a2, k0_pay20, k0_pay19, k0_pay18]

end Cert.Kernel2Ideal.Mix

end
-- ==== Proof.Mix.Final.lean ====
/- The mixer kernel's results after the run: the gradient at the second norm's input, the sum that the host forms of its
   gain's gradient, and the normalised meta rows. -/
module

public import proofs.«01_k».proof.Proof.Mix.Ref

@[expose] public section

set_option maxRecDepth 16384

noncomputable section

namespace Cert.Kernel2Ideal.Mix

open Cert.Kernel2Ideal.Gen Cert.Pays Cert.Mix
open Idealize.ShloMosaic Idealize.ShloMosaic.TcCoe Idealize.SL.Sem

/-- The array that holds the real rows `x`. -/
abbrev rowsOf {n w : ℕ} (x : Fin n → Fin w → ℝ) : (⟨2, ![n, w]⟩ : Shape).Idx → EReal := fun y => ((x (y 0) (y 1) : ℝ) : EReal)

theorem index_16 : ∀ t : Fin cfg0.N, win0_16.index t = ![tileOf t.val, 0] := (by decide +kernel : ∀ t : Fin grid0.N, _)

theorem lt_16 (t : Fin cfg0.N) : t.val < 16 := N_16 ▸ t.isLt

/-- The last point. -/
abbrev last : Fin cfg0.N := ⟨15, lt_of_lt_of_eq (by omega) (N_16 : cfg0.N = 16).symm⟩

theorem arr_inj : Function.Injective (Pipeline.arrRef spec0) := by decide +kernel

/-- A row of a tile, found in the whole array. -/
theorem placed {w : ℕ} (x : Fin 8192 → Fin w → ℝ) (t : ℕ) (ht : t < 16) (e : (⟨2, ![8192, w]⟩ : Shape).Idx) (i : Fin 512) (j : Fin w)
    (h0 : (e 0).val = tileOf t * 512 + i.val) (h1 : (e 1).val = j.val) : ((tile x t ht i j : ℝ) : EReal) = rowsOf x e :=
  congrArg _ (congrArg₂ x (Fin.ext h0.symm) (Fin.ext h1.symm))

variable {m : (ℓ : Loc nD τ sig) → Buf (Elt Ideal) ℓ} {c : Dev nD}

section

variable {M E : Fin 8192 → Fin 1024 → ℝ} {G : Fin 1024 → ℝ} (h : Held m c M E G)
include h

theorem arr_dm : (dats m 0 c).arrAt 16 cfg0.N = rowsOf (dmRows M E G) := by
  refine (dats m 0 c).arrAt_eq_of_covers 16 _ (by decide +kernel) fun t hf y => ?_
  blk_simp
  rw [after_16]
  refine ((congrArg _ (eq_ix2 y)).trans ((dm_at h t (lt_16 t)) (y 0) (y 1))).trans ?_
  refine placed (dmRows M E G) t.val (lt_16 t) _ (y 0) (y 1) ?_ ?_ <;> · blk_simp [index_16]; try simp

theorem arr_dg2 : (dats m 0 c).arrAt 18 cfg0.N = rowsOf (acc (dg2Rows M E) 15 (by omega)) := by
  refine (dats m 0 c).arrAt_eq_of_after_last 18 last (by decide +kernel) _ fun j => ?_
  blk_simp
  rw [after_18]
  exact (congrArg _ (eq_ix2 j)).trans ((dg2_at h 15 last.isLt (by omega)) (j 0) (j 1))

theorem tail_dg2 (i : Fin 1) (k : Fin 1024) : Pipeline.afterTail₀ cfgs (dats m) 0 (V0 m) [hostOps1] c main_v107 (ix2 i k)
    = ((∑ r, dg2Rows M E r k : ℝ) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v105_4)
    = (dats m 0 c).arrAt 18 cfg0.N from Pipeline.withArrays_arr spec0 arr_inj c _ _ 18, arr_dg2 h]
  pointwise
  show (∑ i : Fin 8, ((acc (dg2Rows M E) 15 (by omega) i k : ℝ) : EReal)) = _
  rw [coe_sum, sum_acc]

end

variable {A : Arrays} (k : ArgsK m c A)
include k

theorem arr_am : (dats m 0 c).arrAt 25 cfg0.N = fun y => k0_pay20 (F := Ideal) A.a2 A.a1 (ix2 (y 0) (y 1)) := by
  refine (dats m 0 c).arrAt_eq_of_after_last 25 last (by decide +kernel) _ fun j => ?_
  blk_simp
  rw [after_25]
  refine (congrArg _ (eq_ix2 j)).trans ?_
  rw [am_last m c last rfl]
  refine congrFun (congrArg₂ k0_pay20 (funext fun y => ?_) (funext fun y => ?_)) _
  · exact ((congrArg _ (eq_ix2 y)).trans (iblk_8 m c last (y 0) (y 1))).trans
      ((congrFun ((V_main_arg2 m c).trans k.a2) _).trans (congrArg _ (eq_ix2 y).symm))
  · exact ((congrArg _ (eq_ix2 y)).trans (iblk_7 m c last (y 0) (y 1))).trans
      ((congrFun ((V_main_arg1 m c).trans k.a1) _).trans (congrArg _ (eq_ix2 y).symm))

omit k in
/-- What the kernel reads of the norm's input is the forward value without its sixteen first rows. -/
theorem v88_eq (b : Fin 4) (s : Fin 2048) (l : Fin 1024) : V m c main_v88 (ix3 b s l)
    = V m c main_v80 (ix3 b (⟨16 + s.val, by omega⟩ : Fin 2064) l) := by
  have e : V m c main_v88 = extractStridedSlice S4x2048x1024 ![0, 16, 0] (V m c main_v80) slices_S4x2064x1024_S4x2048x1024_0_16_0 := by
    sl_kernel_rfl
  rw [e]
  pointwise

end Cert.Kernel2Ideal.Mix

end
-- ==== Proof.Mix.Point2.lean ====
/- One grid point of the mixing half's kernel: the accumulators of the pooling's backward as closed terms of what the point reads. -/
module

public import proofs.«01_k».proof.Proof.Mix.Point
public import Idealize.ShloMosaic.Lib.Pipeline.ReadBack

@[expose] public section

set_option maxRecDepth 16384

noncomputable section

namespace Cert.Kernel2Ideal.Mix

open Cert.Kernel2Ideal Cert.Kernel2Ideal.Gen
open Idealize.ShloMosaic Idealize.ShloMosaic.TcCoe Idealize.SL.Sem

variable {F : FTy → Type} [FloatOps F]

variable (m : (ℓ : Loc nD τ sig) → Buf (Elt F) ℓ)

/-- The gradient at the mixer's joined columns, at a point that finds the second weight at `w`. -/
abbrev dycAt (c : Dev nD) (t : Fin cfg0.N) (w : Vec F S1024x1024 .bf16) : FVec F S512x1024 .f32 :=
  k0_pay51 (iblk m c 9 t) (k0_pay45 (iblk m c 0 t)) (k0_pay47 (iblk m c 1 t)) (k0_pay48 (iblk m c 1 t)) w

/-- The first group's columns of the gradient. -/
abbrev dyp0 (d : FVec F S512x1024 .f32) : FVec F S512x128 .f32 := extractStridedSlice S512x128 ![0, 512] d slices_S512x1024_o0_512_S512x128

/-- The first group's stored sums of the scale's gradient. -/
def dsc0 (d : FVec F S512x1024 .f32) (v54 : Vec F S512x128 .bf16) (v56 : Vec F S1x128x128 .bf16) (v61 : Vec F S8x128 .f32) : FVec F S8x128 .f32 :=
  addf (shapeCast S8x128 v61 shapeCasts_S8x128_S8x128)
    (multiReduction .add [0] S8x128 (shapeCast S64x8x128 (mulf (dyp0 d)
      (matmul dot_S512x128_S128x128_S512x128_1_0_0_1_n_n none (k0_pay53 v54) (shapeCast S128x128 v56 shapeCasts_S1x128x128_S128x128)
        (constant S512x128 .f32 0x00000000#32))) shapeCasts_S512x128_S64x8x128) 0x00000000#32 reduces_S64x8x128_S8x128 (.inl rfl) rfl)

/-- The stores into the scale's accumulator. -/
abbrev dscPieces (d : FVec F S512x1024 .f32) (x4 : Vec F S512x512 .bf16) (x11 : Vec F S4x128x128 .bf16) (p : Vec F S8x512 .f32) :
    List (View.Piece (Elt F) S8x512 .f32) :=
  [⟨Rect.unit ![0, 384] S8x128.size inb_S8x512_S8x128_0_384,
      k0_pay73 d (View.ld x4 (Rect.unit ![0, 384] S512x128.size inb_S512x512_S512x128_0_384))
        (View.ld x11 (Rect.unit ![3, 0, 0] S1x128x128.size inb_S4x128x128_S1x128x128_3_0_0))
        (View.ld p (Rect.unit ![0, 384] S8x128.size inb_S8x512_S8x128_0_384))⟩,
    ⟨Rect.unit ![0, 256] S8x128.size inb_S8x512_S8x128_0_256,
      k0_pay67 d (View.ld x4 (Rect.unit ![0, 256] S512x128.size inb_S512x512_S512x128_0_256))
        (View.ld x11 (Rect.unit ![2, 0, 0] S1x128x128.size inb_S4x128x128_S1x128x128_2_0_0))
        (View.ld p (Rect.unit ![0, 256] S8x128.size inb_S8x512_S8x128_0_256))⟩,
    ⟨Rect.unit ![0, 128] S8x128.size inb_S8x512_S8x128_0_128,
      k0_pay61 d (View.ld x4 (Rect.unit ![0, 128] S512x128.size inb_S512x512_S512x128_0_128))
        (View.ld x11 (Rect.unit ![1, 0, 0] S1x128x128.size inb_S4x128x128_S1x128x128_1_0_0))
        (View.ld p (Rect.unit ![0, 128] S8x128.size inb_S8x512_S8x128_0_128))⟩,
    ⟨Rect.unit ![0, 0] S8x128.size inb_S8x512_S8x128_0_0,
      dsc0 d (View.ld x4 (Rect.unit ![0, 0] S512x128.size inb_S512x512_S512x128_0_0))
        (View.ld x11 (Rect.unit ![0, 0, 0] S1x128x128.size inb_S4x128x128_S1x128x128_0_0_0))
        (View.ld p (Rect.unit ![0, 0] S8x128.size inb_S8x512_S8x128_0_0))⟩]

/-- The stores into the pooling weight's accumulator. -/
abbrev dpwPieces (d : FVec F S512x1024 .f32) (x4 : Vec F S512x512 .bf16) (x12 : Vec F S1x512 .f32) (p : Vec F S4x128x128 .f32) :
    List (View.Piece (Elt F) S4x128x128 .f32) :=
  [⟨Rect.unit ![3, 0, 0] S1x128x128.size inb_S4x128x128_S1x128x128_3_0_0,
      k0_pay75 (k0_pay71 (View.ld x4 (Rect.unit ![0, 384] S512x128.size inb_S512x512_S512x128_0_384)))
        (View.ld x12 (Rect.unit ![0, 384] S1x128.size inb_S1x512_S1x128_0_384)) (k0_pay72 d)
        (View.ld p (Rect.unit ![3, 0, 0] S1x128x128.size inb_S4x128x128_S1x128x128_3_0_0))⟩,
    ⟨Rect.unit ![2, 0, 0] S1x128x128.size inb_S4x128x128_S1x128x128_2_0_0,
      k0_pay69 (k0_pay65 (View.ld x4 (Rect.unit ![0, 256] S512x128.size inb_S512x512_S512x128_0_256)))
        (View.ld x12 (Rect.unit ![0, 256] S1x128.size inb_S1x512_S1x128_0_256)) (k0_pay66 d)
        (View.ld p (Rect.unit ![2, 0, 0] S1x128x128.size inb_S4x128x128_S1x128x128_2_0_0))⟩,
    ⟨Rect.unit ![1, 0, 0] S1x128x128.size inb_S4x128x128_S1x128x128_1_0_0,
      k0_pay63 (k0_pay59 (View.ld x4 (Rect.unit ![0, 128] S512x128.size inb_S512x512_S512x128_0_128)))
        (View.ld x12 (Rect.unit ![0, 128] S1x128.size inb_S1x512_S1x128_0_128)) (k0_pay60 d)
        (View.ld p (Rect.unit ![1, 0, 0] S1x128x128.size inb_S4x128x128_S1x128x128_1_0_0))⟩,
    ⟨Rect.unit ![0, 0, 0] S1x128x128.size inb_S4x128x128_S1x128x128_0_0_0,
      k0_pay57 (k0_pay53 (View.ld x4 (Rect.unit ![0, 0] S512x128.size inb_S512x512_S512x128_0_0)))
        (View.ld x12 (Rect.unit ![0, 0] S1x128.size inb_S1x512_S1x128_0_0)) (dyp0 d)
        (View.ld p (Rect.unit ![0, 0, 0] S1x128x128.size inb_S4x128x128_S1x128x128_0_0_0))⟩]

theorem dsc_A (c : Dev nD) (t : Fin cfg0.N) (h : CaseA (grid0.coords t)) : (outsA m c t h).dsc
    = View.canon (dscPieces (dycAt m c t (outsA m c t h).wout) (iblk m c 4 t) (iblk m c 11 t) k0_pay36 ++ [⟨Rect.unit ![0, 0] S8x512.size inb_S8x512_S8x512_0_0, k0_pay36⟩]) := by
  unfold outsA atA runA
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_19 t).read_unread,
    read_unread_whole, View.ld_unit_zero (S := S1x512x1024) hz3, View.ld_unit_zero (S := S1x1024) hz2, View.ld_unit_zero (S := S1024x1024) hz2]
  rfl

theorem dpw_A (c : Dev nD) (t : Fin cfg0.N) (h : CaseA (grid0.coords t)) : (outsA m c t h).dpw
    = View.canon (dpwPieces (dycAt m c t (outsA m c t h).wout) (iblk m c 4 t) (iblk m c 12 t) k0_pay38 ++ [⟨Rect.unit ![0, 0, 0] S4x128x128.size inb_S4x128x128_S4x128x128_0_0_0, k0_pay38⟩]) := by
  unfold outsA atA runA
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_21 t).read_unread,
    read_unread_whole, View.ld_unit_zero (S := S1x512x1024) hz3, View.ld_unit_zero (S := S1x1024) hz2, View.ld_unit_zero (S := S1024x1024) hz2]
  rfl

theorem dsc_B (c : Dev nD) (t : Fin cfg0.N) (h : CaseB (grid0.coords t)) (p : Outs F) : (outsB m c t h p).dsc
    = View.canon (dscPieces (dycAt m c t (outsB m c t h p).wout) (iblk m c 4 t) (iblk m c 11 t) p.dsc) := by
  unfold outsB atB runB
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_19 t).read_unread,
    read_unread_whole, View.ld_unit_zero (S := S1x512x1024) hz3, View.ld_unit_zero (S := S1x1024) hz2, View.ld_unit_zero (S := S1024x1024) hz2]
  rfl

theorem dpw_B (c : Dev nD) (t : Fin cfg0.N) (h : CaseB (grid0.coords t)) (p : Outs F) : (outsB m c t h p).dpw
    = View.canon (dpwPieces (dycAt m c t (outsB m c t h p).wout) (iblk m c 4 t) (iblk m c 12 t) p.dpw) := by
  unfold outsB atB runB
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_21 t).read_unread,
    read_unread_whole, View.ld_unit_zero (S := S1x512x1024) hz3, View.ld_unit_zero (S := S1x1024) hz2, View.ld_unit_zero (S := S1024x1024) hz2]
  rfl

theorem dsc_C (c : Dev nD) (t : Fin cfg0.N) (h : CaseC (grid0.coords t)) (p : Outs F) : (outsC m c t h p).dsc
    = View.canon (dscPieces (dycAt m c t (outsC m c t h p).wout) (iblk m c 4 t) (iblk m c 11 t) p.dsc) := by
  unfold outsC atC runC
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_19 t).read_unread,
    read_unread_whole, View.ld_unit_zero (S := S1x512x1024) hz3, View.ld_unit_zero (S := S1x1024) hz2, View.ld_unit_zero (S := S1024x1024) hz2]
  rfl

theorem dpw_C (c : Dev nD) (t : Fin cfg0.N) (h : CaseC (grid0.coords t)) (p : Outs F) : (outsC m c t h p).dpw
    = View.canon (dpwPieces (dycAt m c t (outsC m c t h p).wout) (iblk m c 4 t) (iblk m c 12 t) p.dpw) := by
  unfold outsC atC runC
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_21 t).read_unread,
    read_unread_whole, View.ld_unit_zero (S := S1x512x1024) hz3, View.ld_unit_zero (S := S1x1024) hz2, View.ld_unit_zero (S := S1024x1024) hz2]
  rfl

theorem dsc_D (c : Dev nD) (t : Fin cfg0.N) (h : CaseD (grid0.coords t)) (p : Outs F) : (outsD m c t h p).dsc
    = View.canon (dscPieces (dycAt m c t (outsD m c t h p).wout) (iblk m c 4 t) (iblk m c 11 t) p.dsc) := by
  unfold outsD atD runD
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_19 t).read_unread,
    read_unread_whole, View.ld_unit_zero (S := S1x512x1024) hz3, View.ld_unit_zero (S := S1x1024) hz2, View.ld_unit_zero (S := S1024x1024) hz2]
  rfl

theorem dpw_D (c : Dev nD) (t : Fin cfg0.N) (h : CaseD (grid0.coords t)) (p : Outs F) : (outsD m c t h p).dpw
    = View.canon (dpwPieces (dycAt m c t (outsD m c t h p).wout) (iblk m c 4 t) (iblk m c 12 t) p.dpw) := by
  unfold outsD atD runD
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_21 t).read_unread,
    read_unread_whole, View.ld_unit_zero (S := S1x512x1024) hz3, View.ld_unit_zero (S := S1x1024) hz2, View.ld_unit_zero (S := S1024x1024) hz2]
  rfl

theorem dsc_E (c : Dev nD) (t : Fin cfg0.N) (h : CaseE (grid0.coords t)) (p : Outs F) : (outsE m c t h p).dsc
    = View.canon (dscPieces (dycAt m c t (outsE m c t h p).wout) (iblk m c 4 t) (iblk m c 11 t) p.dsc) := by
  unfold outsE atE runE
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_19 t).read_unread,
    read_unread_whole, View.ld_unit_zero (S := S1x512x1024) hz3, View.ld_unit_zero (S := S1x1024) hz2, View.ld_unit_zero (S := S1024x1024) hz2]
  rfl

theorem dpw_E (c : Dev nD) (t : Fin cfg0.N) (h : CaseE (grid0.coords t)) (p : Outs F) : (outsE m c t h p).dpw
    = View.canon (dpwPieces (dycAt m c t (outsE m c t h p).wout) (iblk m c 4 t) (iblk m c 12 t) p.dpw) := by
  unfold outsE atE runE
  dsimp only
  sl_unfold_words
  simp (disch := decide) only [↓ View.readCov_skip, ↓ View.readCov_cons_toLoadRect, ↓ View.readCov_fill, View.readAt_eq_ld, (hs0_0 t).read_unread, (hs0_1 t).read_unread, (hs0_4 t).read_unread, (hs0_9 t).read_unread, (hs0_11 t).read_unread, (hs0_12 t).read_unread, (hs0_21 t).read_unread,
    read_unread_whole, View.ld_unit_zero (S := S1x512x1024) hz3, View.ld_unit_zero (S := S1x1024) hz2, View.ld_unit_zero (S := S1024x1024) hz2]
  rfl

end Cert.Kernel2Ideal.Mix

end
-- ==== Proof.Mix.Walk2.lean ====
/- The walk over the grid's points, continued: the second weight's copy, and the accumulators of the pooling's scale and weight. -/
module

public import proofs.«01_k».proof.Proof.Mix.Point2
public import proofs.«01_k».proof.Proof.Mix.Walk
public import Idealize.ShloMosaic.Lib.Pipeline.ValueKit.Tiles

@[expose] public section

set_option maxRecDepth 16384

noncomputable section

namespace Cert.Kernel2Ideal.Mix

open Cert.Kernel2Ideal Cert.Kernel2Ideal.Gen
open Cert.Pays (R2 w_1024 w_eps coe_sum rstd_real div_real)
open Idealize.ShloMosaic Idealize.ShloMosaic.TcCoe Idealize.SL.Sem

/-- The column `b` of group `g`. -/
abbrev col (g : Fin 4) (b : Fin 128) : Fin 512 := ⟨128 * g + b, by omega⟩
/-- A column's group. -/
abbrev grp (j : Fin 512) : Fin 4 := ⟨j / 128, by omega⟩
/-- A column's place in its group. -/
abbrev lane (j : Fin 512) : Fin 128 := ⟨j % 128, by omega⟩
/-- The column `j` of the pooled half. -/
abbrev right (j : Fin 512) : Fin 1024 := ⟨512 + j, by omega⟩

theorem grp_col (g : Fin 4) (b : Fin 128) : grp (col g b) = g := Fin.ext (by dsimp only; omega)
theorem lane_col (g : Fin 4) (b : Fin 128) : lane (col g b) = b := Fin.ext (by dsimp only; omega)

/-- The pooled rows times the pooling's weights. -/
def mixed {n : ℕ} (P : Fin n → Fin 512 → ℝ) (PW : Fin 4 → Fin 128 → Fin 128 → ℝ) (r : Fin n) (j : Fin 512) : ℝ :=
  ∑ a, P r (col (grp j) a) * PW (grp j) a (lane j)

/-- A row's part of the scale's gradient. -/
def dscRows {n : ℕ} (D : Fin n → Fin 1024 → ℝ) (P : Fin n → Fin 512 → ℝ) (PW : Fin 4 → Fin 128 → Fin 128 → ℝ) (r : Fin n) (j : Fin 512) : ℝ :=
  D r (right j) * mixed P PW r j

/-- A row's part of the pooling weights' gradient. -/
def dpwRows {n : ℕ} (D : Fin n → Fin 1024 → ℝ) (P : Fin n → Fin 512 → ℝ) (S : Fin 512 → ℝ) (r : Fin n) (g : Fin 4) (a b : Fin 128) : ℝ :=
  P r (col g a) * (D r (right (col g b)) * S (col g b))

section Pays

variable {d : FVec Ideal S512x1024 .f32} {D : Fin 512 → Fin 1024 → ℝ} (hd : R2 d D)
  {x4 : Vec Ideal S512x512 .bf16} {P : Fin 512 → Fin 512 → ℝ} (h4 : R2 x4 P)
  {x11 : Vec Ideal S4x128x128 .bf16} {PW : Fin 4 → Fin 128 → Fin 128 → ℝ} (h11 : ∀ g a b, x11 (ix3 g a b) = ((PW g a b : ℝ) : EReal))
  {x12 : Vec Ideal S1x512 .f32} {S : Fin 512 → ℝ} (h12 : ∀ i j, x12 (ix2 i j) = ((S j : ℝ) : EReal))

theorem ld_cols {n : ℕ} {e : EltTy} {x : (⟨2, ![n, 512]⟩ : Shape).Idx → Elt Ideal e} (o : ℕ) (inb) (i : Fin n) (b : Fin 128) :
    View.ld (S := (⟨2, ![n, 512]⟩ : Shape)) x (Rect.unit ![0, o] ![n, 128] inb) (ix2 i b) = x (ix2 i ⟨o + b, by have := inb 1; simp at this; omega⟩) :=
  View.ld_unit_apply_of _ _ _ _ _ _ fun a => by
    match a with
    | ⟨0, _⟩ => exact (Nat.zero_add _).symm
    | ⟨1, _⟩ => rfl

theorem ld_block {e : EltTy} {x : S4x128x128.Idx → Elt Ideal e} (o : ℕ) (ho : o < 4) (inb) (g : Fin 1) (a b : Fin 128) :
    View.ld (S := S4x128x128) x (Rect.unit ![o, 0, 0] ![1, 128, 128] inb) (ix3 g a b) = x (ix3 ⟨o, ho⟩ a b) :=
  View.ld_unit_apply_of _ _ _ _ _ _ fun z => by
    match z with
    | ⟨0, _⟩ => show o = o + g.val; omega
    | ⟨1, _⟩ => exact (Nat.zero_add _).symm
    | ⟨2, _⟩ => exact (Nat.zero_add _).symm

theorem at_col0 (b : Fin 128) (h) : (⟨b.val, h⟩ : Fin 512) = col 0 b := Fin.ext (by show b.val = 128 * 0 + b.val; omega)
theorem at_right0 (b : Fin 128) (h) : (⟨512 + b.val, h⟩ : Fin 1024) = right (col 0 b) := Fin.ext (by show 512 + b.val = 512 + (128 * 0 + b.val); omega)
theorem at_col1 (b : Fin 128) (h) : (⟨128 + b.val, h⟩ : Fin 512) = col 1 b := Fin.ext (by show 128 + b.val = 128 * 1 + b.val; omega)
theorem at_right1 (b : Fin 128) (h) : (⟨640 + b.val, h⟩ : Fin 1024) = right (col 1 b) := Fin.ext (by show 640 + b.val = 512 + (128 * 1 + b.val); omega)
theorem at_col2 (b : Fin 128) (h) : (⟨256 + b.val, h⟩ : Fin 512) = col 2 b := Fin.ext (by show 256 + b.val = 128 * 2 + b.val; omega)
theorem at_right2 (b : Fin 128) (h) : (⟨768 + b.val, h⟩ : Fin 1024) = right (col 2 b) := Fin.ext (by show 768 + b.val = 512 + (128 * 2 + b.val); omega)
theorem at_col3 (b : Fin 128) (h) : (⟨384 + b.val, h⟩ : Fin 512) = col 3 b := Fin.ext (by show 384 + b.val = 128 * 3 + b.val; omega)
theorem at_right3 (b : Fin 128) (h) : (⟨896 + b.val, h⟩ : Fin 1024) = right (col 3 b) := Fin.ext (by show 896 + b.val = 512 + (128 * 3 + b.val); omega)

theorem piece_cols {n : ℕ} {G : Fin n → Fin 512 → EReal} {o : ℕ} (inb) {w : (⟨2, ![n, 128]⟩ : Shape).Idx → EReal}
    (hw : ∀ i (b : Fin 128), w (ix2 i b) = G i ⟨o + b, by have := inb 1; simp at this; omega⟩) (x : (⟨2, ![n, 128]⟩ : Shape).Idx) :
    w x = (fun y => G (y 0) (y 1)) ((Rect.unit (s := (⟨2, ![n, 512]⟩ : Shape)) ![0, o] ![n, 128] inb).emb x) := by
  refine (congrArg w (eq_ix2 x)).trans ((hw (x 0) (x 1)).trans (congrArg₂ G (Fin.ext ?_) (Fin.ext ?_)))
  · show (x 0).val = 0 + 1 * (x 0).val
    omega
  · show o + (x 1).val = o + 1 * (x 1).val
    omega

theorem piece_block {G : Fin 4 → Fin 128 → Fin 128 → EReal} (o : Fin 4) (inb) {w : S1x128x128.Idx → EReal}
    (hw : ∀ g a b, w (ix3 g a b) = G o a b) (x : S1x128x128.Idx) :
    w x = (fun y => G (y 0) (y 1) (y 2)) ((Rect.unit (s := S4x128x128) ![o.val, 0, 0] ![1, 128, 128] inb).emb x) := by
  have h0 : (x 0).val = 0 := Nat.lt_one_iff.mp (x 0).isLt
  have e0 : o = (Rect.unit (s := S4x128x128) ![o.val, 0, 0] ![1, 128, 128] inb).emb x 0 := Fin.ext (by
    show o.val = o.val + 1 * (x 0).val
    omega)
  have e1 : x 1 = (Rect.unit (s := S4x128x128) ![o.val, 0, 0] ![1, 128, 128] inb).emb x 1 := Fin.ext (by
    show (x 1).val = 0 + 1 * (x 1).val
    omega)
  have e2 : x 2 = (Rect.unit (s := S4x128x128) ![o.val, 0, 0] ![1, 128, 128] inb).emb x 2 := Fin.ext (by
    show (x 2).val = 0 + 1 * (x 2).val
    omega)
  refine (congrArg w (eq_ix3 x)).trans ((hw (x 0) (x 1) (x 2)).trans ?_)
  show _ = G ((Rect.unit (s := S4x128x128) ![o.val, 0, 0] ![1, 128, 128] inb).emb x 0)
    ((Rect.unit (s := S4x128x128) ![o.val, 0, 0] ![1, 128, 128] inb).emb x 1) ((Rect.unit (s := S4x128x128) ![o.val, 0, 0] ![1, 128, 128] inb).emb x 2)
  rw [← e0, ← e1, ← e2]

section

include hd h4 h11

theorem dsc_group3 {p : Vec Ideal S8x512 .f32} {Q : Fin 8 → Fin 512 → ℝ} (hp : R2 p Q) (i : Fin 8) (b : Fin 128) :
    k0_pay73 d (View.ld x4 (Rect.unit ![0, 384] S512x128.size inb_S512x512_S512x128_0_384))
        (View.ld x11 (Rect.unit ![3, 0, 0] S1x128x128.size inb_S4x128x128_S1x128x128_3_0_0))
        (View.ld p (Rect.unit ![0, 384] S8x128.size inb_S8x512_S8x128_0_384)) (ix2 i b)
      = ((Q i (col 3 b) + rows8 (dscRows D P PW) i (col 3 b) : ℝ) : EReal) := by
  pointwise [k0_pay73, k0_pay72, k0_pay71, hd _ _, h4 _ _, h11 _ _ _, hp _ _, ld_cols, ld_block 3 (by omega)]
  simp only [← EReal.coe_mul, coe_sum, ← EReal.coe_add, at_right3, at_col3]
  unfold rows8 dscRows mixed
  simp only [grp_col, lane_col, at_right3, at_col3]

theorem dsc_group2 {p : Vec Ideal S8x512 .f32} {Q : Fin 8 → Fin 512 → ℝ} (hp : R2 p Q) (i : Fin 8) (b : Fin 128) :
    k0_pay67 d (View.ld x4 (Rect.unit ![0, 256] S512x128.size inb_S512x512_S512x128_0_256))
        (View.ld x11 (Rect.unit ![2, 0, 0] S1x128x128.size inb_S4x128x128_S1x128x128_2_0_0))
        (View.ld p (Rect.unit ![0, 256] S8x128.size inb_S8x512_S8x128_0_256)) (ix2 i b)
      = ((Q i (col 2 b) + rows8 (dscRows D P PW) i (col 2 b) : ℝ) : EReal) := by
  pointwise [k0_pay67, k0_pay66, k0_pay65, hd _ _, h4 _ _, h11 _ _ _, hp _ _, ld_cols, ld_block 2 (by omega)]
  simp only [← EReal.coe_mul, coe_sum, ← EReal.coe_add, at_right2, at_col2]
  unfold rows8 dscRows mixed
  simp only [grp_col, lane_col, at_right2, at_col2]

theorem dsc_group1 {p : Vec Ideal S8x512 .f32} {Q : Fin 8 → Fin 512 → ℝ} (hp : R2 p Q) (i : Fin 8) (b : Fin 128) :
    k0_pay61 d (View.ld x4 (Rect.unit ![0, 128] S512x128.size inb_S512x512_S512x128_0_128))
        (View.ld x11 (Rect.unit ![1, 0, 0] S1x128x128.size inb_S4x128x128_S1x128x128_1_0_0))
        (View.ld p (Rect.unit ![0, 128] S8x128.size inb_S8x512_S8x128_0_128)) (ix2 i b)
      = ((Q i (col 1 b) + rows8 (dscRows D P PW) i (col 1 b) : ℝ) : EReal) := by
  pointwise [k0_pay61, k0_pay60, k0_pay59, hd _ _, h4 _ _, h11 _ _ _, hp _ _, ld_cols, ld_block 1 (by omega)]
  simp only [← EReal.coe_mul, coe_sum, ← EReal.coe_add, at_right1, at_col1]
  unfold rows8 dscRows mixed
  simp only [grp_col, lane_col, at_right1, at_col1]

theorem dsc_group0 {p : Vec Ideal S8x512 .f32} {Q : Fin 8 → Fin 512 → ℝ} (hp : R2 p Q) (i : Fin 8) (b : Fin 128) :
    dsc0 d (View.ld x4 (Rect.unit ![0, 0] S512x128.size inb_S512x512_S512x128_0_0))
        (View.ld x11 (Rect.unit ![0, 0, 0] S1x128x128.size inb_S4x128x128_S1x128x128_0_0_0))
        (View.ld p (Rect.unit ![0, 0] S8x128.size inb_S8x512_S8x128_0_0)) (ix2 i b)
      = ((Q i (col 0 b) + rows8 (dscRows D P PW) i (col 0 b) : ℝ) : EReal) := by
  pointwise [dsc0, k0_pay53, hd _ _, h4 _ _, h11 _ _ _, hp _ _, ld_cols, ld_block 0 (by omega)]
  simp only [← EReal.coe_mul, coe_sum, ← EReal.coe_add, at_right0, at_col0]
  unfold rows8 dscRows mixed
  simp only [grp_col, lane_col, at_right0, at_col0]

theorem dsc_real {p : Vec Ideal S8x512 .f32} {Q : Fin 8 → Fin 512 → ℝ} (hp : R2 p Q) (L : List (View.Piece (Elt Ideal) S8x512 .f32)) :
    R2 (View.canon (dscPieces d x4 x11 p ++ L)) fun i j => Q i j + rows8 (dscRows D P PW) i j := fun i j => by
  have e : View.PiecesOf (fun y => ((Q (y 0) (y 1) + rows8 (dscRows D P PW) (y 0) (y 1) : ℝ) : EReal)) (dscPieces d x4 x11 p) :=
    ⟨fun x => piece_cols (G := fun i j => ((Q i j + rows8 (dscRows D P PW) i j : ℝ) : EReal)) inb_S8x512_S8x128_0_384 (fun i b => (dsc_group3 hd h4 h11 hp i b).trans (congrArg (fun j => ((Q i j + rows8 (dscRows D P PW) i j : ℝ) : EReal)) (Fin.ext (by show 128 * 3 + b.val = 384 + b.val; omega)))) x, fun x => piece_cols (G := fun i j => ((Q i j + rows8 (dscRows D P PW) i j : ℝ) : EReal)) inb_S8x512_S8x128_0_256 (fun i b => (dsc_group2 hd h4 h11 hp i b).trans (congrArg (fun j => ((Q i j + rows8 (dscRows D P PW) i j : ℝ) : EReal)) (Fin.ext (by show 128 * 2 + b.val = 256 + b.val; omega)))) x, fun x => piece_cols (G := fun i j => ((Q i j + rows8 (dscRows D P PW) i j : ℝ) : EReal)) inb_S8x512_S8x128_0_128 (fun i b => (dsc_group1 hd h4 h11 hp i b).trans (congrArg (fun j => ((Q i j + rows8 (dscRows D P PW) i j : ℝ) : EReal)) (Fin.ext (by show 128 * 1 + b.val = 128 + b.val; omega)))) x,
      fun x => piece_cols (G := fun i j => ((Q i j + rows8 (dscRows D P PW) i j : ℝ) : EReal)) inb_S8x512_S8x128_0_0 (fun i b => (dsc_group0 hd h4 h11 hp i b).trans (congrArg (fun j => ((Q i j + rows8 (dscRows D P PW) i j : ℝ) : EReal)) (Fin.ext (by show 128 * 0 + b.val = 0 + b.val; omega)))) x, trivial⟩
  exact View.canon_append_of_piecesOf _ L _ e _ (View.cover_of_tiledL (s := S8x512) (dscPieces d x4 x11 p) S8x128.size (by sl_kernel_rfl) _)

end

section

include hd h4 h12

theorem dpw_group3 {p : Vec Ideal S4x128x128 .f32} {Q : Fin 4 → Fin 128 → Fin 128 → ℝ} (hp : ∀ g a b, p (ix3 g a b) = ((Q g a b : ℝ) : EReal))
    (z : Fin 1) (a b : Fin 128) :
    k0_pay75 (k0_pay71 (View.ld x4 (Rect.unit ![0, 384] S512x128.size inb_S512x512_S512x128_0_384)))
        (View.ld x12 (Rect.unit ![0, 384] S1x128.size inb_S1x512_S1x128_0_384)) (k0_pay72 d)
        (View.ld p (Rect.unit ![3, 0, 0] S1x128x128.size inb_S4x128x128_S1x128x128_3_0_0)) (ix3 z a b)
      = ((Q 3 a b + ∑ r, dpwRows D P S r 3 a b : ℝ) : EReal) := by
  pointwise [k0_pay75, k0_pay74, k0_pay71, k0_pay72, hd _ _, h4 _ _, h12 _ _, hp _ _ _, ld_cols, ld_block 3 (by omega)]
  simp only [← EReal.coe_mul, coe_sum, ← EReal.coe_add, at_right3, at_col3]
  rfl

theorem dpw_group2 {p : Vec Ideal S4x128x128 .f32} {Q : Fin 4 → Fin 128 → Fin 128 → ℝ} (hp : ∀ g a b, p (ix3 g a b) = ((Q g a b : ℝ) : EReal))
    (z : Fin 1) (a b : Fin 128) :
    k0_pay69 (k0_pay65 (View.ld x4 (Rect.unit ![0, 256] S512x128.size inb_S512x512_S512x128_0_256)))
        (View.ld x12 (Rect.unit ![0, 256] S1x128.size inb_S1x512_S1x128_0_256)) (k0_pay66 d)
        (View.ld p (Rect.unit ![2, 0, 0] S1x128x128.size inb_S4x128x128_S1x128x128_2_0_0)) (ix3 z a b)
      = ((Q 2 a b + ∑ r, dpwRows D P S r 2 a b : ℝ) : EReal) := by
  pointwise [k0_pay69, k0_pay68, k0_pay65, k0_pay66, hd _ _, h4 _ _, h12 _ _, hp _ _ _, ld_cols, ld_block 2 (by omega)]
  simp only [← EReal.coe_mul, coe_sum, ← EReal.coe_add, at_right2, at_col2]
  rfl

theorem dpw_group1 {p : Vec Ideal S4x128x128 .f32} {Q : Fin 4 → Fin 128 → Fin 128 → ℝ} (hp : ∀ g a b, p (ix3 g a b) = ((Q g a b : ℝ) : EReal))
    (z : Fin 1) (a b : Fin 128) :
    k0_pay63 (k0_pay59 (View.ld x4 (Rect.unit ![0, 128] S512x128.size inb_S512x512_S512x128_0_128)))
        (View.ld x12 (Rect.unit ![0, 128] S1x128.size inb_S1x512_S1x128_0_128)) (k0_pay60 d)
        (View.ld p (Rect.unit ![1, 0, 0] S1x128x128.size inb_S4x128x128_S1x128x128_1_0_0)) (ix3 z a b)
      = ((Q 1 a b + ∑ r, dpwRows D P S r 1 a b : ℝ) : EReal) := by
  pointwise [k0_pay63, k0_pay62, k0_pay59, k0_pay60, hd _ _, h4 _ _, h12 _ _, hp _ _ _, ld_cols, ld_block 1 (by omega)]
  simp only [← EReal.coe_mul, coe_sum, ← EReal.coe_add, at_right1, at_col1]
  rfl

theorem dpw_group0 {p : Vec Ideal S4x128x128 .f32} {Q : Fin 4 → Fin 128 → Fin 128 → ℝ} (hp : ∀ g a b, p (ix3 g a b) = ((Q g a b : ℝ) : EReal))
    (z : Fin 1) (a b : Fin 128) :
    k0_pay57 (k0_pay53 (View.ld x4 (Rect.unit ![0, 0] S512x128.size inb_S512x512_S512x128_0_0)))
        (View.ld x12 (Rect.unit ![0, 0] S1x128.size inb_S1x512_S1x128_0_0)) (dyp0 d)
        (View.ld p (Rect.unit ![0, 0, 0] S1x128x128.size inb_S4x128x128_S1x128x128_0_0_0)) (ix3 z a b)
      = ((Q 0 a b + ∑ r, dpwRows D P S r 0 a b : ℝ) : EReal) := by
  pointwise [k0_pay57, k0_pay56, k0_pay53, hd _ _, h4 _ _, h12 _ _, hp _ _ _, ld_cols, ld_block 0 (by omega)]
  simp only [← EReal.coe_mul, coe_sum, ← EReal.coe_add, at_right0, at_col0]
  rfl

theorem dpw_real {p : Vec Ideal S4x128x128 .f32} {Q : Fin 4 → Fin 128 → Fin 128 → ℝ} (hp : ∀ g a b, p (ix3 g a b) = ((Q g a b : ℝ) : EReal))
    (L : List (View.Piece (Elt Ideal) S4x128x128 .f32)) (g : Fin 4) (a b : Fin 128) :
    View.canon (dpwPieces d x4 x12 p ++ L) (ix3 g a b) = ((Q g a b + ∑ r, dpwRows D P S r g a b : ℝ) : EReal) := by
  have e : View.PiecesOf (fun y => ((Q (y 0) (y 1) (y 2) + ∑ r, dpwRows D P S r (y 0) (y 1) (y 2) : ℝ) : EReal)) (dpwPieces d x4 x12 p) :=
    ⟨fun x => piece_block (G := fun g a b => ((Q g a b + ∑ r, dpwRows D P S r g a b : ℝ) : EReal)) 3 inb_S4x128x128_S1x128x128_3_0_0 (dpw_group3 hd h4 h12 hp) x, fun x => piece_block (G := fun g a b => ((Q g a b + ∑ r, dpwRows D P S r g a b : ℝ) : EReal)) 2 inb_S4x128x128_S1x128x128_2_0_0 (dpw_group2 hd h4 h12 hp) x, fun x => piece_block (G := fun g a b => ((Q g a b + ∑ r, dpwRows D P S r g a b : ℝ) : EReal)) 1 inb_S4x128x128_S1x128x128_1_0_0 (dpw_group1 hd h4 h12 hp) x,
      fun x => piece_block (G := fun g a b => ((Q g a b + ∑ r, dpwRows D P S r g a b : ℝ) : EReal)) 0 inb_S4x128x128_S1x128x128_0_0_0 (dpw_group0 hd h4 h12 hp) x, trivial⟩
  exact View.canon_append_of_piecesOf _ L _ e _ (View.cover_of_tiledL (s := S4x128x128) (dpwPieces d x4 x12 p) S1x128x128.size (by sl_kernel_rfl) _)

end

end Pays

section Copies

variable (m : (ℓ : Loc nD τ sig) → Buf (Elt Ideal) ℓ) (c : Dev nD)

theorem v103_eq (i : Fin 256) (j : Fin 1024) : V m c main_v103 (ix2 i j) = V m c main_v87 (ix3 (0 : Fin 4) i j) := by
  have e : V m c main_v103 = shapeCast S256x1024 (extractStridedSlice S1x256x1024 ![0, 0, 0] (V m c main_v87) slices_S4x256x1024_S1x256x1024_0_0_0)
    shapeCasts_S1x256x1024_S256x1024 := by sl_kernel_rfl
  rw [e]
  pointwise []

theorem v101_eq (i : Fin 1024) (j : Fin 512) : V m c main_v101 (ix2 i j) = V m c main_v84 (ix3 (0 : Fin 4) i j) := by
  have e : V m c main_v101 = shapeCast S1024x512 (extractStridedSlice S1x1024x512 ![0, 0, 0] (V m c main_v84) slices_S4x1024x512_S1x1024x512_0_0_0)
    shapeCasts_S1x1024x512_S1024x512 := by sl_kernel_rfl
  rw [e]
  pointwise []

/-- The second weight as the kernel's copy holds it. -/
def woutOf : Vec Ideal S1024x1024 .bf16 := fun y =>
  V m c main_v87 (ix3 (⟨(y 0).val / 256, by have : (y 0).val < 1024 := (y 0).isLt; omega⟩ : Fin 4) (⟨(y 0).val % 256, by omega⟩ : Fin 256) (y 1))

theorem wout_piece {p : ℕ} (o : Fin 4) (hp : p = 256 * o) (inb) {w : S256x1024.Idx → EReal}
    (hw : ∀ i j, w (ix2 i j) = V m c main_v87 (ix3 o i j)) (x : S256x1024.Idx) :
    w x = woutOf m c ((Rect.unit (s := S1024x1024) ![p, 0] S256x1024.size inb).emb x) := by
  have h0 : (x 0).val < 256 := (x 0).isLt
  refine (congrArg w (eq_ix2 x)).trans ((hw (x 0) (x 1)).trans (congrArg (V m c main_v87) (congr (congrArg₂ ix3 (Fin.ext ?_) (Fin.ext ?_)) (Fin.ext ?_))))
  · show o.val = (p + 1 * (x 0).val) / 256
    omega
  · show (x 0).val = (p + 1 * (x 0).val) % 256
    omega
  · show (x 1).val = 0 + 1 * (x 1).val
    omega

theorem read_block (o : ℕ) (ho : o < 4) (inb) (hr hs) (X : S4x256x1024.Idx → EReal) (sl : S4x256x1024.Slices ![o, 0, 0] S1x256x1024) (i : Fin 256) (j : Fin 1024) :
    View.read (Elt Ideal) (((Memref.whole main_v87).slice (Rect.unit (s := S4x256x1024) ![o, 0, 0] S1x256x1024.size inb) hr).squeeze S256x1024 hs).view X (ix2 i j)
      = X (ix3 (⟨o, ho⟩ : Fin 4) i j) := by
  have e : View.read (Elt Ideal) (((Memref.whole main_v87).slice (Rect.unit (s := S4x256x1024) ![o, 0, 0] S1x256x1024.size inb) hr).squeeze S256x1024 hs).view X
    = shapeCast S256x1024 (fun y : S1x256x1024.Idx => X ((Rect.unit (s := S4x256x1024) ![o, 0, 0] S1x256x1024.size inb).emb y)) shapeCasts_S1x256x1024_S256x1024 := rfl
  have q : (fun y : S1x256x1024.Idx => X ((Rect.unit (s := S4x256x1024) ![o, 0, 0] S1x256x1024.size inb).emb y))
      = extractStridedSlice S1x256x1024 ![o, 0, 0] X sl := funext fun y => congrArg X (funext fun z => Fin.ext (by
    match z with
    | ⟨0, _⟩ => show o + 1 * (y 0).val = o + (y 0).val; omega
    | ⟨1, _⟩ => show 0 + 1 * (y 1).val = 0 + (y 1).val; omega
    | ⟨2, _⟩ => show 0 + 1 * (y 2).val = 0 + (y 2).val; omega))
  rw [e, q]
  pointwise []

set_option maxHeartbeats 4000000 in
theorem wout_A (t : Fin cfg0.N) (h : CaseA (grid0.coords t)) : (outsA m c t h).wout = woutOf m c := by
  unfold outsA atA runA
  dsimp only
  sl_unfold_words
  funext y
  refine View.canon_apply_of_pieces (woutOf m c) _ (View.PiecesOf.mem (G := woutOf m c) ?_) y (cover_wout _ _ _ _ y)
  unfold woutPieces
  refine ⟨fun x => ?_, fun x => ?_, fun x => ?_, fun x => ?_, trivial⟩
  · exact wout_piece m c 3 rfl inb_S1024x1024_S256x1024_768_0 (w := View.read (Elt Ideal) (((Memref.whole main_v87).slice (Rect.unit (s := S4x256x1024) ![3, 0, 0] S1x256x1024.size inb_S4x256x1024_S1x256x1024_3_0_0) (fun _ => rfl)).squeeze S256x1024 squeezes_S1x256x1024_S256x1024).view (V m c main_v87))
      (read_block 3 (by omega) _ _ _ (V m c main_v87) (by decide +kernel)) x
  · exact wout_piece m c 2 rfl inb_S1024x1024_S256x1024_512_0 (w := View.read (Elt Ideal) (((Memref.whole main_v87).slice (Rect.unit (s := S4x256x1024) ![2, 0, 0] S1x256x1024.size inb_S4x256x1024_S1x256x1024_2_0_0) (fun _ => rfl)).squeeze S256x1024 squeezes_S1x256x1024_S256x1024).view (V m c main_v87))
      (read_block 2 (by omega) _ _ _ (V m c main_v87) (by decide +kernel)) x
  · exact wout_piece m c 1 rfl inb_S1024x1024_S256x1024_256_0 (w := View.read (Elt Ideal) (((Memref.whole main_v87).slice (Rect.unit (s := S4x256x1024) ![1, 0, 0] S1x256x1024.size inb_S4x256x1024_S1x256x1024_1_0_0) (fun _ => rfl)).squeeze S256x1024 squeezes_S1x256x1024_S256x1024).view (V m c main_v87))
      (read_block 1 (by omega) _ _ _ (V m c main_v87) (by decide +kernel)) x
  · exact wout_piece m c 0 rfl inb_S1024x1024_S256x1024_0_0 (w := V m c main_v103)
      (v103_eq m c) x

end Copies

end Cert.Kernel2Ideal.Mix

end
-- ==== Proof.Mix.Walk3.lean ====
/- The walk over the grid's points, continued: over real rows, the accumulators of the pooling's scale and weights. -/
module

public import proofs.«01_k».proof.Proof.Mix.Walk2

@[expose] public section

set_option maxRecDepth 16384

noncomputable section

namespace Cert.Kernel2Ideal.Mix

open Cert.Kernel2Ideal Cert.Kernel2Ideal.Gen
open Cert.Pays (R2 w_1024 w_eps coe_sum rstd_real div_real)
open Cert.Rows (rstd rmsBwd)
open Idealize.ShloMosaic Idealize.ShloMosaic.TcCoe Idealize.SL.Sem

/-- A number's sum over the rows of the tiles up to point `n`. -/
def accp (f : Fin 8192 → ℝ) : (n : ℕ) → n < 16 → ℝ
  | 0, h => 0 + ∑ r : Fin 512, f ⟨tileOf 0 * 512 + r, by have := tileOf_lt h; omega⟩
  | n + 1, h => accp f n (by omega) + ∑ r : Fin 512, f ⟨tileOf (n + 1) * 512 + r, by have := tileOf_lt h; omega⟩

theorem accp_upto (f : Fin 8192 → ℝ) : ∀ (n : ℕ) (h : n < 16),
    accp f n h = ∑ t : Fin (n + 1), ∑ r : Fin 512, f ⟨tileOf t.val * 512 + r, by have := tileOf_lt (lt_of_lt_of_le t.isLt h); omega⟩
  | 0, h => by
    simp only [accp, zero_add]
    exact (Fin.sum_univ_one fun t : Fin 1 => ∑ r : Fin 512, f ⟨tileOf t.val * 512 + r, by have := tileOf_lt (lt_of_lt_of_le t.isLt h); omega⟩).symm
  | n + 1, h => by
    simp only [accp]
    rw [accp_upto f n (by omega)]
    exact (Fin.sum_univ_castSucc fun t : Fin (n + 2) => ∑ r : Fin 512, f ⟨tileOf t.val * 512 + r, by have := tileOf_lt (lt_of_lt_of_le t.isLt h); omega⟩).symm

theorem sum_accp (f : Fin 8192 → ℝ) (h : 15 < 16) : accp f 15 h = ∑ r, f r := by
  rw [accp_upto]
  refine (Equiv.sum_comp turned_turned.toPerm fun t : Fin 16 => ∑ r : Fin 512, f ⟨t.val * 512 + r.val, by omega⟩).trans ?_
  rw [← Fintype.sum_prod_type' (f := fun (t : Fin 16) (r : Fin 512) => f ⟨t.val * 512 + r.val, by omega⟩),
    ← (finProdFinEquiv (m := 16) (n := 512)).sum_comp (fun r : Fin 8192 => f r)]
  exact Finset.sum_congr rfl fun p _ => congrArg f (Fin.ext (by
    show p.1.val * 512 + p.2.val = p.2.val + 512 * p.1.val
    ring))

theorem index_4 : ∀ t : Fin cfg0.N, win0_4.index t = ![tileOf t.val, 0] := (by decide +kernel : ∀ t : Fin grid0.N, _)
theorem index_11 : ∀ t : Fin cfg0.N, win0_11.index t = ![0, 0, 0] := (by decide +kernel : ∀ t : Fin grid0.N, _)
theorem index_12 : ∀ t : Fin cfg0.N, win0_12.index t = ![0, 0] := (by decide +kernel : ∀ t : Fin grid0.N, _)

section

variable (m : (ℓ : Loc nD τ sig) → Buf (Elt Ideal) ℓ) (c : Dev nD)

theorem wout_B (t : Fin cfg0.N) (h) (p : Outs Ideal) : (outsB m c t h p).wout = p.wout := by
  unfold outsB
  dsimp only
theorem wout_C (t : Fin cfg0.N) (h) (p : Outs Ideal) : (outsC m c t h p).wout = p.wout := by
  unfold outsC
  dsimp only
theorem wout_D (t : Fin cfg0.N) (h) (p : Outs Ideal) : (outsD m c t h p).wout = p.wout := by
  unfold outsD
  dsimp only
theorem wout_E (t : Fin cfg0.N) (h) (p : Outs Ideal) : (outsE m c t h p).wout = p.wout := by
  unfold outsE
  dsimp only

theorem wout_next (t : Fin cfg0.N) (h0 : t.val ≠ 0) : (outsAt m c t.val t.isLt).wout = (prev m c t).wout := by
  by_cases h1 : t.val % 4 = 0
  · rw [outsAt_B m c t h0 h1, wout_B]
  by_cases h2 : t.val % 4 = 3
  · by_cases h3 : t.val = 15
    · rw [outsAt_E m c t h3, wout_E]
    · rw [outsAt_D m c t h3 h2, wout_D]
  · rw [outsAt_C m c t h1 h2, wout_C]

theorem wout_zero (t : Fin cfg0.N) (h0 : t.val = 0) : (outsAt m c t.val t.isLt).wout = woutOf m c := by
  rw [outsAt_A m c t h0, wout_A]

/-- Every point finds the second weight in its scratch. -/
theorem wout_at : ∀ (n : ℕ) (hn : n < cfg0.N), (outsAt m c n hn).wout = woutOf m c
  | 0, hn => wout_zero m c ⟨0, hn⟩ rfl
  | n + 1, hn => (wout_next m c ⟨n + 1, hn⟩ (Nat.succ_ne_zero n)).trans (wout_at n (Nat.lt_of_succ_lt hn))

theorem dsc_first (t : Fin cfg0.N) (h0 : t.val = 0) : (outsAt m c t.val t.isLt).dsc
    = View.canon (dscPieces (dycAt m c t (woutOf m c)) (iblk m c 4 t) (iblk m c 11 t) (k0_pay36 (F := Ideal)) ++ [⟨Rect.unit ![0, 0] S8x512.size inb_S8x512_S8x512_0_0, k0_pay36 (F := Ideal)⟩]) := by
  rw [← wout_at m c t.val t.isLt, outsAt_A m c t h0, dsc_A]

theorem dpw_first (t : Fin cfg0.N) (h0 : t.val = 0) : (outsAt m c t.val t.isLt).dpw
    = View.canon (dpwPieces (dycAt m c t (woutOf m c)) (iblk m c 4 t) (iblk m c 12 t) (k0_pay38 (F := Ideal)) ++ [⟨Rect.unit ![0, 0, 0] S4x128x128.size inb_S4x128x128_S4x128x128_0_0_0, k0_pay38 (F := Ideal)⟩]) := by
  rw [← wout_at m c t.val t.isLt, outsAt_A m c t h0, dpw_A]

theorem dsc_next (t : Fin cfg0.N) (h0 : t.val ≠ 0) : (outsAt m c t.val t.isLt).dsc
    = View.canon (dscPieces (dycAt m c t (woutOf m c)) (iblk m c 4 t) (iblk m c 11 t) (prev m c t).dsc) := by
  rw [← wout_at m c t.val t.isLt]
  by_cases h1 : t.val % 4 = 0
  · rw [outsAt_B m c t h0 h1, dsc_B]
  by_cases h2 : t.val % 4 = 3
  · by_cases h3 : t.val = 15
    · rw [outsAt_E m c t h3, dsc_E]
    · rw [outsAt_D m c t h3 h2, dsc_D]
  · rw [outsAt_C m c t h1 h2, dsc_C]

theorem dpw_next (t : Fin cfg0.N) (h0 : t.val ≠ 0) : (outsAt m c t.val t.isLt).dpw
    = View.canon (dpwPieces (dycAt m c t (woutOf m c)) (iblk m c 4 t) (iblk m c 12 t) (prev m c t).dpw) := by
  rw [← wout_at m c t.val t.isLt]
  by_cases h1 : t.val % 4 = 0
  · rw [outsAt_B m c t h0 h1, dpw_B]
  by_cases h2 : t.val % 4 = 3
  · by_cases h3 : t.val = 15
    · rw [outsAt_E m c t h3, dpw_E]
    · rw [outsAt_D m c t h3 h2, dpw_D]
  · rw [outsAt_C m c t h1 h2, dpw_C]

theorem iblk_4 (t : Fin cfg0.N) (ht : t.val < 16) (i : Fin 512) (k : Fin 512) :
    iblk m c 4 t (ix2 i k) = V m c main_v94 (ix2 (⟨tileOf t.val * 512 + i, by have := tileOf_lt ht; omega⟩ : Fin 8192) k) := by
  blk_ext [iblk, index_4]
theorem iblk_11 (t : Fin cfg0.N) (g : Fin 4) (a b : Fin 128) : iblk m c 11 t (ix3 g a b) = V m c main_v99 (ix3 g a b) := by
  blk_ext [iblk, index_11]
theorem iblk_12 (t : Fin cfg0.N) (i : Fin 1) (k : Fin 512) : iblk m c 12 t (ix2 i k) = V m c main_arg6 (ix2 i k) := by
  blk_ext [iblk, index_12]

/-- What the kernel reads holds the real pooled rows `P`, the second weight `W`, the pooling's weights `PW` and its scale `S`. -/
structure Pooled (P : Fin 8192 → Fin 512 → ℝ) (W : Fin 1024 → Fin 1024 → ℝ) (PW : Fin 4 → Fin 128 → Fin 128 → ℝ) (S : Fin 512 → ℝ) : Prop where
  rp : ∀ r k, V m c main_v94 (ix2 r k) = ((P r k : ℝ) : EReal)
  rw : ∀ i k, woutOf m c (ix2 i k) = ((W i k : ℝ) : EReal)
  rpw : ∀ g a b, V m c main_v99 (ix3 g a b) = ((PW g a b : ℝ) : EReal)
  rs : ∀ i k, V m c main_arg6 (ix2 i k) = ((S k : ℝ) : EReal)

end

/-- The gradient of a row at the mixer's joined columns. -/
def dycRows {n : ℕ} (D : Fin n → Fin 1024 → ℝ) (W : Fin 1024 → Fin 1024 → ℝ) : Fin n → Fin 1024 → ℝ := fun r j => ∑ k, D r k * W j k

section

variable {m : (ℓ : Loc nD τ sig) → Buf (Elt Ideal) ℓ} {c : Dev nD} {M E : Fin 8192 → Fin 1024 → ℝ} {G : Fin 1024 → ℝ} (h : Held m c M E G)
  {P : Fin 8192 → Fin 512 → ℝ} {W : Fin 1024 → Fin 1024 → ℝ} {PW : Fin 4 → Fin 128 → Fin 128 → ℝ} {S : Fin 512 → ℝ} (q : Pooled m c P W PW S)

include q

theorem in_4 (t : Fin cfg0.N) (ht : t.val < 16) : R2 (iblk m c 4 t) (tile P t.val ht) := fun i k => by
  rw [iblk_4 m c t ht, q.rp]
theorem in_11 (t : Fin cfg0.N) (g : Fin 4) (a b : Fin 128) : iblk m c 11 t (ix3 g a b) = ((PW g a b : ℝ) : EReal) := by
  rw [iblk_11, q.rpw]
theorem in_12 (t : Fin cfg0.N) (i : Fin 1) (k : Fin 512) : iblk m c 12 t (ix2 i k) = ((S k : ℝ) : EReal) := by
  rw [iblk_12, q.rs]

include h

theorem dyc_at (t : Fin cfg0.N) (ht : t.val < 16) : R2 (dycAt m c t (woutOf m c)) (tile (dycRows (dmRows M E G) W) t.val ht) := fun i k => by
  pointwise [dycAt, k0_pay51, pay50 (in_0 h t ht) (in_1 h t ht) (in_9 h t) _ _, q.rw _ _]
  simp only [← EReal.coe_mul, coe_sum]
  rfl

omit h q in
theorem pay36_zero : R2 (k0_pay36 (F := Ideal)) fun _ _ => 0 := fun i k => by
  pointwise [k0_pay36]
  simp [Ideal.ofBits, Ideal.ieee]
omit h q in
theorem pay38_zero (g : Fin 4) (a b : Fin 128) : k0_pay38 (F := Ideal) (ix3 g a b) = ((0 : ℝ) : EReal) := by
  pointwise [k0_pay38]
  simp [Ideal.ofBits, Ideal.ieee]

theorem dsc_at : ∀ (n : ℕ) (hn : n < cfg0.N) (h16 : n < 16),
    R2 (outsAt m c n hn).dsc (acc (dscRows (dycRows (dmRows M E G) W) P PW) n h16)
  | 0, hn, h16 => by
    rw [dsc_first m c ⟨0, hn⟩ rfl]
    exact dsc_real (dyc_at h q ⟨0, hn⟩ h16) (in_4 q ⟨0, hn⟩ h16) (in_11 q ⟨0, hn⟩) pay36_zero _
  | n + 1, hn, h16 => by
    rw [dsc_next m c ⟨n + 1, hn⟩ (Nat.succ_ne_zero n), ← List.append_nil (dscPieces _ _ _ _)]
    exact dsc_real (dyc_at h q ⟨n + 1, hn⟩ h16) (in_4 q ⟨n + 1, hn⟩ h16) (in_11 q ⟨n + 1, hn⟩) (dsc_at n _ (by omega)) []

theorem dpw_at : ∀ (n : ℕ) (hn : n < cfg0.N) (h16 : n < 16) (g : Fin 4) (a b : Fin 128),
    (outsAt m c n hn).dpw (ix3 g a b) = ((accp (fun r => dpwRows (dycRows (dmRows M E G) W) P S r g a b) n h16 : ℝ) : EReal)
  | 0, hn, h16, g, a, b => by
    rw [dpw_first m c ⟨0, hn⟩ rfl]
    exact dpw_real (dyc_at h q ⟨0, hn⟩ h16) (in_4 q ⟨0, hn⟩ h16) (in_12 q ⟨0, hn⟩) pay38_zero _ g a b
  | n + 1, hn, h16, g, a, b => by
    rw [dpw_next m c ⟨n + 1, hn⟩ (Nat.succ_ne_zero n), ← List.append_nil (dpwPieces _ _ _ _)]
    exact dpw_real (dyc_at h q ⟨n + 1, hn⟩ h16) (in_4 q ⟨n + 1, hn⟩ h16) (in_12 q ⟨n + 1, hn⟩) (dpw_at n _ (by omega)) [] g a b

end

end Cert.Kernel2Ideal.Mix

end
-- ==== Proof.Mix.Ref2.lean ====
/- The reference's gradients of the pooling's scale and weights, over real rows. -/
module

public import proofs.«01_k».proof.Proof.Mix.Ref
public import proofs.«01_k».proof.Proof.Mix.Walk3

@[expose] public section

set_option maxRecDepth 16384

noncomputable section

namespace Cert.Kernel2Ideal.Mix

open Cert.Kernel2Ideal Cert.Kernel2Ideal.Gen
open Cert.Reference2Ideal.Value
open Cert.Pays (w_1024 w_eps coe_sum rstd_real div_real rsqrt_real)
open Cert.Rows (rstd rmsBwd)
open Cert.ReferenceIdeal.Ffn (reduce_leading)
open Idealize.ShloMosaic Idealize.ShloMosaic.TcCoe Idealize.SL.Sem

/-- The pooled rows without the sequences' sixteen first ones. -/
abbrev laterP (P : Fin 4 → Fin 2064 → Fin 512 → ℝ) : Fin 8192 → Fin 512 → ℝ :=
  fun r => P ⟨r.val / 2048, by omega⟩ ⟨16 + r.val % 2048, by omega⟩

/-- The gradient of a row at the norm's input, the sixteen first rows included. -/
def dmFull (M : Fin 4 → Fin 2064 → Fin 1024 → ℝ) (E : Fin 8192 → Fin 1024 → ℝ) (G : Fin 1024 → ℝ) (b : Fin 4) (s : Fin 2064) : Fin 1024 → ℝ :=
  rmsBwd (padded E b s) (fun l => M b s l * rstd (M b s)) (rstd (M b s)) G

/-- The gradient of a row at the mixer's joined columns, the sixteen first rows included. -/
def dycFull (M : Fin 4 → Fin 2064 → Fin 1024 → ℝ) (E : Fin 8192 → Fin 1024 → ℝ) (G : Fin 1024 → ℝ) (W : Fin 1024 → Fin 1024 → ℝ)
    (b : Fin 4) (s : Fin 2064) (j : Fin 1024) : ℝ := ∑ k, dmFull M E G b s k * W j k

section

variable (M : Fin 4 → Fin 2064 → Fin 1024 → ℝ) (E : Fin 8192 → Fin 1024 → ℝ) (G : Fin 1024 → ℝ) (W : Fin 1024 → Fin 1024 → ℝ)

theorem dmFull_first (b : Fin 4) (s : Fin 2064) (hs : s.val < 16) (k : Fin 1024) : dmFull M E G b s k = 0 := by
  have e : padded E b s = fun _ => 0 := funext fun k => by unfold padded; rw [dif_pos hs]
  unfold dmFull
  rw [e]
  simp [rmsBwd]

theorem dmFull_later (r : Fin 8192) : dmFull M E G ⟨r.val / 2048, by omega⟩ ⟨16 + r.val % 2048, by omega⟩ = dmRows (later M) E G r := by
  unfold dmFull
  rw [padded_later]
  rfl

theorem dycFull_first (b : Fin 4) (s : Fin 2064) (hs : s.val < 16) (j : Fin 1024) : dycFull M E G W b s j = 0 := by
  unfold dycFull
  exact Finset.sum_eq_zero fun k _ => by rw [dmFull_first M E G b s hs, zero_mul]

theorem dycFull_later (r : Fin 8192) (j : Fin 1024) :
    dycFull M E G W ⟨r.val / 2048, by omega⟩ ⟨16 + r.val % 2048, by omega⟩ j = dycRows (dmRows (later M) E G) W r j := by
  unfold dycFull dycRows
  rw [dmFull_later]

end

/-- A sum over the sequences' rows whose sixteen first terms are zero. -/
theorem sum_first (F : Fin 4 → Fin 2064 → ℝ) (h0 : ∀ b s, s.val < 16 → F b s = 0) :
    ∑ b, ∑ s, F b s = ∑ r : Fin 8192, F ⟨r.val / 2048, by omega⟩ ⟨16 + r.val % 2048, by omega⟩ := by
  rw [← Cert.ReferenceIdeal.Ffn.sum_rows]
  refine Finset.sum_congr rfl fun b _ => ?_
  rw [Fin.sum_univ_add (a := 16) (b := 2048) (fun s : Fin 2064 => F b s),
    Finset.sum_eq_zero fun s _ => h0 b _ (by simp), zero_add]
  refine Finset.sum_congr rfl fun s _ => congrArg₂ F (Fin.ext ?_) (Fin.ext ?_)
  · show b.val = (b.val * 2048 + s.val) / 2048
    omega
  · show 16 + s.val = 16 + (b.val * 2048 + s.val) % 2048
    omega

variable {U : Valuation Cert.Reference2Ideal.τ Cert.Reference2Ideal.sig (Elt Ideal)} {A : Arrays} (h : ArgsR U A)
  {M : Fin 4 → Fin 2064 → Fin 1024 → ℝ} (hM : ∀ b s k, res_main_v141 U (ix3 b s k) = ((M b s k : ℝ) : EReal))
  {E : Fin 8192 → Fin 1024 → ℝ} (hE : ∀ b s k, A.a9 (ix3 b s k) = ((E (row b s) k : ℝ) : EReal))
  {G : Fin 1024 → ℝ} (hG : ∀ i k, A.a8 (ix2 i k) = ((G k : ℝ) : EReal))
  {W : Fin 1024 → Fin 1024 → ℝ} (hW : ∀ i j k, A.a7 (ix3 i j k) = ((W j k : ℝ) : EReal))
  {P : Fin 4 → Fin 2064 → Fin 512 → ℝ} (hP : ∀ b s g a, res_main_v128 U (ix4 b s g a) = ((P b s (col g a) : ℝ) : EReal))
  {PW : Fin 4 → Fin 128 → Fin 128 → ℝ} (hPW : ∀ i g a b, A.a5 (ix4 i g a b) = ((PW g a b : ℝ) : EReal))
  {S : Fin 512 → ℝ} (hS : ∀ i k, A.a6 (ix2 i k) = ((S k : ℝ) : EReal))

include h hM hE hG hW in
theorem v183 (b : Fin 4) (s : Fin 2064) (j : Fin 1024) : res_main_v183 U (ix3 b s j) = ((dycFull M E G W b s j : ℝ) : EReal) := by
  pointwise [res_main_v183, v181 h hM hE hG _ _ _, res_main_v139, h.a7, hW _ _ _]
  simp only [← EReal.coe_mul, coe_sum]
  rfl

include h hP hPW in
theorem v132 (b : Fin 4) (s : Fin 2064) (j : Fin 512) : res_main_v132 U (ix3 b s j)
    = ((∑ a, P b s (col (grp j) a) * PW (grp j) a (lane j) : ℝ) : EReal) := by
  pointwise [res_main_v132, res_main_v129, h.a5, hP _ _ _ _, hPW _ _ _ _]
  simp only [← EReal.coe_mul, coe_sum]
  exact congrArg _ (Finset.sum_congr rfl fun a _ => mul_comm _ _)

include h hM hE hG hW hP hPW in
theorem v194 (i : Fin 1) (j : Fin 512) : (broadcastInDim Cert.Reference2Ideal.S1x512 ![1] Cert.Reference2Ideal.Gen.bcast_S512_S1x512_1
      (Host.reduceAdd (shapeCast _ (Host.reduceAdd (mulf (res_main_v132 U) (res_main_v185 U)) (constant Cert.Reference2Ideal.S_ .f32 0x00000000#32)
        Cert.Reference2Ideal.Gen.reducesTo_S4x2064x512_S512_d0_1 Cert.Reference2Ideal.Gen.h_S_) Cert.Reference2Ideal.Gen.shapeCasts_S512_S1x1x512)
        (constant Cert.Reference2Ideal.S_ .f32 0x00000000#32) Cert.Reference2Ideal.Gen.reducesTo_S1x1x512_S512_d0_1 Cert.Reference2Ideal.Gen.h_S_)
      : FVec Ideal Cert.Reference2Ideal.S1x512 .f32) (ix2 i j)
    = ((∑ r, dscRows (dycRows (dmRows (later M) E G) W) (laterP P) PW r j : ℝ) : EReal) := by
  pointwise [reduce_leading, v132 h hP hPW _ _ _, res_main_v185, v183 h hM hE hG hW _ _ _]
  simp only [Fin.sum_univ_one, ← EReal.coe_mul, coe_sum]
  rw [sum_first _ fun b s hs => by rw [dycFull_first M E G W b s hs, mul_zero]]
  simp only [dycFull_later]
  exact congrArg _ (Finset.sum_congr rfl fun r _ => mul_comm _ _)

include h hM hE hG hW hP hS in
theorem v341 (g : Fin 4) (a b : Fin 128) : (shapeCast Cert.Reference2Ideal.S4x128x128 (broadcastInDim Cert.Reference2Ideal.S1x4x128x128 ![1, 2, 3]
      Cert.Reference2Ideal.Gen.bcast_S4x128x128_S1x4x128x128_1_2_3 (transpose Cert.Reference2Ideal.S4x128x128 [0, 2, 1]
        (Host.dotGeneral (φ₁ := .f32) (φ₂ := .f32) Cert.Reference2Ideal.dot_S4x128x4x2064_S4x2064x4x128_S4x128x128_23_01_1_3_0_2 none (res_main_v196 U) (res_main_v128 U))
        Cert.Reference2Ideal.Gen.transposes_S4x128x128_S4x128x128_0_2_1)) Cert.Reference2Ideal.Gen.shapeCasts_S1x4x128x128_S4x128x128
      : FVec Ideal Cert.Reference2Ideal.S4x128x128 .f32) (ix3 g a b)
    = ((∑ r, dpwRows (dycRows (dmRows (later M) E G) W) (laterP P) S r g a b : ℝ) : EReal) := by
  pointwise [res_main_v196, hP _ _ _ _, res_main_v185, v183 h hM hE hG hW _ _ _, res_main_v134, h.a6, hS _ _]
  have er : ∀ h, (⟨512 + (g.val * 128 + b.val), h⟩ : Fin 1024) = right (col g b) := fun h => Fin.ext (by
    show 512 + (g.val * 128 + b.val) = 512 + (128 * g.val + b.val)
    omega)
  have ec : ∀ h, (⟨g.val * 128 + b.val, h⟩ : Fin 512) = col g b := fun h => Fin.ext (by
    show g.val * 128 + b.val = 128 * g.val + b.val
    omega)
  simp only [er, ec, ← EReal.coe_mul, coe_sum]
  rw [sum_first _ fun b' s hs => by rw [dycFull_first M E G W b' s hs, zero_mul, zero_mul]]
  simp only [dycFull_later]
  exact congrArg _ (Finset.sum_congr rfl fun r _ => mul_comm _ _)

end Cert.Kernel2Ideal.Mix

end
-- ==== Proof.Mix.Final2.lean ====
/- The mixer kernel's results after the run, continued: the gradients of the pooling's scale and weights, and the arrays they are formed of. -/
module

public import proofs.«01_k».proof.Proof.Mix.Final
public import proofs.«01_k».proof.Proof.Mix.Ref2

@[expose] public section

set_option maxRecDepth 16384

noncomputable section

namespace Cert.Kernel2Ideal.Mix

open Cert.Kernel2Ideal.Gen Cert.Pays Cert.Mix
open Cert.Reference2Ideal.Value
open Idealize.ShloMosaic Idealize.ShloMosaic.TcCoe Idealize.SL.Sem

variable {m : (ℓ : Loc nD τ sig) → Buf (Elt Ideal) ℓ} {c : Dev nD}

section

variable {M E : Fin 8192 → Fin 1024 → ℝ} {G : Fin 1024 → ℝ} (h : Held m c M E G)
  {P : Fin 8192 → Fin 512 → ℝ} {W : Fin 1024 → Fin 1024 → ℝ} {PW : Fin 4 → Fin 128 → Fin 128 → ℝ} {S : Fin 512 → ℝ} (q : Pooled m c P W PW S)
include h q

theorem arr_dsc : (dats m 0 c).arrAt 19 cfg0.N = rowsOf (acc (dscRows (dycRows (dmRows M E G) W) P PW) 15 (by omega)) := by
  refine (dats m 0 c).arrAt_eq_of_after_last 19 last (by decide +kernel) _ fun j => ?_
  blk_simp
  rw [after_19]
  exact (congrArg _ (eq_ix2 j)).trans ((dsc_at h q 15 last.isLt (by omega)) (j 0) (j 1))

theorem arr_dpw : (dats m 0 c).arrAt 21 cfg0.N
    = fun y => ((∑ r, dpwRows (dycRows (dmRows M E G) W) P S r (y 0) (y 1) (y 2) : ℝ) : EReal) := by
  refine (dats m 0 c).arrAt_eq_of_after_last 21 last (by decide +kernel) _ fun j => ?_
  blk_simp
  rw [after_21]
  exact (congrArg _ (eq_ix3 j)).trans ((dpw_at h q 15 last.isLt (by omega) (j 0) (j 1) (j 2)).trans (by rw [sum_accp]))

theorem tail_dsc (i : Fin 1) (k : Fin 512) : Pipeline.afterTail₀ cfgs (dats m) 0 (V0 m) [hostOps1] c main_v109 (ix2 i k)
    = ((∑ r, dscRows (dycRows (dmRows M E G) W) P PW r k : ℝ) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v105_5)
    = (dats m 0 c).arrAt 19 cfg0.N from Pipeline.withArrays_arr spec0 arr_inj c _ _ 19, arr_dsc h q]
  pointwise
  show (∑ i : Fin 8, ((acc (dscRows (dycRows (dmRows M E G) W) P PW) 15 (by omega) i k : ℝ) : EReal)) = _
  rw [coe_sum, sum_acc]

end

theorem v94_eq (r : Fin 8192) (j : Fin 512) : V m c main_v94 (ix2 r j)
    = V m c main_v67 (ix4 (⟨r / 2048, by omega⟩ : Fin 4) (⟨16 + r % 2048, by omega⟩ : Fin 2064) (grp j) (lane j)) := by
  have e : V m c main_v94 = (truncf .bf16 (shapeCast S8192x512 (extractStridedSlice S4x2048x4x128 ![0, 16, 0, 0] (V m c main_v67)
      slices_S4x2064x4x128_S4x2048x4x128_0_16_0_0) shapeCasts_S4x2048x4x128_S8192x512) bitsLt_bf16_f32 : FVec Ideal S8192x512 .bf16) := by
    sl_kernel_rfl
  rw [e]
  pointwise []

theorem blocks_of (x : FVec Ideal S1x4x128x128 .f32) (g : Fin 4) (a b : Fin 128) :
    (truncf .bf16 (shapeCast S4x128x128 x shapeCasts_S1x4x128x128_S4x128x128) bitsLt_bf16_f32 : FVec Ideal S4x128x128 .bf16) (ix3 g a b)
      = x (ix4 (0 : Fin 1) g a b) := by
  pointwise []

theorem v99_eq (g : Fin 4) (a b : Fin 128) : V m c main_v99 (ix3 g a b) = V m c main_arg5 (ix4 (0 : Fin 1) g a b) := by
  have e : V m c main_v99 = (truncf .bf16 (shapeCast S4x128x128 (V m c main_arg5) shapeCasts_S1x4x128x128_S4x128x128) bitsLt_bf16_f32
      : FVec Ideal S4x128x128 .bf16) := by
    sl_kernel_rfl
  rw [e]
  exact blocks_of _ g a b

theorem shards_of (x : FVec Ideal S1x1024x1024 .f32) (o : Fin 4) (i : Fin 256) (j : Fin 1024) :
    (truncf .bf16 (shapeCast S4x256x1024 (shapeCast S1024x1024 x shapeCasts_S1x1024x1024_S1024x1024)
      shapeCasts_S1024x1024_S4x256x1024) bitsLt_bf16_f32 : FVec Ideal S4x256x1024 .bf16) (ix3 o i j)
      = x (ix3 (0 : Fin 1) (⟨o * 256 + i, by omega⟩ : Fin 1024) j) := by
  pointwise []

theorem v87_eq (o : Fin 4) (i : Fin 256) (j : Fin 1024) : V m c main_v87 (ix3 o i j)
    = V m c main_arg7 (ix3 (0 : Fin 1) (⟨o * 256 + i, by omega⟩ : Fin 1024) j) := by
  have e : V m c main_v87 = (truncf .bf16 (shapeCast S4x256x1024 (shapeCast S1024x1024 (V m c main_arg7) shapeCasts_S1x1024x1024_S1024x1024)
      shapeCasts_S1024x1024_S4x256x1024) bitsLt_bf16_f32 : FVec Ideal S4x256x1024 .bf16) := by
    sl_kernel_rfl
  rw [e]
  exact shards_of _ o i j

theorem woutOf_eq (i j : Fin 1024) : woutOf m c (ix2 i j) = V m c main_arg7 (ix3 (0 : Fin 1) i j) :=
  (v87_eq (⟨i / 256, by omega⟩ : Fin 4) (⟨i % 256, by omega⟩ : Fin 256) j).trans
    (congrArg (fun i => V m c main_arg7 (ix3 (0 : Fin 1) i j)) (Fin.ext (by show i.val / 256 * 256 + i.val % 256 = i.val; omega)))

end Cert.Kernel2Ideal.Mix

end
-- ==== Proof.Mix.Point3.lean ====
/- One grid point of the mixing half's kernel: the rows kept for the backward of the convolution and of the pooling, the gradient at
   the input product's columns and the taps' accumulator as closed terms of what the point reads. -/
module

public import proofs.«01_k».proof.Proof.Mix.Point2

@[expose] public section

set_option maxRecDepth 16384

noncomputable section

namespace Cert.Kernel2Ideal.Mix

open Cert.Kernel2Ideal Cert.Kernel2Ideal.Gen
open Idealize.ShloMosaic Idealize.ShloMosaic.TcCoe Idealize.SL.Sem

variable {F : FTy → Type} [FloatOps F]

variable (m : (ℓ : Loc nD τ sig) → Buf (Elt F) ℓ)

/-- The gradient at the convolution's gated columns, at a point that finds the second weight at `w`. -/
abbrev dyconvAt (c : Dev nD) (t : Fin cfg0.N) (w : Vec F S1024x1024 .bf16) : FVec F S512x512 .f32 :=
  k0_pay52 (iblk m c 9 t) (k0_pay45 (iblk m c 0 t)) (k0_pay47 (iblk m c 1 t)) (k0_pay48 (iblk m c 1 t)) w

/-- The three gates' columns of a tile. -/
abbrev zAt0 (z : Vec F S1x512x1536 .f32) : Vec F S1x512x512 .f32 := View.ld z (Rect.unit ![0, 0, 0] S1x512x512.size inb_S1x512x1536_S1x512x512_0_0_0)
abbrev zAt1 (z : Vec F S1x512x1536 .f32) : Vec F S1x512x512 .f32 := View.ld z (Rect.unit ![0, 0, 512] S1x512x512.size inb_S1x512x1536_S1x512x512_0_0_512)
abbrev zAt2 (z : Vec F S1x512x1536 .f32) : Vec F S1x512x512 .f32 := View.ld z (Rect.unit ![0, 0, 1024] S1x512x512.size inb_S1x512x1536_S1x512x512_0_0_1024)
/-- The rows kept, shifted by `1` and `2`. -/
abbrev back1 (b : Vec F S528x512 .f32) : Vec F S512x512 .f32 := View.ld b (Rect.unit ![1, 0] S512x512.size inb_S528x512_S512x512_1_0)
abbrev back2 (b : Vec F S528x512 .f32) : Vec F S512x512 .f32 := View.ld b (Rect.unit ![2, 0] S512x512.size inb_S528x512_S512x512_2_0)
/-- The first sixteen of the rows kept. -/
abbrev front (b : Vec F S528x512 .f32) : Vec F S16x512 .f32 := View.ld b (Rect.unit ![0, 0] S16x512.size inb_S528x512_S16x512_0_0)

/-- The rows kept for the convolution: the tile's own, then the next tile's first sixteen. -/
abbrev dcbPieces (d : FVec F S512x512 .f32) (z : Vec F S1x512x1536 .f32) (e : FVec F S16x512 .f32) : List (View.Piece (Elt F) S528x512 .f32) :=
  [⟨Rect.unit ![0, 0] S512x512.size inb_S528x512_S512x512_0_0, k0_pay80 d (zAt0 z)⟩,
    ⟨Rect.unit ![512, 0] S16x512.size inb_S528x512_S16x512_512_0, e⟩]

/-- The rows kept for the pooling, group by group. -/
abbrev dqbPieces (d : FVec F S512x1024 .f32) (d0 : FVec F S512x128 .f32) (x11 : Vec F S4x128x128 .bf16) (x12 : Vec F S1x512 .f32) (e : FVec F S16x512 .f32) :
    List (View.Piece (Elt F) S528x512 .f32) :=
  [⟨Rect.unit ![0, 384] S512x128.size inb_S528x512_S512x128_0_384, k0_pay76 (View.ld x12 (Rect.unit ![0, 384] S1x128.size inb_S1x512_S1x128_0_384)) (k0_pay72 d)
      (View.ld x11 (Rect.unit ![3, 0, 0] S1x128x128.size inb_S4x128x128_S1x128x128_3_0_0))⟩,
    ⟨Rect.unit ![0, 256] S512x128.size inb_S528x512_S512x128_0_256, k0_pay70 (View.ld x12 (Rect.unit ![0, 256] S1x128.size inb_S1x512_S1x128_0_256)) (k0_pay66 d)
      (View.ld x11 (Rect.unit ![2, 0, 0] S1x128x128.size inb_S4x128x128_S1x128x128_2_0_0))⟩,
    ⟨Rect.unit ![0, 128] S512x128.size inb_S528x512_S512x128_0_128, k0_pay64 (View.ld x12 (Rect.unit ![0, 128] S1x128.size inb_S1x512_S1x128_0_128)) (k0_pay60 d)
      (View.ld x11 (Rect.unit ![1, 0, 0] S1x128x128.size inb_S4x128x128_S1x128x128_1_0_0))⟩,
    ⟨Rect.unit ![0, 0] S512x128.size inb_S528x512_S512x128_0_0, k0_pay58 (View.ld x12 (Rect.unit ![0, 0] S1x128.size inb_S1x512_S1x128_0_0)) d0
      (View.ld x11 (Rect.unit ![0, 0, 0] S1x128x128.size inb_S4x128x128_S1x128x128_0_0_0))⟩,
    ⟨Rect.unit ![512, 0] S16x512.size inb_S528x512_S16x512_512_0, e⟩]

/-- The first group's columns of the gradient, as the rows kept for the pooling are formed of it. -/
abbrev dypAt (c : Dev nD) (t : Fin cfg0.N) (w : Vec F S1024x1024 .bf16) : FVec F S512x128 .f32 :=
  k0_pay54 (iblk m c 9 t) (k0_pay45 (iblk m c 0 t)) (k0_pay47 (iblk m c 1 t)) (k0_pay48 (iblk m c 1 t)) w

/-- A group's rows kept. -/
abbrev kept0 (b : Vec F S528x512 .f32) : Vec F S528x128 .f32 := View.ld b (Rect.unit ![0, 0] S528x128.size inb_S528x512_S528x128_0_0)
abbrev kept1 (b : Vec F S528x512 .f32) : Vec F S528x128 .f32 := View.ld b (Rect.unit ![0, 128] S528x128.size inb_S528x512_S528x128_0_128)
abbrev kept2 (b : Vec F S528x512 .f32) : Vec F S528x128 .f32 := View.ld b (Rect.unit ![0, 256] S528x128.size inb_S528x512_S528x128_0_256)
abbrev kept3 (b : Vec F S528x512 .f32) : Vec F S528x128 .f32 := View.ld b (Rect.unit ![0, 384] S528x128.size inb_S528x512_S528x128_0_384)

/-- The stores of the gradient at the input product's columns. -/
abbrev dzPieces (d : FVec F S512x512 .f32) (z : Vec F S1x512x1536 .f32) (x3 : Vec F S512x512 .f32) (x10 : Vec F S3x512 .f32) (b q : Vec F S528x512 .f32) :
    List (View.Piece (Elt F) S4x512x512 .bf16) :=
  [⟨Rect.unit ![3, 0, 0] S1x512x512.size inb_S4x512x512_S1x512x512_3_0_0, k0_pay100 (k0_pay95 (k0_pay90 (kept0 q)) (k0_pay91 (kept1 q)) (k0_pay92 (kept2 q))
      (kept3 q) (k0_pay93 (kept3 q)) (k0_pay94 (kept3 q)))⟩,
    ⟨Rect.unit ![2, 0, 0] S1x512x512.size inb_S4x512x512_S1x512x512_2_0_0, k0_pay98 (k0_pay89 (k0_pay88 (k0_pay44 x10) (k0_pay77 (zAt1 z)) (k0_pay79 d (zAt0 z)) (back1 b) (back2 b)))⟩,
    ⟨Rect.unit ![1, 0, 0] S1x512x512.size inb_S4x512x512_S1x512x512_1_0_0, k0_pay97 (k0_pay87 (k0_pay44 x10) (k0_pay78 (zAt2 z)) (k0_pay79 d (zAt0 z)) (back1 b) (back2 b))⟩,
    ⟨Rect.unit ![0, 0, 0] S1x512x512.size inb_S4x512x512_S1x512x512_0_0_0, k0_pay96 (k0_pay86 d x3)⟩]

/-- A tap's part of the accumulator. -/
abbrev tap0 (p : Vec F S24x512 .f32) : Vec F S8x512 .f32 := View.ld p (Rect.unit ![0, 0] S8x512.size inb_S24x512_S8x512_0_0)
abbrev tap1 (p : Vec F S24x512 .f32) : Vec F S8x512 .f32 := View.ld p (Rect.unit ![8, 0] S8x512.size inb_S24x512_S8x512_8_0)
abbrev tap2 (p : Vec F S24x512 .f32) : Vec F S8x512 .f32 := View.ld p (Rect.unit ![16, 0] S8x512.size inb_S24x512_S8x512_16_0)

/-- The stores into the taps' accumulator. -/
abbrev dcwPieces (d : FVec F S512x512 .f32) (z : Vec F S1x512x1536 .f32) (b : Vec F S528x512 .f32) (p : Vec F S24x512 .f32) :
    List (View.Piece (Elt F) S24x512 .f32) :=
  [⟨Rect.unit ![16, 0] S8x512.size inb_S24x512_S8x512_16_0, k0_pay85 (k0_pay77 (zAt1 z)) (k0_pay78 (zAt2 z)) (k0_pay79 d (zAt0 z)) (tap2 p)⟩,
    ⟨Rect.unit ![8, 0] S8x512.size inb_S24x512_S8x512_8_0, k0_pay84 (k0_pay77 (zAt1 z)) (k0_pay78 (zAt2 z)) (back1 b) (tap1 p)⟩,
    ⟨Rect.unit ![0, 0] S8x512.size inb_S24x512_S8x512_0_0, k0_pay83 (k0_pay77 (zAt1 z)) (k0_pay78 (zAt2 z)) (back2 b) (tap0 p)⟩]

/-- The rows around a sequence's start: sixteen of zeros, then the first sixteen kept. -/
abbrev startRows (b : Vec F S528x512 .f32) : Vec F S32x512 .f32 := View.canon
  [⟨Rect.unit ![16, 0] S16x512.size inb_S32x512_S16x512_16_0, k0_pay5 (front b)⟩, ⟨Rect.unit ![0, 0] S16x512.size inb_S32x512_S16x512_0_0, k0_pay3⟩]

/-- The stores into the taps' accumulator at a sequence's first tile, the rows before the sequence's own included. -/
abbrev dcwPiecesM (d : FVec F S512x512 .f32) (z : Vec F S1x512x1536 .f32) (b : Vec F S528x512 .f32) (x6 : Vec F S16x2048 .f32) (p : Vec F S24x512 .f32) :
    List (View.Piece (Elt F) S24x512 .f32) :=
  ⟨Rect.unit ![8, 0] S8x512.size inb_S24x512_S8x512_8_0, k0_pay11 (View.ld (startRows b) (Rect.unit ![1, 0] S16x512.size inb_S32x512_S16x512_1_0))
      (k0_pay9 (View.ld x6 (Rect.unit ![0, 512] S16x512.size inb_S16x2048_S16x512_0_512)) (View.ld x6 (Rect.unit ![0, 1024] S16x512.size inb_S16x2048_S16x512_0_1024)))
      (k0_pay84 (k0_pay77 (zAt1 z)) (k0_pay78 (zAt2 z)) (back1 b) (tap1 p))⟩
  :: ⟨Rect.unit ![0, 0] S8x512.size inb_S24x512_S8x512_0_0, k0_pay10 (View.ld (startRows b) (Rect.unit ![2, 0] S16x512.size inb_S32x512_S16x512_2_0))
      (View.ld x6 (Rect.unit ![0, 512] S16x512.size inb_S16x2048_S16x512_0_512)) (View.ld x6 (Rect.unit ![0, 1024] S16x512.size inb_S16x2048_S16x512_0_1024))
      (k0_pay83 (k0_pay77 (zAt1 z)) (k0_pay78 (zAt2 z)) (back2 b) (tap0 p))⟩
  :: dcwPieces d z b p

theorem dcb_A (c : Dev nD) (t : Fin cfg0.N) (h : CaseA (grid0.coords t)) : (outsA m c t h).dcb
    = View.canon (dcbPieces (dyconvAt m c t (outsA m c t h).wout) (iblk m c 2 t) k0_pay40) := by
  unfold outsA atA runA
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dqb_A (c : Dev nD) (t : Fin cfg0.N) (h : CaseA (grid0.coords t)) : (outsA m c t h).dqb
    = View.canon (dqbPieces (dycAt m c t (outsA m c t h).wout) (dypAt m c t (outsA m c t h).wout) (iblk m c 11 t) (iblk m c 12 t) k0_pay41) := by
  unfold outsA atA runA
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dz_A (c : Dev nD) (t : Fin cfg0.N) (h : CaseA (grid0.coords t)) : (outsA m c t h).dz
    = View.canon (dzPieces (dyconvAt m c t (outsA m c t h).wout) (iblk m c 2 t) (iblk m c 3 t) (iblk m c 10 t) (outsA m c t h).dcb (outsA m c t h).dqb) := by
  unfold outsA atA runA
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dcw_A (c : Dev nD) (t : Fin cfg0.N) (h : CaseA (grid0.coords t)) : (outsA m c t h).dcw
    = View.canon (dcwPieces (dyconvAt m c t (outsA m c t h).wout) (iblk m c 2 t) (outsA m c t h).dcb k0_pay37 ++ [⟨Rect.unit ![0, 0] S24x512.size inb_S24x512_S24x512_0_0, k0_pay37⟩]) := by
  unfold outsA atA runA
  dsimp only
  sl_unfold_words
  simp (disch := decide) only [↓ View.readCov_skip, ↓ View.readCov_cons_toLoadRect, ↓ View.readCov_fill, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]
  simp only [readCov_ld]
  rfl

theorem dcb_B (c : Dev nD) (t : Fin cfg0.N) (h : CaseB (grid0.coords t)) (p : Outs F) : (outsB m c t h p).dcb
    = View.canon (dcbPieces (dyconvAt m c t (outsB m c t h p).wout) (iblk m c 2 t) k0_pay40) := by
  unfold outsB atB runB
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dqb_B (c : Dev nD) (t : Fin cfg0.N) (h : CaseB (grid0.coords t)) (p : Outs F) : (outsB m c t h p).dqb
    = View.canon (dqbPieces (dycAt m c t (outsB m c t h p).wout) (dypAt m c t (outsB m c t h p).wout) (iblk m c 11 t) (iblk m c 12 t) k0_pay41) := by
  unfold outsB atB runB
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dz_B (c : Dev nD) (t : Fin cfg0.N) (h : CaseB (grid0.coords t)) (p : Outs F) : (outsB m c t h p).dz
    = View.canon (dzPieces (dyconvAt m c t (outsB m c t h p).wout) (iblk m c 2 t) (iblk m c 3 t) (iblk m c 10 t) (outsB m c t h p).dcb (outsB m c t h p).dqb) := by
  unfold outsB atB runB
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dcw_B (c : Dev nD) (t : Fin cfg0.N) (h : CaseB (grid0.coords t)) (p : Outs F) : (outsB m c t h p).dcw
    = View.canon (dcwPieces (dyconvAt m c t (outsB m c t h p).wout) (iblk m c 2 t) (outsB m c t h p).dcb p.dcw) := by
  unfold outsB atB runB
  dsimp only
  sl_unfold_words
  simp (disch := decide) only [↓ View.readCov_skip, ↓ View.readCov_cons_toLoadRect, ↓ View.readCov_fill, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]
  simp only [readCov_ld]

theorem dcb_C (c : Dev nD) (t : Fin cfg0.N) (h : CaseC (grid0.coords t)) (p : Outs F) : (outsC m c t h p).dcb
    = View.canon (dcbPieces (dyconvAt m c t (outsC m c t h p).wout) (iblk m c 2 t) (k0_pay42 (front p.dcb))) := by
  unfold outsC atC runC
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dqb_C (c : Dev nD) (t : Fin cfg0.N) (h : CaseC (grid0.coords t)) (p : Outs F) : (outsC m c t h p).dqb
    = View.canon (dqbPieces (dycAt m c t (outsC m c t h p).wout) (dypAt m c t (outsC m c t h p).wout) (iblk m c 11 t) (iblk m c 12 t) (k0_pay43 (front p.dqb))) := by
  unfold outsC atC runC
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dz_C (c : Dev nD) (t : Fin cfg0.N) (h : CaseC (grid0.coords t)) (p : Outs F) : (outsC m c t h p).dz
    = View.canon (dzPieces (dyconvAt m c t (outsC m c t h p).wout) (iblk m c 2 t) (iblk m c 3 t) (iblk m c 10 t) (outsC m c t h p).dcb (outsC m c t h p).dqb) := by
  unfold outsC atC runC
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dcw_C (c : Dev nD) (t : Fin cfg0.N) (h : CaseC (grid0.coords t)) (p : Outs F) : (outsC m c t h p).dcw
    = View.canon (dcwPieces (dyconvAt m c t (outsC m c t h p).wout) (iblk m c 2 t) (outsC m c t h p).dcb p.dcw) := by
  unfold outsC atC runC
  dsimp only
  sl_unfold_words
  simp (disch := decide) only [↓ View.readCov_skip, ↓ View.readCov_cons_toLoadRect, ↓ View.readCov_fill, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]
  simp only [readCov_ld]

theorem dcb_D (c : Dev nD) (t : Fin cfg0.N) (h : CaseD (grid0.coords t)) (p : Outs F) : (outsD m c t h p).dcb
    = View.canon (dcbPieces (dyconvAt m c t (outsD m c t h p).wout) (iblk m c 2 t) (k0_pay42 (front p.dcb))) := by
  unfold outsD atD runD
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dqb_D (c : Dev nD) (t : Fin cfg0.N) (h : CaseD (grid0.coords t)) (p : Outs F) : (outsD m c t h p).dqb
    = View.canon (dqbPieces (dycAt m c t (outsD m c t h p).wout) (dypAt m c t (outsD m c t h p).wout) (iblk m c 11 t) (iblk m c 12 t) (k0_pay43 (front p.dqb))) := by
  unfold outsD atD runD
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dz_D (c : Dev nD) (t : Fin cfg0.N) (h : CaseD (grid0.coords t)) (p : Outs F) : (outsD m c t h p).dz
    = View.canon (dzPieces (dyconvAt m c t (outsD m c t h p).wout) (iblk m c 2 t) (iblk m c 3 t) (iblk m c 10 t) (outsD m c t h p).dcb (outsD m c t h p).dqb) := by
  unfold outsD atD runD
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dcw_D (c : Dev nD) (t : Fin cfg0.N) (h : CaseD (grid0.coords t)) (p : Outs F) : (outsD m c t h p).dcw
    = View.canon (dcwPiecesM (dyconvAt m c t (outsD m c t h p).wout) (iblk m c 2 t) (outsD m c t h p).dcb (iblk m c 6 t) p.dcw) := by
  unfold outsD atD runD
  dsimp only
  sl_unfold_words
  simp (disch := decide) only [↓ View.readCov_skip, ↓ View.readCov_cons_toLoadRect, ↓ View.readCov_fill, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]
  simp only [readCov_ld]

theorem dcb_E (c : Dev nD) (t : Fin cfg0.N) (h : CaseE (grid0.coords t)) (p : Outs F) : (outsE m c t h p).dcb
    = View.canon (dcbPieces (dyconvAt m c t (outsE m c t h p).wout) (iblk m c 2 t) (k0_pay42 (front p.dcb))) := by
  unfold outsE atE runE
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dqb_E (c : Dev nD) (t : Fin cfg0.N) (h : CaseE (grid0.coords t)) (p : Outs F) : (outsE m c t h p).dqb
    = View.canon (dqbPieces (dycAt m c t (outsE m c t h p).wout) (dypAt m c t (outsE m c t h p).wout) (iblk m c 11 t) (iblk m c 12 t) (k0_pay43 (front p.dqb))) := by
  unfold outsE atE runE
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dz_E (c : Dev nD) (t : Fin cfg0.N) (h : CaseE (grid0.coords t)) (p : Outs F) : (outsE m c t h p).dz
    = View.canon (dzPieces (dyconvAt m c t (outsE m c t h p).wout) (iblk m c 2 t) (iblk m c 3 t) (iblk m c 10 t) (outsE m c t h p).dcb (outsE m c t h p).dqb) := by
  unfold outsE atE runE
  dsimp only
  sl_unfold_words
  simp only [readCov_ld, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]

theorem dcw_E (c : Dev nD) (t : Fin cfg0.N) (h : CaseE (grid0.coords t)) (p : Outs F) : (outsE m c t h p).dcw
    = View.canon (dcwPiecesM (dyconvAt m c t (outsE m c t h p).wout) (iblk m c 2 t) (outsE m c t h p).dcb (iblk m c 6 t) p.dcw) := by
  unfold outsE atE runE
  dsimp only
  sl_unfold_words
  simp (disch := decide) only [↓ View.readCov_skip, ↓ View.readCov_cons_toLoadRect, ↓ View.readCov_fill, View.readAt_eq_ld, (hs0_0 t).read_unread, (hs0_1 t).read_unread, (hs0_2 t).read_unread, (hs0_3 t).read_unread, (hs0_4 t).read_unread, (hs0_6 t).read_unread, (hs0_9 t).read_unread, (hs0_10 t).read_unread, (hs0_11 t).read_unread, (hs0_12 t).read_unread, (hs0_20 t).read_unread,
    read_unread_whole, View.ld_unit_zero (S := S1x512x1024) hz3, View.ld_unit_zero (S := S1x1024) hz2, View.ld_unit_zero (S := S1024x1024) hz2, View.ld_unit_zero (S := S512x512) hz2, View.ld_unit_zero (S := S3x512) hz2]
  simp only [readCov_ld]

end Cert.Kernel2Ideal.Mix

end
-- ==== Proof.Mix.Walk4.lean ====
/- The walk over the grid's points, continued: over real rows, the rows kept for the backward of the convolution and of the pooling. -/
module

public import proofs.«01_k».proof.Proof.Mix.Point3
public import proofs.«01_k».proof.Proof.Mix.Walk3

@[expose] public section

set_option maxRecDepth 16384

noncomputable section

namespace Cert.Kernel2Ideal.Mix

open Cert.Kernel2Ideal Cert.Kernel2Ideal.Gen
open Cert.Pays (R2 w_1024 w_eps coe_sum rstd_real div_real)
open Cert.Rows (rstd rmsBwd)
open Idealize.ShloMosaic Idealize.ShloMosaic.TcCoe Idealize.SL.Sem

/-- Rows placed in their sequence after its sixteen first places: zero at those and past the end. -/
def full {w : ℕ} (x : Fin 8192 → Fin w → ℝ) (b : Fin 4) (s : ℕ) (k : Fin w) : ℝ :=
  if h : 16 ≤ s ∧ s < 2064 then x ⟨b * 2048 + (s - 16), by omega⟩ k else 0

/-- The rows kept at point `t`: the tile's own and the sixteen after it. -/
def keptRows {w : ℕ} (x : Fin 8192 → Fin w → ℝ) (t : ℕ) (ht : t < 16) (i : Fin 528) (k : Fin w) : ℝ :=
  full x ⟨t / 4, by omega⟩ ((3 - t % 4) * 512 + 16 + i) k

theorem kept_tile {w : ℕ} (x : Fin 8192 → Fin w → ℝ) (t : ℕ) (ht : t < 16) (i : Fin 512) (h) (k : Fin w) :
    keptRows x t ht ⟨i, h⟩ k = tile x t ht i k := by
  unfold keptRows full
  rw [dif_pos (by dsimp only; omega)]
  exact congrArg (fun r => x r k) (Fin.ext (by dsimp only [tileOf]; omega))

theorem kept_last {w : ℕ} (x : Fin 8192 → Fin w → ℝ) (t : ℕ) (ht : t < 16) (h0 : t % 4 = 0) (i : Fin 16) (h) (k : Fin w) :
    keptRows x t ht ⟨512 + i, h⟩ k = 0 := by
  unfold keptRows full
  rw [dif_neg (by dsimp only; omega)]

theorem kept_next {w : ℕ} (x : Fin 8192 → Fin w → ℝ) (n : ℕ) (ht : n + 1 < 16) (h0 : (n + 1) % 4 ≠ 0) (i : Fin 16) (h) (h') (k : Fin w) :
    keptRows x (n + 1) ht ⟨512 + i, h⟩ k = keptRows x n (by omega) ⟨i, h'⟩ k := by
  unfold keptRows
  have e : (⟨(n + 1) / 4, by omega⟩ : Fin 4) = ⟨n / 4, by omega⟩ := Fin.ext (by dsimp only; omega)
  have e2 : (3 - (n + 1) % 4) * 512 + 16 + (512 + i.val) = (3 - n % 4) * 512 + 16 + i.val := by omega
  dsimp only
  rw [e, e2]

/-- A store's values, placed in the array. -/
theorem piece_at {N W n q : ℕ} {G : Fin N → Fin W → EReal} {o p : ℕ} (inb) {w : (⟨2, ![n, q]⟩ : Shape).Idx → EReal}
    (hw : ∀ (i : Fin n) (j : Fin q), w (ix2 i j) = G ⟨o + i, by have := inb 0; simp at this; omega⟩ ⟨p + j, by have := inb 1; simp at this; omega⟩)
    (x : (⟨2, ![n, q]⟩ : Shape).Idx) :
    w x = (fun y => G (y 0) (y 1)) ((Rect.unit (s := (⟨2, ![N, W]⟩ : Shape)) ![o, p] ![n, q] inb).emb x) := by
  refine (congrArg w (eq_ix2 x)).trans ((hw (x 0) (x 1)).trans (congrArg₂ G (Fin.ext ?_) (Fin.ext ?_)))
  · show o + (x 0).val = o + 1 * (x 0).val
    omega
  · show p + (x 1).val = p + 1 * (x 1).val
    omega

theorem ld_at {N W n q : ℕ} {e : EltTy} {x : (⟨2, ![N, W]⟩ : Shape).Idx → Elt Ideal e} (o p : ℕ) (inb) (i : Fin n) (j : Fin q) :
    View.ld (S := (⟨2, ![N, W]⟩ : Shape)) x (Rect.unit ![o, p] ![n, q] inb) (ix2 i j)
      = x (ix2 ⟨o + i, by have := inb 0; simp at this; omega⟩ ⟨p + j, by have := inb 1; simp at this; omega⟩) :=
  View.ld_unit_apply_of _ _ _ _ _ _ fun a => by
    match a with
    | ⟨0, _⟩ => rfl
    | ⟨1, _⟩ => rfl

/-- The column `j` of the gated half. -/
abbrev left (j : Fin 512) : Fin 1024 := ⟨j, by omega⟩
/-- The column `j` of the gates' three parts. -/
abbrev gate0 (j : Fin 512) : Fin 1536 := ⟨j, by omega⟩
abbrev gate1 (j : Fin 512) : Fin 1536 := ⟨512 + j, by omega⟩
abbrev gate2 (j : Fin 512) : Fin 1536 := ⟨1024 + j, by omega⟩

section Pays

variable {d : FVec Ideal S512x512 .f32} {D : Fin 512 → Fin 512 → ℝ} (hd : R2 d D)
  {z : Vec Ideal S1x512x1536 .f32} {Z : Fin 512 → Fin 1536 → ℝ} (hz : ∀ a i k, z (ix3 a i k) = ((Z i k : ℝ) : EReal))

include hz in
theorem z_at0 (a : Fin 1) (i k : Fin 512) : zAt0 z (ix3 a i k) = ((Z i (gate0 k) : ℝ) : EReal) := by
  refine (View.ld_unit_apply_of _ _ _ _ _ (ix3 a i (gate0 k)) fun a => ?_).trans (hz _ _ _)
  match a with
  | ⟨0, _⟩ => exact (Nat.zero_add _).symm
  | ⟨1, _⟩ => exact (Nat.zero_add _).symm
  | ⟨2, _⟩ => exact (Nat.zero_add _).symm
include hz in
theorem z_at1 (a : Fin 1) (i k : Fin 512) : zAt1 z (ix3 a i k) = ((Z i (gate1 k) : ℝ) : EReal) := by
  refine (View.ld_unit_apply_of _ _ _ _ _ (ix3 a i (gate1 k)) fun a => ?_).trans (hz _ _ _)
  match a with
  | ⟨0, _⟩ => exact (Nat.zero_add _).symm
  | ⟨1, _⟩ => exact (Nat.zero_add _).symm
  | ⟨2, _⟩ => rfl
include hz in
theorem z_at2 (a : Fin 1) (i k : Fin 512) : zAt2 z (ix3 a i k) = ((Z i (gate2 k) : ℝ) : EReal) := by
  refine (View.ld_unit_apply_of _ _ _ _ _ (ix3 a i (gate2 k)) fun a => ?_).trans (hz _ _ _)
  match a with
  | ⟨0, _⟩ => exact (Nat.zero_add _).symm
  | ⟨1, _⟩ => exact (Nat.zero_add _).symm
  | ⟨2, _⟩ => rfl

include hd hz in
theorem pay79 : R2 (k0_pay79 d (zAt0 z)) fun i k => D i k * Z i (gate0 k) := fun i k => by
  pointwise [k0_pay79, hd _ _, z_at0 hz _ _ _]
  rw [← EReal.coe_mul]
include hd hz in
theorem pay80 : R2 (k0_pay80 d (zAt0 z)) fun i k => D i k * Z i (gate0 k) := fun i k => by
  pointwise [k0_pay80, pay79 hd hz _ _]

include hd hz in
theorem dcb_real {e : FVec Ideal S16x512 .f32} {E : Fin 16 → Fin 512 → ℝ} (he : R2 e E) {K : Fin 528 → Fin 512 → ℝ}
    (h1 : ∀ (i k : Fin 512) (h), K ⟨i, h⟩ k = D i k * Z i (gate0 k)) (h2 : ∀ (i : Fin 16) (k : Fin 512) (h), K ⟨512 + i, h⟩ k = E i k) :
    R2 (View.canon (dcbPieces d z e)) K := fun i k => by
  have q : View.PiecesOf (fun y => ((K (y 0) (y 1) : ℝ) : EReal)) (dcbPieces d z e) :=
    ⟨fun x => piece_at (G := fun i j => ((K i j : ℝ) : EReal)) inb_S528x512_S512x512_0_0 (fun i j => (pay80 hd hz i j).trans (congrArg _ (by
        show D i j * Z i (gate0 j) = _
        rw [← h1 i j (by omega)]; exact congrArg₂ K (Fin.ext (by dsimp only; omega)) (Fin.ext (by dsimp only; omega))))) x,
      fun x => piece_at (G := fun i j => ((K i j : ℝ) : EReal)) inb_S528x512_S16x512_512_0 (fun i j => (he i j).trans (congrArg _ (by
        rw [← h2 i j (by omega)]; exact congrArg₂ K (Fin.ext (by dsimp only)) (Fin.ext (by dsimp only; omega))))) x, trivial⟩
  rw [← List.append_nil (dcbPieces d z e)]
  exact View.canon_append_of_piecesOf _ [] _ q _ (View.cover_of_tiledBy (s := S528x512) (dcbPieces d z e) ![16, 512] (by sl_kernel_rfl) _)

theorem front_real {b : Vec Ideal S528x512 .f32} {K : Fin 528 → Fin 512 → ℝ} (hb : R2 b K) :
    R2 (front b) fun i k => K ⟨i, by omega⟩ k := fun i k => by
  refine (ld_at 0 0 inb_S528x512_S16x512_0_0 i k).trans ((hb _ _).trans (congrArg _ ?_))
  exact congrArg₂ K (Fin.ext (by dsimp only; omega)) (Fin.ext (by dsimp only; omega))

theorem pay42 {e : Vec Ideal S16x512 .f32} {E : Fin 16 → Fin 512 → ℝ} (he : R2 e E) : R2 (k0_pay42 e) E := fun i k => by
  pointwise [k0_pay42, he _ _]
theorem pay43 {e : Vec Ideal S16x512 .f32} {E : Fin 16 → Fin 512 → ℝ} (he : R2 e E) : R2 (k0_pay43 e) E := fun i k => by
  pointwise [k0_pay43, he _ _]
theorem pay40 : R2 (k0_pay40 (F := Ideal)) fun _ _ => 0 := fun i k => by
  pointwise [k0_pay40]
  simp [Ideal.ofBits, Ideal.ieee]
theorem pay41 : R2 (k0_pay41 (F := Ideal)) fun _ _ => 0 := fun i k => by
  pointwise [k0_pay41]
  simp [Ideal.ofBits, Ideal.ieee]

end Pays

/-- A row's gradient at the pooled values. -/
def dqRows {n : ℕ} (D : Fin n → Fin 1024 → ℝ) (PW : Fin 4 → Fin 128 → Fin 128 → ℝ) (S : Fin 512 → ℝ) (r : Fin n) (j : Fin 512) : ℝ :=
  ∑ b, (D r (right (col (grp j) b)) * S (col (grp j) b)) * PW (grp j) (lane j) b

section Pool

variable {d : FVec Ideal S512x1024 .f32} {D : Fin 512 → Fin 1024 → ℝ} (hd : R2 d D)
  {d0 : FVec Ideal S512x128 .f32} (hd0 : R2 d0 fun i b => D i (right (col 0 b)))
  {x11 : Vec Ideal S4x128x128 .bf16} {PW : Fin 4 → Fin 128 → Fin 128 → ℝ} (h11 : ∀ g a b, x11 (ix3 g a b) = ((PW g a b : ℝ) : EReal))
  {x12 : Vec Ideal S1x512 .f32} {S : Fin 512 → ℝ} (h12 : ∀ i j, x12 (ix2 i j) = ((S j : ℝ) : EReal))

include hd h11 h12

theorem dq_group3 (i : Fin 512) (a : Fin 128) :
    k0_pay76 (View.ld x12 (Rect.unit ![0, 384] S1x128.size inb_S1x512_S1x128_0_384)) (k0_pay72 d)
      (View.ld x11 (Rect.unit ![3, 0, 0] S1x128x128.size inb_S4x128x128_S1x128x128_3_0_0)) (ix2 i a) = ((dqRows D PW S i (col 3 a) : ℝ) : EReal) := by
  pointwise [k0_pay76, k0_pay74, k0_pay72, hd _ _, h12 _ _, h11 _ _ _, ld_cols, ld_block 3 (by omega)]
  simp only [← EReal.coe_mul, coe_sum, ← EReal.coe_add, at_right3, at_col3]
  unfold dqRows
  simp only [grp_col, lane_col]

theorem dq_group2 (i : Fin 512) (a : Fin 128) :
    k0_pay70 (View.ld x12 (Rect.unit ![0, 256] S1x128.size inb_S1x512_S1x128_0_256)) (k0_pay66 d)
      (View.ld x11 (Rect.unit ![2, 0, 0] S1x128x128.size inb_S4x128x128_S1x128x128_2_0_0)) (ix2 i a) = ((dqRows D PW S i (col 2 a) : ℝ) : EReal) := by
  pointwise [k0_pay70, k0_pay68, k0_pay66, hd _ _, h12 _ _, h11 _ _ _, ld_cols, ld_block 2 (by omega)]
  simp only [← EReal.coe_mul, coe_sum, ← EReal.coe_add, at_right2, at_col2]
  unfold dqRows
  simp only [grp_col, lane_col]

theorem dq_group1 (i : Fin 512) (a : Fin 128) :
    k0_pay64 (View.ld x12 (Rect.unit ![0, 128] S1x128.size inb_S1x512_S1x128_0_128)) (k0_pay60 d)
      (View.ld x11 (Rect.unit ![1, 0, 0] S1x128x128.size inb_S4x128x128_S1x128x128_1_0_0)) (ix2 i a) = ((dqRows D PW S i (col 1 a) : ℝ) : EReal) := by
  pointwise [k0_pay64, k0_pay62, k0_pay60, hd _ _, h12 _ _, h11 _ _ _, ld_cols, ld_block 1 (by omega)]
  simp only [← EReal.coe_mul, coe_sum, ← EReal.coe_add, at_right1, at_col1]
  unfold dqRows
  simp only [grp_col, lane_col]

omit hd in
include hd0 in
theorem dq_group0 (i : Fin 512) (a : Fin 128) :
    k0_pay58 (View.ld x12 (Rect.unit ![0, 0] S1x128.size inb_S1x512_S1x128_0_0)) d0
      (View.ld x11 (Rect.unit ![0, 0, 0] S1x128x128.size inb_S4x128x128_S1x128x128_0_0_0)) (ix2 i a) = ((dqRows D PW S i (col 0 a) : ℝ) : EReal) := by
  pointwise [k0_pay58, k0_pay56, hd0 _ _, h12 _ _, h11 _ _ _, ld_cols, ld_block 0 (by omega)]
  simp only [← EReal.coe_mul, coe_sum, ← EReal.coe_add, at_right0, at_col0]
  unfold dqRows
  simp only [grp_col, lane_col, at_col0]

include hd0 in
theorem dqb_real {e : FVec Ideal S16x512 .f32} {E : Fin 16 → Fin 512 → ℝ} (he : R2 e E) {K : Fin 528 → Fin 512 → ℝ}
    (h1 : ∀ (i k : Fin 512) (h), K ⟨i, h⟩ k = dqRows D PW S i k) (h2 : ∀ (i : Fin 16) (k : Fin 512) (h), K ⟨512 + i, h⟩ k = E i k) :
    R2 (View.canon (dqbPieces d d0 x11 x12 e)) K := fun i k => by
  have own : ∀ (g : Fin 4) (o : ℕ), o = 128 * g.val → ∀ (i : Fin 512) (j : Fin 128) (hi) (hj),
      dqRows D PW S i (col g j) = K ⟨0 + i, hi⟩ ⟨o + j, hj⟩ := fun g o ho i j hi hj => by
    rw [← h1 i (col g j) (by omega)]; exact congrArg₂ K (Fin.ext (by dsimp only; omega)) (Fin.ext (by dsimp only; omega))
  have q : View.PiecesOf (fun y => ((K (y 0) (y 1) : ℝ) : EReal)) (dqbPieces d d0 x11 x12 e) :=
    ⟨fun x => piece_at (G := fun i j => ((K i j : ℝ) : EReal)) inb_S528x512_S512x128_0_384 (fun i j => (dq_group3 hd h11 h12 i j).trans (congrArg _ (own 3 384 rfl _ _ _ _))) x,
      fun x => piece_at (G := fun i j => ((K i j : ℝ) : EReal)) inb_S528x512_S512x128_0_256 (fun i j => (dq_group2 hd h11 h12 i j).trans (congrArg _ (own 2 256 rfl _ _ _ _))) x,
      fun x => piece_at (G := fun i j => ((K i j : ℝ) : EReal)) inb_S528x512_S512x128_0_128 (fun i j => (dq_group1 hd h11 h12 i j).trans (congrArg _ (own 1 128 rfl _ _ _ _))) x,
      fun x => piece_at (G := fun i j => ((K i j : ℝ) : EReal)) inb_S528x512_S512x128_0_0 (fun i j => (dq_group0 hd0 h11 h12 i j).trans (congrArg _ (own 0 0 rfl _ _ _ _))) x,
      fun x => piece_at (G := fun i j => ((K i j : ℝ) : EReal)) inb_S528x512_S16x512_512_0 (fun i j => (he i j).trans (congrArg _ (by
        rw [← h2 i j (by omega)]; exact congrArg₂ K (Fin.ext (by dsimp only)) (Fin.ext (by dsimp only; omega))))) x, trivial⟩
  rw [← List.append_nil (dqbPieces d d0 x11 x12 e)]
  exact View.canon_append_of_piecesOf _ [] _ q _ (View.cover_of_tiledBy (s := S528x512) (dqbPieces d d0 x11 x12 e) ![16, 128] (by sl_kernel_rfl) _)

end Pool

theorem index_2 : ∀ t : Fin cfg0.N, win0_2.index t = ![t.val / 4, 3 - t.val % 4, 0] := (by decide +kernel : ∀ t : Fin grid0.N, _)
theorem index_3 : ∀ t : Fin cfg0.N, win0_3.index t = ![tileOf t.val, 0] := (by decide +kernel : ∀ t : Fin grid0.N, _)
theorem index_6 : ∀ t : Fin cfg0.N, win0_6.index t = ![0, 0] := (by decide +kernel : ∀ t : Fin grid0.N, _)
theorem index_10 : ∀ t : Fin cfg0.N, win0_10.index t = ![0, 0] := (by decide +kernel : ∀ t : Fin grid0.N, _)

section

variable (m : (ℓ : Loc nD τ sig) → Buf (Elt Ideal) ℓ) (c : Dev nD)

theorem iblk_2 (t : Fin cfg0.N) (ht : t.val < 16) (a : Fin 1) (i : Fin 512) (k : Fin 1536) :
    iblk m c 2 t (ix3 a i k) = V m c main_v89 (ix3 (⟨t.val / 4, by omega⟩ : Fin 4) (⟨(3 - t.val % 4) * 512 + i, by omega⟩ : Fin 2048) k) := by
  blk_ext [iblk, index_2]
theorem iblk_3 (t : Fin cfg0.N) (ht : t.val < 16) (i : Fin 512) (k : Fin 512) :
    iblk m c 3 t (ix2 i k) = V m c main_v91 (ix2 (⟨tileOf t.val * 512 + i, by have := tileOf_lt ht; omega⟩ : Fin 8192) k) := by
  blk_ext [iblk, index_3]
theorem iblk_6 (t : Fin cfg0.N) (i : Fin 16) (k : Fin 2048) : iblk m c 6 t (ix2 i k) = V m c main_v96 (ix2 i k) := by
  blk_ext [iblk, index_6]
theorem iblk_10 (t : Fin cfg0.N) (i : Fin 3) (k : Fin 512) : iblk m c 10 t (ix2 i k) = V m c main_v97 (ix2 i k) := by
  blk_ext [iblk, index_10]

/-- What the kernel reads holds the real gates `Z`, the convolution's results `C`, its taps `K`, and the first sixteen places' columns `ZM`. -/
structure Gated (Z : Fin 8192 → Fin 1536 → ℝ) (C : Fin 8192 → Fin 512 → ℝ) (K : Fin 3 → Fin 512 → ℝ) (ZM : Fin 16 → Fin 2048 → ℝ) : Prop where
  rz : ∀ b s k, V m c main_v89 (ix3 b s k) = ((Z (row b s) k : ℝ) : EReal)
  rc : ∀ r k, V m c main_v91 (ix2 r k) = ((C r k : ℝ) : EReal)
  rk : ∀ i k, V m c main_v97 (ix2 i k) = ((K i k : ℝ) : EReal)
  rzm : ∀ i k, V m c main_v96 (ix2 i k) = ((ZM i k : ℝ) : EReal)

end

section

variable {m : (ℓ : Loc nD τ sig) → Buf (Elt Ideal) ℓ} {c : Dev nD} {M E : Fin 8192 → Fin 1024 → ℝ} {G : Fin 1024 → ℝ} (h : Held m c M E G)
  {P : Fin 8192 → Fin 512 → ℝ} {W : Fin 1024 → Fin 1024 → ℝ} {PW : Fin 4 → Fin 128 → Fin 128 → ℝ} {S : Fin 512 → ℝ} (q : Pooled m c P W PW S)
  {Z : Fin 8192 → Fin 1536 → ℝ} {C : Fin 8192 → Fin 512 → ℝ} {K : Fin 3 → Fin 512 → ℝ} {ZM : Fin 16 → Fin 2048 → ℝ} (g : Gated m c Z C K ZM)

include g

theorem in_2 (t : Fin cfg0.N) (ht : t.val < 16) (a : Fin 1) (i : Fin 512) (k : Fin 1536) :
    iblk m c 2 t (ix3 a i k) = ((tile Z t.val ht i k : ℝ) : EReal) := by
  rw [iblk_2 m c t ht, g.rz]
  exact congrArg _ (congrArg (fun r => Z r k) (Fin.ext (by dsimp only [tileOf]; omega)))
theorem in_3 (t : Fin cfg0.N) (ht : t.val < 16) : R2 (iblk m c 3 t) (tile C t.val ht) := fun i k => by
  rw [iblk_3 m c t ht, g.rc]
theorem in_6 (t : Fin cfg0.N) : R2 (iblk m c 6 t) ZM := fun i k => by
  rw [iblk_6, g.rzm]
theorem in_10 (t : Fin cfg0.N) : R2 (iblk m c 10 t) K := fun i k => by
  rw [iblk_10, g.rk]

omit g
include h q

theorem dyconv_at (t : Fin cfg0.N) (ht : t.val < 16) :
    R2 (dyconvAt m c t (woutOf m c)) fun i k => tile (dycRows (dmRows M E G) W) t.val ht i (left k) := fun i k => by
  pointwise [dyconvAt, k0_pay52, dyc_at h q t ht _ _]
theorem dyp_at (t : Fin cfg0.N) (ht : t.val < 16) :
    R2 (dypAt m c t (woutOf m c)) fun i b => tile (dycRows (dmRows M E G) W) t.val ht i (right (col 0 b)) := fun i b => by
  pointwise [dypAt, k0_pay54, dyc_at h q t ht _ _]
  rw [at_right0]

end

/-- A row's gradient at the convolution's result. -/
def dconvRows {n : ℕ} (D : Fin n → Fin 1024 → ℝ) (Z : Fin n → Fin 1536 → ℝ) (r : Fin n) (k : Fin 512) : ℝ := D r (left k) * Z r (gate0 k)

section

variable (m : (ℓ : Loc nD τ sig) → Buf (Elt Ideal) ℓ) (c : Dev nD)

theorem dcb_edge (t : Fin cfg0.N) (h : t.val % 4 = 0) : (outsAt m c t.val t.isLt).dcb
    = View.canon (dcbPieces (dyconvAt m c t (woutOf m c)) (iblk m c 2 t) (k0_pay40 (F := Ideal))) := by
  rw [← wout_at m c t.val t.isLt]
  by_cases h0 : t.val = 0
  · rw [outsAt_A m c t h0, dcb_A]
  · rw [outsAt_B m c t h0 h, dcb_B]

theorem dqb_edge (t : Fin cfg0.N) (h : t.val % 4 = 0) : (outsAt m c t.val t.isLt).dqb
    = View.canon (dqbPieces (dycAt m c t (woutOf m c)) (dypAt m c t (woutOf m c)) (iblk m c 11 t) (iblk m c 12 t) (k0_pay41 (F := Ideal))) := by
  rw [← wout_at m c t.val t.isLt]
  by_cases h0 : t.val = 0
  · rw [outsAt_A m c t h0, dqb_A]
  · rw [outsAt_B m c t h0 h, dqb_B]

theorem dcb_inner (t : Fin cfg0.N) (h : t.val % 4 ≠ 0) : (outsAt m c t.val t.isLt).dcb
    = View.canon (dcbPieces (dyconvAt m c t (woutOf m c)) (iblk m c 2 t) (k0_pay42 (front (prev m c t).dcb))) := by
  rw [← wout_at m c t.val t.isLt]
  by_cases h2 : t.val % 4 = 3
  · by_cases h3 : t.val = 15
    · rw [outsAt_E m c t h3, dcb_E]
    · rw [outsAt_D m c t h3 h2, dcb_D]
  · rw [outsAt_C m c t h h2, dcb_C]

theorem dqb_inner (t : Fin cfg0.N) (h : t.val % 4 ≠ 0) : (outsAt m c t.val t.isLt).dqb
    = View.canon (dqbPieces (dycAt m c t (woutOf m c)) (dypAt m c t (woutOf m c)) (iblk m c 11 t) (iblk m c 12 t) (k0_pay43 (front (prev m c t).dqb))) := by
  rw [← wout_at m c t.val t.isLt]
  by_cases h2 : t.val % 4 = 3
  · by_cases h3 : t.val = 15
    · rw [outsAt_E m c t h3, dqb_E]
    · rw [outsAt_D m c t h3 h2, dqb_D]
  · rw [outsAt_C m c t h h2, dqb_C]

theorem dz_all (t : Fin cfg0.N) : (outsAt m c t.val t.isLt).dz
    = View.canon (dzPieces (dyconvAt m c t (woutOf m c)) (iblk m c 2 t) (iblk m c 3 t) (iblk m c 10 t)
        (outsAt m c t.val t.isLt).dcb (outsAt m c t.val t.isLt).dqb) := by
  rw [← wout_at m c t.val t.isLt]
  by_cases h0 : t.val = 0
  · rw [outsAt_A m c t h0, dz_A]
  by_cases h1 : t.val % 4 = 0
  · rw [outsAt_B m c t h0 h1, dz_B]
  by_cases h2 : t.val % 4 = 3
  · by_cases h3 : t.val = 15
    · rw [outsAt_E m c t h3, dz_E]
    · rw [outsAt_D m c t h3 h2, dz_D]
  · rw [outsAt_C m c t h1 h2, dz_C]

end

section

variable {m : (ℓ : Loc nD τ sig) → Buf (Elt Ideal) ℓ} {c : Dev nD} {M E : Fin 8192 → Fin 1024 → ℝ} {G : Fin 1024 → ℝ} (h : Held m c M E G)
  {P : Fin 8192 → Fin 512 → ℝ} {W : Fin 1024 → Fin 1024 → ℝ} {PW : Fin 4 → Fin 128 → Fin 128 → ℝ} {S : Fin 512 → ℝ} (q : Pooled m c P W PW S)
  {Z : Fin 8192 → Fin 1536 → ℝ} {C : Fin 8192 → Fin 512 → ℝ} {K : Fin 3 → Fin 512 → ℝ} {ZM : Fin 16 → Fin 2048 → ℝ} (g : Gated m c Z C K ZM)

include h q

theorem dqb_at : ∀ (n : ℕ) (hn : n < cfg0.N) (h16 : n < 16),
    R2 (outsAt m c n hn).dqb (keptRows (dqRows (dycRows (dmRows M E G) W) PW S) n h16)
  | 0, hn, h16 => by
    rw [dqb_edge m c ⟨0, hn⟩ rfl]
    exact dqb_real (dyc_at h q ⟨0, hn⟩ h16) (dyp_at h q ⟨0, hn⟩ h16) (in_11 q ⟨0, hn⟩) (in_12 q ⟨0, hn⟩) pay41
      (fun i k _ => kept_tile _ 0 h16 i _ k) fun i k _ => kept_last _ 0 h16 rfl i _ k
  | n + 1, hn, h16 => by
    by_cases h0 : (n + 1) % 4 = 0
    · rw [dqb_edge m c ⟨n + 1, hn⟩ h0]
      exact dqb_real (dyc_at h q ⟨n + 1, hn⟩ h16) (dyp_at h q ⟨n + 1, hn⟩ h16) (in_11 q ⟨n + 1, hn⟩) (in_12 q ⟨n + 1, hn⟩) pay41
        (fun i k _ => kept_tile _ (n + 1) h16 i _ k) fun i k _ => kept_last _ (n + 1) h16 h0 i _ k
    · rw [dqb_inner m c ⟨n + 1, hn⟩ h0]
      exact dqb_real (dyc_at h q ⟨n + 1, hn⟩ h16) (dyp_at h q ⟨n + 1, hn⟩ h16) (in_11 q ⟨n + 1, hn⟩) (in_12 q ⟨n + 1, hn⟩)
        (pay43 (front_real (dqb_at n _ (by omega)))) (fun i k _ => kept_tile _ (n + 1) h16 i _ k) fun i k _ => kept_next _ n h16 h0 i _ _ k

include g

theorem dcb_at : ∀ (n : ℕ) (hn : n < cfg0.N) (h16 : n < 16),
    R2 (outsAt m c n hn).dcb (keptRows (dconvRows (dycRows (dmRows M E G) W) Z) n h16)
  | 0, hn, h16 => by
    rw [dcb_edge m c ⟨0, hn⟩ rfl]
    exact dcb_real (dyconv_at h q ⟨0, hn⟩ h16) (in_2 g ⟨0, hn⟩ h16) pay40
      (fun i k _ => kept_tile _ 0 h16 i _ k) fun i k _ => kept_last _ 0 h16 rfl i _ k
  | n + 1, hn, h16 => by
    by_cases h0 : (n + 1) % 4 = 0
    · rw [dcb_edge m c ⟨n + 1, hn⟩ h0]
      exact dcb_real (dyconv_at h q ⟨n + 1, hn⟩ h16) (in_2 g ⟨n + 1, hn⟩ h16) pay40
        (fun i k _ => kept_tile _ (n + 1) h16 i _ k) fun i k _ => kept_last _ (n + 1) h16 h0 i _ k
    · rw [dcb_inner m c ⟨n + 1, hn⟩ h0]
      exact dcb_real (dyconv_at h q ⟨n + 1, hn⟩ h16) (in_2 g ⟨n + 1, hn⟩ h16)
        (pay42 (front_real (dcb_at n _ (by omega)))) (fun i k _ => kept_tile _ (n + 1) h16 i _ k) fun i k _ => kept_next _ n h16 h0 i _ _ k

end

end Cert.Kernel2Ideal.Mix

end
-- ==== Proof.Mix.Walk5.lean ====
/- The walk over the grid's points, continued: over real rows, the gradient at the input product's columns. -/
module

public import proofs.«01_k».proof.Proof.Mix.Walk4
public import Idealize.ShloMosaic.Lib.KernelVsHost

@[expose] public section

set_option maxRecDepth 16384

noncomputable section

namespace Cert.Kernel2Ideal.Mix

open Cert.Kernel2Ideal Cert.Kernel2Ideal.Gen
open Cert.Pays (R2 w_1024 w_eps coe_sum rstd_real div_real)
open Cert.Rows (rstd rmsBwd)
open Idealize.ShloMosaic Idealize.ShloMosaic.TcCoe Idealize.SL.Sem

/-- Every row that is not among the last `n - 1` holds the sum of `n` rows from its own on. -/
def Windows {N : ℕ} (x : FVec Ideal (⟨2, ![N, 128]⟩ : Shape) .f32) (Y : ℕ → Fin 128 → ℝ) (n : ℕ) : Prop :=
  ∀ (i : Fin N) (b : Fin 128), i.val + n ≤ N → x (ix2 i b) = ((∑ j ∈ Finset.range n, Y (i + j) b : ℝ) : EReal)

theorem windows_one {N : ℕ} {x : FVec Ideal (⟨2, ![N, 128]⟩ : Shape) .f32} {Y : ℕ → Fin 128 → ℝ}
    (hx : ∀ i b, x (ix2 i b) = ((Y i.val b : ℝ) : EReal)) : Windows x Y 1 := fun i b _ => by
  rw [hx]; simp

theorem windows_two {N n : ℕ} {x : FVec Ideal (⟨2, ![N, 128]⟩ : Shape) .f32} {Y : ℕ → Fin 128 → ℝ} (hx : Windows x Y n) (hn : 0 < n)
    (sb : BitVec 32) (hs : sb.toNat + n = N) (h) : Windows (addf x (dynamicRotate 0 sb none x h)) Y (n + n) := fun i b hi => by
  have e : dynamicRotate 0 sb none x h (ix2 i b) = x (ix2 (⟨i + n, by omega⟩ : Fin N) b) := by
    refine dynamicRotate_apply 0 sb x h _ _ fun a => ?_
    match a with
    | ⟨0, _⟩ =>
      show i.val + n = (i.val + N - sb.toNat % N) % N
      rw [Nat.mod_eq_of_lt (show sb.toNat < N by omega), show i.val + N - sb.toNat = i.val + n by omega, Nat.mod_eq_of_lt (by omega)]
    | ⟨1, _⟩ => rfl
  show x (ix2 i b) + dynamicRotate 0 sb none x h (ix2 i b) = _
  rw [e, hx i b (by omega), hx _ b (by dsimp only; omega), ← EReal.coe_add, Finset.sum_range_add]
  simp only [Nat.add_assoc]

theorem c_half : (Scalar.ofBits .f32 0x3F000000#32 : Ideal .f32) = ((1 / 2 : ℝ) : EReal) := by
  show Ideal.ofBits .f32 _ = _
  simp [Ideal.ofBits, Ideal.ieee, -EReal.coe_mul]; norm_num
theorem c_4th : (Scalar.ofBits .f32 0x3E800000#32 : Ideal .f32) = ((1 / 4 : ℝ) : EReal) := by
  show Ideal.ofBits .f32 _ = _
  simp [Ideal.ofBits, Ideal.ieee, -EReal.coe_mul]; norm_num
theorem c_8th : (Scalar.ofBits .f32 0x3E000000#32 : Ideal .f32) = ((1 / 8 : ℝ) : EReal) := by
  show Ideal.ofBits .f32 _ = _
  simp [Ideal.ofBits, Ideal.ieee, -EReal.coe_mul]; norm_num
theorem c_16th : (Scalar.ofBits .f32 0x3D800000#32 : Ideal .f32) = ((1 / 16 : ℝ) : EReal) := by
  show Ideal.ofBits .f32 _ = _
  simp [Ideal.ofBits, Ideal.ieee, -EReal.coe_mul]; norm_num

theorem scaled (u x : FVec Ideal S528x128 .f32) (c : Ideal .f32) (i : Fin 512) (b : Fin 128) :
    (subf (mulf (extractStridedSlice S512x128 ![0, 0] u slices_S528x128_o0_0_S512x128) (broadcast S512x128 c))
      (extractStridedSlice S512x128 ![0, 0] x slices_S528x128_o0_0_S512x128) : FVec Ideal S512x128 .f32) (ix2 i b)
      = u (ix2 (⟨i, by omega⟩ : Fin 528) b) * c - x (ix2 (⟨i, by omega⟩ : Fin 528) b) := by
  pointwise []

theorem joined (v0 v1 v2 v3 : FVec Ideal S512x128 .f32) (i : Fin 512) (j : Fin 512) :
    (concatenate S512x512 1 [⟨S512x128, v0⟩, ⟨S512x128, v1⟩, ⟨S512x128, v2⟩, ⟨S512x128, v3⟩]
      concatenates_S512x128_S512x128_S512x128_S512x128_S512x512_d1 : FVec Ideal S512x512 .f32) (ix2 i j)
    = (![v0, v1, v2, v3] (grp j)) (ix2 i (lane j)) := by
  obtain ⟨g, b, rfl⟩ : ∃ g b, j = col g b := ⟨grp j, lane j, Fin.ext (by dsimp only; omega)⟩
  rw [grp_col, lane_col]
  fin_cases g
  · pointwise []
  · pointwise []
  · pointwise []
    rw [dif_neg (by omega), dif_neg (by omega), dif_pos (by omega)]
    exact congrArg v2 (congrArg (ix2 i) (Fin.ext (by dsimp only; omega)))
  · pointwise []
    rw [dif_neg (by omega), dif_neg (by omega), dif_neg (by omega)]
    exact congrArg v3 (congrArg (ix2 i) (Fin.ext (by dsimp only; omega)))

section Groups

variable {x : FVec Ideal S528x128 .f32} {Y : ℕ → Fin 128 → ℝ} (hx : ∀ i b, x (ix2 i b) = ((Y i.val b : ℝ) : EReal))
include hx

theorem pool_group0 (i : Fin 512) (b : Fin 128) : (k0_pay90 (F := Ideal) x (ix2 i b) : EReal)
    = (((∑ j ∈ Finset.range 2, Y (i + j) b) * (1 / 2) - Y i b : ℝ) : EReal) := by
  unfold k0_pay90
  refine (scaled _ _ _ i b).trans ?_
  rw [windows_two (windows_one hx) (by omega) _ rfl _ _ _ (by dsimp only; omega), hx, c_half, ← EReal.coe_mul, ← EReal.coe_sub]

theorem pool_group1 (i : Fin 512) (b : Fin 128) : (k0_pay91 (F := Ideal) x (ix2 i b) : EReal)
    = (((∑ j ∈ Finset.range 4, Y (i + j) b) * (1 / 4) - Y i b : ℝ) : EReal) := by
  unfold k0_pay91
  refine (scaled _ _ _ i b).trans ?_
  rw [windows_two (windows_two (windows_one hx) (by omega) _ rfl _) (by omega) _ rfl _ _ _ (by dsimp only; omega), hx, c_4th, ← EReal.coe_mul, ← EReal.coe_sub]

theorem pool_group2 (i : Fin 512) (b : Fin 128) : (k0_pay92 (F := Ideal) x (ix2 i b) : EReal)
    = (((∑ j ∈ Finset.range 8, Y (i + j) b) * (1 / 8) - Y i b : ℝ) : EReal) := by
  unfold k0_pay92
  refine (scaled _ _ _ i b).trans ?_
  rw [windows_two (windows_two (windows_two (windows_one hx) (by omega) _ rfl _) (by omega) _ rfl _) (by omega) _ rfl _ _ _ (by dsimp only; omega), hx, c_8th, ← EReal.coe_mul, ← EReal.coe_sub]

theorem pool_eight : Windows (k0_pay93 x) Y 8 := by
  unfold k0_pay93
  exact windows_two (windows_two (windows_two (windows_one hx) (by omega) _ rfl _) (by omega) _ rfl _) (by omega) _ rfl _

theorem pool_group3 (i : Fin 512) (b : Fin 128) :
    (subf (mulf (extractStridedSlice S512x128 ![0, 0] (addf (k0_pay93 x) (k0_pay94 x)) slices_S528x128_o0_0_S512x128)
      (broadcast S512x128 (Scalar.ofBits .f32 0x3D800000#32)))
      (extractStridedSlice S512x128 ![0, 0] x slices_S528x128_o0_0_S512x128) : FVec Ideal S512x128 .f32) (ix2 i b)
    = (((∑ j ∈ Finset.range 16, Y (i + j) b) * (1 / 16) - Y i b : ℝ) : EReal) := by
  refine (scaled _ _ _ i b).trans ?_
  unfold k0_pay94
  rw [windows_two (pool_eight hx) (by omega) _ rfl _ _ _ (by dsimp only; omega), hx, c_16th, ← EReal.coe_mul, ← EReal.coe_sub]

end Groups

/-- The length of a column's window. -/
def winLen (j : Fin 512) : ℕ := 2 ^ ((grp j).val + 1)

/-- The gradient at a pooled column, at place `s` of sequence `b`. -/
def poolAt (x : Fin 8192 → Fin 512 → ℝ) (b : Fin 4) (s : ℕ) (k : Fin 512) : ℝ :=
  (∑ j ∈ Finset.range (winLen k), full x b (s + j) k) * (1 / (winLen k : ℝ)) - full x b s k

/-- The gradient at the convolution's input, at place `s` of sequence `b`. -/
def dcvAt (x : Fin 8192 → Fin 512 → ℝ) (K : Fin 3 → Fin 512 → ℝ) (b : Fin 4) (s : ℕ) (k : Fin 512) : ℝ :=
  K 2 k * full x b s k + K 1 k * full x b (s + 1) k + K 0 k * full x b (s + 2) k

theorem kept_place {w : ℕ} (x : Fin 8192 → Fin w → ℝ) (t : ℕ) (ht : t < 16) (i : Fin 512) (a e : ℕ) (he : e = i + a) (h : e < 528) (h') (k : Fin w) :
    keptRows x t ht ⟨e, h⟩ k = full x ⟨(tileOf t * 512 + i) / 2048, h'⟩ (16 + (tileOf t * 512 + i) % 2048 + a) k := by
  subst he
  unfold keptRows
  have e1 : (⟨t / 4, by omega⟩ : Fin 4) = ⟨(tileOf t * 512 + i) / 2048, h'⟩ := Fin.ext (by dsimp only [tileOf]; omega)
  rw [e1]
  exact congrArg (fun s => full x _ s k) (by dsimp only [tileOf]; omega)

theorem piece_shard {n w : ℕ} {G : Fin 4 → Fin n → Fin w → EReal} (o : Fin 4) (inb) {v : (⟨3, ![1, n, w]⟩ : Shape).Idx → EReal}
    (hv : ∀ g a b, v (ix3 g a b) = G o a b) (x : (⟨3, ![1, n, w]⟩ : Shape).Idx) :
    v x = (fun y => G (y 0) (y 1) (y 2)) ((Rect.unit (s := (⟨3, ![4, n, w]⟩ : Shape)) ![o.val, 0, 0] ![1, n, w] inb).emb x) := by
  have h0 : (x 0).val = 0 := Nat.lt_one_iff.mp (x 0).isLt
  have e0 : o = (Rect.unit (s := (⟨3, ![4, n, w]⟩ : Shape)) ![o.val, 0, 0] ![1, n, w] inb).emb x 0 := Fin.ext (by
    show o.val = o.val + 1 * (x 0).val
    omega)
  have e1 : x 1 = (Rect.unit (s := (⟨3, ![4, n, w]⟩ : Shape)) ![o.val, 0, 0] ![1, n, w] inb).emb x 1 := Fin.ext (by
    show (x 1).val = 0 + 1 * (x 1).val
    omega)
  have e2 : x 2 = (Rect.unit (s := (⟨3, ![4, n, w]⟩ : Shape)) ![o.val, 0, 0] ![1, n, w] inb).emb x 2 := Fin.ext (by
    show (x 2).val = 0 + 1 * (x 2).val
    omega)
  refine (congrArg v (eq_ix3 x)).trans ((hv (x 0) (x 1) (x 2)).trans ?_)
  show _ = G ((Rect.unit (s := (⟨3, ![4, n, w]⟩ : Shape)) ![o.val, 0, 0] ![1, n, w] inb).emb x 0)
    ((Rect.unit (s := (⟨3, ![4, n, w]⟩ : Shape)) ![o.val, 0, 0] ![1, n, w] inb).emb x 1) ((Rect.unit (s := (⟨3, ![4, n, w]⟩ : Shape)) ![o.val, 0, 0] ![1, n, w] inb).emb x 2)
  rw [← e0, ← e1, ← e2]

/-- A row's gradient at the input product's columns, shard by shard. -/
def dzRows (D : Fin 8192 → Fin 1024 → ℝ) (Z : Fin 8192 → Fin 1536 → ℝ) (C : Fin 8192 → Fin 512 → ℝ) (K : Fin 3 → Fin 512 → ℝ)
    (Q : Fin 8192 → Fin 512 → ℝ) (j : Fin 4) (r : Fin 8192) (k : Fin 512) : ℝ :=
  ![D r (left k) * C r k, dcvAt (dconvRows D Z) K ⟨r / 2048, by omega⟩ (16 + r % 2048) k * Z r (gate2 k),
    dcvAt (dconvRows D Z) K ⟨r / 2048, by omega⟩ (16 + r % 2048) k * Z r (gate1 k), poolAt Q ⟨r / 2048, by omega⟩ (16 + r % 2048) k] j

theorem back1_real {b : Vec Ideal S528x512 .f32} {B : Fin 528 → Fin 512 → ℝ} (hb : R2 b B) : R2 (back1 b) fun i k => B ⟨1 + i, by omega⟩ k := fun i k =>
  (ld_at 1 0 inb_S528x512_S512x512_1_0 i k).trans ((hb _ _).trans (congrArg _ (congrArg (B _) (Fin.ext (by dsimp only; omega)))))
theorem back2_real {b : Vec Ideal S528x512 .f32} {B : Fin 528 → Fin 512 → ℝ} (hb : R2 b B) : R2 (back2 b) fun i k => B ⟨2 + i, by omega⟩ k := fun i k =>
  (ld_at 2 0 inb_S528x512_S512x512_2_0 i k).trans ((hb _ _).trans (congrArg _ (congrArg (B _) (Fin.ext (by dsimp only; omega)))))

section Shards

variable {d : FVec Ideal S512x512 .f32} {D : Fin 8192 → Fin 1024 → ℝ} {t : ℕ} {ht : t < 16} (hd : R2 d fun i k => tile D t ht i (left k))
  {z : Vec Ideal S1x512x1536 .f32} {Z : Fin 8192 → Fin 1536 → ℝ} (hz : ∀ a i k, z (ix3 a i k) = ((tile Z t ht i k : ℝ) : EReal))
  {x3 : Vec Ideal S512x512 .f32} {C : Fin 8192 → Fin 512 → ℝ} (h3 : R2 x3 (tile C t ht))
  {x10 : Vec Ideal S3x512 .f32} {K : Fin 3 → Fin 512 → ℝ} (h10 : R2 x10 K)
  {b q : Vec Ideal S528x512 .f32} (hb : R2 b (keptRows (dconvRows D Z) t ht)) {Q : Fin 8192 → Fin 512 → ℝ} (hq : R2 q (keptRows Q t ht))

include hd h3 in
theorem dz_shard0 (a : Fin 1) (i k : Fin 512) : k0_pay96 (k0_pay86 d x3) (ix3 a i k)
    = ((dzRows D Z C K Q 0 ⟨tileOf t * 512 + i, by have := tileOf_lt ht; omega⟩ k : ℝ) : EReal) := by
  pointwise [k0_pay96, k0_pay86, hd _ _, h3 _ _]
  rw [← EReal.coe_mul]
  rfl

include hd hz h10 hb in
theorem dcv_real : R2 (k0_pay81 (k0_pay44 x10) (k0_pay79 d (zAt0 z)) (back1 b) (back2 b)) fun i k =>
    dcvAt (dconvRows D Z) K ⟨(tileOf t * 512 + i) / 2048, by have := tileOf_lt ht; omega⟩ (16 + (tileOf t * 512 + i) % 2048) k := fun i k => by
  have hlt := tileOf_lt ht
  have h0 : dconvRows D Z ⟨tileOf t * 512 + i, by omega⟩ k = full (dconvRows D Z) ⟨(tileOf t * 512 + i) / 2048, by omega⟩ (16 + (tileOf t * 512 + i) % 2048) k :=
    (kept_tile (dconvRows D Z) t ht i (by omega) k).symm.trans (kept_place (dconvRows D Z) t ht i 0 i.val rfl (by omega) (by omega) k)
  have h1 := (back1_real hb i k).trans (congrArg _ (kept_place (dconvRows D Z) t ht i 1 (1 + i.val) (Nat.add_comm _ _) (by omega) (by omega) k))
  have h2 := (back2_real hb i k).trans (congrArg _ (kept_place (dconvRows D Z) t ht i 2 (2 + i.val) (Nat.add_comm _ _) (by omega) (by omega) k))
  have h3 : k0_pay79 d (zAt0 z) (ix2 i k) = ((dconvRows D Z ⟨tileOf t * 512 + i, by omega⟩ k : ℝ) : EReal) := pay79 hd hz i k
  rw [h0] at h3
  pointwise [k0_pay81, k0_pay44, h10 _ _]
  rw [h1, h2, h3]
  simp only [← EReal.coe_mul, ← EReal.coe_add]
  rfl

include hd hz h10 hb in
theorem dz_shard1 (a : Fin 1) (i k : Fin 512) :
    k0_pay97 (k0_pay87 (k0_pay44 x10) (k0_pay78 (zAt2 z)) (k0_pay79 d (zAt0 z)) (back1 b) (back2 b)) (ix3 a i k)
    = ((dzRows D Z C K Q 1 ⟨tileOf t * 512 + i, by have := tileOf_lt ht; omega⟩ k : ℝ) : EReal) := by
  pointwise [k0_pay97, k0_pay87, dcv_real hd hz h10 hb _ _, k0_pay78, z_at2 hz _ _ _]
  rw [← EReal.coe_mul]
  rfl

include hd hz h10 hb in
theorem dz_shard2 (a : Fin 1) (i k : Fin 512) :
    k0_pay98 (k0_pay89 (k0_pay88 (k0_pay44 x10) (k0_pay77 (zAt1 z)) (k0_pay79 d (zAt0 z)) (back1 b) (back2 b))) (ix3 a i k)
    = ((dzRows D Z C K Q 2 ⟨tileOf t * 512 + i, by have := tileOf_lt ht; omega⟩ k : ℝ) : EReal) := by
  pointwise [k0_pay98, k0_pay89, k0_pay88, dcv_real hd hz h10 hb _ _, k0_pay77, z_at1 hz _ _ _]
  rw [← EReal.coe_mul]
  rfl

include hq in
theorem kept_group (g : Fin 4) (o : ℕ) (ho : o = 128 * g.val) (inb) (i : Fin 528) (b : Fin 128) :
    View.ld (S := S528x512) q (Rect.unit ![0, o] S528x128.size inb) (ix2 i b)
      = ((full Q ⟨t / 4, by omega⟩ ((3 - t % 4) * 512 + 16 + i) (col g b) : ℝ) : EReal) := by
  refine (ld_at (x := q) 0 o inb i b).trans ((hq _ _).trans (congrArg _ ?_))
  show keptRows Q t ht ⟨0 + i, _⟩ _ = keptRows Q t ht i _
  exact congrArg₂ (keptRows Q t ht) (Fin.ext (by dsimp only; omega)) (Fin.ext (by dsimp only; omega))

theorem pool_place (g : Fin 4) (n : ℕ) (hn : n = 2 ^ (g.val + 1)) (i : Fin 512) (b : Fin 128) (h) :
    (∑ j ∈ Finset.range n, full Q ⟨t / 4, by omega⟩ ((3 - t % 4) * 512 + 16 + (i.val + j)) (col g b)) * (1 / (n : ℝ))
      - full Q ⟨t / 4, by omega⟩ ((3 - t % 4) * 512 + 16 + i.val) (col g b)
    = poolAt Q ⟨(tileOf t * 512 + i) / 2048, h⟩ (16 + (tileOf t * 512 + i) % 2048) (col g b) := by
  unfold poolAt winLen
  rw [grp_col, ← hn]
  have e1 : (⟨t / 4, by omega⟩ : Fin 4) = ⟨(tileOf t * 512 + i) / 2048, h⟩ := Fin.ext (by dsimp only [tileOf]; omega)
  have e2 : ∀ j, (3 - t % 4) * 512 + 16 + (i.val + j) = 16 + (tileOf t * 512 + i) % 2048 + j := fun j => by dsimp only [tileOf]; omega
  have e3 : (3 - t % 4) * 512 + 16 + i.val = 16 + (tileOf t * 512 + i) % 2048 := by dsimp only [tileOf]; omega
  simp only [e1, e2, e3]

include hq in
theorem dz_shard3 (a : Fin 1) (i k : Fin 512) :
    k0_pay100 (k0_pay95 (k0_pay90 (kept0 q)) (k0_pay91 (kept1 q)) (k0_pay92 (kept2 q)) (kept3 q) (k0_pay93 (kept3 q)) (k0_pay94 (kept3 q))) (ix3 a i k)
    = ((dzRows D Z C K Q 3 ⟨tileOf t * 512 + i, by have := tileOf_lt ht; omega⟩ k : ℝ) : EReal) := by
  have hlt := tileOf_lt ht
  have e : ∀ x : FVec Ideal S512x512 .bf16, k0_pay100 x (ix3 a i k) = x (ix2 i k) := fun x => by pointwise [k0_pay100]
  rw [e]
  unfold k0_pay95
  refine (joined _ _ _ _ i k).trans ?_
  obtain ⟨g, b, rfl⟩ : ∃ g b, k = col g b := ⟨grp k, lane k, Fin.ext (by dsimp only; omega)⟩
  rw [grp_col, lane_col]
  fin_cases g
  · refine (pool_group0 (Y := fun s b => full Q ⟨t / 4, by omega⟩ ((3 - t % 4) * 512 + 16 + s) (col 0 b)) (kept_group hq 0 0 rfl _) i b).trans (congrArg _ ?_)
    refine Eq.trans ?_ (pool_place (t := t) (ht := ht) (Q := Q) 0 2 rfl i b (by omega))
    norm_num
  · refine (pool_group1 (Y := fun s b => full Q ⟨t / 4, by omega⟩ ((3 - t % 4) * 512 + 16 + s) (col 1 b)) (kept_group hq 1 128 rfl _) i b).trans (congrArg _ ?_)
    refine Eq.trans ?_ (pool_place (t := t) (ht := ht) (Q := Q) 1 4 rfl i b (by omega))
    norm_num
  · refine (pool_group2 (Y := fun s b => full Q ⟨t / 4, by omega⟩ ((3 - t % 4) * 512 + 16 + s) (col 2 b)) (kept_group hq 2 256 rfl _) i b).trans (congrArg _ ?_)
    refine Eq.trans ?_ (pool_place (t := t) (ht := ht) (Q := Q) 2 8 rfl i b (by omega))
    norm_num
  · refine (pool_group3 (Y := fun s b => full Q ⟨t / 4, by omega⟩ ((3 - t % 4) * 512 + 16 + s) (col 3 b)) (kept_group hq 3 384 rfl _) i b).trans (congrArg _ ?_)
    refine Eq.trans ?_ (pool_place (t := t) (ht := ht) (Q := Q) 3 16 rfl i b (by omega))
    norm_num

include hd hz h3 h10 hb hq in
theorem dz_real (j : Fin 4) (i k : Fin 512) : View.canon (dzPieces d z x3 x10 b q) (ix3 j i k)
    = ((dzRows D Z C K Q j ⟨tileOf t * 512 + i, by have := tileOf_lt ht; omega⟩ k : ℝ) : EReal) := by
  have hlt := tileOf_lt ht
  have e : View.PiecesOf (fun y => ((dzRows D Z C K Q (y 0) ⟨tileOf t * 512 + (y 1).val, by have : (y 1).val < 512 := (y 1).isLt; omega⟩ (y 2) : ℝ) : EReal)) (dzPieces d z x3 x10 b q) :=
    ⟨fun x => piece_shard (G := fun j i k => ((dzRows D Z C K Q j ⟨tileOf t * 512 + i, by omega⟩ k : ℝ) : EReal)) 3 inb_S4x512x512_S1x512x512_3_0_0 (dz_shard3 hq) x,
      fun x => piece_shard (G := fun j i k => ((dzRows D Z C K Q j ⟨tileOf t * 512 + i, by omega⟩ k : ℝ) : EReal)) 2 inb_S4x512x512_S1x512x512_2_0_0 (dz_shard2 hd hz h10 hb) x,
      fun x => piece_shard (G := fun j i k => ((dzRows D Z C K Q j ⟨tileOf t * 512 + i, by omega⟩ k : ℝ) : EReal)) 1 inb_S4x512x512_S1x512x512_1_0_0 (dz_shard1 hd hz h10 hb) x,
      fun x => piece_shard (G := fun j i k => ((dzRows D Z C K Q j ⟨tileOf t * 512 + i, by omega⟩ k : ℝ) : EReal)) 0 inb_S4x512x512_S1x512x512_0_0_0 (dz_shard0 hd h3) x, trivial⟩
  rw [← List.append_nil (dzPieces d z x3 x10 b q)]
  exact View.canon_append_of_piecesOf _ [] _ e _ (View.cover_of_tiledL (s := S4x512x512) (dzPieces d z x3 x10 b q) S1x512x512.size (by sl_kernel_rfl) _)

end Shards

section

variable {m : (ℓ : Loc nD τ sig) → Buf (Elt Ideal) ℓ} {c : Dev nD} {M E : Fin 8192 → Fin 1024 → ℝ} {G : Fin 1024 → ℝ} (h : Held m c M E G)
  {P : Fin 8192 → Fin 512 → ℝ} {W : Fin 1024 → Fin 1024 → ℝ} {PW : Fin 4 → Fin 128 → Fin 128 → ℝ} {S : Fin 512 → ℝ} (q : Pooled m c P W PW S)
  {Z : Fin 8192 → Fin 1536 → ℝ} {C : Fin 8192 → Fin 512 → ℝ} {K : Fin 3 → Fin 512 → ℝ} {ZM : Fin 16 → Fin 2048 → ℝ} (g : Gated m c Z C K ZM)

include h q g

theorem dz_at (t : Fin cfg0.N) (ht : t.val < 16) (j : Fin 4) (i k : Fin 512) : (outsAt m c t.val t.isLt).dz (ix3 j i k)
    = ((dzRows (dycRows (dmRows M E G) W) Z C K (dqRows (dycRows (dmRows M E G) W) PW S) j ⟨tileOf t.val * 512 + i, by have := tileOf_lt ht; omega⟩ k : ℝ) : EReal) := by
  rw [dz_all]
  exact dz_real (dyconv_at h q t ht) (in_2 g t ht) (in_3 g t ht) (in_10 g t) (dcb_at h q g t.val t.isLt ht) (dqb_at h q t.val t.isLt ht) j i k

end

end Cert.Kernel2Ideal.Mix

end
-- ==== Proof.Mix.Final3.lean ====
/- The mixer kernel's results after the run, continued: the gradient at the input product, and the arrays it is formed of. -/
module

public import proofs.«01_k».proof.Proof.Mix.Final2
public import proofs.«01_k».proof.Proof.Mix.Walk5

@[expose] public section

set_option maxRecDepth 16384

noncomputable section

namespace Cert.Kernel2Ideal.Mix

open Cert.Kernel2Ideal.Gen Cert.Pays Cert.Mix
open Idealize.ShloMosaic Idealize.ShloMosaic.TcCoe Idealize.SL.Sem

/-- The array that holds a stack of real rows `x`. -/
abbrev stackOf {p n w : ℕ} (x : Fin p → Fin n → Fin w → ℝ) : (⟨3, ![p, n, w]⟩ : Shape).Idx → EReal := fun y => ((x (y 0) (y 1) (y 2) : ℝ) : EReal)

theorem index_15 : ∀ t : Fin cfg0.N, win0_15.index t = ![0, tileOf t.val, 0] := (by decide +kernel : ∀ t : Fin grid0.N, _)

theorem placed3 {p w : ℕ} (x : Fin p → Fin 8192 → Fin w → ℝ) (t : ℕ) (e : (⟨3, ![p, 8192, w]⟩ : Shape).Idx) (a : Fin p) (r : Fin 8192) (j : Fin w)
    (h0 : (e 0).val = a.val) (h1 : (e 1).val = r.val) (h2 : (e 2).val = j.val) : ((x a r j : ℝ) : EReal) = stackOf x e := by
  rw [← Fin.ext h0, ← Fin.ext h1, ← Fin.ext h2]

variable {m : (ℓ : Loc nD τ sig) → Buf (Elt Ideal) ℓ} {c : Dev nD}

section

variable {M E : Fin 8192 → Fin 1024 → ℝ} {G : Fin 1024 → ℝ} (h : Held m c M E G)
  {P : Fin 8192 → Fin 512 → ℝ} {W : Fin 1024 → Fin 1024 → ℝ} {PW : Fin 4 → Fin 128 → Fin 128 → ℝ} {S : Fin 512 → ℝ} (q : Pooled m c P W PW S)
  {Z : Fin 8192 → Fin 1536 → ℝ} {C : Fin 8192 → Fin 512 → ℝ} {K : Fin 3 → Fin 512 → ℝ} {ZM : Fin 16 → Fin 2048 → ℝ} (g : Gated m c Z C K ZM)
include h q g

theorem arr_dz : (dats m 0 c).arrAt 15 cfg0.N
    = stackOf (dzRows (dycRows (dmRows M E G) W) Z C K (dqRows (dycRows (dmRows M E G) W) PW S)) := by
  refine (dats m 0 c).arrAt_eq_of_covers 15 _ (by decide +kernel) fun t hf y => ?_
  blk_simp
  rw [after_15]
  refine ((congrArg _ (eq_ix3 y)).trans (dz_at h q g t (lt_16 t) (y 0) (y 1) (y 2))).trans ?_
  refine placed3 (dzRows (dycRows (dmRows M E G) W) Z C K (dqRows (dycRows (dmRows M E G) W) PW S)) t.val _ (y 0) _ (y 2) ?_ ?_ ?_ <;>
    · blk_simp [index_15]; try simp

end

theorem v89_eq (b : Fin 4) (s : Fin 2048) (k : Fin 1536) : V m c main_v89 (ix3 b s k)
    = V m c main_v18 (ix3 b (⟨16 + s.val, by omega⟩ : Fin 2064) (⟨k, by omega⟩ : Fin 2048)) := by
  have e : V m c main_v89 = extractStridedSlice S4x2048x1536 ![0, 16, 0] (V m c main_v18) slices_S4x2064x2048_S4x2048x1536_0_16_0 := by
    sl_kernel_rfl
  rw [e]
  pointwise

theorem conv_rows_of (x : FVec Ideal S4x2064x512 .f32) (r : Fin 8192) (k : Fin 512) :
    shapeCast S8192x512 (extractStridedSlice S4x2048x512 ![0, 16, 0] x slices_S4x2064x512_S4x2048x512_0_16_0)
      shapeCasts_S4x2048x512_S8192x512 (ix2 r k) = x (ix3 (⟨r / 2048, by omega⟩ : Fin 4) (⟨16 + r % 2048, by omega⟩ : Fin 2064) k) := by
  pointwise []

theorem v91_eq (r : Fin 8192) (k : Fin 512) : V m c main_v91 (ix2 r k)
    = V m c main_v44 (ix3 (⟨r / 2048, by omega⟩ : Fin 4) (⟨16 + r % 2048, by omega⟩ : Fin 2064) k) := by
  have e : V m c main_v91 = shapeCast S8192x512 (extractStridedSlice S4x2048x512 ![0, 16, 0] (V m c main_v44)
      slices_S4x2064x512_S4x2048x512_0_16_0) shapeCasts_S4x2048x512_S8192x512 := by
    sl_kernel_rfl
  rw [e]
  exact conv_rows_of _ r k

theorem meta_rows_of (x : FVec Ideal S4x2064x2048 .f32) (i : Fin 16) (k : Fin 2048) :
    shapeCast S16x2048 (extractStridedSlice S1x16x2048 ![0, 0, 0] x slices_S4x2064x2048_S1x16x2048_0_0_0)
      shapeCasts_S1x16x2048_S16x2048 (ix2 i k) = x (ix3 (0 : Fin 4) (⟨i, by omega⟩ : Fin 2064) k) := by
  pointwise []

theorem v96_eq (i : Fin 16) (k : Fin 2048) : V m c main_v96 (ix2 i k) = V m c main_v18 (ix3 (0 : Fin 4) (⟨i, by omega⟩ : Fin 2064) k) := by
  have e : V m c main_v96 = shapeCast S16x2048 (extractStridedSlice S1x16x2048 ![0, 0, 0] (V m c main_v18)
      slices_S4x2064x2048_S1x16x2048_0_0_0) shapeCasts_S1x16x2048_S16x2048 := by
    sl_kernel_rfl
  rw [e]
  exact meta_rows_of _ i k

theorem taps_of (x : FVec Ideal S1x3x512 .f32) (i : Fin 3) (k : Fin 512) :
    shapeCast S3x512 x shapeCasts_S1x3x512_S3x512 (ix2 i k) = x (ix3 (0 : Fin 1) i k) := by
  pointwise []

theorem v97_eq (i : Fin 3) (k : Fin 512) : V m c main_v97 (ix2 i k) = V m c main_arg4 (ix3 (0 : Fin 1) i k) := by
  have e : V m c main_v97 = shapeCast S3x512 (V m c main_arg4) shapeCasts_S1x3x512_S3x512 := by
    sl_kernel_rfl
  rw [e]
  exact taps_of _ i k

end Cert.Kernel2Ideal.Mix

end
-- ==== Proof.Mix.Ref3.lean ====
/- The reference's gradient at the input product, over real rows: the gates', the convolution's and the pooling's columns. -/
module

public import proofs.«01_k».proof.Proof.Mix.Ref2
public import proofs.«01_k».proof.Proof.Mix.Walk5

@[expose] public section

set_option maxRecDepth 16384

noncomputable section

namespace Cert.Mix

open Idealize.ShloMosaic

/-- The sum from a row to the sequence's end as the window of 2064 forms it. -/
@[irreducible] def rsum (z : EReal) (x : Fin 2064 → EReal) (s : Fin 2064) : EReal :=
  (List.finRange 2064).foldl (fun r n => r + if h : s.val + n.val < 2064 then x ⟨s.val + n.val, h⟩ else z) z

theorem cs3r (P : (⟨3, ![4, 2064, 128]⟩ : Shape).Idx → EReal) (z : EReal)
    (h : (⟨3, ![4, 2064, 128]⟩ : Shape).ReduceWindows ![1, 2064, 1] ![1, 1, 1] ![0, 0, 0] ![0, 2063, 0] ⟨3, ![4, 2064, 128]⟩)
    (b : Fin 4) (s : Fin 2064) (k : Fin 128) :
    Ideal.hostReduceWindowAdd ![1, 2064, 1] ![1, 1, 1] ![0, 0, 0] ![0, 2063, 0] h P z (ix3 b s k) = rsum z (fun l => P (ix3 b l k)) s := by
  unfold Ideal.hostReduceWindowAdd Host.reduceWindow rsum
  have e : W3.numel = 2064 := by decide
  show (List.finRange W3.numel).foldl _ z = _
  refine congrFun (congrArg (fun f => List.foldl f z) ?_) _
  funext r n
  refine congrArg (r + ·) ?_
  have pn := place3 n
  have h0 : (W3.rowMajor.symm n 0).val < 1 := (W3.rowMajor.symm n 0).isLt
  have h2 : (W3.rowMajor.symm n 2).val < 1 := (W3.rowMajor.symm n 2).isLt
  have hn : n.val < 2064 := n.isLt
  split_ifs with h1 h3 h3
  · congr 1
    funext a
    apply Fin.ext
    fin_cases a
    · show b.val * 1 + (W3.rowMajor.symm n 0).val - 0 = b.val; omega
    · show s.val * 1 + (W3.rowMajor.symm n 1).val - 0 = s.val + n.val; omega
    · show k.val * 1 + (W3.rowMajor.symm n 2).val - 0 = k.val; omega
  · exfalso
    have := (h1 1).2
    change s.val * 1 + (W3.rowMajor.symm n 1).val - 0 < 2064 at this
    omega
  · exfalso
    apply h1
    intro a
    fin_cases a
    · show 0 ≤ b.val * 1 + (W3.rowMajor.symm n 0).val ∧ b.val * 1 + (W3.rowMajor.symm n 0).val - 0 < 4
      omega
    · show 0 ≤ s.val * 1 + (W3.rowMajor.symm n 1).val ∧ s.val * 1 + (W3.rowMajor.symm n 1).val - 0 < 2064
      omega
    · show 0 ≤ k.val * 1 + (W3.rowMajor.symm n 2).val ∧ k.val * 1 + (W3.rowMajor.symm n 2).val - 0 < 128
      omega
  · rfl

theorem foldl_add {α : Type} (g : α → EReal) (L : List α) (z : EReal) : L.foldl (fun r n => r + g n) z = z + (L.map g).sum := by
  induction L generalizing z with
  | nil => simp
  | cons a L ih => rw [List.foldl_cons, ih, List.map_cons, List.sum_cons, add_assoc]

/-- Over real numbers that vanish past the end, it is their sum. -/
theorem rsum_real (a : ℕ → ℝ) (ha : ∀ l, 2064 ≤ l → a l = 0) (s : Fin 2064) :
    rsum 0 (fun l => ((a l : ℝ) : EReal)) s = ((∑ n ∈ Finset.range 2064, a (s + n) : ℝ) : EReal) := by
  unfold rsum
  rw [foldl_add, zero_add, ← Fin.sum_univ_def, ← Fin.sum_univ_eq_sum_range (fun n => a (s + n)), ← Cert.Pays.coe_sum]
  refine Finset.sum_congr rfl fun n _ => ?_
  split_ifs with h
  · rfl
  · rw [ha _ (by omega)]; rfl

/-- A sum of differences, where only the first terms remain. -/
theorem telescope (a : ℕ → ℝ) (w N : ℕ) (ha : ∀ n, N ≤ n → a n = 0) :
    ∑ n ∈ Finset.range N, (a n - a (n + w)) = ∑ n ∈ Finset.range w, a n := by
  have e1 := Finset.sum_range_add a N w
  have e2 := Finset.sum_range_add a w N
  rw [Finset.sum_eq_zero (s := Finset.range w) (f := fun x => a (N + x)) fun x _ => ha _ (by omega), add_zero] at e1
  rw [Finset.sum_sub_distrib, ← e1, Nat.add_comm N w, e2]
  simp only [Nat.add_comm w]
  ring

end Cert.Mix

namespace Cert.Kernel2Ideal.Mix

open Cert.Kernel2Ideal Cert.Kernel2Ideal.Gen
open Cert.Reference2Ideal.Value
open Cert.Mix
open Cert.Pays (w_1024 w_eps coe_sum rstd_real div_real rsqrt_real)
open Idealize.ShloMosaic Idealize.ShloMosaic.TcCoe Idealize.SL.Sem

section Pads

/-- A padding along the sequence, read at a row. -/
theorem pad_mid {N N' w lo hi : ℕ} (x : (⟨3, ![4, N, w]⟩ : Shape).Idx → EReal) (v : S_.Idx → EReal)
    (h : (⟨3, ![4, N, w]⟩ : Shape).Pads ![0, lo, 0] ![0, hi, 0] ![0, 0, 0] ⟨3, ![4, N', w]⟩) (hu) (b : Fin 4) (l : Fin N') (k : Fin w) :
    pad (⟨3, ![4, N', w]⟩ : Shape) ![0, lo, 0] ![0, hi, 0] ![0, 0, 0] x v h hu (ix3 b l k)
      = if q : lo ≤ l.val ∧ l.val - lo < N then x (ix3 b ⟨l - lo, q.2⟩ k) else v (Shape.Idx.first hu) := by
  split_ifs with q
  · refine pad_apply_of_inside _ _ _ x v h hu _ _ fun a => ?_
    match a with
    | ⟨0, _⟩ => exact (show b.val = 0 + b.val * (0 + 1) by omega)
    | ⟨1, _⟩ => exact (show l.val = lo + (l.val - lo) * (0 + 1) by omega)
    | ⟨2, _⟩ => exact (show k.val = 0 + k.val * (0 + 1) by omega)
  · refine pad_apply_of_not_inside _ _ _ x v h hu _ 1 fun p => q ⟨p.1, ?_⟩
    have := p.2.2
    change (l.val - lo) / 1 < N at this
    omega

/-- A padding of the columns, read at a column. -/
theorem pad_last {n w w' lo hi : ℕ} (x : (⟨3, ![4, n, w]⟩ : Shape).Idx → EReal) (v : S_.Idx → EReal)
    (h : (⟨3, ![4, n, w]⟩ : Shape).Pads ![0, 0, lo] ![0, 0, hi] ![0, 0, 0] ⟨3, ![4, n, w']⟩) (hu) (b : Fin 4) (l : Fin n) (k : Fin w') :
    pad (⟨3, ![4, n, w']⟩ : Shape) ![0, 0, lo] ![0, 0, hi] ![0, 0, 0] x v h hu (ix3 b l k)
      = if q : lo ≤ k.val ∧ k.val - lo < w then x (ix3 b l ⟨k - lo, q.2⟩) else v (Shape.Idx.first hu) := by
  split_ifs with q
  · refine pad_apply_of_inside _ _ _ x v h hu _ _ fun a => ?_
    match a with
    | ⟨0, _⟩ => exact (show b.val = 0 + b.val * (0 + 1) by omega)
    | ⟨1, _⟩ => exact (show l.val = 0 + l.val * (0 + 1) by omega)
    | ⟨2, _⟩ => exact (show k.val = lo + (k.val - lo) * (0 + 1) by omega)
  · refine pad_apply_of_not_inside _ _ _ x v h hu _ 2 fun p => q ⟨p.1, ?_⟩
    have := p.2.2
    change (k.val - lo) / 1 < w at this
    omega

/-- A padding of the groups, read at a group. -/
theorem pad_third {lo hi : ℕ} (x : S4x2064x1x128.Idx → EReal) (v : S_.Idx → EReal)
    (h : S4x2064x1x128.Pads ![0, 0, lo, 0] ![0, 0, hi, 0] ![0, 0, 0, 0] S4x2064x4x128) (hu) (b : Fin 4) (l : Fin 2064) (g : Fin 4) (k : Fin 128) :
    pad S4x2064x4x128 ![0, 0, lo, 0] ![0, 0, hi, 0] ![0, 0, 0, 0] x v h hu (ix4 b l g k)
      = if g.val = lo then x (ix4 b l (0 : Fin 1) k) else v (Shape.Idx.first hu) := by
  split_ifs with q
  · refine pad_apply_of_inside _ _ _ x v h hu _ _ fun a => ?_
    match a with
    | ⟨0, _⟩ => exact (show b.val = 0 + b.val * (0 + 1) by omega)
    | ⟨1, _⟩ => exact (show l.val = 0 + l.val * (0 + 1) by omega)
    | ⟨2, _⟩ => exact (show g.val = lo + 0 * (0 + 1) by omega)
    | ⟨3, _⟩ => exact (show k.val = 0 + k.val * (0 + 1) by omega)
  · refine pad_apply_of_not_inside _ _ _ x v h hu _ 2 fun p => q ?_
    have h1 := p.1
    have h2 := p.2.2
    change lo ≤ g.val at h1
    change (g.val - lo) / 1 < 1 at h2
    omega

end Pads

/-- A function of all the rows that vanishes at the sixteen first ones. -/
theorem full_of {w : ℕ} {F : Fin 4 → Fin 2064 → Fin w → ℝ} {x : Fin 8192 → Fin w → ℝ} (h0 : ∀ b s k, s.val < 16 → F b s k = 0)
    (hx : ∀ (r : Fin 8192) k, F ⟨r.val / 2048, by omega⟩ ⟨16 + r.val % 2048, by omega⟩ k = x r k) (b : Fin 4) (s : Fin 2064) (k : Fin w) :
    F b s k = full x b s k := by
  unfold full
  split_ifs with h
  · rw [← hx]
    exact congrArg₂ (fun b s => F b s k) (Fin.ext (by dsimp only; omega)) (Fin.ext (by dsimp only; omega))
  · exact h0 b s k (by omega)

theorem full_past {w : ℕ} (x : Fin 8192 → Fin w → ℝ) (b : Fin 4) (s : ℕ) (k : Fin w) (hs : 2064 ≤ s) : full x b s k = 0 := by
  unfold full; rw [dif_neg (by omega)]

theorem full_before {w : ℕ} (x : Fin 8192 → Fin w → ℝ) (b : Fin 4) (s : ℕ) (k : Fin w) (hs : s < 16) : full x b s k = 0 := by
  unfold full; rw [dif_neg (by omega)]

/-- The input product's first columns without the sequences' sixteen first rows. -/
abbrev laterZ (Z : Fin 4 → Fin 2064 → Fin 2048 → ℝ) : Fin 8192 → Fin 1536 → ℝ :=
  fun r k => Z ⟨r.val / 2048, by omega⟩ ⟨16 + r.val % 2048, by omega⟩ ⟨k.val, by omega⟩

variable {U : Valuation Cert.Reference2Ideal.τ Cert.Reference2Ideal.sig (Elt Ideal)} {A : Arrays} (h : ArgsR U A)
  {D : Fin 4 → Fin 2064 → Fin 1024 → ℝ} (hD : ∀ b s j, res_main_v183 U (ix3 b s j) = ((D b s j : ℝ) : EReal))
  (h0 : ∀ b s j, s.val < 16 → D b s j = 0)
  {Z : Fin 4 → Fin 2064 → Fin 2048 → ℝ} (hZ : ∀ b s k, res_main_v24 U (ix3 b s k) = ((Z b s k : ℝ) : EReal))
  {C : Fin 4 → Fin 2064 → Fin 512 → ℝ} (hC : ∀ b s k, res_main_v53 U (ix3 b s k) = ((C b s k : ℝ) : EReal))
  {K : Fin 3 → Fin 512 → ℝ} (hK : ∀ i j k, A.a4 (ix3 i j k) = ((K j k : ℝ) : EReal))
  {PW : Fin 4 → Fin 128 → Fin 128 → ℝ} (hPW : ∀ i g a b, A.a5 (ix4 i g a b) = ((PW g a b : ℝ) : EReal))
  {S : Fin 512 → ℝ} (hS : ∀ i k, A.a6 (ix2 i k) = ((S k : ℝ) : EReal))

include hD h0 hZ in
theorem v186 (b : Fin 4) (s : Fin 2064) (k : Fin 512) : res_main_v186 U (ix3 b s k) = ((full (dconvRows (later D) (laterZ Z)) b s k : ℝ) : EReal) := by
  rw [← full_of (F := fun b s k => D b s (left k) * Z b s ⟨k.val, by omega⟩) (x := dconvRows (later D) (laterZ Z)) (fun b s k hs => by rw [h0 b s _ hs, zero_mul])
    (fun r k => rfl) b s k]
  pointwise [res_main_v186, res_main_v25, res_main_v184, hD _ _ _, hZ _ _ _]
  rw [← EReal.coe_mul, mul_comm]

include h hD h0 hZ hK in
theorem v294 (b : Fin 4) (s : Fin 2064) (k : Fin 512) : res_main_v294 U (ix3 b s k)
    = ((dcvAt (dconvRows (later D) (laterZ Z)) K b s k : ℝ) : EReal) := by
  pointwise [res_main_v294, res_main_v289, pad_mid, res_main_v37, res_main_v43, res_main_v50, res_main_v30, h.a4, hK _ _ _, v186 hD h0 hZ _ _ _]
  have e1 : (if h : 1 ≤ 2 + s.val ∧ 2 + s.val - 1 < 2064 then ((K 1 k : ℝ) : EReal) * ((full (dconvRows (later D) (laterZ Z)) b (2 + s.val - 1) k : ℝ) : EReal) else 0)
      = ((K 1 k : ℝ) : EReal) * ((full (dconvRows (later D) (laterZ Z)) b (s.val + 1) k : ℝ) : EReal) := by
    split_ifs with q
    · rw [show 2 + s.val - 1 = s.val + 1 by omega]
    · rw [full_past _ b (s.val + 1) k (by omega)]; simp
  have e2 : (if h : 2 + s.val < 2064 then ((K 0 k : ℝ) : EReal) * ((full (dconvRows (later D) (laterZ Z)) b (2 + s.val) k : ℝ) : EReal) else 0)
      = ((K 0 k : ℝ) : EReal) * ((full (dconvRows (later D) (laterZ Z)) b (s.val + 2) k : ℝ) : EReal) := by
    split_ifs with q
    · rw [Nat.add_comm 2]
    · rw [full_past _ b (s.val + 2) k (by omega)]; simp
  rw [e1, e2]
  simp only [← EReal.coe_mul, ← EReal.coe_add]
  rfl

include h hD h0 hPW hS in
theorem v198 (b : Fin 4) (s : Fin 2064) (g : Fin 4) (a : Fin 128) : res_main_v198 U (ix4 b s g a)
    = ((full (dqRows (later D) PW S) b s (col g a) : ℝ) : EReal) := by
  rw [← full_of (F := fun b s j => ∑ e, (D b s (right (col (grp j) e)) * S (col (grp j) e)) * PW (grp j) (lane j) e) (x := dqRows (later D) PW S)
    (fun b s k hs => Finset.sum_eq_zero fun e _ => by rw [h0 b s _ hs, zero_mul, zero_mul]) (fun r k => rfl) b s (col g a)]
  pointwise [res_main_v198, res_main_v196, res_main_v185, hD _ _ _, res_main_v134, h.a6, hS _ _, res_main_v129, h.a5, hPW _ _ _ _]
  have ec : ∀ (e : Fin 128) (q), (⟨g.val * 128 + e.val, q⟩ : Fin 512) = col g e := fun e q => Fin.ext (by
    show g.val * 128 + e.val = 128 * g.val + e.val
    omega)
  have er : ∀ (e : Fin 128) (q), (⟨512 + (g.val * 128 + e.val), q⟩ : Fin 1024) = right (col g e) := fun e q => Fin.ext (by
    show 512 + (g.val * 128 + e.val) = 512 + (128 * g.val + e.val)
    omega)
  simp only [er, ec, grp_col, lane_col, ← EReal.coe_mul, coe_sum]

/-- What the reference adds for one group: the windows' sums back from the divided rows, less the rows. -/
theorem back_at {y e t : FVec Ideal Cert.Reference2Ideal.S4x2064x128 .f32} {f : ℕ → ℝ} {b : Fin 4} {j : Fin 128} (w : ℕ) (hf : ∀ l, 2064 ≤ l → f l = 0)
    (hy : ∀ l : Fin 2064, y (ix3 b l j) = ((f l : ℝ) : EReal)) (he : ∀ l : Fin 2064, e (ix3 b l j) = ((f l * (1 / (w : ℝ)) : ℝ) : EReal))
    (ht : ∀ l : Fin 2064, t (ix3 b l j) = ((-(f (l + w) * (1 / (w : ℝ))) : ℝ) : EReal)) (s : Fin 2064) :
    (addf (Host.negf y) (Host.reduceWindowAdd ![1, 2064, 1] ![1, 1, 1] ![0, 0, 0] ![0, 2063, 0] (addf e t)
      (broadcastInDim Cert.Reference2Ideal.S_ ![] Cert.Reference2Ideal.Gen.bcast_S_S_ (constant Cert.Reference2Ideal.S_ .f32 0x00000000#32))
      Cert.Reference2Ideal.Gen.reduceWindows_S4x2064x128_S4x2064x128_w1s1p0_0_w2064s1p0_2063_w1s1p0_0 Cert.Reference2Ideal.Gen.h_S_)
      : FVec Ideal Cert.Reference2Ideal.S4x2064x128 .f32) (ix3 b s j)
    = (((∑ n ∈ Finset.range w, f (s + n)) * (1 / (w : ℝ)) - f s : ℝ) : EReal) := by
  have e1 : (Host.reduceWindowAdd ![1, 2064, 1] ![1, 1, 1] ![0, 0, 0] ![0, 2063, 0] (addf e t)
      (broadcastInDim Cert.Reference2Ideal.S_ ![] Cert.Reference2Ideal.Gen.bcast_S_S_ (constant Cert.Reference2Ideal.S_ .f32 0x00000000#32))
      Cert.Reference2Ideal.Gen.reduceWindows_S4x2064x128_S4x2064x128_w1s1p0_0_w2064s1p0_2063_w1s1p0_0 Cert.Reference2Ideal.Gen.h_S_
      : FVec Ideal Cert.Reference2Ideal.S4x2064x128 .f32) (ix3 b s j)
      = (((∑ n ∈ Finset.range w, f (s + n)) * (1 / (w : ℝ)) : ℝ) : EReal) := by
    unfold Host.reduceWindowAdd
    rw [Ideal.hostReduceWindowAdd_def, cs3r]
    refine ((congrArg (fun z => rsum z _ s) zero_word).trans (congrArg (fun x => rsum 0 x s) (funext fun l => ?_))).trans
      ((rsum_real (fun l => f l * (1 / (w : ℝ)) - f (l + w) * (1 / (w : ℝ))) (fun l hl => by rw [hf l hl, hf (l + w) (by omega)]; ring) s).trans (congrArg _ ?_))
    · show e (ix3 b l j) + t (ix3 b l j) = _
      rw [he, ht, ← EReal.coe_add, sub_eq_add_neg]
    · have k := telescope (fun n => f (s + n) * (1 / (w : ℝ))) w 2064 fun n hn => by rw [hf _ (by omega), zero_mul]
      rw [Finset.sum_mul, ← k]
      exact Finset.sum_congr rfl fun n _ => by rw [Nat.add_assoc]
  show -(y (ix3 b s j)) + _ = _
  rw [e1, hy, ← EReal.coe_neg, ← EReal.coe_add]
  exact congrArg _ (by ring)

theorem len_2 : ∀ s : Fin 2064, 16 ≤ s.val → (IntOp.minsi (IntOp.addi (BitVec.ofNat 32 s.val) 1#32) 2#32).toInt = 2 := by decide +kernel
theorem len_4 : ∀ s : Fin 2064, 16 ≤ s.val → (IntOp.minsi (IntOp.addi (BitVec.ofNat 32 s.val) 1#32) 4#32).toInt = 4 := by decide +kernel
theorem len_8 : ∀ s : Fin 2064, 16 ≤ s.val → (IntOp.minsi (IntOp.addi (BitVec.ofNat 32 s.val) 1#32) 8#32).toInt = 8 := by decide +kernel
theorem len_16 : ∀ s : Fin 2064, 16 ≤ s.val → (IntOp.minsi (IntOp.addi (BitVec.ofNat 32 s.val) 1#32) 16#32).toInt = 16 := by decide +kernel
theorem len_ne (w : BitVec 32) (hw : w = 2#32 ∨ w = 4#32 ∨ w = 8#32 ∨ w = 16#32) :
    ∀ s : Fin 2064, (IntOp.minsi (IntOp.addi (BitVec.ofNat 32 s.val) 1#32) w).toInt ≠ 0 := by
  rcases hw with rfl | rfl | rfl | rfl <;> decide +kernel

/-- The division by the windows' lengths, over a function that vanishes at the sixteen first rows. -/
theorem by_length {f : ℕ → ℝ} (hf : ∀ l, l < 16 → f l = 0) (n : ℕ) (hn : 0 < n) (v : ℤ) (l : Fin 2064) (hv : 16 ≤ l.val → v = n) (hv0 : v ≠ 0) :
    Ideal.div ((f l : ℝ) : EReal) (((v : ℝ)) : EReal) = ((f l * (1 / (n : ℝ)) : ℝ) : EReal) := by
  rw [div_real (Int.cast_ne_zero.mpr hv0)]
  by_cases q : 16 ≤ l.val
  · rw [hv q, mul_one_div, Int.cast_natCast]
  · rw [hf _ (by omega), zero_div, zero_mul]

theorem winLen_col (g : Fin 4) (j : Fin 128) : winLen (col g j) = 2 ^ (g.val + 1) := by
  unfold winLen
  rw [grp_col]

section Groups

include h hD h0 hPW hS

theorem v250 (b : Fin 4) (l : Fin 2064) (j : Fin 128) : res_main_v250 U (ix3 b l j)
    = ((full (dqRows (later D) PW S) b l (col 0 j) * (1 / ((2 : ℕ) : ℝ)) : ℝ) : EReal) := by
  pointwise [res_main_v250, res_main_v203, res_main_v68, res_main_v55, v198 h hD h0 hPW hS _ _ _ _]
  exact by_length (f := fun l => full (dqRows (later D) PW S) b l (col 0 j)) (fun l hl => full_before _ _ _ _ hl) 2 (by omega) _ l (len_2 l) (len_ne _ (by simp) l)

theorem group0 (b : Fin 4) (s : Fin 2064) (j : Fin 128) : (addf (Host.negf (res_main_v203 U)) (Host.reduceWindowAdd ![1, 2064, 1] ![1, 1, 1] ![0, 0, 0] ![0, 2063, 0]
      (addf (res_main_v250 U) (extractStridedSlice Cert.Reference2Ideal.S4x2064x128 ![0, 2, 0] (res_main_v252 U) Cert.Reference2Ideal.Gen.slices_S4x2066x128_S4x2064x128_0_2_0))
      (broadcastInDim Cert.Reference2Ideal.S_ ![] Cert.Reference2Ideal.Gen.bcast_S_S_ (constant Cert.Reference2Ideal.S_ .f32 0x00000000#32))
      Cert.Reference2Ideal.Gen.reduceWindows_S4x2064x128_S4x2064x128_w1s1p0_0_w2064s1p0_2063_w1s1p0_0 Cert.Reference2Ideal.Gen.h_S_)
      : FVec Ideal Cert.Reference2Ideal.S4x2064x128 .f32) (ix3 b s j) = ((poolAt (dqRows (later D) PW S) b s (col 0 j) : ℝ) : EReal) := by
  refine (back_at (f := fun l => full (dqRows (later D) PW S) b l (col 0 j)) 2 (fun l hl => full_past _ _ _ _ hl) (fun l => ?_) (v250 h hD h0 hPW hS b · j) (fun l => ?_) s).trans ?_
  · pointwise [res_main_v203, v198 h hD h0 hPW hS _ _ _ _]
  · pointwise [res_main_v252, v250 h hD h0 hPW hS _ _ _]
    by_cases q : 2 + l.val < 2064
    · rw [dif_pos]
      · rw [← EReal.coe_neg, Nat.add_comm 2]
      · intro a
        match a with
        | ⟨0, _⟩ => exact ⟨Nat.zero_le _, Nat.mod_one _, show (b.val - 0) / 1 < 4 by omega⟩
        | ⟨1, _⟩ => exact ⟨Nat.zero_le _, Nat.mod_one _, show (2 + l.val - 0) / 1 < 2064 by omega⟩
        | ⟨2, _⟩ => exact ⟨Nat.zero_le _, Nat.mod_one _, show (j.val - 0) / 1 < 128 by omega⟩
    · rw [dif_neg fun p => q (by have t : (2 + l.val - 0) / 1 < 2064 := (p 1).2.2; omega), full_past _ b (l.val + 2) _ (by omega)]
      simp
  · have e : winLen (col 0 j) = 2 := winLen_col 0 j
    unfold poolAt
    rw [e]

theorem v237 (b : Fin 4) (l : Fin 2064) (j : Fin 128) : res_main_v237 U (ix3 b l j)
    = ((full (dqRows (later D) PW S) b l (col 1 j) * (1 / ((4 : ℕ) : ℝ)) : ℝ) : EReal) := by
  pointwise [res_main_v237, res_main_v205, res_main_v85, res_main_v55, v198 h hD h0 hPW hS _ _ _ _]
  exact by_length (f := fun l => full (dqRows (later D) PW S) b l (col 1 j)) (fun l hl => full_before _ _ _ _ hl) 4 (by omega) _ l (len_4 l) (len_ne _ (by simp) l)

theorem group1 (b : Fin 4) (s : Fin 2064) (j : Fin 128) : (addf (Host.negf (res_main_v205 U)) (Host.reduceWindowAdd ![1, 2064, 1] ![1, 1, 1] ![0, 0, 0] ![0, 2063, 0]
      (addf (res_main_v237 U) (extractStridedSlice Cert.Reference2Ideal.S4x2064x128 ![0, 4, 0] (res_main_v239 U) Cert.Reference2Ideal.Gen.slices_S4x2068x128_S4x2064x128_0_4_0))
      (broadcastInDim Cert.Reference2Ideal.S_ ![] Cert.Reference2Ideal.Gen.bcast_S_S_ (constant Cert.Reference2Ideal.S_ .f32 0x00000000#32))
      Cert.Reference2Ideal.Gen.reduceWindows_S4x2064x128_S4x2064x128_w1s1p0_0_w2064s1p0_2063_w1s1p0_0 Cert.Reference2Ideal.Gen.h_S_)
      : FVec Ideal Cert.Reference2Ideal.S4x2064x128 .f32) (ix3 b s j) = ((poolAt (dqRows (later D) PW S) b s (col 1 j) : ℝ) : EReal) := by
  refine (back_at (f := fun l => full (dqRows (later D) PW S) b l (col 1 j)) 4 (fun l hl => full_past _ _ _ _ hl) (fun l => ?_) (v237 h hD h0 hPW hS b · j) (fun l => ?_) s).trans ?_
  · pointwise [res_main_v205, v198 h hD h0 hPW hS _ _ _ _]
  · pointwise [res_main_v239, v237 h hD h0 hPW hS _ _ _]
    by_cases q : 4 + l.val < 2064
    · rw [dif_pos]
      · rw [← EReal.coe_neg, Nat.add_comm 4]
      · intro a
        match a with
        | ⟨0, _⟩ => exact ⟨Nat.zero_le _, Nat.mod_one _, show (b.val - 0) / 1 < 4 by omega⟩
        | ⟨1, _⟩ => exact ⟨Nat.zero_le _, Nat.mod_one _, show (4 + l.val - 0) / 1 < 2064 by omega⟩
        | ⟨2, _⟩ => exact ⟨Nat.zero_le _, Nat.mod_one _, show (j.val - 0) / 1 < 128 by omega⟩
    · rw [dif_neg fun p => q (by have t : (4 + l.val - 0) / 1 < 2064 := (p 1).2.2; omega), full_past _ b (l.val + 4) _ (by omega)]
      simp
  · have e : winLen (col 1 j) = 4 := winLen_col 1 j
    unfold poolAt
    rw [e]

theorem v224 (b : Fin 4) (l : Fin 2064) (j : Fin 128) : res_main_v224 U (ix3 b l j)
    = ((full (dqRows (later D) PW S) b l (col 2 j) * (1 / ((8 : ℕ) : ℝ)) : ℝ) : EReal) := by
  pointwise [res_main_v224, res_main_v207, res_main_v102, res_main_v55, v198 h hD h0 hPW hS _ _ _ _]
  exact by_length (f := fun l => full (dqRows (later D) PW S) b l (col 2 j)) (fun l hl => full_before _ _ _ _ hl) 8 (by omega) _ l (len_8 l) (len_ne _ (by simp) l)

theorem group2 (b : Fin 4) (s : Fin 2064) (j : Fin 128) : (addf (Host.negf (res_main_v207 U)) (Host.reduceWindowAdd ![1, 2064, 1] ![1, 1, 1] ![0, 0, 0] ![0, 2063, 0]
      (addf (res_main_v224 U) (extractStridedSlice Cert.Reference2Ideal.S4x2064x128 ![0, 8, 0] (res_main_v226 U) Cert.Reference2Ideal.Gen.slices_S4x2072x128_S4x2064x128_0_8_0))
      (broadcastInDim Cert.Reference2Ideal.S_ ![] Cert.Reference2Ideal.Gen.bcast_S_S_ (constant Cert.Reference2Ideal.S_ .f32 0x00000000#32))
      Cert.Reference2Ideal.Gen.reduceWindows_S4x2064x128_S4x2064x128_w1s1p0_0_w2064s1p0_2063_w1s1p0_0 Cert.Reference2Ideal.Gen.h_S_)
      : FVec Ideal Cert.Reference2Ideal.S4x2064x128 .f32) (ix3 b s j) = ((poolAt (dqRows (later D) PW S) b s (col 2 j) : ℝ) : EReal) := by
  refine (back_at (f := fun l => full (dqRows (later D) PW S) b l (col 2 j)) 8 (fun l hl => full_past _ _ _ _ hl) (fun l => ?_) (v224 h hD h0 hPW hS b · j) (fun l => ?_) s).trans ?_
  · pointwise [res_main_v207, v198 h hD h0 hPW hS _ _ _ _]
  · pointwise [res_main_v226, v224 h hD h0 hPW hS _ _ _]
    by_cases q : 8 + l.val < 2064
    · rw [dif_pos]
      · rw [← EReal.coe_neg, Nat.add_comm 8]
      · intro a
        match a with
        | ⟨0, _⟩ => exact ⟨Nat.zero_le _, Nat.mod_one _, show (b.val - 0) / 1 < 4 by omega⟩
        | ⟨1, _⟩ => exact ⟨Nat.zero_le _, Nat.mod_one _, show (8 + l.val - 0) / 1 < 2064 by omega⟩
        | ⟨2, _⟩ => exact ⟨Nat.zero_le _, Nat.mod_one _, show (j.val - 0) / 1 < 128 by omega⟩
    · rw [dif_neg fun p => q (by have t : (8 + l.val - 0) / 1 < 2064 := (p 1).2.2; omega), full_past _ b (l.val + 8) _ (by omega)]
      simp
  · have e : winLen (col 2 j) = 8 := winLen_col 2 j
    unfold poolAt
    rw [e]

theorem v212 (b : Fin 4) (l : Fin 2064) (j : Fin 128) : res_main_v212 U (ix3 b l j)
    = ((full (dqRows (later D) PW S) b l (col 3 j) * (1 / ((16 : ℕ) : ℝ)) : ℝ) : EReal) := by
  pointwise [res_main_v212, res_main_v209, res_main_v119, res_main_v55, v198 h hD h0 hPW hS _ _ _ _]
  exact by_length (f := fun l => full (dqRows (later D) PW S) b l (col 3 j)) (fun l hl => full_before _ _ _ _ hl) 16 (by omega) _ l (len_16 l) (len_ne _ (by simp) l)

theorem group3 (b : Fin 4) (s : Fin 2064) (j : Fin 128) : (addf (Host.negf (res_main_v209 U)) (Host.reduceWindowAdd ![1, 2064, 1] ![1, 1, 1] ![0, 0, 0] ![0, 2063, 0]
      (addf (res_main_v212 U) (extractStridedSlice Cert.Reference2Ideal.S4x2064x128 ![0, 16, 0] (res_main_v214 U) Cert.Reference2Ideal.Gen.slices_S4x2080x128_S4x2064x128_0_16_0))
      (broadcastInDim Cert.Reference2Ideal.S_ ![] Cert.Reference2Ideal.Gen.bcast_S_S_ (constant Cert.Reference2Ideal.S_ .f32 0x00000000#32))
      Cert.Reference2Ideal.Gen.reduceWindows_S4x2064x128_S4x2064x128_w1s1p0_0_w2064s1p0_2063_w1s1p0_0 Cert.Reference2Ideal.Gen.h_S_)
      : FVec Ideal Cert.Reference2Ideal.S4x2064x128 .f32) (ix3 b s j) = ((poolAt (dqRows (later D) PW S) b s (col 3 j) : ℝ) : EReal) := by
  refine (back_at (f := fun l => full (dqRows (later D) PW S) b l (col 3 j)) 16 (fun l hl => full_past _ _ _ _ hl) (fun l => ?_) (v212 h hD h0 hPW hS b · j) (fun l => ?_) s).trans ?_
  · pointwise [res_main_v209, v198 h hD h0 hPW hS _ _ _ _]
  · pointwise [res_main_v214, v212 h hD h0 hPW hS _ _ _]
    by_cases q : 16 + l.val < 2064
    · rw [dif_pos]
      · rw [← EReal.coe_neg, Nat.add_comm 16]
      · intro a
        match a with
        | ⟨0, _⟩ => exact ⟨Nat.zero_le _, Nat.mod_one _, show (b.val - 0) / 1 < 4 by omega⟩
        | ⟨1, _⟩ => exact ⟨Nat.zero_le _, Nat.mod_one _, show (16 + l.val - 0) / 1 < 2064 by omega⟩
        | ⟨2, _⟩ => exact ⟨Nat.zero_le _, Nat.mod_one _, show (j.val - 0) / 1 < 128 by omega⟩
    · rw [dif_neg fun p => q (by have t : (16 + l.val - 0) / 1 < 2064 := (p 1).2.2; omega), full_past _ b (l.val + 16) _ (by omega)]
      simp
  · have e : winLen (col 3 j) = 16 := winLen_col 3 j
    unfold poolAt
    rw [e]

end Groups

end Cert.Kernel2Ideal.Mix

end
-- ==== Proof.Mix.Ref4.lean ====
/- The reference's gradient at the input product, over real rows: its four blocks of columns together. -/
module

public import proofs.«01_k».proof.Proof.Mix.Ref3

@[expose] public section

set_option maxRecDepth 16384

noncomputable section

namespace Cert.Kernel2Ideal.Mix

open Cert.Kernel2Ideal Cert.Kernel2Ideal.Gen
open Cert.Reference2Ideal.Value
open Cert.Mix
open Cert.Pays (coe_sum)
open Idealize.ShloMosaic Idealize.ShloMosaic.TcCoe Idealize.SL.Sem

/-- Four blocks of columns joined by padding each with zeros. -/
theorem joined_pads {n : ℕ} (p a b c : (⟨3, ![4, n, 512]⟩ : Shape).Idx → EReal) (z : S_.Idx → EReal) (hz : ∀ y, z y = 0) (h3 h2 h1 h0) (hu)
    (i : Fin 4) (l : Fin n) (j : Fin 4) (k : Fin 512) (q) :
    pad (⟨3, ![4, n, 2048]⟩ : Shape) ![0, 0, 1536] ![0, 0, 0] ![0, 0, 0] p z h3 hu (ix3 i l ⟨j.val * 512 + k.val, q⟩)
      + pad (⟨3, ![4, n, 2048]⟩ : Shape) ![0, 0, 1024] ![0, 0, 512] ![0, 0, 0] a z h2 hu (ix3 i l ⟨j.val * 512 + k.val, q⟩)
      + pad (⟨3, ![4, n, 2048]⟩ : Shape) ![0, 0, 512] ![0, 0, 1024] ![0, 0, 0] b z h1 hu (ix3 i l ⟨j.val * 512 + k.val, q⟩)
      + pad (⟨3, ![4, n, 2048]⟩ : Shape) ![0, 0, 0] ![0, 0, 1536] ![0, 0, 0] c z h0 hu (ix3 i l ⟨j.val * 512 + k.val, q⟩)
    = ![c (ix3 i l k), b (ix3 i l k), a (ix3 i l k), p (ix3 i l k)] j := by
  rw [pad_last, pad_last, pad_last, pad_last]
  simp only [hz]
  fin_cases j
  · rw [dif_neg (by dsimp only; omega), dif_neg (by dsimp only; omega), dif_neg (by dsimp only; omega), dif_pos (by dsimp only; omega), add_zero, add_zero, zero_add]
    exact congrArg c (congrArg (ix3 i l) (Fin.ext (by dsimp only; omega)))
  · rw [dif_neg (by dsimp only; omega), dif_neg (by dsimp only; omega), dif_pos (by dsimp only; omega), dif_neg (by dsimp only; omega), add_zero, add_zero, zero_add]
    exact congrArg b (congrArg (ix3 i l) (Fin.ext (by dsimp only; omega)))
  · rw [dif_neg (by dsimp only; omega), dif_pos (by dsimp only; omega), dif_neg (by dsimp only; omega), dif_neg (by dsimp only; omega), add_zero, add_zero, zero_add]
    exact congrArg a (congrArg (ix3 i l) (Fin.ext (by dsimp only; omega)))
  · rw [dif_pos (by dsimp only; omega), dif_neg (by dsimp only; omega), dif_neg (by dsimp only; omega), dif_neg (by dsimp only; omega), add_zero, add_zero, add_zero]
    exact congrArg p (congrArg (ix3 i l) (Fin.ext (by dsimp only; omega)))

theorem joined_ref (p a b c : FVec Ideal Cert.Reference2Ideal.S4x2064x512 .f32) (i : Fin 4) (l : Fin 2064) (j : Fin 4) (k : Fin 512) (q) :
    (addf (addf (addf (pad Cert.Reference2Ideal.S4x2064x2048 ![0, 0, 1536] ![0, 0, 0] ![0, 0, 0] p (constant Cert.Reference2Ideal.S_ .f32 0x00000000#32) Cert.Reference2Ideal.Gen.pads_S4x2064x512_S4x2064x2048_000_000_153600 Cert.Reference2Ideal.Gen.h_S_)
      (pad Cert.Reference2Ideal.S4x2064x2048 ![0, 0, 1024] ![0, 0, 512] ![0, 0, 0] a (constant Cert.Reference2Ideal.S_ .f32 0x00000000#32) Cert.Reference2Ideal.Gen.pads_S4x2064x512_S4x2064x2048_000_000_10245120 Cert.Reference2Ideal.Gen.h_S_))
      (pad Cert.Reference2Ideal.S4x2064x2048 ![0, 0, 512] ![0, 0, 1024] ![0, 0, 0] b (constant Cert.Reference2Ideal.S_ .f32 0x00000000#32) Cert.Reference2Ideal.Gen.pads_S4x2064x512_S4x2064x2048_000_000_51210240 Cert.Reference2Ideal.Gen.h_S_))
      (pad Cert.Reference2Ideal.S4x2064x2048 ![0, 0, 0] ![0, 0, 1536] ![0, 0, 0] c (constant Cert.Reference2Ideal.S_ .f32 0x00000000#32) Cert.Reference2Ideal.Gen.pads_S4x2064x512_S4x2064x2048_000_000_015360 Cert.Reference2Ideal.Gen.h_S_)
      : FVec Ideal Cert.Reference2Ideal.S4x2064x2048 .f32) (ix3 i l ⟨j.val * 512 + k.val, q⟩) = ![c (ix3 i l k), b (ix3 i l k), a (ix3 i l k), p (ix3 i l k)] j :=
  joined_pads p a b c _ (fun _ => zero_word) _ _ _ _ _ i l j k q

/-- Four groups of columns joined by padding each with zeros. -/
theorem joined_groups (p a b c : FVec Ideal Cert.Reference2Ideal.S4x2064x128 .f32) (z : S_.Idx → EReal) (hz : ∀ y, z y = 0) (h3 h2 h1 h0) (hu)
    (i : Fin 4) (l : Fin 2064) (g : Fin 4) (k : Fin 128) :
    pad S4x2064x4x128 ![0, 0, 3, 0] ![0, 0, 0, 0] ![0, 0, 0, 0] (broadcastInDim S4x2064x1x128 ![0, 1, 3] Cert.Reference2Ideal.Gen.bcast_S4x2064x128_S4x2064x1x128_0_1_3 p) z h3 hu (ix4 i l g k)
      + pad S4x2064x4x128 ![0, 0, 2, 0] ![0, 0, 1, 0] ![0, 0, 0, 0] (broadcastInDim S4x2064x1x128 ![0, 1, 3] Cert.Reference2Ideal.Gen.bcast_S4x2064x128_S4x2064x1x128_0_1_3 a) z h2 hu (ix4 i l g k)
      + pad S4x2064x4x128 ![0, 0, 1, 0] ![0, 0, 2, 0] ![0, 0, 0, 0] (broadcastInDim S4x2064x1x128 ![0, 1, 3] Cert.Reference2Ideal.Gen.bcast_S4x2064x128_S4x2064x1x128_0_1_3 b) z h1 hu (ix4 i l g k)
      + pad S4x2064x4x128 ![0, 0, 0, 0] ![0, 0, 3, 0] ![0, 0, 0, 0] (broadcastInDim S4x2064x1x128 ![0, 1, 3] Cert.Reference2Ideal.Gen.bcast_S4x2064x128_S4x2064x1x128_0_1_3 c) z h0 hu (ix4 i l g k)
    = ![c (ix3 i l k), b (ix3 i l k), a (ix3 i l k), p (ix3 i l k)] g := by
  have e : ∀ x : FVec Ideal Cert.Reference2Ideal.S4x2064x128 .f32, broadcastInDim S4x2064x1x128 ![0, 1, 3] Cert.Reference2Ideal.Gen.bcast_S4x2064x128_S4x2064x1x128_0_1_3 x (ix4 i l (0 : Fin 1) k) = x (ix3 i l k) := fun x => by pointwise []
  rw [pad_third, pad_third, pad_third, pad_third]
  simp only [hz, e]
  fin_cases g <;> simp

theorem group_cast (x : FVec Ideal Cert.Reference2Ideal.S4x2064x4x128 .f32) (i : Fin 4) (l : Fin 2064) (g : Fin 4) (k : Fin 128) :
    shapeCast Cert.Reference2Ideal.S4x2064x512 x Cert.Reference2Ideal.Gen.shapeCasts_S4x2064x4x128_S4x2064x512 (ix3 i l (col g k)) = x (ix4 i l g k) := by
  pointwise []
  exact congrArg x (congrArg₂ (ix4 i l) (grp_col g k) (lane_col g k))

theorem joined_gref (p a b c : FVec Ideal Cert.Reference2Ideal.S4x2064x128 .f32) (i : Fin 4) (l : Fin 2064) (g : Fin 4) (k : Fin 128) :
    (shapeCast Cert.Reference2Ideal.S4x2064x512 (addf (addf (addf (pad Cert.Reference2Ideal.S4x2064x4x128 ![0, 0, 3, 0] ![0, 0, 0, 0] ![0, 0, 0, 0] (broadcastInDim Cert.Reference2Ideal.S4x2064x1x128 ![0, 1, 3] Cert.Reference2Ideal.Gen.bcast_S4x2064x128_S4x2064x1x128_0_1_3 p) (constant Cert.Reference2Ideal.S_ .f32 0x00000000#32) Cert.Reference2Ideal.Gen.pads_S4x2064x1x128_S4x2064x4x128_000_000_300_000 Cert.Reference2Ideal.Gen.h_S_)
      (pad Cert.Reference2Ideal.S4x2064x4x128 ![0, 0, 2, 0] ![0, 0, 1, 0] ![0, 0, 0, 0] (broadcastInDim Cert.Reference2Ideal.S4x2064x1x128 ![0, 1, 3] Cert.Reference2Ideal.Gen.bcast_S4x2064x128_S4x2064x1x128_0_1_3 a) (constant Cert.Reference2Ideal.S_ .f32 0x00000000#32) Cert.Reference2Ideal.Gen.pads_S4x2064x1x128_S4x2064x4x128_000_000_210_000 Cert.Reference2Ideal.Gen.h_S_))
      (pad Cert.Reference2Ideal.S4x2064x4x128 ![0, 0, 1, 0] ![0, 0, 2, 0] ![0, 0, 0, 0] (broadcastInDim Cert.Reference2Ideal.S4x2064x1x128 ![0, 1, 3] Cert.Reference2Ideal.Gen.bcast_S4x2064x128_S4x2064x1x128_0_1_3 b) (constant Cert.Reference2Ideal.S_ .f32 0x00000000#32) Cert.Reference2Ideal.Gen.pads_S4x2064x1x128_S4x2064x4x128_000_000_120_000 Cert.Reference2Ideal.Gen.h_S_))
      (pad Cert.Reference2Ideal.S4x2064x4x128 ![0, 0, 0, 0] ![0, 0, 3, 0] ![0, 0, 0, 0] (broadcastInDim Cert.Reference2Ideal.S4x2064x1x128 ![0, 1, 3] Cert.Reference2Ideal.Gen.bcast_S4x2064x128_S4x2064x1x128_0_1_3 c) (constant Cert.Reference2Ideal.S_ .f32 0x00000000#32) Cert.Reference2Ideal.Gen.pads_S4x2064x1x128_S4x2064x4x128_000_000_030_000 Cert.Reference2Ideal.Gen.h_S_))
      Cert.Reference2Ideal.Gen.shapeCasts_S4x2064x4x128_S4x2064x512 : FVec Ideal Cert.Reference2Ideal.S4x2064x512 .f32) (ix3 i l (col g k)) = ![c (ix3 i l k), b (ix3 i l k), a (ix3 i l k), p (ix3 i l k)] g := by
  refine (group_cast _ i l g k).trans ?_
  exact joined_groups p a b c _ (fun _ => zero_word) _ _ _ _ _ i l g k

/-- The pooled columns' gradient as the reference forms it. -/
def poolRef (U : Valuation Cert.Reference2Ideal.τ Cert.Reference2Ideal.sig (Elt Ideal)) : FVec Ideal Cert.Reference2Ideal.S4x2064x512 .f32 :=
  shapeCast Cert.Reference2Ideal.S4x2064x512 (addf (addf (addf
    (pad Cert.Reference2Ideal.S4x2064x4x128 ![0, 0, 3, 0] ![0, 0, 0, 0] ![0, 0, 0, 0] (broadcastInDim Cert.Reference2Ideal.S4x2064x1x128 ![0, 1, 3] Cert.Reference2Ideal.Gen.bcast_S4x2064x128_S4x2064x1x128_0_1_3 (addf (Host.negf (res_main_v209 U)) (Host.reduceWindowAdd ![1, 2064, 1] ![1, 1, 1] ![0, 0, 0] ![0, 2063, 0] (addf (res_main_v212 U) (extractStridedSlice Cert.Reference2Ideal.S4x2064x128 ![0, 16, 0] (res_main_v214 U) Cert.Reference2Ideal.Gen.slices_S4x2080x128_S4x2064x128_0_16_0)) (broadcastInDim Cert.Reference2Ideal.S_ ![] Cert.Reference2Ideal.Gen.bcast_S_S_ (constant Cert.Reference2Ideal.S_ .f32 0x00000000#32)) Cert.Reference2Ideal.Gen.reduceWindows_S4x2064x128_S4x2064x128_w1s1p0_0_w2064s1p0_2063_w1s1p0_0 Cert.Reference2Ideal.Gen.h_S_))) (constant Cert.Reference2Ideal.S_ .f32 0x00000000#32) Cert.Reference2Ideal.Gen.pads_S4x2064x1x128_S4x2064x4x128_000_000_300_000 Cert.Reference2Ideal.Gen.h_S_)
    (pad Cert.Reference2Ideal.S4x2064x4x128 ![0, 0, 2, 0] ![0, 0, 1, 0] ![0, 0, 0, 0] (broadcastInDim Cert.Reference2Ideal.S4x2064x1x128 ![0, 1, 3] Cert.Reference2Ideal.Gen.bcast_S4x2064x128_S4x2064x1x128_0_1_3 (addf (Host.negf (res_main_v207 U)) (Host.reduceWindowAdd ![1, 2064, 1] ![1, 1, 1] ![0, 0, 0] ![0, 2063, 0] (addf (res_main_v224 U) (extractStridedSlice Cert.Reference2Ideal.S4x2064x128 ![0, 8, 0] (res_main_v226 U) Cert.Reference2Ideal.Gen.slices_S4x2072x128_S4x2064x128_0_8_0)) (broadcastInDim Cert.Reference2Ideal.S_ ![] Cert.Reference2Ideal.Gen.bcast_S_S_ (constant Cert.Reference2Ideal.S_ .f32 0x00000000#32)) Cert.Reference2Ideal.Gen.reduceWindows_S4x2064x128_S4x2064x128_w1s1p0_0_w2064s1p0_2063_w1s1p0_0 Cert.Reference2Ideal.Gen.h_S_))) (constant Cert.Reference2Ideal.S_ .f32 0x00000000#32) Cert.Reference2Ideal.Gen.pads_S4x2064x1x128_S4x2064x4x128_000_000_210_000 Cert.Reference2Ideal.Gen.h_S_))
    (pad Cert.Reference2Ideal.S4x2064x4x128 ![0, 0, 1, 0] ![0, 0, 2, 0] ![0, 0, 0, 0] (broadcastInDim Cert.Reference2Ideal.S4x2064x1x128 ![0, 1, 3] Cert.Reference2Ideal.Gen.bcast_S4x2064x128_S4x2064x1x128_0_1_3 (addf (Host.negf (res_main_v205 U)) (Host.reduceWindowAdd ![1, 2064, 1] ![1, 1, 1] ![0, 0, 0] ![0, 2063, 0] (addf (res_main_v237 U) (extractStridedSlice Cert.Reference2Ideal.S4x2064x128 ![0, 4, 0] (res_main_v239 U) Cert.Reference2Ideal.Gen.slices_S4x2068x128_S4x2064x128_0_4_0)) (broadcastInDim Cert.Reference2Ideal.S_ ![] Cert.Reference2Ideal.Gen.bcast_S_S_ (constant Cert.Reference2Ideal.S_ .f32 0x00000000#32)) Cert.Reference2Ideal.Gen.reduceWindows_S4x2064x128_S4x2064x128_w1s1p0_0_w2064s1p0_2063_w1s1p0_0 Cert.Reference2Ideal.Gen.h_S_))) (constant Cert.Reference2Ideal.S_ .f32 0x00000000#32) Cert.Reference2Ideal.Gen.pads_S4x2064x1x128_S4x2064x4x128_000_000_120_000 Cert.Reference2Ideal.Gen.h_S_))
    (pad Cert.Reference2Ideal.S4x2064x4x128 ![0, 0, 0, 0] ![0, 0, 3, 0] ![0, 0, 0, 0] (broadcastInDim Cert.Reference2Ideal.S4x2064x1x128 ![0, 1, 3] Cert.Reference2Ideal.Gen.bcast_S4x2064x128_S4x2064x1x128_0_1_3 (addf (Host.negf (res_main_v203 U)) (Host.reduceWindowAdd ![1, 2064, 1] ![1, 1, 1] ![0, 0, 0] ![0, 2063, 0] (addf (res_main_v250 U) (extractStridedSlice Cert.Reference2Ideal.S4x2064x128 ![0, 2, 0] (res_main_v252 U) Cert.Reference2Ideal.Gen.slices_S4x2066x128_S4x2064x128_0_2_0)) (broadcastInDim Cert.Reference2Ideal.S_ ![] Cert.Reference2Ideal.Gen.bcast_S_S_ (constant Cert.Reference2Ideal.S_ .f32 0x00000000#32)) Cert.Reference2Ideal.Gen.reduceWindows_S4x2064x128_S4x2064x128_w1s1p0_0_w2064s1p0_2063_w1s1p0_0 Cert.Reference2Ideal.Gen.h_S_))) (constant Cert.Reference2Ideal.S_ .f32 0x00000000#32) Cert.Reference2Ideal.Gen.pads_S4x2064x1x128_S4x2064x4x128_000_000_030_000 Cert.Reference2Ideal.Gen.h_S_)) Cert.Reference2Ideal.Gen.shapeCasts_S4x2064x4x128_S4x2064x512

theorem v304_parts (U : Valuation Cert.Reference2Ideal.τ Cert.Reference2Ideal.sig (Elt Ideal)) (i : Fin 4) (l : Fin 2064) (j : Fin 4) (k : Fin 512) (q) :
    res_main_v304 U (ix3 i l ⟨j.val * 512 + k.val, q⟩)
      = ![(mulf (res_main_v184 U) (res_main_v53 U) : FVec Ideal Cert.Reference2Ideal.S4x2064x512 .f32) (ix3 i l k),
        (mulf (res_main_v294 U) (res_main_v27 U) : FVec Ideal Cert.Reference2Ideal.S4x2064x512 .f32) (ix3 i l k),
        (mulf (res_main_v26 U) (res_main_v294 U) : FVec Ideal Cert.Reference2Ideal.S4x2064x512 .f32) (ix3 i l k), poolRef U (ix3 i l k)] j := by
  unfold res_main_v304
  exact joined_ref (poolRef U) (mulf (res_main_v26 U) (res_main_v294 U)) (mulf (res_main_v294 U) (res_main_v27 U)) (mulf (res_main_v184 U) (res_main_v53 U)) i l j k q

theorem pick_all {x y z w : EReal} {x' y' z' w' : ℝ} (hx : x = (x' : EReal)) (hy : y = (y' : EReal)) (hz : z = (z' : EReal)) (hw : w = (w' : EReal)) (j : Fin 4) :
    ![x, y, z, w] j = ((![x', y', z', w'] j : ℝ) : EReal) := by
  subst hx hy hz hw
  fin_cases j <;> rfl

variable {U : Valuation Cert.Reference2Ideal.τ Cert.Reference2Ideal.sig (Elt Ideal)} {A : Arrays} (h : ArgsR U A)
  {D : Fin 4 → Fin 2064 → Fin 1024 → ℝ} (hD : ∀ b s j, res_main_v183 U (ix3 b s j) = ((D b s j : ℝ) : EReal))
  (h0 : ∀ b s j, s.val < 16 → D b s j = 0)
  {Z : Fin 4 → Fin 2064 → Fin 2048 → ℝ} (hZ : ∀ b s k, res_main_v24 U (ix3 b s k) = ((Z b s k : ℝ) : EReal))
  {C : Fin 4 → Fin 2064 → Fin 512 → ℝ} (hC : ∀ b s k, res_main_v53 U (ix3 b s k) = ((C b s k : ℝ) : EReal))
  {K : Fin 3 → Fin 512 → ℝ} (hK : ∀ i j k, A.a4 (ix3 i j k) = ((K j k : ℝ) : EReal))
  {PW : Fin 4 → Fin 128 → Fin 128 → ℝ} (hPW : ∀ i g a b, A.a5 (ix4 i g a b) = ((PW g a b : ℝ) : EReal))
  {S : Fin 512 → ℝ} (hS : ∀ i k, A.a6 (ix2 i k) = ((S k : ℝ) : EReal))

section

include h hD h0 hZ hC hK hPW hS

omit hZ hC hK in
theorem poolRef_at (b : Fin 4) (s : Fin 2064) (k : Fin 512) : poolRef U (ix3 b s k) = ((poolAt (dqRows (later D) PW S) b s k : ℝ) : EReal) := by
  obtain ⟨g, a, rfl⟩ : ∃ g a, k = col g a := ⟨grp k, lane k, Fin.ext (by dsimp only; omega)⟩
  unfold poolRef
  refine (joined_gref _ _ _ _ b s g a).trans ?_
  refine (pick_all (group0 h hD h0 hPW hS b s a) (group1 h hD h0 hPW hS b s a) (group2 h hD h0 hPW hS b s a) (group3 h hD h0 hPW hS b s a) g).trans (congrArg _ ?_)
  fin_cases g <;> rfl

/-- The gradient at the input product's columns, at every row. -/
def dzFull (D : Fin 4 → Fin 2064 → Fin 1024 → ℝ) (Z : Fin 4 → Fin 2064 → Fin 2048 → ℝ) (C : Fin 4 → Fin 2064 → Fin 512 → ℝ) (K : Fin 3 → Fin 512 → ℝ)
    (PW : Fin 4 → Fin 128 → Fin 128 → ℝ) (S : Fin 512 → ℝ) (j : Fin 4) (b : Fin 4) (s : Fin 2064) (k : Fin 512) : ℝ :=
  ![D b s (left k) * C b s k, dcvAt (dconvRows (later D) (laterZ Z)) K b s k * Z b s ⟨1024 + k, by omega⟩,
    dcvAt (dconvRows (later D) (laterZ Z)) K b s k * Z b s ⟨512 + k, by omega⟩, poolAt (dqRows (later D) PW S) b s k] j

theorem v304 (b : Fin 4) (s : Fin 2064) (j : Fin 4) (k : Fin 512) (q) : res_main_v304 U (ix3 b s ⟨j.val * 512 + k.val, q⟩)
    = ((dzFull D Z C K PW S j b s k : ℝ) : EReal) := by
  have e0 : (mulf (res_main_v184 U) (res_main_v53 U) : FVec Ideal Cert.Reference2Ideal.S4x2064x512 .f32) (ix3 b s k) = ((D b s (left k) * C b s k : ℝ) : EReal) := by
    pointwise [res_main_v184, hD _ _ _, hC _ _ _]
    rw [← EReal.coe_mul]
  have e1 : (mulf (res_main_v294 U) (res_main_v27 U) : FVec Ideal Cert.Reference2Ideal.S4x2064x512 .f32) (ix3 b s k)
      = ((dcvAt (dconvRows (later D) (laterZ Z)) K b s k * Z b s ⟨1024 + k, by omega⟩ : ℝ) : EReal) := by
    pointwise [v294 h hD h0 hZ hK _ _ _, res_main_v27, hZ _ _ _]
    rw [← EReal.coe_mul]
  have e2 : (mulf (res_main_v26 U) (res_main_v294 U) : FVec Ideal Cert.Reference2Ideal.S4x2064x512 .f32) (ix3 b s k)
      = ((dcvAt (dconvRows (later D) (laterZ Z)) K b s k * Z b s ⟨512 + k, by omega⟩ : ℝ) : EReal) := by
    pointwise [v294 h hD h0 hZ hK _ _ _, res_main_v26, hZ _ _ _]
    rw [← EReal.coe_mul, mul_comm]
  have e3 := poolRef_at h hD h0 hPW hS b s k
  exact (v304_parts U b s j k q).trans (pick_all e0 e1 e2 e3 j)

omit h hD h0 hZ hC hK hPW hS in
theorem dzFull_later (j : Fin 4) (r : Fin 8192) (k : Fin 512) : dzFull D Z C K PW S j ⟨r.val / 2048, by omega⟩ ⟨16 + r.val % 2048, by omega⟩ k
    = dzRows (later D) (laterZ Z) (laterP C) K (dqRows (later D) PW S) j r k := by
  match j with
  | 0 => rfl
  | 1 => rfl
  | 2 => rfl
  | 3 => rfl

omit h hD h0 hZ hC hK hPW hS in
theorem cast_dz (x : FVec Ideal Cert.Reference2Ideal.S4x2064x2048 .f32) (j : Fin 4) (r : Fin 8192) (k : Fin 512) :
    (truncf .bf16 (transpose Cert.Reference2Ideal.S4x8192x512 [1, 0, 2] (shapeCast _ (extractStridedSlice Cert.Reference2Ideal.S4x2048x2048 ![0, 16, 0]
      x Cert.Reference2Ideal.Gen.slices_S4x2064x2048_S4x2048x2048_0_16_0) Cert.Reference2Ideal.Gen.shapeCasts_S4x2048x2048_S8192x4x512)
      Cert.Reference2Ideal.Gen.transposes_S8192x4x512_S4x8192x512_1_0_2) Cert.Reference2Ideal.Gen.bitsLt_bf16_f32 : FVec Ideal Cert.Reference2Ideal.S4x8192x512 .bf16) (ix3 j r k)
    = x (ix3 (⟨r.val / 2048, by omega⟩ : Fin 4) (⟨16 + r.val % 2048, by omega⟩ : Fin 2064) (⟨j.val * 512 + k.val, by omega⟩ : Fin 2048)) := by
  pointwise []
  done

theorem v336 (j : Fin 4) (r : Fin 8192) (k : Fin 512) : (truncf .bf16 (transpose Cert.Reference2Ideal.S4x8192x512 [1, 0, 2] (shapeCast _ (extractStridedSlice Cert.Reference2Ideal.S4x2048x2048 ![0, 16, 0]
      (res_main_v304 U) Cert.Reference2Ideal.Gen.slices_S4x2064x2048_S4x2048x2048_0_16_0) Cert.Reference2Ideal.Gen.shapeCasts_S4x2048x2048_S8192x4x512)
      Cert.Reference2Ideal.Gen.transposes_S8192x4x512_S4x8192x512_1_0_2) Cert.Reference2Ideal.Gen.bitsLt_bf16_f32 : FVec Ideal Cert.Reference2Ideal.S4x8192x512 .bf16) (ix3 j r k)
    = ((dzRows (later D) (laterZ Z) (laterP C) K (dqRows (later D) PW S) j r k : ℝ) : EReal) :=
  (cast_dz (res_main_v304 U) j r k).trans ((v304 h hD h0 hZ hC hK hPW hS _ _ j k _).trans (congrArg _ (dzFull_later j r k)))

end

end Cert.Kernel2Ideal.Mix

end
-- ==== Proof.Mix.Values.lean ====
/- The mixer pair's results are equal when every argument is finite. -/
module

public import proofs.«01_k».proof.Defs
public import proofs.«01_k».proof.Proof.Gen.Pre_finite2
public import proofs.«01_k».proof.Proof.Mix.Final3
public import proofs.«01_k».proof.Proof.Mix.Ref4
public import proofs.«01_k».proof.Proof.Ffn.Values
public import Idealize.ShloMosaic.Lib.Claim

@[expose] public section

set_option maxRecDepth 16384

noncomputable section

namespace Cert.Mix

theorem Rl.eq {x : EReal} (h : Rl x) : x = ((x.toReal : ℝ) : EReal) := by
  obtain ⟨a, rfl⟩ := h; rfl

end Cert.Mix

namespace Cert.Equal

open Idealize.ShloMosaic Idealize.ShloMosaic.TcCoe Idealize.SL.Sem
open Idealize.ShloMosaic.StableHlo (launchContents launchContents_devRef)
open Cert.Mix Cert.Kernel2Ideal.Mix
open Cert.Kernel2Ideal (nD τ sig main_arg0 main_arg1 main_arg2 main_arg3 main_arg4 main_arg5 main_arg6 main_arg7 main_arg8 main_arg9)

/-- The arrays the kernel's arguments hold. -/
def arrays (m : (ℓ : Loc nD τ sig) → Buf (Elt Ideal) ℓ) (c : Dev nD) : Arrays where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)

theorem argsK (m : (ℓ : Loc nD τ sig) → Buf (Elt Ideal) ℓ) (c : Dev nD) : ArgsK m c (arrays m c) :=
  ⟨rfl, rfl, rfl, rfl, rfl, rfl, rfl, rfl, rfl, rfl⟩

theorem arrays_finite {m : (ℓ : Loc nD τ sig) → Buf (Elt Ideal) ℓ} (h : Cert.Pre_Kernel2Ideal_finite2 m) (c : Dev nD) : (arrays m c).Finite := by
  obtain ⟨e0, e1, e2, e3, e4, e5, e6, e7, e8, e9⟩ := h c
  unfold Cert.Pre_finite2.fn Cert.Pre_finite2.fn_part1 at e0 e1 e2 e3 e4 e5 e6 e7 e8 e9
  dsimp only at e0 e1 e2 e3 e4 e5 e6 e7 e8 e9
  exact ⟨fun y => ⟨_, real_of_finite _ _ e0 y⟩, fun y => ⟨_, real_of_finite _ _ e1 y⟩, fun y => ⟨_, real_of_finite _ _ e2 y⟩,
    fun y => ⟨_, real_of_finite _ _ e3 y⟩, fun y => ⟨_, real_of_finite _ _ e4 y⟩, fun y => ⟨_, real_of_finite _ _ e5 y⟩,
    fun y => ⟨_, real_of_finite _ _ e6 y⟩, fun y => ⟨_, real_of_finite _ _ e7 y⟩, fun y => ⟨_, real_of_finite _ _ e8 y⟩,
    fun y => ⟨_, real_of_finite _ _ e9 y⟩⟩

section

variable (A : Arrays) (U : Valuation Cert.Reference2Ideal.τ Cert.Reference2Ideal.sig (Elt Ideal))

/-- The second norm's input. -/
def normIn (b : Fin 4) (s : Fin 2064) (k : Fin 1024) : ℝ := (Cert.Reference2Ideal.Value.res_main_v141 U (ix3 b s k)).toReal
/-- The rows of the gradient handed back to the mixer. -/
def handed (r : Fin 8192) (k : Fin 1024) : ℝ := (A.a9 (ix3 (⟨r / 2048, by omega⟩ : Fin 4) (⟨r % 2048, by omega⟩ : Fin 2048) k)).toReal
/-- The second norm's gain. -/
def gain (k : Fin 1024) : ℝ := (A.a8 (ix2 (0 : Fin 1) k)).toReal
/-- The pooled columns. -/
def pooledRows (b : Fin 4) (s : Fin 2064) (j : Fin 512) : ℝ := (Cert.Reference2Ideal.Value.res_main_v128 U (ix4 b s (grp j) (lane j))).toReal
/-- The output weight. -/
def weightOut (j k : Fin 1024) : ℝ := (A.a7 (ix3 (0 : Fin 1) j k)).toReal
/-- The pooling's weights. -/
def poolW (g : Fin 4) (a b : Fin 128) : ℝ := (A.a5 (ix4 (0 : Fin 1) g a b)).toReal
/-- The input product. -/
def inputZ (b : Fin 4) (s : Fin 2064) (k : Fin 2048) : ℝ := (Cert.Reference2Ideal.Value.res_main_v24 U (ix3 b s k)).toReal
/-- The convolved columns. -/
def convolved (b : Fin 4) (s : Fin 2064) (k : Fin 512) : ℝ := (Cert.Reference2Ideal.Value.res_main_v53 U (ix3 b s k)).toReal
/-- The convolution's taps. -/
def taps (i : Fin 3) (k : Fin 512) : ℝ := (A.a4 (ix3 (0 : Fin 1) i k)).toReal
/-- The pooling's scale. -/
def poolS (k : Fin 512) : ℝ := (A.a6 (ix2 (0 : Fin 1) k)).toReal

variable {A U} (h : ArgsR U A) (r : A.Finite)
include r

theorem weightOut_eq (i : Fin 1) (j k : Fin 1024) : A.a7 (ix3 i j k) = ((weightOut A j k : ℝ) : EReal) := by
  rw [Subsingleton.elim i 0]
  exact (r.a7 _).eq

theorem poolW_eq (i : Fin 1) (g : Fin 4) (a b : Fin 128) : A.a5 (ix4 i g a b) = ((poolW A g a b : ℝ) : EReal) := by
  rw [Subsingleton.elim i 0]
  exact (r.a5 _).eq

theorem poolS_eq (i : Fin 1) (k : Fin 512) : A.a6 (ix2 i k) = ((poolS A k : ℝ) : EReal) := by
  rw [Subsingleton.elim i 0]
  exact (r.a6 _).eq

theorem taps_eq (i : Fin 1) (j : Fin 3) (k : Fin 512) : A.a4 (ix3 i j k) = ((taps A j k : ℝ) : EReal) := by
  rw [Subsingleton.elim i 0]
  exact (r.a4 _).eq

theorem handed_eq (b : Fin 4) (s : Fin 2048) (k : Fin 1024) : A.a9 (ix3 b s k) = ((handed A (row b s) k : ℝ) : EReal) := by
  refine (r.a9 _).eq.trans (congrArg (fun y => (((A.a9 y).toReal : ℝ) : EReal)) ?_)
  congr 1 <;> · apply Fin.ext; dsimp only; omega

theorem gain_eq (i : Fin 1) (k : Fin 1024) : A.a8 (ix2 i k) = ((gain A k : ℝ) : EReal) := by
  rw [Subsingleton.elim i 0]
  exact (r.a8 _).eq

include h

theorem normIn_eq (b : Fin 4) (s : Fin 2064) (k : Fin 1024) : Cert.Reference2Ideal.Value.res_main_v141 U (ix3 b s k) = ((normIn U b s k : ℝ) : EReal) :=
  (r141 h r b s k).eq

theorem held {m : (ℓ : Loc nD τ sig) → Buf (Elt Ideal) ℓ} {c : Dev nD} (k : ArgsK m c A) :
    Held m c (later (normIn U)) (handed A) (gain A) where
  rm := fun b s l => by
    rw [v88_eq, m_eq k h, normIn_eq h r]
    refine congrArg _ (congrArg₂ (fun b s => normIn U b s l) (Fin.ext ?_) (Fin.ext ?_))
    · show b.val = (b.val * 2048 + s.val) / 2048
      omega
    · show 16 + s.val = 16 + (b.val * 2048 + s.val) % 2048
      omega
  re := fun b s l => (congrFun ((Cert.Kernel2Ideal.Gen.V_main_arg9 m c).trans k.a9) _).trans (handed_eq r b s l)
  rg := fun i l => (congrFun ((Cert.Kernel2Ideal.Gen.V_main_arg8 m c).trans k.a8) _).trans (gain_eq r i l)

theorem pooledRows_eq (b : Fin 4) (s : Fin 2064) (g : Fin 4) (a : Fin 128) :
    Cert.Reference2Ideal.Value.res_main_v128 U (ix4 b s g a) = ((pooledRows U b s (col g a) : ℝ) : EReal) := by
  unfold pooledRows
  rw [grp_col, lane_col]
  exact (r128 h r b s g a).eq

theorem pooled {m : (ℓ : Loc nD τ sig) → Buf (Elt Ideal) ℓ} {c : Dev nD} (k : ArgsK m c A) :
    Pooled m c (laterP (pooledRows U)) (weightOut A) (poolW A) (poolS A) where
  rp := fun i j => by
    rw [v94_eq, pool_eq k h]
    exact (r128 h r _ _ _ _).eq
  rw := fun i j => (woutOf_eq i j).trans ((congrFun ((Cert.Kernel2Ideal.Gen.V_main_arg7 m c).trans k.a7) _).trans (weightOut_eq r 0 i j))
  rpw := fun g a b => (v99_eq g a b).trans ((congrFun ((Cert.Kernel2Ideal.Gen.V_main_arg5 m c).trans k.a5) _).trans (poolW_eq r 0 g a b))
  rs := fun i j => (congrFun ((Cert.Kernel2Ideal.Gen.V_main_arg6 m c).trans k.a6) _).trans (poolS_eq r i j)

theorem inputZ_eq (b : Fin 4) (s : Fin 2064) (k : Fin 2048) : Cert.Reference2Ideal.Value.res_main_v24 U (ix3 b s k) = ((inputZ U b s k : ℝ) : EReal) :=
  (r24 h r b s k).eq

theorem convolved_eq (b : Fin 4) (s : Fin 2064) (k : Fin 512) :
    Cert.Reference2Ideal.Value.res_main_v53 U (ix3 b s k) = ((convolved U b s k : ℝ) : EReal) :=
  (r53 h r b s k).eq

theorem gated {m : (ℓ : Loc nD τ sig) → Buf (Elt Ideal) ℓ} {c : Dev nD} (k : ArgsK m c A) :
    Gated m c (laterZ (inputZ U)) (laterP (convolved U)) (taps A) (fun i l => inputZ U 0 ⟨i, by omega⟩ l) where
  rz := fun b s l => by
    rw [v89_eq, z_eq k h, inputZ_eq h r]
    refine congrArg _ (congrArg₂ (fun b s => inputZ U b s ⟨l, by omega⟩) (Fin.ext ?_) (Fin.ext ?_))
    · show b.val = (b.val * 2048 + s.val) / 2048
      omega
    · show 16 + s.val = 16 + (b.val * 2048 + s.val) % 2048
      omega
  rc := fun i l => by
    rw [v91_eq, conv_eq k h]
    exact convolved_eq h r _ _ _
  rk := fun i l => (v97_eq i l).trans ((congrFun ((Cert.Kernel2Ideal.Gen.V_main_arg4 m c).trans k.a4) _).trans (taps_eq r 0 i l))
  rzm := fun i l => by
    rw [v96_eq, z_eq k h]
    exact inputZ_eq h r _ _ _

end

/-- Both programs leave the same gradients at the input product and at the second norm's input, of its gain, of the pooling's scale and of its weights, and the
    same meta rows. -/
theorem algebraic2 : Cert.algebraic_Kernel2Ideal_Reference2Ideal_pre_finite2 := by
  intro m g m' g' pre hargs
  have r : ∀ c, (arrays m c).Finite := fun c => arrays_finite pre c
  have R : ∀ c : Dev nD, ArgsR (launchContents m' c) (arrays m c) := fun c => by
    obtain ⟨e0, e1, e2, e3, e4, e5, e6, e7, e8, e9⟩ := hargs c
    exact ⟨e0, e1, e2, e3, e4, e5, e6, e7, e8, e9⟩
  have H : ∀ c : Dev nD, Held m c (later (normIn (launchContents m' c))) (handed (arrays m c)) (gain (arrays m c)) :=
    fun c => held (R c) (r c) (argsK m c)
  have Q : ∀ c : Dev nD, Pooled m c (laterP (pooledRows (launchContents m' c))) (weightOut (arrays m c)) (poolW (arrays m c)) (poolS (arrays m c)) :=
    fun c => pooled (R c) (r c) (argsK m c)
  have Gt := fun c : Dev nD => gated (R c) (r c) (argsK m c)
  refine ⟨fun c => stackOf (dzRows (dycRows (dmRows (later (normIn (launchContents m' c))) (handed (arrays m c)) (gain (arrays m c))) (weightOut (arrays m c)))
      (laterZ (inputZ (launchContents m' c))) (laterP (convolved (launchContents m' c))) (taps (arrays m c))
      (dqRows (dycRows (dmRows (later (normIn (launchContents m' c))) (handed (arrays m c)) (gain (arrays m c))) (weightOut (arrays m c)))
        (poolW (arrays m c)) (poolS (arrays m c)))),
    fun c => rowsOf (dmRows (later (normIn (launchContents m' c))) (handed (arrays m c)) (gain (arrays m c))),
    fun c => rowsOf fun _ k => ∑ r, dg2Rows (later (normIn (launchContents m' c))) (handed (arrays m c)) r k,
    fun c => rowsOf fun _ k => ∑ r, dscRows (dycRows (dmRows (later (normIn (launchContents m' c))) (handed (arrays m c)) (gain (arrays m c)))
      (weightOut (arrays m c))) (laterP (pooledRows (launchContents m' c))) (poolW (arrays m c)) r k,
    fun c => fun y => ((∑ r, dpwRows (dycRows (dmRows (later (normIn (launchContents m' c))) (handed (arrays m c)) (gain (arrays m c)))
      (weightOut (arrays m c))) (laterP (pooledRows (launchContents m' c))) (poolS (arrays m c)) r (y 0) (y 1) (y 2) : ℝ) : EReal),
    fun c => fun y => Cert.Kernel2Ideal.Gen.k0_pay20 (F := Ideal) (arrays m c).a2 (arrays m c).a1 (ix2 (y 0) (y 1)), ?_, ?_⟩
  · refine (θ_run _ _ _).mono (fun r h c => ?_) (θ_run_and (run_main m g) (unchanged m g))
    have w := (h.1 c).1
    have b := (h.1 c).2
    exact ⟨(w 15).trans (arr_dz (H c) (Q c) (Gt c)), (w 16).trans (arr_dm (H c)),
      (b Cert.Kernel2Ideal.main_v107 (Pipeline.mem_restRefs_of Cert.Kernel2Ideal.main_v107 (by decide) (by decide))).trans
        (funext fun y => (congrArg _ (eq_ix2 y)).trans (tail_dg2 (H c) (y 0) (y 1))),
      (b Cert.Kernel2Ideal.main_v109 (Pipeline.mem_restRefs_of Cert.Kernel2Ideal.main_v109 (by decide) (by decide))).trans
        (funext fun y => (congrArg _ (eq_ix2 y)).trans (tail_dsc (H c) (Q c) (y 0) (y 1))),
      (w 21).trans (arr_dpw (H c) (Q c)),
      (w 25).trans (arr_am (argsK m c)), h.2 c⟩
  · refine (θ_run _ _ _).mono (fun q h c => ?_) (Cert.Reference2Ideal.Value.run (F := Ideal) m' g')
    obtain ⟨hz, h0, h1, h2, h3, h4, ha⟩ := h c
    have hM := normIn_eq (R c) (r c)
    have hE := handed_eq (r c)
    have hG := gain_eq (r c)
    have hW := weightOut_eq (r c)
    have hP := pooledRows_eq (R c) (r c)
    have L : later (dycFull (normIn (launchContents m' c)) (handed (arrays m c)) (gain (arrays m c)) (weightOut (arrays m c)))
        = dycRows (dmRows (later (normIn (launchContents m' c))) (handed (arrays m c)) (gain (arrays m c))) (weightOut (arrays m c)) :=
      funext fun i => funext fun j => dycFull_later _ _ _ _ i j
    have D := v336 (R c) (v183 (R c) hM hE hG hW) (fun b s j hs => dycFull_first _ _ _ _ b s hs j) (inputZ_eq (R c) (r c)) (convolved_eq (R c) (r c))
      (taps_eq (r c)) (poolW_eq (r c)) (poolS_eq (r c))
    rw [L] at D
    exact ⟨hz.trans (funext fun y => (congrArg _ (eq_ix3 y)).trans (D (y 0) (y 1) (y 2))),
      h0.trans (funext fun y => (congrArg _ (eq_ix2 y)).trans (v335 (R c) hM hE hG (y 0) (y 1))),
      h1.trans (funext fun y => (congrArg _ (eq_ix2 y)).trans (v182 (R c) hM hE hG (y 0) (y 1))),
      h2.trans (funext fun y => (congrArg _ (eq_ix2 y)).trans (v194 (R c) hM hE hG hW hP (poolW_eq (r c)) (y 0) (y 1))),
      h3.trans (funext fun y => (congrArg _ (eq_ix3 y)).trans (v341 (R c) hM hE hG hW hP (poolS_eq (r c)) (y 0) (y 1) (y 2))),
      h4.trans (funext fun y => (congrArg _ (eq_ix2 y)).trans (v338 (R c) (y 0) (y 1))), ha⟩

end Cert.Equal

end
-- ==== Proof.lean ====
/- The certificate: the frames of both programs and the reference, and the equality of their results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Ffn.Claims
public import proofs.«01_k».proof.Proof.Ffn.Values
public import proofs.«01_k».proof.Proof.Mix.Claims
public import proofs.«01_k».proof.Proof.Mix.Values
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite2
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite.Gen.facts, Cert.Pre_finite2.Gen.facts,
    Cert.Frames.frame_kernel, fun m ρ _ => Cert.KernelIdeal.Ffn.frame m ρ, fun m ρ _ => Cert.KernelIdeal.Ffn.frame m ρ,
    Cert.Frames.frame_reference, fun m ρ _ => Cert.Frames.frame_reference m ρ trivial,
    Cert.Frames.frame_kernel2, fun m ρ _ => Cert.Kernel2Ideal.Mix.frame m ρ, fun m ρ _ => Cert.Kernel2Ideal.Mix.frame m ρ,
    Cert.Frames.frame_reference2, fun m ρ _ => Cert.Frames.frame_reference2 m ρ trivial,
    trivial, Cert.Equal.algebraic, trivial, Cert.Equal.algebraic2⟩

end Cert.Proof

end
